-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_v31) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_operands.lean ====
abbrev S8192x2048 : Shape := ⟨2, ![8192, 2048]⟩
abbrev S8192x4096 : Shape := ⟨2, ![8192, 4096]⟩
abbrev S8192x7168 : Shape := ⟨2, ![8192, 7168]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S8192x16 : Shape := ⟨2, ![8192, 16]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x7168_S8192x2048_0_4096 : S8192x7168.Slices ![0, 4096] S8192x2048
  bitsLt_bf16_f32 : FTy.bits .bf16 < FTy.bits .f32
  slices_S8192x128_S8192x16_0_80 : S8192x128.Slices ![0, 80] S8192x16
  bcast_S_S8192x16 : S_.BroadcastsInDim S8192x16 (![] : Fin 0 → Fin S8192x16.rank)
  reducesTo_S8192x16_S_d0_1 : S8192x16.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S1024 .f32) (main_v16 : IVec S_ 1) (main_v17 : FVec F S16x1024 .f32) : IVec S_ 1 :=
  let main_cst_4 : FVec F S_ .f32 := constant S_ .f32 0x7F800000#32
  let main_v18 : FVec F S16x1024 .f32 := broadcastInDim S16x1024 ![] bcast_S_S16x1024 main_cst_4
  let main_v19 : IVec S16x1024 1 := cmpf .olt main_v17 main_v18
  let main_c_5 : IVec S_ 1 := constantI S_ 1 1#1
  let main_v20 : IVec S_ 1 := (fun x v => Host.reduce IntOp.andi x v reducesTo_S16x1024_S_d0_1 h_S_) main_v19 main_c_5
  let main_v21 : IVec S_ 1 := andi main_v16 main_v20
  let main_v22 : FVec F S1024 .f32 := Host.absf main_arg6
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  main_v26

def fn {F : FTy → Type} [FloatOps F] (main_arg0 : FVec F S8192x2048 .f32) (main_arg1 : FVec F S8192x2048 .f32) (main_arg2 : FVec F S8192x4096 .f32) (main_arg3 : FVec F S8192x7168 .bf16) (main_arg4 : FVec F S8192x128 .f32) (main_arg5 : FVec F S16x1024 .f32) (main_arg6 : FVec F S1024 .f32) (main_arg7 : FVec F S512 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .bf16 := (extractStridedSlice S8192x2048 ![0, 4096] · slices_S8192x7168_S8192x2048_0_4096) main_arg3
  let main_v5 : FVec F S8192x2048 .f32 := (extf .f32 · bitsLt_bf16_f32) main_v4
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v3 main_v9
  let main_v11 : FVec F S8192x16 .f32 := (extractStridedSlice S8192x16 ![0, 80] · slices_S8192x128_S8192x16_0_80) main_arg4
  let main_v12 : FVec F S8192x16 .f32 := Host.absf main_v11
  let main_cst_2 : FVec F S_ .f32 := constant S_ .f32 0x7F800000#32
  let main_v13 : FVec F S8192x16 .f32 := broadcastInDim S8192x16 ![] bcast_S_S8192x16 main_cst_2
  let main_v14 : IVec S8192x16 1 := cmpf .olt main_v12 main_v13
  let main_c_3 : IVec S_ 1 := constantI S_ 1 1#1
  let main_v15 : IVec S_ 1 := (fun x v => Host.reduce IntOp.andi x v reducesTo_S8192x16_S_d0_1 h_S_) main_v14 main_c_3
  let main_v16 : IVec S_ 1 := andi main_v10 main_v15
  let main_v17 : FVec F S16x1024 .f32 := Host.absf main_arg5
  fn_part1 (F := F) main_arg6 main_v16 main_v17
-- ==== Kernel.lean ====
abbrev S8192x2048 : Shape := ⟨2, ![8192, 2048]⟩
abbrev S8192x4096 : Shape := ⟨2, ![8192, 4096]⟩
abbrev S8192x7168 : Shape := ⟨2, ![8192, 7168]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S1x512 : Shape := ⟨2, ![1, 512]⟩
abbrev S256x1024 : Shape := ⟨2, ![256, 1024]⟩
abbrev S256x2048 : Shape := ⟨2, ![256, 2048]⟩
abbrev S256x128 : Shape := ⟨2, ![256, 128]⟩
abbrev S4x512x256 : Shape := ⟨3, ![4, 512, 256]⟩
abbrev S4x256x256 : Shape := ⟨3, ![4, 256, 256]⟩
abbrev S256x256 : Shape := ⟨2, ![256, 256]⟩
abbrev S256x1 : Shape := ⟨2, ![256, 1]⟩
abbrev S1x1x1024 : Shape := ⟨3, ![1, 1, 1024]⟩
abbrev S1x1x1 : Shape := ⟨3, ![1, 1, 1]⟩
abbrev S1x256 : Shape := ⟨2, ![1, 256]⟩
abbrev S1x256x256 : Shape := ⟨3, ![1, 256, 256]⟩
abbrev S256 : Shape := ⟨1, ![256]⟩
abbrev S256x512 : Shape := ⟨2, ![256, 512]⟩
abbrev S1x512x256 : Shape := ⟨3, ![1, 512, 256]⟩
abbrev S512x256 : Shape := ⟨2, ![512, 256]⟩

abbrev nBuf : Space → Nat
  | .hbm => 17
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x4096, .f32⟩
  | .hbm, ⟨3, _⟩ => ⟨S8192x7168, .bf16⟩
  | .hbm, ⟨4, _⟩ => ⟨S8192x128, .f32⟩
  | .hbm, ⟨5, _⟩ => ⟨S16x1024, .f32⟩
  | .hbm, ⟨6, _⟩ => ⟨S1024, .f32⟩
  | .hbm, ⟨7, _⟩ => ⟨S512, .f32⟩
  | .hbm, ⟨8, _⟩ => ⟨S_, .f32⟩
  | .hbm, ⟨9, _⟩ => ⟨S128x1024, .f32⟩
  | .hbm, ⟨10, _⟩ => ⟨S_, .i32⟩
  | .hbm, ⟨11, _⟩ => ⟨S1, .i32⟩
  | .hbm, ⟨12, _⟩ => ⟨S128x1024, .f32⟩
  | .hbm, ⟨13, _⟩ => ⟨S128x1024, .bf16⟩
  | .hbm, ⟨14, _⟩ => ⟨S1x1024, .f32⟩
  | .hbm, ⟨15, _⟩ => ⟨S1x512, .f32⟩
  | .hbm, ⟨16, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S128x1024, .bf16⟩
  | .local _ .vmem, ⟨13, _⟩ => ⟨S1x1024, .f32⟩
  | .local _ .vmem, ⟨14, _⟩ => ⟨S1x512, .f32⟩
  | .local _ .vmem, ⟨15, _⟩ => ⟨S256x2048, .f32⟩
  | .local _ .vmem, ⟨16, _⟩ => ⟨S256x2048, .f32⟩
  | .local _ .vmem, ⟨17, _⟩ => ⟨S4x512x256, .f32⟩
  | .local _ .vmem, ⟨18, _⟩ => ⟨S256x1024, .f32⟩
  | .local _ .vmem, ⟨19, _⟩ => ⟨S4x256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_142 : BitVec 32 := 0#32
  let c256_i32 : BitVec 32 := 256#32
  let v266 : BitVec 32 := Scalar.addi c0_i32_142 c256_i32
  let c1_i32 : BitVec 32 := 1#32
  ⟨c0_i32_142, v266, c1_i32⟩
def k0_off1 (k0_t1 : Fin k0_t1_loop.trips) : Fin 2 → Nat :=
  let c0_i32_142 : BitVec 32 := 0#32
  let c1_i32 : BitVec 32 := 1#32
  let arg15 : BitVec 32 := Scf.iv c0_i32_142 c1_i32 k0_t1
  let v301 : Index := Scalar.indexCast arg15
  let c0_186 : Index := 0#32
  ![v301.toNat, 0]
@[reducible] def k0_t2_loop : Scf.Loop 32 :=
  let c0_i32_153 : BitVec 32 := 0#32
  let c256_i32_154 : BitVec 32 := 256#32
  let v276 : BitVec 32 := Scalar.addi c0_i32_153 c256_i32_154
  let c1_i32_155 : BitVec 32 := 1#32
  ⟨c0_i32_153, v276, c1_i32_155⟩
def k0_off2 (k0_t2 : Fin k0_t2_loop.trips) : Fin 2 → Nat :=
  let c0_i32_153 : BitVec 32 := 0#32
  let c1_i32_155 : BitVec 32 := 1#32
  let arg15 : BitVec 32 := Scf.iv c0_i32_153 c1_i32_155 k0_t2
  let v301 : Index := Scalar.indexCast arg15
  let c256_186 : Index := 256#32
  ![v301.toNat, 256]
@[reducible] def k0_t3_loop : Scf.Loop 32 :=
  let c0_i32_166 : BitVec 32 := 0#32
  let c256_i32_167 : BitVec 32 := 256#32
  let v286 : BitVec 32 := Scalar.addi c0_i32_166 c256_i32_167
  let c1_i32_168 : BitVec 32 := 1#32
  ⟨c0_i32_166, v286, c1_i32_168⟩
def k0_off3 (k0_t3 : Fin k0_t3_loop.trips) : Fin 2 → Nat :=
  let c0_i32_166 : BitVec 32 := 0#32
  let c1_i32_168 : BitVec 32 := 1#32
  let arg15 : BitVec 32 := Scf.iv c0_i32_166 c1_i32_168 k0_t3
  let v301 : Index := Scalar.indexCast arg15
  let c512_186 : Index := 512#32
  ![v301.toNat, 512]
@[reducible] def k0_t4_loop : Scf.Loop 32 :=
  let c0_i32_179 : BitVec 32 := 0#32
  let c256_i32_180 : BitVec 32 := 256#32
  let v296 : BitVec 32 := Scalar.addi c0_i32_179 c256_i32_180
  let c1_i32_181 : BitVec 32 := 1#32
  ⟨c0_i32_179, v296, c1_i32_181⟩
def k0_off4 (k0_t4 : Fin k0_t4_loop.trips) : Fin 2 → Nat :=
  let c0_i32_179 : BitVec 32 := 0#32
  let c1_i32_181 : BitVec 32 := 1#32
  let arg15 : BitVec 32 := Scf.iv c0_i32_179 c1_i32_181 k0_t4
  let v301 : Index := Scalar.indexCast arg15
  let c768_186 : Index := 768#32
  ![v301.toNat, 768]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x2048 : Shape := ⟨2, ![8192, 2048]⟩
abbrev S8192x4096 : Shape := ⟨2, ![8192, 4096]⟩
abbrev S8192x7168 : Shape := ⟨2, ![8192, 7168]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S2x4096x2048 : Shape := ⟨3, ![2, 4096, 2048]⟩
abbrev S2x4096x7168 : Shape := ⟨3, ![2, 4096, 7168]⟩
abbrev S2x4096x128 : Shape := ⟨3, ![2, 4096, 128]⟩
abbrev S2x4096x1024 : Shape := ⟨3, ![2, 4096, 1024]⟩
abbrev S2x4096x16 : Shape := ⟨3, ![2, 4096, 16]⟩
abbrev S2x4096x4x256 : Shape := ⟨4, ![2, 4096, 4, 256]⟩
abbrev S_ : Shape := ⟨0, ![]⟩
abbrev S2x4096x4x512 : Shape := ⟨4, ![2, 4096, 4, 512]⟩
abbrev S1x1x1024 : Shape := ⟨3, ![1, 1, 1024]⟩
abbrev S64x64 : Shape := ⟨2, ![64, 64]⟩
abbrev S2x4x256x512 : Shape := ⟨4, ![2, 4, 256, 512]⟩
abbrev S2x64x64x4x256 : Shape := ⟨5, ![2, 64, 64, 4, 256]⟩
abbrev S64x2x4x64x256 : Shape := ⟨5, ![64, 2, 4, 64, 256]⟩
abbrev S2x64x64x4x512 : Shape := ⟨5, ![2, 64, 64, 4, 512]⟩
abbrev S64x2x4x64x512 : Shape := ⟨5, ![64, 2, 4, 64, 512]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S2x4x64x1x256 : Shape := ⟨5, ![2, 4, 64, 1, 256]⟩
abbrev S2x4x1x64x256 : Shape := ⟨5, ![2, 4, 1, 64, 256]⟩
abbrev S2x4x64x64x256 : Shape := ⟨5, ![2, 4, 64, 64, 256]⟩
abbrev S64x64x1 : Shape := ⟨3, ![64, 64, 1]⟩
abbrev S2x4x64x64 : Shape := ⟨4, ![2, 4, 64, 64]⟩
abbrev S2x4x1x256 : Shape := ⟨4, ![2, 4, 1, 256]⟩
abbrev S2x4x256 : Shape := ⟨3, ![2, 4, 256]⟩
abbrev S2x4x256x1 : Shape := ⟨4, ![2, 4, 256, 1]⟩
abbrev S2x4096x4 : Shape := ⟨3, ![2, 4096, 4]⟩
abbrev S2x4096x4x1 : Shape := ⟨4, ![2, 4096, 4, 1]⟩
abbrev S1x1x1x512 : Shape := ⟨4, ![1, 1, 1, 512]⟩
abbrev S2x4096x4096 : Shape := ⟨3, ![2, 4096, 4096]⟩

abbrev nBuf : Space → Nat
  | .hbm => 177
  | .vmem => 0
  | .smem => 0
  | _ => 0

abbrev hbmTy0_0 (i : Nat) : BufTy := match i % 128 with
  | 0 => ⟨S8192x2048, .f32⟩
  | 1 => ⟨S8192x2048, .f32⟩
  | 2 => ⟨S8192x4096, .f32⟩
  | 3 => ⟨S8192x7168, .bf16⟩
  | 4 => ⟨S8192x128, .f32⟩
  | 5 => ⟨S16x1024, .f32⟩
  | 6 => ⟨S1024, .f32⟩
  | 7 => ⟨S512, .f32⟩
  | 8 => ⟨S2x4096x2048, .f32⟩
  | 9 => ⟨S2x4096x7168, .bf16⟩
  | 10 => ⟨S2x4096x128, .f32⟩
  | 11 => ⟨S2x4096x1024, .f32⟩
  | 12 => ⟨S2x4096x1024, .f32⟩
  | 13 => ⟨S2x4096x2048, .bf16⟩
  | 14 => ⟨S2x4096x16, .f32⟩
  | 15 => ⟨S2x4096x4x256, .f32⟩
  | 16 => ⟨S_, .f32⟩
  | 17 => ⟨S2x4096x4x256, .f32⟩
  | 18 => ⟨S2x4096x4x256, .f32⟩
  | 19 => ⟨S2x4096x4x256, .f32⟩
  | 20 => ⟨S2x4096x4x512, .bf16⟩
  | 21 => ⟨S2x4096x4x512, .f32⟩
  | 22 => ⟨S2x4096x1024, .f32⟩
  | 23 => ⟨S1x1x1024, .f32⟩
  | 24 => ⟨S2x4096x1024, .f32⟩
  | 25 => ⟨S2x4096x1024, .f32⟩
  | 26 => ⟨S2x4096x1024, .f32⟩
  | 27 => ⟨S_, .f32⟩
  | 28 => ⟨S2x4096x1024, .f32⟩
  | 29 => ⟨S2x4096x1024, .f32⟩
  | 30 => ⟨S2x4096x1024, .f32⟩
  | 31 => ⟨S2x4096x1024, .f32⟩
  | 32 => ⟨S2x4096x1024, .i1⟩
  | 33 => ⟨S2x4096x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S_, .f32⟩
  | 43 => ⟨S2x4096x1024, .f32⟩
  | 44 => ⟨S2x4096x1024, .f32⟩
  | 45 => ⟨S2x4096x4x256, .f32⟩
  | 46 => ⟨S_, .i1⟩
  | 47 => ⟨S64x64, .i1⟩
  | 48 => ⟨S64x64, .i32⟩
  | 49 => ⟨S_, .i32⟩
  | 50 => ⟨S64x64, .i32⟩
  | 51 => ⟨S64x64, .i32⟩
  | 52 => ⟨S64x64, .i32⟩
  | 53 => ⟨S64x64, .i1⟩
  | 54 => ⟨S_, .i1⟩
  | 55 => ⟨S64x64, .i1⟩
  | 56 => ⟨S64x64, .i1⟩
  | 57 => ⟨S_, .f32⟩
  | 58 => ⟨S2x4x256x512, .f32⟩
  | 59 => ⟨S2x64x64x4x256, .f32⟩
  | 60 => ⟨S64x2x4x64x256, .f32⟩
  | 61 => ⟨S2x64x64x4x256, .f32⟩
  | 62 => ⟨S64x2x4x64x256, .f32⟩
  | 63 => ⟨S2x64x64x4x512, .f32⟩
  | 64 => ⟨S64x2x4x64x512, .f32⟩
  | 65 => ⟨S2x64x64x4x256, .f32⟩
  | 66 => ⟨S64x2x4x64x256, .f32⟩
  | 67 => ⟨S_, .f32⟩
  | 68 => ⟨S64x2x4x64x512, .f32⟩
  | 69 => ⟨S_, .i32⟩
  | 70 => ⟨S64x2x4x64x256, .f32⟩
  | 71 => ⟨S64x2x4x64x256, .f32⟩
  | 72 => ⟨S64x2x4x64x512, .f32⟩
  | 73 => ⟨S64x2x4x64x256, .f32⟩
  | 74 => ⟨S64x64, .i1⟩
  | 75 => ⟨S_, .i32⟩
  | 76 => ⟨S2x4x256x512, .f32⟩
  | 77 => ⟨S64x2x4x64x512, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x2x4x64x256, .f32⟩
  | 85 => ⟨S2x4x64x256, .f32⟩
  | 86 => ⟨S_, .i32⟩
  | 87 => ⟨S_, .i32⟩
  | 88 => ⟨S_, .i32⟩
  | 89 => ⟨S_, .i32⟩
  | 90 => ⟨S1x2x4x64x256, .f32⟩
  | 91 => ⟨S2x4x64x256, .f32⟩
  | 92 => ⟨S_, .i32⟩
  | 93 => ⟨S_, .i32⟩
  | 94 => ⟨S_, .i32⟩
  | 95 => ⟨S_, .i32⟩
  | 96 => ⟨S1x2x4x64x512, .f32⟩
  | 97 => ⟨S2x4x64x512, .f32⟩
  | 98 => ⟨S_, .i32⟩
  | 99 => ⟨S_, .i32⟩
  | 100 => ⟨S_, .i32⟩
  | 101 => ⟨S_, .i32⟩
  | 102 => ⟨S1x2x4x64x256, .f32⟩
  | 103 => ⟨S2x4x64x256, .f32⟩
  | 104 => ⟨S_, .f32⟩
  | 105 => ⟨S_, .f32⟩
  | 106 => ⟨S2x4x64x256, .f32⟩
  | 107 => ⟨S2x4x64x256, .f32⟩
  | 108 => ⟨S2x4x64x256, .f32⟩
  | 109 => ⟨S2x4x64x512, .f32⟩
  | 110 => ⟨S2x4x64x1x256, .f32⟩
  | 111 => ⟨S2x4x1x64x256, .f32⟩
  | 112 => ⟨S2x4x64x64x256, .f32⟩
  | 113 => ⟨S2x4x64x64x256, .f32⟩
  | 114 => ⟨S2x4x64x64x256, .f32⟩
  | 115 => ⟨S64x64x1, .i1⟩
  | 116 => ⟨S_, .f32⟩
  | 117 => ⟨S_, .f32⟩
  | 118 => ⟨S2x4x64x64x256, .i1⟩
  | 119 => ⟨S2x4x64x64x256, .f32⟩
  | 120 => ⟨S2x4x64x64x256, .f32⟩
  | 121 => ⟨S2x4x64x64x256, .f32⟩
  | 122 => ⟨S2x4x64x1x256, .f32⟩
  | 123 => ⟨S2x4x1x64x256, .f32⟩
  | 124 => ⟨S2x4x64x64x256, .f32⟩
  | 125 => ⟨S2x4x64x64x256, .f32⟩
  | 126 => ⟨S2x4x64x64x256, .f32⟩
  | 127 => ⟨S2x4x64x64x256, .f32⟩
  | _ => ⟨S8192x2048, .f32⟩

abbrev hbmTy0_1 (i : Nat) : BufTy := match i % 128 with
  | 0 => ⟨S_, .f32⟩
  | 1 => ⟨S2x4x64x64, .f32⟩
  | 2 => ⟨S2x4x64x512, .f32⟩
  | 3 => ⟨S2x4x64x512, .f32⟩
  | 4 => ⟨S2x4x1x256, .f32⟩
  | 5 => ⟨S2x4x256, .f32⟩
  | 6 => ⟨S2x4x256, .f32⟩
  | 7 => ⟨S2x4x256x1, .f32⟩
  | 8 => ⟨S2x4x256x512, .f32⟩
  | 9 => ⟨S2x4x256x512, .f32⟩
  | 10 => ⟨S2x4x64x256, .f32⟩
  | 11 => ⟨S2x4x64x256, .f32⟩
  | 12 => ⟨S2x4x64x256, .f32⟩
  | 13 => ⟨S2x4x64x256, .f32⟩
  | 14 => ⟨S2x4x256x512, .f32⟩
  | 15 => ⟨S2x4x256x512, .f32⟩
  | 16 => ⟨S1x2x4x64x512, .f32⟩
  | 17 => ⟨S_, .i32⟩
  | 18 => ⟨S_, .i32⟩
  | 19 => ⟨S_, .i32⟩
  | 20 => ⟨S_, .i32⟩
  | 21 => ⟨S64x2x4x64x512, .f32⟩
  | 22 => ⟨S_, .i32⟩
  | 23 => ⟨S_, .i32⟩
  | 24 => ⟨S2x64x64x4x512, .f32⟩
  | 25 => ⟨S2x4096x4x512, .f32⟩
  | 26 => ⟨S2x4096x4x512, .f32⟩
  | 27 => ⟨S_, .f32⟩
  | 28 => ⟨S2x4096x4, .f32⟩
  | 29 => ⟨S2x4096x4x1, .f32⟩
  | 30 => ⟨S_, .f32⟩
  | 31 => ⟨S2x4096x4x1, .f32⟩
  | 32 => ⟨S2x4096x4x1, .f32⟩
  | 33 => ⟨S_, .f32⟩
  | 34 => ⟨S2x4096x4x1, .f32⟩
  | 35 => ⟨S2x4096x4x1, .f32⟩
  | 36 => ⟨S2x4096x4x1, .f32⟩
  | 37 => ⟨S2x4096x4x512, .f32⟩
  | 38 => ⟨S2x4096x4x512, .f32⟩
  | 39 => ⟨S1x1x1x512, .f32⟩
  | 40 => ⟨S2x4096x4x512, .f32⟩
  | 41 => ⟨S2x4096x4x512, .f32⟩
  | 42 => ⟨S2x4096x2048, .f32⟩
  | 43 => ⟨S2x4096x2048, .f32⟩
  | 44 => ⟨S2x4096x2048, .f32⟩
  | 45 => ⟨S2x4096x4096, .f32⟩
  | 46 => ⟨S2x4096x2048, .f32⟩
  | 47 => ⟨S2x4096x2048, .f32⟩
  | 48 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_2 : Ref sig .tc := ⟨.hbm, 67, rfl⟩
abbrev main_v32 : Ref sig .tc := ⟨.hbm, 68, rfl⟩
abbrev main_c_3 : Ref sig .tc := ⟨.hbm, 69, rfl⟩
abbrev main_v33_0 : Ref sig .tc := ⟨.hbm, 70, rfl⟩
abbrev main_v33_1 : Ref sig .tc := ⟨.hbm, 71, rfl⟩
abbrev main_v33_2 : Ref sig .tc := ⟨.hbm, 72, rfl⟩
abbrev main_v33_3 : Ref sig .tc := ⟨.hbm, 73, rfl⟩
abbrev main_v33_4 : Ref sig .tc := ⟨.hbm, 74, rfl⟩
abbrev main_v33_5 : Ref sig .tc := ⟨.hbm, 75, rfl⟩
abbrev main_v33_6 : Ref sig .tc := ⟨.hbm, 76, rfl⟩
abbrev main_v33_7 : Ref sig .tc := ⟨.hbm, 77, rfl⟩
abbrev main_while0c_c_14 : Ref sig .tc := ⟨.hbm, 78, rfl⟩
abbrev main_while0c_v56 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v56 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v57 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v58 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_c_2 : Ref sig .tc := ⟨.hbm, 101, rfl⟩
abbrev main_while0b_call5_v0 : Ref sig .tc := ⟨.hbm, 102, rfl⟩
abbrev main_while0b_v59 : Ref sig .tc := ⟨.hbm, 103, rfl⟩
abbrev main_while0b_call6_call0_cst : Ref sig .tc := ⟨.hbm, 104, rfl⟩
abbrev main_while0b_call6_call0_v0 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_cst_14 : Ref sig .tc := ⟨.hbm, 116, rfl⟩
abbrev main_while0b_call7_v0 : Ref sig .tc := ⟨.hbm, 117, rfl⟩
abbrev main_while0b_call7_v1 : Ref sig .tc := ⟨.hbm, 118, rfl⟩
abbrev main_while0b_call7_v2 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_cst_15 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_v92 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v93 : Ref sig .tc := ⟨.hbm, 149, rfl⟩
abbrev main_while0b_c_16 : Ref sig .tc := ⟨.hbm, 150, rfl⟩
abbrev main_while0b_v94 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_cst_4 : Ref sig .tc := ⟨.hbm, 155, rfl⟩
abbrev main_v37 : Ref sig .tc := ⟨.hbm, 156, rfl⟩
abbrev main_v38 : Ref sig .tc := ⟨.hbm, 157, rfl⟩
abbrev main_cst_5 : Ref sig .tc := ⟨.hbm, 158, rfl⟩
abbrev main_v39 : Ref sig .tc := ⟨.hbm, 159, rfl⟩
abbrev main_v40 : Ref sig .tc := ⟨.hbm, 160, rfl⟩
abbrev main_cst_6 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S2x2048x8192 : Shape := ⟨3, ![2, 2048, 8192]⟩
abbrev S8192x8192 : Shape := ⟨2, ![8192, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x8192 : Shape := ⟨2, ![8192, 8192]⟩
abbrev S2x8192x2048 : Shape := ⟨3, ![2, 8192, 2048]⟩
abbrev S8192x2048 : Shape := ⟨2, ![8192, 2048]⟩
abbrev S2x2048 : Shape := ⟨2, ![2, 2048]⟩
abbrev S2048 : Shape := ⟨1, ![2048]⟩
abbrev S2x1x2048 : Shape := ⟨3, ![2, 1, 2048]⟩
abbrev S1x2048 : Shape := ⟨2, ![1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x2048, .f32⟩
  | .hbm, ⟨4, _⟩ => ⟨S2048, .f32⟩
  | .hbm, ⟨5, _⟩ => ⟨S2x8192x2048, .bf16⟩
  | .hbm, ⟨6, _⟩ => ⟨S2x1x2048, .f32⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x8192 : Shape := ⟨2, ![8192, 8192]⟩
abbrev S2x8192x2048 : Shape := ⟨3, ![2, 8192, 2048]⟩
abbrev S8192x2048 : Shape := ⟨2, ![8192, 2048]⟩
abbrev S2x2048 : Shape := ⟨2, ![2, 2048]⟩
abbrev S2048 : Shape := ⟨1, ![2048]⟩
abbrev S2x4096x2048 : Shape := ⟨3, ![2, 4096, 2048]⟩
abbrev S2x1x2048 : Shape := ⟨3, ![2, 1, 2048]⟩
abbrev S2x4096x8192 : Shape := ⟨3, ![2, 4096, 8192]⟩
abbrev S1x8192x2048 : Shape := ⟨3, ![1, 8192, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x2048, .f32⟩
  | .hbm, ⟨4, _⟩ => ⟨S2048, .f32⟩
  | .hbm, ⟨5, _⟩ => ⟨S2x4096x2048, .f32⟩
  | .hbm, ⟨6, _⟩ => ⟨S2x1x2048, .f32⟩
  | .hbm, ⟨7, _⟩ => ⟨S2x4096x8192, .bf16⟩
  | .hbm, ⟨8, _⟩ => ⟨S2x4096x8192, .f32⟩
  | .hbm, ⟨9, _⟩ => ⟨S1x8192x2048, .f32⟩
  | .hbm, ⟨10, _⟩ => ⟨S8192x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S8192x2048 : Shape := ⟨2, ![8192, 2048]⟩
abbrev S2x2048x15712 : Shape := ⟨3, ![2, 2048, 15712]⟩
abbrev S2x15712x2048 : Shape := ⟨3, ![2, 15712, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x15712x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg0 : BitVec 32 := BitVec.ofNat 32 (i 0).val
  let c2_i32_0 : BitVec 32 := 2#32
  let v3 : BitVec 1 := Scalar.cmpi .slt arg0 c2_i32_0
  let c11616_i32 : BitVec 32 := 11616#32
  let c0_i32 : BitVec 32 := 0#32
  let v4 : BitVec 32 := Scalar.subi arg0 c0_i32
  let c1024_i32_1 : BitVec 32 := 1024#32
  let v5 : BitVec 32 := Scalar.muli v4 c1024_i32_1
  let v6 : BitVec 32 := Scalar.addi c11616_i32 v5
  let c13664_i32 : BitVec 32 := 13664#32
  let c2_i32 : BitVec 32 := 2#32
  let v0 : BitVec 32 := Scalar.subi arg0 c2_i32
  let c1024_i32 : BitVec 32 := 1024#32
  let v1 : BitVec 32 := Scalar.muli v0 c1024_i32
  let v2 : BitVec 32 := Scalar.addi c13664_i32 v1
  let v7 : BitVec 32 := Scalar.select v3 v6 v2
  v7
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c1024_i32 : BitVec 32 := 1024#32
  let v1 : BitVec 32 := Scalar.muli v0 c1024_i32
  let c13664_i32 : BitVec 32 := 13664#32
  let v2 : BitVec 32 := Scalar.addi c13664_i32 v1
  let c2_i32_0 : BitVec 32 := 2#32
  let v3 : BitVec 1 := Scalar.cmpi .slt arg0 c2_i32_0
  let c0_i32 : BitVec 32 := 0#32
  let v4 : BitVec 32 := Scalar.subi arg0 c0_i32
  let c1024_i32_1 : BitVec 32 := 1024#32
  let v5 : BitVec 32 := Scalar.muli v4 c1024_i32_1
  let c11616_i32 : BitVec 32 := 11616#32
  let v6 : BitVec 32 := Scalar.addi c11616_i32 v5
  let v7 : BitVec 32 := Scalar.select v3 v6 v2
  let v8 : BitVec 32 := v7
  let c1_i32 : BitVec 32 := 1#32
  let c0_i32_2 : BitVec 32 := 0#32
  let c0_i32_3 : BitVec 32 := 0#32
  ![c1_i32.toNat, v8.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x15712 : Shape := ⟨3, ![2, 2048, 15712]⟩
abbrev S1x2048x15712 : Shape := ⟨3, ![1, 2048, 15712]⟩
abbrev S2048x15712 : Shape := ⟨2, ![2048, 15712]⟩
abbrev S8192x15712 : Shape := ⟨2, ![8192, 15712]⟩
abbrev S_ : Shape := ⟨0, ![]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S8192x2048, .f32⟩
  | .hbm, ⟨3, _⟩ => ⟨S1x2048x15712, .f32⟩
  | .hbm, ⟨4, _⟩ => ⟨S2048x15712, .f32⟩
  | .hbm, ⟨5, _⟩ => ⟨S8192x15712, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S8192x2048 : Shape := ⟨2, ![8192, 2048]⟩
abbrev S2x2048x15712 : Shape := ⟨3, ![2, 2048, 15712]⟩
abbrev S2x15712x2048 : Shape := ⟨3, ![2, 15712, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x15712x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c0_i32_0 : BitVec 32 := 0#32
  let arg0 : BitVec 32 := BitVec.ofNat 32 (i 0).val
  let c0_i32 : BitVec 32 := 0#32
  let v0 : BitVec 32 := Scalar.subi arg0 c0_i32
  let c1024_i32 : BitVec 32 := 1024#32
  let v1 : BitVec 32 := Scalar.muli v0 c1024_i32
  let v2 : BitVec 32 := Scalar.addi c0_i32_0 v1
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1024_i32 : BitVec 32 := 1024#32
  let v1 : BitVec 32 := Scalar.muli v0 c1024_i32
  let c0_i32_0 : BitVec 32 := 0#32
  let v2 : BitVec 32 := Scalar.addi c0_i32_0 v1
  let v3 : BitVec 32 := v2
  let c1_i32 : BitVec 32 := 1#32
  let c0_i32_1 : BitVec 32 := 0#32
  let c0_i32_2 : BitVec 32 := 0#32
  ![c1_i32.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2x2048x15712 : Shape := ⟨3, ![2, 2048, 15712]⟩
abbrev S1x2048x15712 : Shape := ⟨3, ![1, 2048, 15712]⟩
abbrev S2048x15712 : Shape := ⟨2, ![2048, 15712]⟩
abbrev S8192x15712 : Shape := ⟨2, ![8192, 15712]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S8192x2048, .f32⟩
  | .hbm, ⟨3, _⟩ => ⟨S1x2048x15712, .f32⟩
  | .hbm, ⟨4, _⟩ => ⟨S2048x15712, .f32⟩
  | .hbm, ⟨5, _⟩ => ⟨S8192x15712, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2x2048x15712 : Shape := ⟨3, ![2, 2048, 15712]⟩
abbrev S2x15712x2048 : Shape := ⟨3, ![2, 15712, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x15712x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c4112_i32 : BitVec 32 := 4112#32
  let arg0 : BitVec 32 := BitVec.ofNat 32 (i 0).val
  let c0_i32 : BitVec 32 := 0#32
  let v0 : BitVec 32 := Scalar.subi arg0 c0_i32
  let c1024_i32 : BitVec 32 := 1024#32
  let v1 : BitVec 32 := Scalar.muli v0 c1024_i32
  let v2 : BitVec 32 := Scalar.addi c4112_i32 v1
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1024_i32 : BitVec 32 := 1024#32
  let v1 : BitVec 32 := Scalar.muli v0 c1024_i32
  let c4112_i32 : BitVec 32 := 4112#32
  let v2 : BitVec 32 := Scalar.addi c4112_i32 v1
  let v3 : BitVec 32 := v2
  let c1_i32 : BitVec 32 := 1#32
  let c0_i32_0 : BitVec 32 := 0#32
  let c0_i32_1 : BitVec 32 := 0#32
  ![c1_i32.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S2x2048x15712 : Shape := ⟨3, ![2, 2048, 15712]⟩
abbrev S1x2048x15712 : Shape := ⟨3, ![1, 2048, 15712]⟩
abbrev S2048x15712 : Shape := ⟨2, ![2048, 15712]⟩
abbrev S8192x15712 : Shape := ⟨2, ![8192, 15712]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S8192x2048, .f32⟩
  | .hbm, ⟨3, _⟩ => ⟨S1x2048x15712, .f32⟩
  | .hbm, ⟨4, _⟩ => ⟨S2048x15712, .f32⟩
  | .hbm, ⟨5, _⟩ => ⟨S8192x15712, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel7.lean ====
abbrev S8192x2048 : Shape := ⟨2, ![8192, 2048]⟩
abbrev S2x2048x15712 : Shape := ⟨3, ![2, 2048, 15712]⟩
abbrev S2x15712x2048 : Shape := ⟨3, ![2, 15712, 2048]⟩
abbrev S8192x7168 : Shape := ⟨2, ![8192, 7168]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x15712x2048, .f32⟩
  | .hbm, ⟨3, _⟩ => ⟨S8192x7168, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 4], ![false, false]⟩

def k0_mult1 (i : grid0.Coords) : BitVec 32 :=
  let arg0 : BitVec 32 := BitVec.ofNat 32 (i 0).val
  let c4_i32_2 : BitVec 32 := 4#32
  let v8 : BitVec 1 := Scalar.cmpi .slt arg0 c4_i32_2
  let c6160_i32 : BitVec 32 := 6160#32
  let c0_i32 : BitVec 32 := 0#32
  let v9 : BitVec 32 := Scalar.subi arg0 c0_i32
  let c1024_i32_3 : BitVec 32 := 1024#32
  let v10 : BitVec 32 := Scalar.muli v9 c1024_i32_3
  let v11 : BitVec 32 := Scalar.addi c6160_i32 v10
  let c6_i32_0 : BitVec 32 := 6#32
  let v3 : BitVec 1 := Scalar.cmpi .slt arg0 c6_i32_0
  let c2048_i32 : BitVec 32 := 2048#32
  let c4_i32 : BitVec 32 := 4#32
  let v4 : BitVec 32 := Scalar.subi arg0 c4_i32
  let c1024_i32_1 : BitVec 32 := 1024#32
  let v5 : BitVec 32 := Scalar.muli v4 c1024_i32_1
  let v6 : BitVec 32 := Scalar.addi c2048_i32 v5
  let c10512_i32 : BitVec 32 := 10512#32
  let c6_i32 : BitVec 32 := 6#32
  let v0 : BitVec 32 := Scalar.subi arg0 c6_i32
  let c1024_i32 : BitVec 32 := 1024#32
  let v1 : BitVec 32 := Scalar.muli v0 c1024_i32
  let v2 : BitVec 32 := Scalar.addi c10512_i32 v1
  let v7 : BitVec 32 := Scalar.select v3 v6 v2
  let v12 : BitVec 32 := Scalar.select v8 v11 v7
  v12
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c1024_i32 : BitVec 32 := 1024#32
  let v1 : BitVec 32 := Scalar.muli v0 c1024_i32
  let c10512_i32 : BitVec 32 := 10512#32
  let v2 : BitVec 32 := Scalar.addi c10512_i32 v1
  let c6_i32_0 : BitVec 32 := 6#32
  let v3 : BitVec 1 := Scalar.cmpi .slt arg0 c6_i32_0
  let c4_i32 : BitVec 32 := 4#32
  let v4 : BitVec 32 := Scalar.subi arg0 c4_i32
  let c1024_i32_1 : BitVec 32 := 1024#32
  let v5 : BitVec 32 := Scalar.muli v4 c1024_i32_1
  let c2048_i32 : BitVec 32 := 2048#32
  let v6 : BitVec 32 := Scalar.addi c2048_i32 v5
  let v7 : BitVec 32 := Scalar.select v3 v6 v2
  let c4_i32_2 : BitVec 32 := 4#32
  let v8 : BitVec 1 := Scalar.cmpi .slt arg0 c4_i32_2
  let c0_i32 : BitVec 32 := 0#32
  let v9 : BitVec 32 := Scalar.subi arg0 c0_i32
  let c1024_i32_3 : BitVec 32 := 1024#32
  let v10 : BitVec 32 := Scalar.muli v9 c1024_i32_3
  let c6160_i32 : BitVec 32 := 6160#32
  let v11 : BitVec 32 := Scalar.addi c6160_i32 v10
  let v12 : BitVec 32 := Scalar.select v8 v11 v7
  let v13 : BitVec 32 := v12
  let c1_i32 : BitVec 32 := 1#32
  let c0_i32_4 : BitVec 32 := 0#32
  let c0_i32_5 : BitVec 32 := 0#32
  ![c1_i32.toNat, v13.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2x2048x15712 : Shape := ⟨3, ![2, 2048, 15712]⟩
abbrev S1x2048x15712 : Shape := ⟨3, ![1, 2048, 15712]⟩
abbrev S2048x15712 : Shape := ⟨2, ![2048, 15712]⟩
abbrev S8192x15712 : Shape := ⟨2, ![8192, 15712]⟩
abbrev S8192x4096 : Shape := ⟨2, ![8192, 4096]⟩
abbrev S_ : Shape := ⟨0, ![]⟩
abbrev S8192x1024 : Shape := ⟨2, ![8192, 1024]⟩
abbrev S8192x7168 : Shape := ⟨2, ![8192, 7168]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S8192x2048, .f32⟩
  | .hbm, ⟨3, _⟩ => ⟨S1x2048x15712, .f32⟩
  | .hbm, ⟨4, _⟩ => ⟨S2048x15712, .f32⟩
  | .hbm, ⟨5, _⟩ => ⟨S8192x15712, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x1024, .f32⟩
  | .hbm, ⟨12, _⟩ => ⟨S8192x7168, .f32⟩
  | .hbm, ⟨13, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8192x2048 : Shape := ⟨2, ![8192, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S8x128 : Shape := ⟨2, ![8, 128]⟩
abbrev S2048x2048 : Shape := ⟨2, ![2048, 2048]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048x2048, .bf16⟩
  | .hbm, ⟨8, _⟩ => ⟨S1x2048, .f32⟩
  | .hbm, ⟨9, _⟩ => ⟨S2048, .f32⟩
  | .hbm, ⟨10, _⟩ => ⟨S2x1x2048, .f32⟩
  | .hbm, ⟨11, _⟩ => ⟨S1x2048, .f32⟩
  | .hbm, ⟨12, _⟩ => ⟨S2x1x2048, .f32⟩
  | .hbm, ⟨13, _⟩ => ⟨S2x1x2048, .f32⟩
  | .hbm, ⟨14, _⟩ => ⟨S8192x2048, .f32⟩
  | .hbm, ⟨15, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S8192x2048 : Shape := ⟨2, ![8192, 2048]⟩
abbrev S2x2048x2048 : Shape := ⟨3, ![2, 2048, 2048]⟩
abbrev S2x2048 : Shape := ⟨2, ![2, 2048]⟩
abbrev S2x4096x2048 : Shape := ⟨3, ![2, 4096, 2048]⟩
abbrev S2x1x2048 : Shape := ⟨3, ![2, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x4096x2048, .f32⟩
  | .hbm, ⟨8, _⟩ => ⟨S2x1x2048, .f32⟩
  | .hbm, ⟨9, _⟩ => ⟨S2x4096x2048, .bf16⟩
  | .hbm, ⟨10, _⟩ => ⟨S2x4096x2048, .f32⟩
  | .hbm, ⟨11, _⟩ => ⟨S1x2048x2048, .f32⟩
  | .hbm, ⟨12, _⟩ => ⟨S2048x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S1x2048, .f32⟩
  | .hbm, ⟨18, _⟩ => ⟨S2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S2x1x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S2x1x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel9.lean ====
abbrev S8192x8192 : Shape := ⟨2, ![8192, 8192]⟩
abbrev S2x8192x2048 : Shape := ⟨3, ![2, 8192, 2048]⟩
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x8192x2048, .bf16⟩
  | .hbm, ⟨8, _⟩ => ⟨S1x2048, .f32⟩
  | .hbm, ⟨9, _⟩ => ⟨S2048, .f32⟩
  | .hbm, ⟨10, _⟩ => ⟨S2x1x2048, .f32⟩
  | .hbm, ⟨11, _⟩ => ⟨S1x2048, .f32⟩
  | .hbm, ⟨12, _⟩ => ⟨S2x1x2048, .f32⟩
  | .hbm, ⟨13, _⟩ => ⟨S2x1x2048, .f32⟩
  | .hbm, ⟨14, _⟩ => ⟨S8192x2048, .f32⟩
  | .hbm, ⟨15, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference9Ideal.lean ====
abbrev S8192x8192 : Shape := ⟨2, ![8192, 8192]⟩
abbrev S2x8192x2048 : Shape := ⟨3, ![2, 8192, 2048]⟩
abbrev S8192x2048 : Shape := ⟨2, ![8192, 2048]⟩
abbrev S2x2048 : Shape := ⟨2, ![2, 2048]⟩
abbrev S2x4096x2048 : Shape := ⟨3, ![2, 4096, 2048]⟩
abbrev S2x1x2048 : Shape := ⟨3, ![2, 1, 2048]⟩
abbrev S2x4096x8192 : Shape := ⟨3, ![2, 4096, 8192]⟩
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x4096x2048, .f32⟩
  | .hbm, ⟨8, _⟩ => ⟨S2x1x2048, .f32⟩
  | .hbm, ⟨9, _⟩ => ⟨S2x4096x8192, .bf16⟩
  | .hbm, ⟨10, _⟩ => ⟨S2x4096x8192, .f32⟩
  | .hbm, ⟨11, _⟩ => ⟨S1x8192x2048, .f32⟩
  | .hbm, ⟨12, _⟩ => ⟨S8192x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S1x2048, .f32⟩
  | .hbm, ⟨18, _⟩ => ⟨S2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S2x1x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S2x1x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel10.lean ====
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S2x1x2048 : Shape := ⟨3, ![2, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2x1x2048, .f32⟩
  | .hbm, ⟨8, _⟩ => ⟨S2x1x2048, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x2048 : Shape := ⟨2, ![8192, 2048]⟩
abbrev S2x2048 : Shape := ⟨2, ![2, 2048]⟩
abbrev S2x4096x2048 : Shape := ⟨3, ![2, 4096, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x4096x2048, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x1x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | .hbm, ⟨33, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel11.lean ====
abbrev S8192x2048 : Shape := ⟨2, ![8192, 2048]⟩
abbrev S2x2048x15712 : Shape := ⟨3, ![2, 2048, 15712]⟩
abbrev S2x256 : Shape := ⟨2, ![2, 256]⟩
abbrev S2x15712x2048 : Shape := ⟨3, ![2, 15712, 2048]⟩
abbrev S1x256 : Shape := ⟨2, ![1, 256]⟩
abbrev S256 : Shape := ⟨1, ![256]⟩
abbrev S8192x256 : Shape := ⟨2, ![8192, 256]⟩
abbrev S8192x128 : Shape := ⟨2, ![8192, 128]⟩
abbrev S1024x2048 : Shape := ⟨2, ![1024, 2048]⟩
abbrev S1x256x2048 : Shape := ⟨3, ![1, 256, 2048]⟩
abbrev S1x80x2048 : Shape := ⟨3, ![1, 80, 2048]⟩
abbrev S1x16x2048 : Shape := ⟨3, ![1, 16, 2048]⟩
abbrev S1024x256 : Shape := ⟨2, ![1024, 256]⟩
abbrev S1024x128 : Shape := ⟨2, ![1024, 128]⟩
abbrev S384x2048 : Shape := ⟨2, ![384, 2048]⟩
abbrev S256x2048 : Shape := ⟨2, ![256, 2048]⟩
abbrev S80x2048 : Shape := ⟨2, ![80, 2048]⟩
abbrev S16x2048 : Shape := ⟨2, ![16, 2048]⟩
abbrev S32x2048 : Shape := ⟨2, ![32, 2048]⟩
abbrev S1024x384 : Shape := ⟨2, ![1024, 384]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x256, .f32⟩
  | .hbm, ⟨3, _⟩ => ⟨S2x15712x2048, .f32⟩
  | .hbm, ⟨4, _⟩ => ⟨S1x256, .f32⟩
  | .hbm, ⟨5, _⟩ => ⟨S256, .f32⟩
  | .hbm, ⟨6, _⟩ => ⟨S1x256, .f32⟩
  | .hbm, ⟨7, _⟩ => ⟨S8192x256, .bf16⟩
  | .hbm, ⟨8, _⟩ => ⟨S8192x128, .f32⟩
  | .hbm, ⟨9, _⟩ => ⟨S8192x128, .bf16⟩
  | .hbm, ⟨10, _⟩ => ⟨S8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x256x2048, .f32⟩
  | .local _ .vmem, ⟨3, _⟩ => ⟨S1x80x2048, .f32⟩
  | .local _ .vmem, ⟨4, _⟩ => ⟨S1x16x2048, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S384x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c10256_i32 : BitVec 32 := 10256#32
  let c0_i32 : BitVec 32 := 0#32
  let c0_i32_0 : BitVec 32 := 0#32
  ![c1_i32.toNat, c10256_i32.toNat, c0_i32.toNat]

def cc0_transform_2 (i : grid0.Coords) : Fin 3 → Nat :=
  let arg0 : BitVec 32 := BitVec.ofNat 32 (i 0).val
  let c1_i32 : BitVec 32 := 1#32
  let c11536_i32 : BitVec 32 := 11536#32
  let c0_i32 : BitVec 32 := 0#32
  let c0_i32_0 : BitVec 32 := 0#32
  ![c1_i32.toNat, c11536_i32.toNat, c0_i32.toNat]

def cc0_transform_3 (i : grid0.Coords) : Fin 3 → Nat :=
  let arg0 : BitVec 32 := BitVec.ofNat 32 (i 0).val
  let c1_i32 : BitVec 32 := 1#32
  let c4096_i32 : BitVec 32 := 4096#32
  let c0_i32 : BitVec 32 := 0#32
  let c0_i32_0 : BitVec 32 := 0#32
  ![c1_i32.toNat, c4096_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8192x2048 : Shape := ⟨2, ![8192, 2048]⟩
abbrev S2x2048x15712 : Shape := ⟨3, ![2, 2048, 15712]⟩
abbrev S2x256 : Shape := ⟨2, ![2, 256]⟩
abbrev S1x2048x15712 : Shape := ⟨3, ![1, 2048, 15712]⟩
abbrev S2048x15712 : Shape := ⟨2, ![2048, 15712]⟩
abbrev S8192x15712 : Shape := ⟨2, ![8192, 15712]⟩
abbrev S8192x256 : Shape := ⟨2, ![8192, 256]⟩
abbrev S1x256 : Shape := ⟨2, ![1, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S8192x64 : Shape := ⟨2, ![8192, 64]⟩
abbrev S8192x16 : Shape := ⟨2, ![8192, 16]⟩
abbrev S8192x32 : Shape := ⟨2, ![8192, 32]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x15712, .f32⟩
  | .hbm, ⟨2, _⟩ => ⟨S2x256, .f32⟩
  | .hbm, ⟨3, _⟩ => ⟨S8192x2048, .f32⟩
  | .hbm, ⟨4, _⟩ => ⟨S1x2048x15712, .f32⟩
  | .hbm, ⟨5, _⟩ => ⟨S2048x15712, .f32⟩
  | .hbm, ⟨6, _⟩ => ⟨S8192x15712, .f32⟩
  | .hbm, ⟨7, _⟩ => ⟨S8192x256, .f32⟩
  | .hbm, ⟨8, _⟩ => ⟨S1x256, .f32⟩
  | .hbm, ⟨9, _⟩ => ⟨S256, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S8192x64, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x32, .f32⟩
  | .hbm, ⟨31, _⟩ => ⟨S8192x128, .f32⟩
  | .hbm, ⟨32, _⟩ => ⟨S_, .f32⟩
  | .hbm, ⟨33, _⟩ => ⟨S8192x64, .f32⟩
  | .hbm, ⟨34, _⟩ => ⟨S8192x128, .f32⟩
  | .hbm, ⟨35, _⟩ => ⟨S_, .f32⟩
  | .hbm, ⟨36, _⟩ => ⟨S8192x64, .f32⟩
  | .hbm, ⟨37, _⟩ => ⟨S8192x128, .f32⟩
  | .hbm, ⟨38, _⟩ => ⟨S8192x256, .bf16⟩
  | .hbm, ⟨39, _⟩ => ⟨S8192x128, .bf16⟩
  | .hbm, ⟨40, _⟩ => ⟨S8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel12.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1 : Shape := ⟨1, ![1]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S2x2x12288 : Shape := ⟨3, ![2, 2, 12288]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2x1x12288, .f32⟩
  | .hbm, ⟨9, _⟩ => ⟨S2x8x12288, .f32⟩
  | .hbm, ⟨10, _⟩ => ⟨S2x2x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x2x12288 : Shape := ⟨3, ![1, 2, 12288]⟩
abbrev S2x2x12288 : Shape := ⟨3, ![2, 2, 12288]⟩

abbrev nBuf : Space → Nat
  | .hbm => 31
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048x12288, .f32⟩
  | .hbm, ⟨13, _⟩ => ⟨S2048x12288, .f32⟩
  | .hbm, ⟨14, _⟩ => ⟨S2x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S2x12288, .f32⟩
  | .hbm, ⟨19, _⟩ => ⟨S2x12288, .f32⟩
  | .hbm, ⟨20, _⟩ => ⟨S1x2048x12288, .f32⟩
  | .hbm, ⟨21, _⟩ => ⟨S2048x12288, .f32⟩
  | .hbm, ⟨22, _⟩ => ⟨S2x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S2x12288, .f32⟩
  | .hbm, ⟨27, _⟩ => ⟨S2x12288, .f32⟩
  | .hbm, ⟨28, _⟩ => ⟨S1x2x12288, .f32⟩
  | .hbm, ⟨29, _⟩ => ⟨S1x2x12288, .f32⟩
  | .hbm, ⟨30, _⟩ => ⟨S2x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel13.lean ====
abbrev S32x16 : Shape := ⟨2, ![32, 16]⟩
abbrev S2x16x128x128 : Shape := ⟨4, ![2, 16, 128, 128]⟩
abbrev S2x1x128x128 : Shape := ⟨4, ![2, 1, 128, 128]⟩
abbrev S128x128 : Shape := ⟨2, ![128, 128]⟩
abbrev S1x1 : Shape := ⟨2, ![1, 1]⟩
abbrev S1x1x128x128 : Shape := ⟨4, ![1, 1, 128, 128]⟩

abbrev nBuf : Space → Nat
  | .hbm => 2
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S2x16x128x128, .f32⟩
  | .local _ .vmem, ⟨0, _⟩ => ⟨S2x1x128x128, .f32⟩
  | .local _ .vmem, ⟨1, _⟩ => ⟨S2x1x128x128, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c31 : Index := 31#32
  let arg0 : BitVec 32 := BitVec.ofNat 32 (i 0).val
  let v2 : Index := Scalar.indexCast arg0
  ![31, v2.toNat]
def k0_off2 (i : grid0.Coords) : Fin 2 → Nat :=
  let c0 : Index := 0#32
  let arg0 : BitVec 32 := BitVec.ofNat 32 (i 0).val
  let v31 : Index := Scalar.indexCast arg0
  ![0, v31.toNat]
def k0_off3 (i : grid0.Coords) : Fin 2 → Nat :=
  let c1 : Index := 1#32
  let arg0 : BitVec 32 := BitVec.ofNat 32 (i 0).val
  let v37 : Index := Scalar.indexCast arg0
  ![1, v37.toNat]
def k0_off4 (i : grid0.Coords) : Fin 2 → Nat :=
  let c2 : Index := 2#32
  let arg0 : BitVec 32 := BitVec.ofNat 32 (i 0).val
  let v43 : Index := Scalar.indexCast arg0
  ![2, v43.toNat]
def k0_off5 (i : grid0.Coords) : Fin 2 → Nat :=
  let c3 : Index := 3#32
  let arg0 : BitVec 32 := BitVec.ofNat 32 (i 0).val
  let v49 : Index := Scalar.indexCast arg0
  ![3, v49.toNat]
def k0_off6 (i : grid0.Coords) : Fin 2 → Nat :=
  let c4 : Index := 4#32
  let arg0 : BitVec 32 := BitVec.ofNat 32 (i 0).val
  let v55 : Index := Scalar.indexCast arg0
  ![4, v55.toNat]
def k0_off7 (i : grid0.Coords) : Fin 2 → Nat :=
  let c5 : Index := 5#32
  let arg0 : BitVec 32 := BitVec.ofNat 32 (i 0).val
  let v61 : Index := Scalar.indexCast arg0
  ![5, v61.toNat]
def k0_off8 (i : grid0.Coords) : Fin 2 → Nat :=
  let c6 : Index := 6#32
  let arg0 : BitVec 32 := BitVec.ofNat 32 (i 0).val
  let v67 : Index := Scalar.indexCast arg0
  ![6, v67.toNat]
def k0_off9 (i : grid0.Coords) : Fin 2 → Nat :=
  let c7 : Index := 7#32
  let arg0 : BitVec 32 := BitVec.ofNat 32 (i 0).val
  let v73 : Index := Scalar.indexCast arg0
  ![7, v73.toNat]
def k0_off10 (i : grid0.Coords) : Fin 2 → Nat :=
  let c8 : Index := 8#32
  let arg0 : BitVec 32 := BitVec.ofNat 32 (i 0).val
  let v79 : Index := Scalar.indexCast arg0
  ![8, v79.toNat]
def k0_off11 (i : grid0.Coords) : Fin 2 → Nat :=
  let c9 : Index := 9#32
  let arg0 : BitVec 32 := BitVec.ofNat 32 (i 0).val
  let v85 : Index := Scalar.indexCast arg0
  ![9, v85.toNat]
def k0_off12 (i : grid0.Coords) : Fin 2 → Nat :=
  let c10 : Index := 10#32
  let arg0 : BitVec 32 := BitVec.ofNat 32 (i 0).val
  let v91 : Index := Scalar.indexCast arg0
  ![10, v91.toNat]
def k0_off13 (i : grid0.Coords) : Fin 2 → Nat :=
  let c11 : Index := 11#32
  let arg0 : BitVec 32 := BitVec.ofNat 32 (i 0).val
  let v97 : Index := Scalar.indexCast arg0
  ![11, v97.toNat]
def k0_off14 (i : grid0.Coords) : Fin 2 → Nat :=
  let c12 : Index := 12#32
  let arg0 : BitVec 32 := BitVec.ofNat 32 (i 0).val
  let v103 : Index := Scalar.indexCast arg0
  ![12, v103.toNat]
def k0_off15 (i : grid0.Coords) : Fin 2 → Nat :=
  let c13 : Index := 13#32
  let arg0 : BitVec 32 := BitVec.ofNat 32 (i 0).val
  let v109 : Index := Scalar.indexCast arg0
  ![13, v109.toNat]
def k0_off16 (i : grid0.Coords) : Fin 2 → Nat :=
  let c14 : Index := 14#32
  let arg0 : BitVec 32 := BitVec.ofNat 32 (i 0).val
  let v115 : Index := Scalar.indexCast arg0
  ![14, v115.toNat]
def k0_off17 (i : grid0.Coords) : Fin 2 → Nat :=
  let c15 : Index := 15#32
  let arg0 : BitVec 32 := BitVec.ofNat 32 (i 0).val
  let v121 : Index := Scalar.indexCast arg0
  ![15, v121.toNat]
def k0_off18 (i : grid0.Coords) : Fin 2 → Nat :=
  let c16 : Index := 16#32
  let arg0 : BitVec 32 := BitVec.ofNat 32 (i 0).val
  let v127 : Index := Scalar.indexCast arg0
  ![16, v127.toNat]
def k0_off19 (i : grid0.Coords) : Fin 2 → Nat :=
  let c17 : Index := 17#32
  let arg0 : BitVec 32 := BitVec.ofNat 32 (i 0).val
  let v133 : Index := Scalar.indexCast arg0
  ![17, v133.toNat]
def k0_off20 (i : grid0.Coords) : Fin 2 → Nat :=
  let c18 : Index := 18#32
  let arg0 : BitVec 32 := BitVec.ofNat 32 (i 0).val
  let v139 : Index := Scalar.indexCast arg0
  ![18, v139.toNat]
def k0_off21 (i : grid0.Coords) : Fin 2 → Nat :=
  let c19 : Index := 19#32
  let arg0 : BitVec 32 := BitVec.ofNat 32 (i 0).val
  let v145 : Index := Scalar.indexCast arg0
  ![19, v145.toNat]
def k0_off22 (i : grid0.Coords) : Fin 2 → Nat :=
  let c20 : Index := 20#32
  let arg0 : BitVec 32 := BitVec.ofNat 32 (i 0).val
  let v151 : Index := Scalar.indexCast arg0
  ![20, v151.toNat]
def k0_off23 (i : grid0.Coords) : Fin 2 → Nat :=
  let c21 : Index := 21#32
  let arg0 : BitVec 32 := BitVec.ofNat 32 (i 0).val
  let v157 : Index := Scalar.indexCast arg0
  ![21, v157.toNat]
def k0_off24 (i : grid0.Coords) : Fin 2 → Nat :=
  let c22 : Index := 22#32
  let arg0 : BitVec 32 := BitVec.ofNat 32 (i 0).val
  let v163 : Index := Scalar.indexCast arg0
  ![22, v163.toNat]
def k0_off25 (i : grid0.Coords) : Fin 2 → Nat :=
  let c23 : Index := 23#32
  let arg0 : BitVec 32 := BitVec.ofNat 32 (i 0).val
  let v169 : Index := Scalar.indexCast arg0
  ![23, v169.toNat]
def k0_off26 (i : grid0.Coords) : Fin 2 → Nat :=
  let c24 : Index := 24#32
  let arg0 : BitVec 32 := BitVec.ofNat 32 (i 0).val
  let v175 : Index := Scalar.indexCast arg0
  ![24, v175.toNat]
def k0_off27 (i : grid0.Coords) : Fin 2 → Nat :=
  let c25 : Index := 25#32
  let arg0 : BitVec 32 := BitVec.ofNat 32 (i 0).val
  let v181 : Index := Scalar.indexCast arg0
  ![25, v181.toNat]
def k0_off28 (i : grid0.Coords) : Fin 2 → Nat :=
  let c26 : Index := 26#32
  let arg0 : BitVec 32 := BitVec.ofNat 32 (i 0).val
  let v187 : Index := Scalar.indexCast arg0
  ![26, v187.toNat]
def k0_off29 (i : grid0.Coords) : Fin 2 → Nat :=
  let c27 : Index := 27#32
  let arg0 : BitVec 32 := BitVec.ofNat 32 (i 0).val
  let v193 : Index := Scalar.indexCast arg0
  ![27, v193.toNat]
def k0_off30 (i : grid0.Coords) : Fin 2 → Nat :=
  let c28 : Index := 28#32
  let arg0 : BitVec 32 := BitVec.ofNat 32 (i 0).val
  let v199 : Index := Scalar.indexCast arg0
  ![28, v199.toNat]
def k0_off31 (i : grid0.Coords) : Fin 2 → Nat :=
  let c29 : Index := 29#32
  let arg0 : BitVec 32 := BitVec.ofNat 32 (i 0).val
  let v205 : Index := Scalar.indexCast arg0
  ![29, v205.toNat]
def k0_off32 (i : grid0.Coords) : Fin 2 → Nat :=
  let c30 : Index := 30#32
  let arg0 : BitVec 32 := BitVec.ofNat 32 (i 0).val
  let v211 : Index := Scalar.indexCast arg0
  ![30, v211.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S32x16 : Shape := ⟨2, ![32, 16]⟩
abbrev S2x128x128 : Shape := ⟨3, ![2, 128, 128]⟩
abbrev S_ : Shape := ⟨0, ![]⟩
abbrev S2x128x128x1 : Shape := ⟨4, ![2, 128, 128, 1]⟩
abbrev S2x128x128x16 : Shape := ⟨4, ![2, 128, 128, 16]⟩
abbrev S1x16 : Shape := ⟨2, ![1, 16]⟩
abbrev S16 : Shape := ⟨1, ![16]⟩
abbrev S1x1x1x16 : Shape := ⟨4, ![1, 1, 1, 16]⟩
abbrev S2x16x128x128 : Shape := ⟨4, ![2, 16, 128, 128]⟩

abbrev nBuf : Space → Nat
  | .hbm => 58
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S2x128x128, .i32⟩
  | .hbm, ⟨2, _⟩ => ⟨S2x128x128, .i32⟩
  | .hbm, ⟨3, _⟩ => ⟨S2x128x128, .i32⟩
  | .hbm, ⟨4, _⟩ => ⟨S2x128x128, .i32⟩
  | .hbm, ⟨5, _⟩ => ⟨S_, .i32⟩
  | .hbm, ⟨6, _⟩ => ⟨S2x128x128, .i32⟩
  | .hbm, ⟨7, _⟩ => ⟨S2x128x128, .i32⟩
  | .hbm, ⟨8, _⟩ => ⟨S_, .i32⟩
  | .hbm, ⟨9, _⟩ => ⟨S2x128x128, .i32⟩
  | .hbm, ⟨10, _⟩ => ⟨S2x128x128, .i32⟩
  | .hbm, ⟨11, _⟩ => ⟨S2x128x128, .i32⟩
  | .hbm, ⟨12, _⟩ => ⟨S_, .i32⟩
  | .hbm, ⟨13, _⟩ => ⟨S2x128x128, .i32⟩
  | .hbm, ⟨14, _⟩ => ⟨S2x128x128, .i32⟩
  | .hbm, ⟨15, _⟩ => ⟨S_, .i32⟩
  | .hbm, ⟨16, _⟩ => ⟨S2x128x128, .i32⟩
  | .hbm, ⟨17, _⟩ => ⟨S2x128x128, .i32⟩
  | .hbm, ⟨18, _⟩ => ⟨S2x128x128, .f32⟩
  | .hbm, ⟨19, _⟩ => ⟨S_, .f32⟩
  | .hbm, ⟨20, _⟩ => ⟨S2x128x128, .f32⟩
  | .hbm, ⟨21, _⟩ => ⟨S2x128x128, .f32⟩
  | .hbm, ⟨22, _⟩ => ⟨S2x128x128, .f32⟩
  | .hbm, ⟨23, _⟩ => ⟨S_, .f32⟩
  | .hbm, ⟨24, _⟩ => ⟨S2x128x128, .f32⟩
  | .hbm, ⟨25, _⟩ => ⟨S2x128x128, .f32⟩
  | .hbm, ⟨26, _⟩ => ⟨S_, .f32⟩
  | .hbm, ⟨27, _⟩ => ⟨S2x128x128, .f32⟩
  | .hbm, ⟨28, _⟩ => ⟨S2x128x128, .f32⟩
  | .hbm, ⟨29, _⟩ => ⟨S2x128x128, .i32⟩
  | .hbm, ⟨30, _⟩ => ⟨S_, .i32⟩
  | .hbm, ⟨31, _⟩ => ⟨S2x128x128, .i32⟩
  | .hbm, ⟨32, _⟩ => ⟨S2x128x128, .i32⟩
  | .hbm, ⟨33, _⟩ => ⟨S_, .i32⟩
  | .hbm, ⟨34, _⟩ => ⟨S2x128x128, .i32⟩
  | .hbm, ⟨35, _⟩ => ⟨S2x128x128, .i32⟩
  | .hbm, ⟨36, _⟩ => ⟨S_, .i32⟩
  | .hbm, ⟨37, _⟩ => ⟨S2x128x128, .i32⟩
  | .hbm, ⟨38, _⟩ => ⟨S2x128x128, .i1⟩
  | .hbm, ⟨39, _⟩ => ⟨S2x128x128, .i32⟩
  | .hbm, ⟨40, _⟩ => ⟨S_, .i32⟩
  | .hbm, ⟨41, _⟩ => ⟨S2x128x128, .i32⟩
  | .hbm, ⟨42, _⟩ => ⟨S2x128x128, .i1⟩
  | .hbm, ⟨43, _⟩ => ⟨S_, .i32⟩
  | .hbm, ⟨44, _⟩ => ⟨S2x128x128, .i32⟩
  | .hbm, ⟨45, _⟩ => ⟨S2x128x128, .i32⟩
  | .hbm, ⟨46, _⟩ => ⟨S2x128x128, .i32⟩
  | .hbm, ⟨47, _⟩ => ⟨S2x128x128x1, .i32⟩
  | .hbm, ⟨48, _⟩ => ⟨S2x128x128x16, .f32⟩
  | .hbm, ⟨49, _⟩ => ⟨S1x16, .f32⟩
  | .hbm, ⟨50, _⟩ => ⟨S16, .f32⟩
  | .hbm, ⟨51, _⟩ => ⟨S1x1x1x16, .f32⟩
  | .hbm, ⟨52, _⟩ => ⟨S2x128x128x16, .f32⟩
  | .hbm, ⟨53, _⟩ => ⟨S2x128x128x16, .f32⟩
  | .hbm, ⟨54, _⟩ => ⟨S_, .f32⟩
  | .hbm, ⟨55, _⟩ => ⟨S2x128x128x16, .f32⟩
  | .hbm, ⟨56, _⟩ => ⟨S2x128x128x16, .f32⟩
  | .hbm, ⟨57, _⟩ => ⟨S2x16x128x128, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Gla.Runs.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- One staging buffer of output window 9, through which its contents are stated (`View.read_writes_of_cover`: the
    choice does not matter). -/
abbrev VO0_9 : View sig .tc .vmem S256x2048 .f32 := (Memref.whole cc0_stg9_0 : Memref sig .tc .vmem S256x2048 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x512x256 .f32 := Memref.whole cc0_scratch0
abbrev scM0_1 : Memref sig .tc .vmem S256x1024 .f32 := Memref.whole cc0_scratch1
abbrev scM0_2 : Memref sig .tc .vmem S4x256x256 .f32 := Memref.whole cc0_scratch2
/-- The scratch `arg12` the kernel carries between points, as a view: what it holds is stated through it. -/
abbrev VS0_0 : View sig .tc .vmem S4x512x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The word the kernel branches on: whether, on every column, the cumulative log gate falls by at most 60 over the chunk. -/
def facWord (x5 : Vec F S256x128 .f32) (x6 : Vec F S128x1024 .bf16) (x7 : Vec F S1x1024 .f32) : BitVec 1 :=
  Scalar.cmpf .ole (k0_pay37 (k0_pay29 (F := F)) (k0_pay30 x5 x6 x7) (k0_pay32 x5 x6 x7) (k0_pay33 x5 x6 x7)
    (constant S256x1024 .f32 0x00000000#32)) (Scalar.ofBits .f32 0x42700000#32 : F .f32)
/-- The chunk takes the factored branch. -/
abbrev fac (x5 : Vec F S256x128 .f32) (x6 : Vec F S128x1024 .bf16) (x7 : Vec F S1x1024 .f32) : Prop :=
  (Scalar.cmpi .ne (Scalar.extui (facWord x5 x6 x7)) 0#32) = 1#1
/-- The chunk takes the loop branch. -/
abbrev nofac (x5 : Vec F S256x128 .f32) (x6 : Vec F S128x1024 .bf16) (x7 : Vec F S1x1024 .f32) : Prop :=
  (Scalar.cmpi .ne (Scalar.extui (Scalar.xori (facWord x5 x6 x7) 1#1)) 0#32) = 1#1
/-- Exactly one of the two branches is taken. -/
theorem nofac_iff (x5 : Vec F S256x128 .f32) (x6 : Vec F S128x1024 .bf16) (x7 : Vec F S1x1024 .f32) :
    nofac x5 x6 x7 ↔ ¬ fac x5 x6 x7 := by
  unfold nofac fac
  generalize facWord x5 x6 x7 = w
  revert w
  decide

end Cert.KernelIdeal.Gla

end
-- ==== Proof.Gla.RunA.lean ====
module

public import proofs.«01_k».proof.Proof.Gla.Runs

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at the first chunk of a batch entry, on the factored branch: the pieces its stores leave in the output block, the carried state and the two working buffers, with the proof that from the inputs at their contents the body runs to these pieces. -/
noncomputable def runA (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (hc0 : cond0_0 i)
    (x0 : Vec F S256x1024 .f32) (x1 : Vec F S256x1024 .f32) (x2 : Vec F S256x2048 .f32) (x3 : Vec F S256x2048 .f32) (x4 : Vec F S256x2048 .bf16) (x5 : Vec F S256x128 .f32) (x6 : Vec F S128x1024 .bf16) (x7 : Vec F S1x1024 .f32) (x8 : Vec F S1x512 .f32) (hf : fac x5 x6 x7) (hn : ¬nofac x5 x6 x7) :
    Σ' (L9 : List (View.Piece (Elt F) S256x2048 .f32)), Σ' (LS0 : List (View.Piece (Elt F) S4x512x256 .f32)), Σ' (LT1 : List (View.Piece (Elt F) S256x1024 .f32)), { LT2 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    have hr0 : ∀ o inb, arg2.view.readAt (Elt F) (Rect.unit (s := S256x1024) o S256x256.size inb).toLoadRect (harg2.unread x0) = View.ld x0 (Rect.unit (s := S256x1024) o S256x256.size inb) := fun o inb => by rw [View.readAt_eq_ld, harg2.read_unread]
    have hr1 : ∀ o inb, arg3.view.readAt (Elt F) (Rect.unit (s := S256x1024) o S256x256.size inb).toLoadRect (harg3.unread x1) = View.ld x1 (Rect.unit (s := S256x1024) o S256x256.size inb) := fun o inb => by rw [View.readAt_eq_ld, harg3.read_unread]
    have hr2 : ∀ o inb, arg4.view.readAt (Elt F) (Rect.unit (s := S256x2048) o S256x512.size inb).toLoadRect (harg4.unread x2) = View.ld x2 (Rect.unit (s := S256x2048) o S256x512.size inb) := fun o inb => by rw [View.readAt_eq_ld, harg4.read_unread]
    have hr3 : ∀ o inb, arg5.view.readAt (Elt F) (Rect.unit (s := S256x2048) o S256x512.size inb).toLoadRect (harg5.unread x3) = View.ld x3 (Rect.unit (s := S256x2048) o S256x512.size inb) := fun o inb => by rw [View.readAt_eq_ld, harg5.read_unread]
    have hr4 : ∀ o inb, arg6.view.readAt (Elt F) (Rect.unit (s := S256x2048) o S256x512.size inb).toLoadRect (harg6.unread x4) = View.ld x4 (Rect.unit (s := S256x2048) o S256x512.size inb) := fun o inb => by rw [View.readAt_eq_ld, harg6.read_unread]
    have hr5 : ∀ o inb, arg7.view.readAt (Elt F) (Rect.unit (s := S256x128) o S256x128.size inb).toLoadRect (harg7.unread x5) = x5 := fun o inb => (View.readAt_full arg7.view _ inb).trans (harg7.read_unread x5)
    have hr6 : ∀ o inb, arg8.view.readAt (Elt F) (Rect.unit (s := S128x1024) o S128x1024.size inb).toLoadRect (harg8.unread x6) = x6 := fun o inb => (View.readAt_full arg8.view _ inb).trans (harg8.read_unread x6)
    have hr7 : ∀ o inb, arg9.view.readAt (Elt F) (Rect.unit (s := S1x1024) o S1x1024.size inb).toLoadRect (harg9.unread x7) = x7 := fun o inb => (View.readAt_full arg9.view _ inb).trans (harg9.read_unread x7)
    have hr8 : ∀ o inb, arg10.view.readAt (Elt F) (Rect.unit (s := S1x512) o S1x512.size inb).toLoadRect (harg10.unread x8) = x8 := fun o inb => (View.readAt_full arg10.view _ inb).trans (harg10.read_unread x8)
    sl_exec (disch := first | sl_exact hc0 | exact hf | exact hn)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Gla

end
-- ==== Proof.Gla.RunB.lean ====
module

public import proofs.«01_k».proof.Proof.Gla.Runs

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at a later chunk, on the factored branch: the pieces its stores leave in the output block, the carried state and the two working buffers, with the proof that from the inputs at their contents the body runs to these pieces. -/
noncomputable def runB (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (hc0 : ¬cond0_0 i)
    (x0 : Vec F S256x1024 .f32) (x1 : Vec F S256x1024 .f32) (x2 : Vec F S256x2048 .f32) (x3 : Vec F S256x2048 .f32) (x4 : Vec F S256x2048 .bf16) (x5 : Vec F S256x128 .f32) (x6 : Vec F S128x1024 .bf16) (x7 : Vec F S1x1024 .f32) (x8 : Vec F S1x512 .f32) (xs0 : Vec F S4x512x256 .f32) (hf : fac x5 x6 x7) (hn : ¬nofac x5 x6 x7) :
    Σ' (L9 : List (View.Piece (Elt F) S256x2048 .f32)), Σ' (LS0 : List (View.Piece (Elt F) S4x512x256 .f32)), Σ' (LT1 : List (View.Piece (Elt F) S256x1024 .f32)), { LT2 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    have hr0 : ∀ o inb, arg2.view.readAt (Elt F) (Rect.unit (s := S256x1024) o S256x256.size inb).toLoadRect (harg2.unread x0) = View.ld x0 (Rect.unit (s := S256x1024) o S256x256.size inb) := fun o inb => by rw [View.readAt_eq_ld, harg2.read_unread]
    have hr1 : ∀ o inb, arg3.view.readAt (Elt F) (Rect.unit (s := S256x1024) o S256x256.size inb).toLoadRect (harg3.unread x1) = View.ld x1 (Rect.unit (s := S256x1024) o S256x256.size inb) := fun o inb => by rw [View.readAt_eq_ld, harg3.read_unread]
    have hr2 : ∀ o inb, arg4.view.readAt (Elt F) (Rect.unit (s := S256x2048) o S256x512.size inb).toLoadRect (harg4.unread x2) = View.ld x2 (Rect.unit (s := S256x2048) o S256x512.size inb) := fun o inb => by rw [View.readAt_eq_ld, harg4.read_unread]
    have hr3 : ∀ o inb, arg5.view.readAt (Elt F) (Rect.unit (s := S256x2048) o S256x512.size inb).toLoadRect (harg5.unread x3) = View.ld x3 (Rect.unit (s := S256x2048) o S256x512.size inb) := fun o inb => by rw [View.readAt_eq_ld, harg5.read_unread]
    have hr4 : ∀ o inb, arg6.view.readAt (Elt F) (Rect.unit (s := S256x2048) o S256x512.size inb).toLoadRect (harg6.unread x4) = View.ld x4 (Rect.unit (s := S256x2048) o S256x512.size inb) := fun o inb => by rw [View.readAt_eq_ld, harg6.read_unread]
    have hr5 : ∀ o inb, arg7.view.readAt (Elt F) (Rect.unit (s := S256x128) o S256x128.size inb).toLoadRect (harg7.unread x5) = x5 := fun o inb => (View.readAt_full arg7.view _ inb).trans (harg7.read_unread x5)
    have hr6 : ∀ o inb, arg8.view.readAt (Elt F) (Rect.unit (s := S128x1024) o S128x1024.size inb).toLoadRect (harg8.unread x6) = x6 := fun o inb => (View.readAt_full arg8.view _ inb).trans (harg8.read_unread x6)
    have hr7 : ∀ o inb, arg9.view.readAt (Elt F) (Rect.unit (s := S1x1024) o S1x1024.size inb).toLoadRect (harg9.unread x7) = x7 := fun o inb => (View.readAt_full arg9.view _ inb).trans (harg9.read_unread x7)
    have hr8 : ∀ o inb, arg10.view.readAt (Elt F) (Rect.unit (s := S1x512) o S1x512.size inb).toLoadRect (harg10.unread x8) = x8 := fun o inb => (View.readAt_full arg10.view _ inb).trans (harg10.read_unread x8)
    have hrs : ∀ o inb, arg12.view.readAt (Elt F) (Rect.unit (s := S4x512x256) o S1x512x256.size inb).toLoadRect (harg12.unread xs0) = View.ld xs0 (Rect.unit (s := S4x512x256) o S1x512x256.size inb) := fun o inb => by rw [View.readAt_eq_ld, harg12.read_unread]
    sl_exec (disch := first | sl_exact hc0 | exact hf | exact hn)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Gla

end
-- ==== Proof.Gla.RunC.lean ====
module

public import proofs.«01_k».proof.Proof.Gla.Runs

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at the first chunk of a batch entry, on the loop branch: the pieces its stores leave in the output block, the carried state and the two working buffers, with the proof that from the inputs at their contents the body runs to these pieces. -/
noncomputable def runC (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (hc0 : cond0_0 i)
    (x0 : Vec F S256x1024 .f32) (x1 : Vec F S256x1024 .f32) (x2 : Vec F S256x2048 .f32) (x3 : Vec F S256x2048 .f32) (x4 : Vec F S256x2048 .bf16) (x5 : Vec F S256x128 .f32) (x6 : Vec F S128x1024 .bf16) (x7 : Vec F S1x1024 .f32) (x8 : Vec F S1x512 .f32) (hf : ¬fac x5 x6 x7) (hn : nofac x5 x6 x7) :
    Σ' (L9 : List (View.Piece (Elt F) S256x2048 .f32)), Σ' (LS0 : List (View.Piece (Elt F) S4x512x256 .f32)), Σ' (LT1 : List (View.Piece (Elt F) S256x1024 .f32)), { LT2 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    have hr0 : ∀ o inb, arg2.view.readAt (Elt F) (Rect.unit (s := S256x1024) o S256x256.size inb).toLoadRect (harg2.unread x0) = View.ld x0 (Rect.unit (s := S256x1024) o S256x256.size inb) := fun o inb => by rw [View.readAt_eq_ld, harg2.read_unread]
    have hr1 : ∀ o inb, arg3.view.readAt (Elt F) (Rect.unit (s := S256x1024) o S256x256.size inb).toLoadRect (harg3.unread x1) = View.ld x1 (Rect.unit (s := S256x1024) o S256x256.size inb) := fun o inb => by rw [View.readAt_eq_ld, harg3.read_unread]
    have hr2 : ∀ o inb, arg4.view.readAt (Elt F) (Rect.unit (s := S256x2048) o S256x512.size inb).toLoadRect (harg4.unread x2) = View.ld x2 (Rect.unit (s := S256x2048) o S256x512.size inb) := fun o inb => by rw [View.readAt_eq_ld, harg4.read_unread]
    have hr3 : ∀ o inb, arg5.view.readAt (Elt F) (Rect.unit (s := S256x2048) o S256x512.size inb).toLoadRect (harg5.unread x3) = View.ld x3 (Rect.unit (s := S256x2048) o S256x512.size inb) := fun o inb => by rw [View.readAt_eq_ld, harg5.read_unread]
    have hr4 : ∀ o inb, arg6.view.readAt (Elt F) (Rect.unit (s := S256x2048) o S256x512.size inb).toLoadRect (harg6.unread x4) = View.ld x4 (Rect.unit (s := S256x2048) o S256x512.size inb) := fun o inb => by rw [View.readAt_eq_ld, harg6.read_unread]
    have hr5 : ∀ o inb, arg7.view.readAt (Elt F) (Rect.unit (s := S256x128) o S256x128.size inb).toLoadRect (harg7.unread x5) = x5 := fun o inb => (View.readAt_full arg7.view _ inb).trans (harg7.read_unread x5)
    have hr6 : ∀ o inb, arg8.view.readAt (Elt F) (Rect.unit (s := S128x1024) o S128x1024.size inb).toLoadRect (harg8.unread x6) = x6 := fun o inb => (View.readAt_full arg8.view _ inb).trans (harg8.read_unread x6)
    have hr7 : ∀ o inb, arg9.view.readAt (Elt F) (Rect.unit (s := S1x1024) o S1x1024.size inb).toLoadRect (harg9.unread x7) = x7 := fun o inb => (View.readAt_full arg9.view _ inb).trans (harg9.read_unread x7)
    have hr8 : ∀ o inb, arg10.view.readAt (Elt F) (Rect.unit (s := S1x512) o S1x512.size inb).toLoadRect (harg10.unread x8) = x8 := fun o inb => (View.readAt_full arg10.view _ inb).trans (harg10.read_unread x8)
    sl_exec (disch := first | sl_exact hc0 | exact hf | exact hn)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Gla

end
-- ==== Proof.Gla.RunD.lean ====
module

public import proofs.«01_k».proof.Proof.Gla.Runs

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- The body at a later chunk, on the loop branch: the pieces its stores leave in the output block, the carried state and the two working buffers, with the proof that from the inputs at their contents the body runs to these pieces. -/
noncomputable def runD (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (hc0 : ¬cond0_0 i)
    (x0 : Vec F S256x1024 .f32) (x1 : Vec F S256x1024 .f32) (x2 : Vec F S256x2048 .f32) (x3 : Vec F S256x2048 .f32) (x4 : Vec F S256x2048 .bf16) (x5 : Vec F S256x128 .f32) (x6 : Vec F S128x1024 .bf16) (x7 : Vec F S1x1024 .f32) (x8 : Vec F S1x512 .f32) (xs0 : Vec F S4x512x256 .f32) (hf : ¬fac x5 x6 x7) (hn : nofac x5 x6 x7) :
    Σ' (L9 : List (View.Piece (Elt F) S256x2048 .f32)), Σ' (LS0 : List (View.Piece (Elt F) S4x512x256 .f32)), Σ' (LT1 : List (View.Piece (Elt F) S256x1024 .f32)), { LT2 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    have hr0 : ∀ o inb, arg2.view.readAt (Elt F) (Rect.unit (s := S256x1024) o S256x256.size inb).toLoadRect (harg2.unread x0) = View.ld x0 (Rect.unit (s := S256x1024) o S256x256.size inb) := fun o inb => by rw [View.readAt_eq_ld, harg2.read_unread]
    have hr1 : ∀ o inb, arg3.view.readAt (Elt F) (Rect.unit (s := S256x1024) o S256x256.size inb).toLoadRect (harg3.unread x1) = View.ld x1 (Rect.unit (s := S256x1024) o S256x256.size inb) := fun o inb => by rw [View.readAt_eq_ld, harg3.read_unread]
    have hr2 : ∀ o inb, arg4.view.readAt (Elt F) (Rect.unit (s := S256x2048) o S256x512.size inb).toLoadRect (harg4.unread x2) = View.ld x2 (Rect.unit (s := S256x2048) o S256x512.size inb) := fun o inb => by rw [View.readAt_eq_ld, harg4.read_unread]
    have hr3 : ∀ o inb, arg5.view.readAt (Elt F) (Rect.unit (s := S256x2048) o S256x512.size inb).toLoadRect (harg5.unread x3) = View.ld x3 (Rect.unit (s := S256x2048) o S256x512.size inb) := fun o inb => by rw [View.readAt_eq_ld, harg5.read_unread]
    have hr4 : ∀ o inb, arg6.view.readAt (Elt F) (Rect.unit (s := S256x2048) o S256x512.size inb).toLoadRect (harg6.unread x4) = View.ld x4 (Rect.unit (s := S256x2048) o S256x512.size inb) := fun o inb => by rw [View.readAt_eq_ld, harg6.read_unread]
    have hr5 : ∀ o inb, arg7.view.readAt (Elt F) (Rect.unit (s := S256x128) o S256x128.size inb).toLoadRect (harg7.unread x5) = x5 := fun o inb => (View.readAt_full arg7.view _ inb).trans (harg7.read_unread x5)
    have hr6 : ∀ o inb, arg8.view.readAt (Elt F) (Rect.unit (s := S128x1024) o S128x1024.size inb).toLoadRect (harg8.unread x6) = x6 := fun o inb => (View.readAt_full arg8.view _ inb).trans (harg8.read_unread x6)
    have hr7 : ∀ o inb, arg9.view.readAt (Elt F) (Rect.unit (s := S1x1024) o S1x1024.size inb).toLoadRect (harg9.unread x7) = x7 := fun o inb => (View.readAt_full arg9.view _ inb).trans (harg9.read_unread x7)
    have hr8 : ∀ o inb, arg10.view.readAt (Elt F) (Rect.unit (s := S1x512) o S1x512.size inb).toLoadRect (harg10.unread x8) = x8 := fun o inb => (View.readAt_full arg10.view _ inb).trans (harg10.read_unread x8)
    have hrs : ∀ o inb, arg12.view.readAt (Elt F) (Rect.unit (s := S4x512x256) o S1x512x256.size inb).toLoadRect (harg12.unread xs0) = View.ld xs0 (Rect.unit (s := S4x512x256) o S1x512x256.size inb) := fun o inb => by rw [View.readAt_eq_ld, harg12.read_unread]
    sl_exec (disch := first | sl_exact hc0 | exact hf | exact hn)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Gla

end
-- ==== Proof.Gla.Step.lean ====
module

public import proofs.«01_k».proof.Proof.Gla.RunA
public import proofs.«01_k».proof.Proof.Gla.RunB
public import proofs.«01_k».proof.Proof.Gla.RunC
public import proofs.«01_k».proof.Proof.Gla.RunD
public import Idealize.ShloMosaic.Lib.Claim

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The nine input blocks of one grid point. -/
structure Blk (F : FTy → Type) [FloatOps F] where
  x0 : Vec F S256x1024 .f32
  x1 : Vec F S256x1024 .f32
  x2 : Vec F S256x2048 .f32
  x3 : Vec F S256x2048 .f32
  x4 : Vec F S256x2048 .bf16
  x5 : Vec F S256x128 .f32
  x6 : Vec F S128x1024 .bf16
  x7 : Vec F S1x1024 .f32
  x8 : Vec F S1x512 .f32

/-! ## The pieces of each case: what they cover, and the contents they leave -/

/-- Case A: the output block's pieces and the carried state's pieces. -/
def pcsA (c : Dev nD) (t : Fin cfg0.N) (X : Blk F) (hc : cond0_0 (grid0.coords t)) (hf : fac X.x5 X.x6 X.x7) :
    List (View.Piece (Elt F) S256x2048 .f32) × List (View.Piece (Elt F) S4x512x256 .f32) :=
  ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).not.mpr (not_not.mpr hf))).1, (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).not.mpr (not_not.mpr hf))).2.1)
/-- Case A: the four stores into the output block tile it. -/
theorem coverA (c : Dev nD) (t : Fin cfg0.N) (X : Blk F) (hc : cond0_0 (grid0.coords t)) (hf : fac X.x5 X.x6 X.x7) (y : S256x2048.Idx) :
    ∃ pc ∈ (pcsA c t X hc hf).1, y ∈ pc.1.set :=
  View.cover_of_tiledL (pcsA c t X hc hf).1 S256x512.size (by sl_kernel_rfl) y
/-- Case A: the stores into the carried state cover it. -/
theorem scoverA (c : Dev nD) (t : Fin cfg0.N) (X : Blk F) (hc : cond0_0 (grid0.coords t)) (hf : fac X.x5 X.x6 X.x7) (y : S4x512x256.Idx) :
    ∃ pc ∈ (pcsA c t X hc hf).2, y ∈ pc.1.set :=
  View.cover_of_wholeMem (pcsA c t X hc hf).2 (by unfold pcsA; sl_whole_mem) y
/-- Case B: the output block's pieces and the carried state's pieces. -/
def pcsB (c : Dev nD) (t : Fin cfg0.N) (X : Blk F) (xs : Vec F S4x512x256 .f32) (hc : ¬cond0_0 (grid0.coords t)) (hf : fac X.x5 X.x6 X.x7) :
    List (View.Piece (Elt F) S256x2048 .f32) × List (View.Piece (Elt F) S4x512x256 .f32) :=
  ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).not.mpr (not_not.mpr hf))).1, (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).not.mpr (not_not.mpr hf))).2.1)
/-- Case B: the four stores into the output block tile it. -/
theorem coverB (c : Dev nD) (t : Fin cfg0.N) (X : Blk F) (xs : Vec F S4x512x256 .f32) (hc : ¬cond0_0 (grid0.coords t)) (hf : fac X.x5 X.x6 X.x7) (y : S256x2048.Idx) :
    ∃ pc ∈ (pcsB c t X xs hc hf).1, y ∈ pc.1.set :=
  View.cover_of_tiledL (pcsB c t X xs hc hf).1 S256x512.size (by sl_kernel_rfl) y
/-- Case B: the stores into the carried state cover it. -/
theorem scoverB (c : Dev nD) (t : Fin cfg0.N) (X : Blk F) (xs : Vec F S4x512x256 .f32) (hc : ¬cond0_0 (grid0.coords t)) (hf : fac X.x5 X.x6 X.x7) (y : S4x512x256.Idx) :
    ∃ pc ∈ (pcsB c t X xs hc hf).2, y ∈ pc.1.set :=
  View.cover_of_tiledL (pcsB c t X xs hc hf).2 S1x512x256.size (by sl_kernel_rfl) y
/-- Case C: the output block's pieces and the carried state's pieces. -/
def pcsC (c : Dev nD) (t : Fin cfg0.N) (X : Blk F) (hc : cond0_0 (grid0.coords t)) (hf : ¬fac X.x5 X.x6 X.x7) :
    List (View.Piece (Elt F) S256x2048 .f32) × List (View.Piece (Elt F) S4x512x256 .f32) :=
  ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).mpr hf)).1, (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).mpr hf)).2.1)
/-- Case C: the four stores into the output block tile it. -/
theorem coverC (c : Dev nD) (t : Fin cfg0.N) (X : Blk F) (hc : cond0_0 (grid0.coords t)) (hf : ¬fac X.x5 X.x6 X.x7) (y : S256x2048.Idx) :
    ∃ pc ∈ (pcsC c t X hc hf).1, y ∈ pc.1.set :=
  View.cover_of_tiledL (pcsC c t X hc hf).1 S256x512.size (by sl_kernel_rfl) y
/-- Case C: the stores into the carried state cover it. -/
theorem scoverC (c : Dev nD) (t : Fin cfg0.N) (X : Blk F) (hc : cond0_0 (grid0.coords t)) (hf : ¬fac X.x5 X.x6 X.x7) (y : S4x512x256.Idx) :
    ∃ pc ∈ (pcsC c t X hc hf).2, y ∈ pc.1.set :=
  View.cover_of_wholeMem (pcsC c t X hc hf).2 (by unfold pcsC; sl_whole_mem) y
/-- Case D: the output block's pieces and the carried state's pieces. -/
def pcsD (c : Dev nD) (t : Fin cfg0.N) (X : Blk F) (xs : Vec F S4x512x256 .f32) (hc : ¬cond0_0 (grid0.coords t)) (hf : ¬fac X.x5 X.x6 X.x7) :
    List (View.Piece (Elt F) S256x2048 .f32) × List (View.Piece (Elt F) S4x512x256 .f32) :=
  ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).mpr hf)).1, (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).mpr hf)).2.1)
/-- Case D: the four stores into the output block tile it. -/
theorem coverD (c : Dev nD) (t : Fin cfg0.N) (X : Blk F) (xs : Vec F S4x512x256 .f32) (hc : ¬cond0_0 (grid0.coords t)) (hf : ¬fac X.x5 X.x6 X.x7) (y : S256x2048.Idx) :
    ∃ pc ∈ (pcsD c t X xs hc hf).1, y ∈ pc.1.set :=
  View.cover_of_tiledL (pcsD c t X xs hc hf).1 S256x512.size (by sl_kernel_rfl) y
/-- Case D: the stores into the carried state cover it. -/
theorem scoverD (c : Dev nD) (t : Fin cfg0.N) (X : Blk F) (xs : Vec F S4x512x256 .f32) (hc : ¬cond0_0 (grid0.coords t)) (hf : ¬fac X.x5 X.x6 X.x7) (y : S4x512x256.Idx) :
    ∃ pc ∈ (pcsD c t X xs hc hf).2, y ∈ pc.1.set :=
  View.cover_of_tiledL (pcsD c t X xs hc hf).2 S1x512x256.size (by sl_kernel_rfl) y
/-- The output block after the body at point `t`, from the input blocks and the state before. -/
def outAt (c : Dev nD) (t : Fin cfg0.N) (X : Blk F) (xs : Vec F S4x512x256 .f32) : Vec F S256x2048 .f32 :=
  if hc : cond0_0 (grid0.coords t) then
    if hf : fac X.x5 X.x6 X.x7 then VO0_9.read (Elt F) (VO0_9.writes (Elt F) VO0_9.junk (pcsA c t X hc hf).1)
    else VO0_9.read (Elt F) (VO0_9.writes (Elt F) VO0_9.junk (pcsC c t X hc hf).1)
  else
    if hf : fac X.x5 X.x6 X.x7 then VO0_9.read (Elt F) (VO0_9.writes (Elt F) VO0_9.junk (pcsB c t X xs hc hf).1)
    else VO0_9.read (Elt F) (VO0_9.writes (Elt F) VO0_9.junk (pcsD c t X xs hc hf).1)
/-- At the first chunk of a batch entry nothing of the state before is read. -/
theorem outAt_reset (c : Dev nD) (t : Fin cfg0.N) (X : Blk F) (xs xs' : Vec F S4x512x256 .f32) (hc : cond0_0 (grid0.coords t)) :
    outAt c t X xs = outAt c t X xs' := by
  unfold outAt; rw [dif_pos hc, dif_pos hc]
/-- The carried state after the body at point `t`, from the input blocks and the state before. -/
def stAt (c : Dev nD) (t : Fin cfg0.N) (X : Blk F) (xs : Vec F S4x512x256 .f32) : Vec F S4x512x256 .f32 :=
  if hc : cond0_0 (grid0.coords t) then
    if hf : fac X.x5 X.x6 X.x7 then VS0_0.read (Elt F) (VS0_0.writes (Elt F) VS0_0.junk (pcsA c t X hc hf).2)
    else VS0_0.read (Elt F) (VS0_0.writes (Elt F) VS0_0.junk (pcsC c t X hc hf).2)
  else
    if hf : fac X.x5 X.x6 X.x7 then VS0_0.read (Elt F) (VS0_0.writes (Elt F) VS0_0.junk (pcsB c t X xs hc hf).2)
    else VS0_0.read (Elt F) (VS0_0.writes (Elt F) VS0_0.junk (pcsD c t X xs hc hf).2)
/-- At the first chunk of a batch entry nothing of the state before is read. -/
theorem stAt_reset (c : Dev nD) (t : Fin cfg0.N) (X : Blk F) (xs xs' : Vec F S4x512x256 .f32) (hc : cond0_0 (grid0.coords t)) :
    stAt c t X xs = stAt c t X xs' := by
  unfold stAt; rw [dif_pos hc, dif_pos hc]

/-! ## The body's triple, the four cases together -/

set_option maxHeartbeats 4000000 in
/-- The body at any point: from the input blocks and the carried state it leaves the output block `outAt` and the state `stAt`. -/
theorem bodyRun (c : Dev nD) (t : Fin cfg0.N) (X : Blk F) (xs : Vec F S4x512x256 .f32) (E : Set ℕ) (K : PUnit → sProp 𝕄) :
    iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ (∃ d, owns (c : Thread nD τ) (ms0_9 t) fullShare d) ∗ owns (c : Thread nD τ) scM0_0 fullShare xs ∗ (∃ d, owns (c : Thread nD τ) scM0_1 fullShare d) ∗ (∃ d, owns (c : Thread nD τ) scM0_2 fullShare d)
      ∗ (iprop(owns (c : Thread nD τ) (ms0_0 t) fullShare X.x0 ∗ owns (c : Thread nD τ) (ms0_1 t) fullShare X.x1 ∗ owns (c : Thread nD τ) (ms0_2 t) fullShare X.x2 ∗ owns (c : Thread nD τ) (ms0_3 t) fullShare X.x3 ∗ owns (c : Thread nD τ) (ms0_4 t) fullShare X.x4 ∗ owns (c : Thread nD τ) (ms0_5 t) fullShare X.x5 ∗ owns (c : Thread nD τ) (ms0_6 t) fullShare X.x6 ∗ owns (c : Thread nD τ) (ms0_7 t) fullShare X.x7 ∗ owns (c : Thread nD τ) (ms0_8 t) fullShare X.x8 ∗ owns (c : Thread nD τ) (ms0_9 t) fullShare (outAt c t X xs) ∗ owns (c : Thread nD τ) scM0_0 fullShare (stAt c t X xs) ∗ (∃ d, owns (c : Thread nD τ) scM0_1 fullShare d) ∗ (∃ d, owns (c : Thread nD τ) scM0_2 fullShare d)) -∗ K ⟨⟩))
      ⊢ wp frame (wpE (defs₀ (F := F)) Variants.none c none) E (bodyAt0 t) K := by
  unfold bodyAt0
  by_cases hc : cond0_0 (grid0.coords t)
  · by_cases hf : fac X.x5 X.x6 X.x7
    · rw [show outAt c t X xs = VO0_9.read (Elt F) (VO0_9.writes (Elt F) VO0_9.junk (pcsA c t X hc hf).1) from by unfold outAt; rw [dif_pos hc, dif_pos hf], show stAt c t X xs = VS0_0.read (Elt F) (VS0_0.writes (Elt F) VS0_0.junk (pcsA c t X hc hf).2) from by unfold stAt; rw [dif_pos hc, dif_pos hf]]
      iintro ⟨H0, H1, H2, H3, H4, H5, H6, H7, H8, H9, HS0, HS1, HS2, Hk⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).not.mpr (not_not.mpr hf))).2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexact HS1
      isplitl [HS2]; · iexact HS2
      iintro ⟨H0, H1, H2, H3, H4, H5, H6, H7, H8, ⟨%e9, H9⟩, ⟨%es0, HS0⟩, ⟨%fT1, HS1⟩, ⟨%fT2, HS2⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA c t X hc hf)
      isplitl [HS0]
      · unfold owns; iexists _; isplitr
        swap; · iexact HS0
        ipureintro; exact View.read_writes_of_cover _ _ _ _ _ (scoverA c t X hc hf)
      isplitl [HS1]
      · iexists _; unfold owns; iexists _; isplitr
        swap; · iexact HS1
        ipureintro; rfl
      iexists _; unfold owns; iexists _; isplitr
      swap; · iexact HS2
      ipureintro; rfl
    · rw [show outAt c t X xs = VO0_9.read (Elt F) (VO0_9.writes (Elt F) VO0_9.junk (pcsC c t X hc hf).1) from by unfold outAt; rw [dif_pos hc, dif_neg hf], show stAt c t X xs = VS0_0.read (Elt F) (VS0_0.writes (Elt F) VS0_0.junk (pcsC c t X hc hf).2) from by unfold stAt; rw [dif_pos hc, dif_neg hf]]
      iintro ⟨H0, H1, H2, H3, H4, H5, H6, H7, H8, H9, HS0, HS1, HS2, Hk⟩
      iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 hf ((nofac_iff _ _ _).mpr hf)).2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexact HS1
      isplitl [HS2]; · iexact HS2
      iintro ⟨H0, H1, H2, H3, H4, H5, H6, H7, H8, ⟨%e9, H9⟩, ⟨%es0, HS0⟩, ⟨%fT1, HS1⟩, ⟨%fT2, HS2⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverC c t X hc hf)
      isplitl [HS0]
      · unfold owns; iexists _; isplitr
        swap; · iexact HS0
        ipureintro; exact View.read_writes_of_cover _ _ _ _ _ (scoverC c t X hc hf)
      isplitl [HS1]
      · iexists _; unfold owns; iexists _; isplitr
        swap; · iexact HS1
        ipureintro; rfl
      iexists _; unfold owns; iexists _; isplitr
      swap; · iexact HS2
      ipureintro; rfl
  · by_cases hf : fac X.x5 X.x6 X.x7
    · rw [show outAt c t X xs = VO0_9.read (Elt F) (VO0_9.writes (Elt F) VO0_9.junk (pcsB c t X xs hc hf).1) from by unfold outAt; rw [dif_neg hc, dif_pos hf], show stAt c t X xs = VS0_0.read (Elt F) (VS0_0.writes (Elt F) VS0_0.junk (pcsB c t X xs hc hf).2) from by unfold stAt; rw [dif_neg hc, dif_pos hf]]
      iintro ⟨H0, H1, H2, H3, H4, H5, H6, H7, H8, H9, HS0, HS1, HS2, Hk⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).not.mpr (not_not.mpr hf))).2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, ⟨%e9, H9⟩, ⟨%es0, HS0⟩, ⟨%fT1, HS1⟩, ⟨%fT2, HS2⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverB c t X xs hc hf)
      isplitl [HS0]
      · unfold owns; iexists _; isplitr
        swap; · iexact HS0
        ipureintro; exact View.read_writes_of_cover _ _ _ _ _ (scoverB c t X xs hc hf)
      isplitl [HS1]
      · iexists _; unfold owns; iexists _; isplitr
        swap; · iexact HS1
        ipureintro; rfl
      iexists _; unfold owns; iexists _; isplitr
      swap; · iexact HS2
      ipureintro; rfl
    · rw [show outAt c t X xs = VO0_9.read (Elt F) (VO0_9.writes (Elt F) VO0_9.junk (pcsD c t X xs hc hf).1) from by unfold outAt; rw [dif_neg hc, dif_neg hf], show stAt c t X xs = VS0_0.read (Elt F) (VS0_0.writes (Elt F) VS0_0.junk (pcsD c t X xs hc hf).2) from by unfold stAt; rw [dif_neg hc, dif_neg hf]]
      iintro ⟨H0, H1, H2, H3, H4, H5, H6, H7, H8, H9, HS0, HS1, HS2, Hk⟩
      iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) hc X.x0 X.x1 X.x2 X.x3 X.x4 X.x5 X.x6 X.x7 X.x8 xs hf ((nofac_iff _ _ _).mpr hf)).2.2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, ⟨%e9, H9⟩, ⟨%es0, HS0⟩, ⟨%fT1, HS1⟩, ⟨%fT2, HS2⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverD c t X xs hc hf)
      isplitl [HS0]
      · unfold owns; iexists _; isplitr
        swap; · iexact HS0
        ipureintro; exact View.read_writes_of_cover _ _ _ _ _ (scoverD c t X xs hc hf)
      isplitl [HS1]
      · iexists _; unfold owns; iexists _; isplitr
        swap; · iexact HS1
        ipureintro; rfl
      iexists _; unfold owns; iexists _; isplitr
      swap; · iexact HS2
      ipureintro; rfl

end Cert.KernelIdeal.Gla

end
-- ==== Proof.Gla.Frame.lean ====
module

public import proofs.«01_k».proof.Proof.Gla.Step

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at point `t`, read off the arrays as the launch finds them. -/
def blkAt (c : Dev nD) (t : Fin cfg0.N) : Blk F :=
  ⟨iblk m c 0 t, iblk m c 1 t, iblk m c 2 t, iblk m c 3 t, X0_4 m c t, iblk m c 5 t, iblk m c 6 t, iblk m c 7 t, iblk m c 8 t⟩
/-- Some state: what the first point is given, which it does not read. -/
def anySt : Vec F S4x512x256 .f32 := VS0_0.read (Elt F) VS0_0.junk
/-- The carried state after point `n`: the body's step, point after point. -/
def stN (c : Dev nD) : (n : ℕ) → n < cfg0.N → Vec F S4x512x256 .f32
  | 0, hn => stAt c ⟨0, hn⟩ (blkAt m c ⟨0, hn⟩) anySt
  | n + 1, hn => stAt c ⟨n + 1, hn⟩ (blkAt m c ⟨n + 1, hn⟩) (stN c n (Nat.lt_of_succ_lt hn))
/-- The carried state before point `n`. -/
def stB (c : Dev nD) : (n : ℕ) → n < cfg0.N → Vec F S4x512x256 .f32
  | 0, _ => anySt
  | n + 1, hn => stN m c n (Nat.lt_of_succ_lt hn)
theorem stN_eq (c : Dev nD) (n : ℕ) (hn : n < cfg0.N) : stN m c n hn = stAt c ⟨n, hn⟩ (blkAt m c ⟨n, hn⟩) (stB m c n hn) := by
  cases n <;> rfl
/-- The output block after point `t`. -/
def outN (c : Dev nD) (t : Fin cfg0.N) : Vec F S256x2048 .f32 := outAt c t (blkAt m c t) (stB m c t.val t.isLt)

/-- The region invariant before position `n` with a scratch the kernel CARRIES between points: before the first point the
    class's (Lib/Pipeline/Frame.lean `ΦA`: every scratch at anything); afterwards the scoped rest with each carried scratch
    at what the point before left in it (`stN`), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (stN m c n hn) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (stN m c n hn) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (stN m c (n - 1) (by omega)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outN`; the invariant the class's
    (`PhiS`: the class's `ΦA` before the first point, then the scoped rest with the carried scratch at `stN`);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => outN m c t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outN m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point: the inputs' memrefs hold their blocks, so the body's triple applies; at the first point the carried
    state is at anything, later at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases hz : t.val = 0
  · have hc : cond0_0 (grid0.coords t) := (hcond0_0 t).mpr (by rw [hz])
    have hst : ∀ d, stN m c t.val t.isLt = stAt c t (blkAt m c t) d := fun d => by
      rw [stN_eq]; exact stAt_reset c t _ _ _ hc
    have hou : ∀ d, outN m c t = outAt c t (blkAt m c t) d := fun d => outAt_reset c t _ _ _ hc
    rw [PhiS_castSucc m c t, PhiS_zero m c _ _ hz, PhiA0_eq]
    iintro ⟨⟨⟨⟨%ds, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [hst ds, hou ds]
    iapply (bodyRun c t (blkAt m c t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hst : stN m c t.val t.isLt = stAt c t (blkAt m c t) (stN m c (t.val - 1) (by omega)) := by
      obtain ⟨n, hn⟩ := t
      cases n with
      | zero => exact absurd rfl hz
      | succ n => rfl
    have hou : outN m c t = outAt c t (blkAt m c t) (stN m c (t.val - 1) (by omega)) := by
      obtain ⟨n, hn⟩ := t
      cases n with
      | zero => exact absurd rfl hz
      | succ n => rfl
    rw [PhiS_castSucc m c t, PhiS_pos m c _ _ hz, hst, hou]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyRun c t (blkAt m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gla

end
-- ==== Proof.Gla.Vec.lean ====
module

public import proofs.«01_k».proof.Proof.Gla.Runs
public import Idealize.ShloMosaic.PureOps.BitExact
public import Idealize.ShloMosaic.PureOps.Ideal
public import Idealize.ShloMosaic.Lib.Pointwise

@[expose] public section

set_option maxRecDepth 16384

noncomputable section

/-! # The chunk's vectors over the reals

The payloads of the body at ideal values, entry by entry, on arguments that are reals: the gate, its running
sum, the masked attention of one head (factored), the head's output and the next state. -/

namespace Cert.KernelIdeal.Gla

open Cert.KernelIdeal.Gen
open Idealize.ShloMosaic

/-! ## Constants and casts -/

theorem c_16th : Ideal.ofBits .f32 1031798784#32 = ((1 / 16 : ℝ) : EReal) := by
  simp [Ideal.ofBits, Ideal.ieee, -EReal.coe_mul]; norm_num
theorem c_16 : Ideal.ofBits .f32 1098907648#32 = ((16 : ℝ) : EReal) := by
  simp [Ideal.ofBits, Ideal.ieee, -EReal.coe_mul]; norm_num
theorem c_ninf : Ideal.ofBits .f32 4286578688#32 = ⊥ := by
  simp [Ideal.ofBits, Ideal.ieee, -EReal.coe_mul]

/-- A sum of reals, cast. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

theorem sge_eq (i j : Fin 256) :
    IntOp.cmpi CmpIPredicate.sge (BitVec.ofNat 32 i.val) (BitVec.ofNat 32 j.val) = BitVec.ofBool (decide (j.val ≤ i.val)) := by
  rw [WordCmp.cmpi_sge_ofNat (by have := i.isLt; norm_num; omega) (by have := j.isLt; norm_num; omega)]

theorem coe_sub_self (x : ℝ) : ((x : ℝ) : EReal) - (x : EReal) = ((0 : ℝ) : EReal) := by
  rw [← EReal.coe_sub, sub_self]

/-! ## The real formulas -/

/-- The masked attention of one head of a chunk. -/
def AT (Q K B : Fin 256 → Fin 256 → ℝ) (i j : Fin 256) : ℝ :=
  if j.val ≤ i.val then ∑ x, Q i x * (1 / 16) * K j x * Real.exp (B i x - B j x) else 0

/-- The head's output before the normalization. -/
def OR (Q B : Fin 256 → Fin 256 → ℝ) (V : Fin 256 → Fin 512 → ℝ) (S : Fin 512 → Fin 256 → ℝ) (A : Fin 256 → Fin 256 → ℝ)
    (i : Fin 256) (e : Fin 512) : ℝ :=
  ∑ x, Q i x * (1 / 16) * Real.exp (B i x) * S e x + ∑ x, A i x * V x e

/-- The head's state after the chunk. -/
def SR (K B : Fin 256 → Fin 256 → ℝ) (V : Fin 256 → Fin 512 → ℝ) (S : Fin 512 → Fin 256 → ℝ) (e : Fin 512) (d : Fin 256) : ℝ :=
  Real.exp (B 255 d) * S e d + ∑ x, V x e * (K x d * Real.exp (B 255 d - B x d))

/-- The gate of a pre-activation: its log-sigmoid over 16. -/
def gate (x : ℝ) : ℝ := -(max (-x) 0 + Real.log (1 + Real.exp (-|x|))) / 16

/-! ## The payloads -/

theorem attnF_apply (b q k : Vec Ideal S256x256 .f32) (Q K B : Fin 256 → Fin 256 → ℝ)
    (hq : ∀ i d, q (ix2 i d) = (Q i d : EReal)) (hk : ∀ i d, k (ix2 i d) = (K i d : EReal)) (hb : ∀ i d, b (ix2 i d) = (B i d : EReal))
    (h : Fin 1) (i j : Fin 256) :
    k0_pay1 (F := Ideal) (iota .tc S256x256 32 [0] iota_S256x256_d0_w32) (iota .tc S256x256 32 [1] iota_S256x256_d1_w32) b q k (ix3 h i j) = ((AT Q K B i j : ℝ) : EReal) := by
  pointwise [k0_pay1]
  simp only [hq, hk, hb, c_16th, sge_eq, Scalar.select_ofBool, ← EReal.coe_sub, Ideal.exp_coe, ← EReal.coe_mul, coe_sum, ← EReal.coe_add, sub_self, mul_zero, zero_mul, Finset.sum_const_zero, add_zero]
  unfold AT
  split
  · rename_i hji
    rw [if_pos (by simpa using hji)]
    norm_cast
    refine Finset.sum_congr rfl fun x _ => ?_
    rw [show B i x - B j x = (B i x - B 0 x) + (B 0 x - B j x) by ring, Real.exp_add]; ring
  · rename_i hji
    rw [if_neg (by simpa using hji)]; rfl

theorem o_apply (q b : Vec Ideal S256x256 .f32) (v : Vec Ideal S256x512 .bf16) (st : Vec Ideal S1x512x256 .f32) (a : Vec Ideal S1x256x256 .f32)
    (Q B : Fin 256 → Fin 256 → ℝ) (V : Fin 256 → Fin 512 → ℝ) (S : Fin 512 → Fin 256 → ℝ) (A : Fin 256 → Fin 256 → ℝ)
    (hq : ∀ i d, q (ix2 i d) = (Q i d : EReal)) (hb : ∀ i d, b (ix2 i d) = (B i d : EReal)) (hv : ∀ i d, v (ix2 i d) = (V i d : EReal))
    (hs : ∀ i d, st (ix3 0 i d) = (S i d : EReal)) (ha : ∀ i d, a (ix3 0 i d) = (A i d : EReal)) (i : Fin 256) (e : Fin 512) :
    k0_pay50 (F := Ideal) q b v st a (ix2 i e) = ((OR Q B V S A i e : ℝ) : EReal) := by
  pointwise [k0_pay50, k0_pay49]
  simp only [hq, hb, hv, hs, ha, c_16th, Ideal.exp_coe, ← EReal.coe_mul, coe_sum, ← EReal.coe_add]
  rfl

theorem st_apply (k b : Vec Ideal S256x256 .f32) (v : Vec Ideal S256x512 .bf16) (st : Vec Ideal S1x512x256 .f32)
    (K B : Fin 256 → Fin 256 → ℝ) (V : Fin 256 → Fin 512 → ℝ) (S : Fin 512 → Fin 256 → ℝ)
    (hk : ∀ i d, k (ix2 i d) = (K i d : EReal)) (hb : ∀ i d, b (ix2 i d) = (B i d : EReal)) (hv : ∀ i d, v (ix2 i d) = (V i d : EReal))
    (hs : ∀ i d, st (ix3 0 i d) = (S i d : EReal)) (h : Fin 1) (e : Fin 512) (d : Fin 256) :
    k0_pay51 (F := Ideal) k b v st (ix3 h e d) = ((SR K B V S e d : ℝ) : EReal) := by
  pointwise [k0_pay51, k0_pay49]
  simp only [hk, hb, hv, hs, ← EReal.coe_sub, Ideal.exp_coe, ← EReal.coe_mul, coe_sum, ← EReal.coe_add]
  rfl

theorem absf_coe (x : ℝ) : (FloatOps.absf (F := Ideal) (φ := .f32) (x : EReal) : EReal) = ((|x| : ℝ) : EReal) := by
  show max (x : EReal) (-(x : EReal)) = _
  rw [← EReal.coe_neg, abs_eq_max_neg]; exact (EReal.coe_strictMono.monotone.map_max).symm

theorem max_zero_coe (x : ℝ) : max (x : EReal) 0 = ((max x 0 : ℝ) : EReal) := (EReal.coe_strictMono.monotone.map_max).symm

theorem log1p_exp_coe (x : ℝ) : Ideal.log1p ((Real.exp x : ℝ) : EReal) = ((Real.log (1 + Real.exp x) : ℝ) : EReal) := by
  have hp : (0 : ℝ) < 1 + Real.exp x := by positivity
  show Ideal.log (1 + ((Real.exp x : ℝ) : EReal)) = _
  rw [show (1 : EReal) + ((Real.exp x : ℝ) : EReal) = ((1 + Real.exp x : ℝ) : EReal) by rw [EReal.coe_add, EReal.coe_one]]
  show (if (1 + Real.exp x) ≤ 0 then (⊥ : EReal) else _) = _
  rw [if_neg (not_le.mpr hp)]

theorem g_apply (x5 : Vec Ideal S256x128 .f32) (x6 : Vec Ideal S128x1024 .bf16) (x7 : Vec Ideal S1x1024 .f32) (i : Fin 256) (c : Fin 1024)
    (x : ℝ) (hx : ∑ l, x5 (ix2 i l) * x6 (ix2 l c) + x7 (ix2 0 c) = (x : EReal)) :
    k0_pay28 (F := Ideal) x5 x6 x7 (ix2 i c) = ((gate x : ℝ) : EReal) := by
  pointwise [k0_pay28]
  rw [hx, c_16, Ideal.div_coe (by norm_num)]
  have h1 : (0 : EReal) - (x : EReal) = ((-x : ℝ) : EReal) := by rw [zero_sub, ← EReal.coe_neg]
  have h5 : (0 : EReal) - ((|x| : ℝ) : EReal) = ((-|x| : ℝ) : EReal) := by rw [zero_sub, ← EReal.coe_neg]
  rw [h1, max_zero_coe, absf_coe, h5, Ideal.exp_coe, log1p_exp_coe, ← EReal.coe_add, zero_sub, ← EReal.coe_neg, ← EReal.coe_mul]
  unfold gate; congr 1; ring

/-- The running sum of the gates. -/
theorem b_apply (x5 : Vec Ideal S256x128 .f32) (x6 : Vec Ideal S128x1024 .bf16) (x7 : Vec Ideal S1x1024 .f32)
    (G : Fin 256 → Fin 1024 → ℝ) (hg : ∀ i c, k0_pay28 (F := Ideal) x5 x6 x7 (ix2 i c) = (G i c : EReal)) (i : Fin 256) (c : Fin 1024) :
    k0_pay35 (F := Ideal) k0_pay29 (k0_pay30 x5 x6 x7) (k0_pay32 x5 x6 x7) (k0_pay33 x5 x6 x7) (constant S256x1024 .f32 0#32) (ix2 i c)
      = ((∑ x : Fin 256, if x.val ≤ i.val then G x c else 0 : ℝ) : EReal) := by
  pointwise [k0_pay35, k0_pay34, k0_pay29, k0_pay30, k0_pay32, k0_pay33, k0_pay31]
  simp only [hg, coe_sub_self, sge_eq, Scalar.select_ofBool, sub_self, EReal.coe_zero, sub_zero, ite_self, Finset.sum_const_zero, add_zero]
  rw [← coe_sum]
  refine Finset.sum_congr rfl fun x _ => ?_
  by_cases h : x.val ≤ i.val <;> simp [h]

/-- The normalized, gated head output. -/
def epi (o : Fin 512 → EReal) (gn gg r : EReal) (e : Fin 512) : EReal :=
  gg * (o e * Ideal.rsqrt (Ideal.div (∑ x, o x * o x) (Ideal.ofBits FTy.f32 1140850688#32) + Ideal.ofBits FTy.f32 897988541#32) * gn * r)

theorem epi_apply (gn : Vec Ideal S1x512 .f32) (q b : Vec Ideal S256x256 .f32) (v : Vec Ideal S256x512 .bf16) (st : Vec Ideal S1x512x256 .f32) (a : Vec Ideal S1x256x256 .f32) (gg r : Vec Ideal S256x512 .f32) (i : Fin 256) (e : Fin 512) :
    k0_pay54 (F := Ideal) (k0_pay36 gn) (k0_pay50 q b v st a) (k0_pay52 q b v st a) k0_pay53 gg r (ix2 i e)
      = epi (fun e => k0_pay50 q b v st a (ix2 i e)) (gn (ix2 0 e)) (gg (ix2 i e)) (r (ix2 i e)) e := by
  pointwise [k0_pay54, k0_pay36, k0_pay52, k0_pay53]
  rfl

/-! ## The attention filled column by column -/

/-- The counter of a loop from 0 by 1. -/
theorem iv_eq (n : ℕ) : Scf.iv 0#32 1#32 n = BitVec.ofNat 32 n := by
  simp [Scf.iv]

/-- One column of the attention. -/
theorem attnCol_apply (q b : Vec Ideal S256x256 .f32) (acc : Vec Ideal S256x256 .f32) (kr br : Vec Ideal S1x256 .f32)
    (Q K B : Fin 256 → Fin 256 → ℝ) (A : Fin 256 → Fin 256 → ℝ) (n : Fin k0_t1_loop.trips) (hn : n.val < 256)
    (hq : ∀ i d, q (ix2 i d) = (Q i d : EReal)) (hb : ∀ i d, b (ix2 i d) = (B i d : EReal))
    (hk : ∀ d, kr (ix2 0 d) = (K ⟨n.val, hn⟩ d : EReal)) (hbr : ∀ d, br (ix2 0 d) = (B ⟨n.val, hn⟩ d : EReal))
    (ha : ∀ i d, acc (ix2 i d) = (A i d : EReal)) (i j : Fin 256) :
    k0_pay20 (F := Ideal) (iota .tc S256x1 32 [0] iota_S256x1_d0_w32) (iota .tc S256x256 32 [1] iota_S256x256_d1_w32) q b n acc kr br (ix2 i j)
      = ((if j.val = n.val then AT Q K B i j else A i j : ℝ) : EReal) := by
  pointwise [k0_pay20]
  simp only [hq, hb, hk, hbr, ha, c_16th, c_ninf, iv_eq]
  have e1 : IntOp.cmpi CmpIPredicate.eq (BitVec.ofNat 32 j.val) (BitVec.ofNat 32 n.val) = BitVec.ofBool (decide (j.val = n.val)) := by
    rw [WordCmp.cmpi_eq_ofNat (by have := j.isLt; norm_num; omega) (by norm_num; omega)]
  have e2 := sge_eq i ⟨n.val, hn⟩
  simp only at e2
  rw [e1, e2]
  by_cases hj : j.val = n.val
  · have hj' : (⟨n.val, hn⟩ : Fin 256) = j := Fin.ext hj.symm
    rw [decide_eq_true hj, if_pos hj]
    unfold AT
    by_cases hji : n.val ≤ i.val
    · rw [if_pos (show j.val ≤ i.val by omega)]
      simp only [hj', hji, decide_true, if_true, Scalar.select_ofBool, ← EReal.coe_sub, Ideal.exp_coe, ← EReal.coe_mul, coe_sum]
    · rw [if_neg (show ¬j.val ≤ i.val by omega)]
      simp only [hji, decide_false, if_false, Scalar.select_ofBool, decide_true, if_true, Bool.false_eq_true, Ideal.exp_bot, mul_zero, Finset.sum_const_zero, EReal.coe_zero]
  · rw [decide_eq_false hj, if_neg hj, Scalar.select_ofBool]; simp

end Cert.KernelIdeal.Gla
-- ==== Proof.Gla.Heads.lean ====
module

public import proofs.«01_k».proof.Proof.Gla.Step
public import proofs.«01_k».proof.Proof.Gla.Vec

@[expose] public section

set_option maxRecDepth 16384

noncomputable section

/-! # One chunk, head by head

The pieces a body point writes, as the same four formulas of the head: its rows of the block, the state it finds
and the attention it has filled. -/

namespace Cert.KernelIdeal.Gla

open Cert.KernelIdeal.Gen
open Idealize.ShloMosaic

variable {F : FTy → Type} [FloatOps F]

/-- The key columns of head `h`. -/
abbrev rk (h : Fin 4) : Rect S256x1024 := Rect.unit ![0, h.val * 256] S256x256.size (by fin_cases h <;> decide)
/-- The value columns of head `h`. -/
abbrev rv (h : Fin 4) : Rect S256x2048 := Rect.unit ![0, h.val * 512] S256x512.size (by fin_cases h <;> decide)
/-- Head `h`'s part of the state. -/
abbrev rs (h : Fin 4) : Rect S4x512x256 := Rect.unit ![h.val, 0, 0] S1x512x256.size (by fin_cases h <;> decide)
/-- Head `h`'s part of the attention. -/
abbrev ra (h : Fin 4) : Rect S4x256x256 := Rect.unit ![h.val, 0, 0] S1x256x256.size (by fin_cases h <;> decide)

/-- The running sums of the gates over the chunk. -/
def bV (X : Blk F) : Vec F S256x1024 .f32 :=
  k0_pay35 k0_pay29 (k0_pay30 X.x5 X.x6 X.x7) (k0_pay32 X.x5 X.x6 X.x7) (k0_pay33 X.x5 X.x6 X.x7) (constant S256x1024 .f32 0#32)

/-- The output of head `h` from the state `S` and the attention `A`. -/
def outHead (X : Blk F) (S : Vec F S4x512x256 .f32) (A : Fin 4 → Vec F S1x256x256 .f32) (h : Fin 4) : Vec F S256x512 .f32 :=
  k0_pay54 (k0_pay36 X.x8) (k0_pay50 (View.ld X.x0 (rk h)) (View.ld (bV X) (rk h)) (View.ld X.x4 (rv h)) (View.ld S (rs h)) (A h))
    (k0_pay52 (View.ld X.x0 (rk h)) (View.ld (bV X) (rk h)) (View.ld X.x4 (rv h)) (View.ld S (rs h)) (A h)) k0_pay53 (View.ld X.x3 (rv h)) (View.ld X.x2 (rv h))

/-- The state of head `h` after the chunk. -/
def stHead (X : Blk F) (S : Vec F S4x512x256 .f32) (h : Fin 4) : Vec F S1x512x256 .f32 :=
  k0_pay51 (View.ld X.x1 (rk h)) (View.ld (bV X) (rk h)) (View.ld X.x4 (rv h)) (View.ld S (rs h))

/-- The factored attention of head `h`. -/
def attnF (X : Blk F) (h : Fin 4) : Vec F S1x256x256 .f32 :=
  k0_pay1 (iota .tc S256x256 32 [0] iota_S256x256_d0_w32) (iota .tc S256x256 32 [1] iota_S256x256_d1_w32)
    (View.ld (bV X) (rk h)) (View.ld X.x0 (rk h)) (View.ld X.x1 (rk h))

/-- The output's pieces. -/
def outPieces (X : Blk F) (S : Vec F S4x512x256 .f32) (A : Fin 4 → Vec F S1x256x256 .f32) : List (View.Piece (Elt F) S256x2048 .f32) :=
  [⟨rv 3, outHead X S A 3⟩, ⟨rv 2, outHead X S A 2⟩, ⟨rv 1, outHead X S A 1⟩, ⟨rv 0, outHead X S A 0⟩]

/-- The state's pieces. -/
def stPieces (X : Blk F) (S : Vec F S4x512x256 .f32) : List (View.Piece (Elt F) S4x512x256 .f32) :=
  [⟨rs 3, stHead X S 3⟩, ⟨rs 2, stHead X S 2⟩, ⟨rs 1, stHead X S 1⟩, ⟨rs 0, stHead X S 0⟩]

/-! ## Loads of what was stored -/

theorem ld_whole {sig : RefSig} {κ : Kind} {sp : Space} {S : Shape} {e : EltTy} (v : View sig κ sp S e) {off : Fin S.rank → Nat} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon', View.canon_unit_zero h]

theorem rs_disj (a b : Fin 4) (h : a ≠ b) : Disjoint (rs a).set (rs b).toLoadRect.set := by
  have : a.val < b.val ∨ b.val < a.val := by omega
  refine Rect.unit_disjoint 0 ?_
  show a.val + 1 ≤ b.val ∨ b.val + 1 ≤ a.val
  omega

theorem ra_disj (a b : Fin 4) (h : a ≠ b) : Disjoint (ra a).set (ra b).toLoadRect.set := by
  have : a.val < b.val ∨ b.val < a.val := by omega
  refine Rect.unit_disjoint 0 ?_
  show a.val + 1 ≤ b.val ∨ b.val + 1 ≤ a.val
  omega

end Cert.KernelIdeal.Gla
-- ==== Proof.Gla.Cols.lean ====
module

public import proofs.«01_k».proof.Proof.Gla.Vec

@[expose] public section

set_option maxRecDepth 16384

noncomputable section

/-! # The attention filled column by column

After `n` trips of a head's loop the first `n` columns of its attention hold their values and the others are zero. -/

namespace Cert.KernelIdeal.Gla

open Cert.KernelIdeal.Gen
open Idealize.ShloMosaic

/-! ## The loop of head 0 -/

theorem col1_eq (q b acc : Vec Ideal S256x256 .f32) (kr br : Vec Ideal S1x256 .f32) (n : Fin k0_t1_loop.trips) :
    k0_pay20 (F := Ideal) (iota .tc S256x1 32 [0] iota_S256x1_d0_w32) (iota .tc S256x256 32 [1] iota_S256x256_d1_w32) q b n acc kr br = k0_pay20 (F := Ideal) (iota .tc S256x1 32 [0] iota_S256x1_d0_w32) (iota .tc S256x256 32 [1] iota_S256x256_d1_w32) q b n acc kr br := rfl

theorem row1 (x : Vec Ideal S256x1024 .f32) (k : Fin k0_t1_loop.trips) (hk : k.val < 256) (inb) (d : Fin 256) :
    View.ld x (Rect.unit (k0_off1 k) ![1, 256] inb) (ix2 0 d) = x (ix2 ⟨k.val, hk⟩ ⟨0 * 256 + d.val, by omega⟩) := by
  refine congrArg x (funext fun a => Fin.ext ?_)
  have e : (Scf.iv 0#32 1#32 k.val).toNat = k.val := by rw [iv_eq, BitVec.toNat_ofNat]; omega
  fin_cases a
  · show (k0_off1 k) 0 + 1 * 0 = k.val
    simpa [k0_off1, Scalar.indexCast] using e
  · show (k0_off1 k) 1 + 1 * d.val = 0 * 256 + d.val
    simp [k0_off1]

/-- The first `n` columns are filled. -/
theorem st1_apply (𝒱 : Variants) (c : Dev nD) (bd : Option 𝒱.V) (i₀ : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole)  (q b : Vec Ideal S256x256 .f32) (x w : Vec Ideal S256x1024 .f32) (L)
    (hL : L = [(⟨Rect.unit ![0, 0] S256x1024.size (by decide), w⟩ : View.Piece (Elt Ideal) S256x1024 .f32)])
    (Q K B : Fin 256 → Fin 256 → ℝ)
    (hq : ∀ i d, q (ix2 i d) = (Q i d : EReal)) (hb : ∀ i d, b (ix2 i d) = (B i d : EReal))
    (hk : ∀ (i d : Fin 256), x (ix2 i ⟨0 * 256 + d.val, by omega⟩) = (K i d : EReal))
    (hw : ∀ (i d : Fin 256), w (ix2 i ⟨0 * 256 + d.val, by omega⟩) = (B i d : EReal)) :
    ∀ (n : ℕ) (hn : n ≤ 256) (i j : Fin 256),
      st_k0_t1 (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 (iota .tc S256x1 32 [0] iota_S256x1_d0_w32) (iota .tc S256x256 32 [1] iota_S256x256_d1_w32) q b (harg3.unread x) (arg13.view.writes (Elt Ideal) arg13.view.junk L) k0_pay19 n (ix2 i j)
        = ((if j.val < n then AT Q K B i j else 0 : ℝ) : EReal)
  | 0, _, i, j => by
    rw [st_k0_t1_zero, if_neg (by omega)]
    pointwise [k0_pay19]
    rfl
  | n + 1, hn, i, j => by
    have hT : k0_t1_loop.trips = 256 := by decide
    have ih := st1_apply 𝒱 c bd i₀ arg2 harg2 arg3 harg3 arg4 harg4 arg5 harg5 arg6 harg6 arg7 harg7 arg8 harg8 arg9 harg9 arg10 harg10 arg11 harg11 arg12 harg12 arg13 harg13 arg14 harg14 q b x w L hL Q K B hq hb hk hw n (by omega)
    subst hL
    have e := st_k0_t1_succ (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 (iota .tc S256x1 32 [0] iota_S256x1_d0_w32) (iota .tc S256x256 32 [1] iota_S256x256_d1_w32) q b (harg3.unread x) (arg13.view.writes (Elt Ideal) arg13.view.junk [(⟨Rect.unit ![0, 0] S256x1024.size (by decide), w⟩ : View.Piece (Elt Ideal) S256x1024 .f32)]) k0_pay19 ⟨n, by omega⟩
    simp only at e
    rw [e]
    unfold tripR_k0_t1 trip_k0_t1
    dsimp only
    rw [col1_eq, View.readAt_eq_ld, View.readAt_eq_ld, Memref.IsWhole.read_unread, View.read_writes_junk_eq_canon,
      View.canon_unit_zero (by funext a; fin_cases a <;> rfl)]
    rw [attnCol_apply q b _ _ _ Q K B (fun i j => if j.val < n then AT Q K B i j else 0) ⟨n, by omega⟩ (by omega) hq hb
      (fun d => (row1 x ⟨n, by omega⟩ (by show n < 256; omega) _ d).trans (hk _ _)) (fun d => (row1 w ⟨n, by omega⟩ (by show n < 256; omega) _ d).trans (hw _ _)) ih]
    congr 1
    by_cases h1 : j.val = n
    · rw [if_pos h1, if_pos (by omega)]
    · rw [if_neg h1]
      by_cases h2 : j.val < n
      · rw [if_pos h2, if_pos (by omega)]
      · rw [if_neg h2, if_neg (by omega)]

/-! ## The loop of head 1 -/

theorem col2_eq (q b acc : Vec Ideal S256x256 .f32) (kr br : Vec Ideal S1x256 .f32) (n : Fin k0_t2_loop.trips) :
    k0_pay23 (F := Ideal) (iota .tc S256x1 32 [0] iota_S256x1_d0_w32) (iota .tc S256x256 32 [1] iota_S256x256_d1_w32) q b n acc kr br = k0_pay20 (F := Ideal) (iota .tc S256x1 32 [0] iota_S256x1_d0_w32) (iota .tc S256x256 32 [1] iota_S256x256_d1_w32) q b n acc kr br := rfl

theorem row2 (x : Vec Ideal S256x1024 .f32) (k : Fin k0_t2_loop.trips) (hk : k.val < 256) (inb) (d : Fin 256) :
    View.ld x (Rect.unit (k0_off2 k) ![1, 256] inb) (ix2 0 d) = x (ix2 ⟨k.val, hk⟩ ⟨1 * 256 + d.val, by omega⟩) := by
  refine congrArg x (funext fun a => Fin.ext ?_)
  have e : (Scf.iv 0#32 1#32 k.val).toNat = k.val := by rw [iv_eq, BitVec.toNat_ofNat]; omega
  fin_cases a
  · show (k0_off2 k) 0 + 1 * 0 = k.val
    simpa [k0_off2, Scalar.indexCast] using e
  · show (k0_off2 k) 1 + 1 * d.val = 1 * 256 + d.val
    simp [k0_off2]

/-- The first `n` columns are filled. -/
theorem st2_apply (𝒱 : Variants) (c : Dev nD) (bd : Option 𝒱.V) (i₀ : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole)  (q b : Vec Ideal S256x256 .f32) (x w : Vec Ideal S256x1024 .f32) (L)
    (hL : L = [(⟨Rect.unit ![0, 0] S256x1024.size (by decide), w⟩ : View.Piece (Elt Ideal) S256x1024 .f32)])
    (Q K B : Fin 256 → Fin 256 → ℝ)
    (hq : ∀ i d, q (ix2 i d) = (Q i d : EReal)) (hb : ∀ i d, b (ix2 i d) = (B i d : EReal))
    (hk : ∀ (i d : Fin 256), x (ix2 i ⟨1 * 256 + d.val, by omega⟩) = (K i d : EReal))
    (hw : ∀ (i d : Fin 256), w (ix2 i ⟨1 * 256 + d.val, by omega⟩) = (B i d : EReal)) :
    ∀ (n : ℕ) (hn : n ≤ 256) (i j : Fin 256),
      st_k0_t2 (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 (iota .tc S256x1 32 [0] iota_S256x1_d0_w32) (iota .tc S256x256 32 [1] iota_S256x256_d1_w32) q b (harg3.unread x) (arg13.view.writes (Elt Ideal) arg13.view.junk L) k0_pay22 n (ix2 i j)
        = ((if j.val < n then AT Q K B i j else 0 : ℝ) : EReal)
  | 0, _, i, j => by
    rw [st_k0_t2_zero, if_neg (by omega)]
    pointwise [k0_pay22]
    rfl
  | n + 1, hn, i, j => by
    have hT : k0_t2_loop.trips = 256 := by decide
    have hT1 : k0_t1_loop.trips = 256 := by decide
    have ih := st2_apply 𝒱 c bd i₀ arg2 harg2 arg3 harg3 arg4 harg4 arg5 harg5 arg6 harg6 arg7 harg7 arg8 harg8 arg9 harg9 arg10 harg10 arg11 harg11 arg12 harg12 arg13 harg13 arg14 harg14 q b x w L hL Q K B hq hb hk hw n (by omega)
    subst hL
    have e := st_k0_t2_succ (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 (iota .tc S256x1 32 [0] iota_S256x1_d0_w32) (iota .tc S256x256 32 [1] iota_S256x256_d1_w32) q b (harg3.unread x) (arg13.view.writes (Elt Ideal) arg13.view.junk [(⟨Rect.unit ![0, 0] S256x1024.size (by decide), w⟩ : View.Piece (Elt Ideal) S256x1024 .f32)]) k0_pay22 ⟨n, by omega⟩
    simp only at e
    rw [e]
    unfold tripR_k0_t2 trip_k0_t2
    dsimp only
    rw [col2_eq, View.readAt_eq_ld, View.readAt_eq_ld, Memref.IsWhole.read_unread, View.read_writes_junk_eq_canon,
      View.canon_unit_zero (by funext a; fin_cases a <;> rfl)]
    rw [attnCol_apply q b _ _ _ Q K B (fun i j => if j.val < n then AT Q K B i j else 0) ⟨n, by omega⟩ (by omega) hq hb
      (fun d => (row2 x ⟨n, by omega⟩ (by show n < 256; omega) _ d).trans (hk _ _)) (fun d => (row2 w ⟨n, by omega⟩ (by show n < 256; omega) _ d).trans (hw _ _)) ih]
    congr 1
    by_cases h1 : j.val = n
    · rw [if_pos h1, if_pos (by omega)]
    · rw [if_neg h1]
      by_cases h2 : j.val < n
      · rw [if_pos h2, if_pos (by omega)]
      · rw [if_neg h2, if_neg (by omega)]

/-! ## The loop of head 2 -/

theorem col3_eq (q b acc : Vec Ideal S256x256 .f32) (kr br : Vec Ideal S1x256 .f32) (n : Fin k0_t3_loop.trips) :
    k0_pay39 (F := Ideal) (k0_pay25 q) b 0#32 n acc kr br = k0_pay20 (F := Ideal) (iota .tc S256x1 32 [0] iota_S256x1_d0_w32) (iota .tc S256x256 32 [1] iota_S256x256_d1_w32) q b n acc kr br := rfl

theorem row3 (x : Vec Ideal S256x1024 .f32) (k : Fin k0_t3_loop.trips) (hk : k.val < 256) (inb) (d : Fin 256) :
    View.ld x (Rect.unit (k0_off3 k) ![1, 256] inb) (ix2 0 d) = x (ix2 ⟨k.val, hk⟩ ⟨2 * 256 + d.val, by omega⟩) := by
  refine congrArg x (funext fun a => Fin.ext ?_)
  have e : (Scf.iv 0#32 1#32 k.val).toNat = k.val := by rw [iv_eq, BitVec.toNat_ofNat]; omega
  fin_cases a
  · show (k0_off3 k) 0 + 1 * 0 = k.val
    simpa [k0_off3, Scalar.indexCast] using e
  · show (k0_off3 k) 1 + 1 * d.val = 2 * 256 + d.val
    simp [k0_off3]

/-- The first `n` columns are filled. -/
theorem st3_apply (𝒱 : Variants) (c : Dev nD) (bd : Option 𝒱.V) (i₀ : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole)  (v26 v27 : IVec S256x256 32) (v32 : FVec Ideal S256x256 .bf16) (v33 v36 v39 : FVec Ideal S256x1024 .bf16) (cst_13 : FVec Ideal S256x1024 .f32) (q b : Vec Ideal S256x256 .f32) (x w : Vec Ideal S256x1024 .f32) (L)
    (hL : L = [(⟨Rect.unit ![0, 0] S256x1024.size (by decide), w⟩ : View.Piece (Elt Ideal) S256x1024 .f32)])
    (Q K B : Fin 256 → Fin 256 → ℝ)
    (hq : ∀ i d, q (ix2 i d) = (Q i d : EReal)) (hb : ∀ i d, b (ix2 i d) = (B i d : EReal))
    (hk : ∀ (i d : Fin 256), x (ix2 i ⟨2 * 256 + d.val, by omega⟩) = (K i d : EReal))
    (hw : ∀ (i d : Fin 256), w (ix2 i ⟨2 * 256 + d.val, by omega⟩) = (B i d : EReal)) :
    ∀ (n : ℕ) (hn : n ≤ 256) (i j : Fin 256),
      st_k0_t3 (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 (k0_pay25 q) b 0#32 (harg3.unread x) (arg13.view.writes (Elt Ideal) arg13.view.junk L) k0_pay26 n (ix2 i j)
        = ((if j.val < n then AT Q K B i j else 0 : ℝ) : EReal)
  | 0, _, i, j => by
    rw [st_k0_t3_zero, if_neg (by omega)]
    pointwise [k0_pay26]
    rfl
  | n + 1, hn, i, j => by
    have hT : k0_t3_loop.trips = 256 := by decide
    have hT1 : k0_t1_loop.trips = 256 := by decide
    have ih := st3_apply 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 q b x w L hL Q K B hq hb hk hw n (by omega)
    subst hL
    have e := st_k0_t3_succ (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 (k0_pay25 q) b 0#32 (harg3.unread x) (arg13.view.writes (Elt Ideal) arg13.view.junk [(⟨Rect.unit ![0, 0] S256x1024.size (by decide), w⟩ : View.Piece (Elt Ideal) S256x1024 .f32)]) k0_pay26 ⟨n, by omega⟩
    simp only at e
    rw [e]
    unfold tripR_k0_t3 trip_k0_t3
    dsimp only
    rw [col3_eq, View.readAt_eq_ld, View.readAt_eq_ld, Memref.IsWhole.read_unread, View.read_writes_junk_eq_canon,
      View.canon_unit_zero (by funext a; fin_cases a <;> rfl)]
    rw [attnCol_apply q b _ _ _ Q K B (fun i j => if j.val < n then AT Q K B i j else 0) ⟨n, by omega⟩ (by omega) hq hb
      (fun d => (row3 x ⟨n, by omega⟩ (by show n < 256; omega) _ d).trans (hk _ _)) (fun d => (row3 w ⟨n, by omega⟩ (by show n < 256; omega) _ d).trans (hw _ _)) ih]
    congr 1
    by_cases h1 : j.val = n
    · rw [if_pos h1, if_pos (by omega)]
    · rw [if_neg h1]
      by_cases h2 : j.val < n
      · rw [if_pos h2, if_pos (by omega)]
      · rw [if_neg h2, if_neg (by omega)]

/-! ## The loop of head 3 -/

theorem col4_eq (q b acc : Vec Ideal S256x256 .f32) (kr br : Vec Ideal S1x256 .f32) (n : Fin k0_t4_loop.trips) :
    k0_pay42 (F := Ideal) q b n acc kr br = k0_pay20 (F := Ideal) (iota .tc S256x1 32 [0] iota_S256x1_d0_w32) (iota .tc S256x256 32 [1] iota_S256x256_d1_w32) q b n acc kr br := rfl

theorem row4 (x : Vec Ideal S256x1024 .f32) (k : Fin k0_t4_loop.trips) (hk : k.val < 256) (inb) (d : Fin 256) :
    View.ld x (Rect.unit (k0_off4 k) ![1, 256] inb) (ix2 0 d) = x (ix2 ⟨k.val, hk⟩ ⟨3 * 256 + d.val, by omega⟩) := by
  refine congrArg x (funext fun a => Fin.ext ?_)
  have e : (Scf.iv 0#32 1#32 k.val).toNat = k.val := by rw [iv_eq, BitVec.toNat_ofNat]; omega
  fin_cases a
  · show (k0_off4 k) 0 + 1 * 0 = k.val
    simpa [k0_off4, Scalar.indexCast] using e
  · show (k0_off4 k) 1 + 1 * d.val = 3 * 256 + d.val
    simp [k0_off4]

/-- The first `n` columns are filled. -/
theorem st4_apply (𝒱 : Variants) (c : Dev nD) (bd : Option 𝒱.V) (i₀ : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole)  (v26 v27 : IVec S256x256 32) (v32 : FVec Ideal S256x256 .bf16) (v33 v36 v39 : FVec Ideal S256x1024 .bf16) (cst_13 : FVec Ideal S256x1024 .f32) (q b : Vec Ideal S256x256 .f32) (x w : Vec Ideal S256x1024 .f32) (L)
    (hL : L = [(⟨Rect.unit ![0, 0] S256x1024.size (by decide), w⟩ : View.Piece (Elt Ideal) S256x1024 .f32)])
    (Q K B : Fin 256 → Fin 256 → ℝ)
    (hq : ∀ i d, q (ix2 i d) = (Q i d : EReal)) (hb : ∀ i d, b (ix2 i d) = (B i d : EReal))
    (hk : ∀ (i d : Fin 256), x (ix2 i ⟨3 * 256 + d.val, by omega⟩) = (K i d : EReal))
    (hw : ∀ (i d : Fin 256), w (ix2 i ⟨3 * 256 + d.val, by omega⟩) = (B i d : EReal)) :
    ∀ (n : ℕ) (hn : n ≤ 256) (i j : Fin 256),
      st_k0_t4 (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 q b (harg3.unread x) (arg13.view.writes (Elt Ideal) arg13.view.junk L) k0_pay41 n (ix2 i j)
        = ((if j.val < n then AT Q K B i j else 0 : ℝ) : EReal)
  | 0, _, i, j => by
    rw [st_k0_t4_zero, if_neg (by omega)]
    pointwise [k0_pay41]
    rfl
  | n + 1, hn, i, j => by
    have hT : k0_t4_loop.trips = 256 := by decide
    have hT1 : k0_t1_loop.trips = 256 := by decide
    have ih := st4_apply 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 q b x w L hL Q K B hq hb hk hw n (by omega)
    subst hL
    have e := st_k0_t4_succ (F := Ideal) 𝒱 c bd i₀ arg2 harg2 arg3 harg3 arg4 harg4 arg5 harg5 arg6 harg6 arg7 harg7 arg8 harg8 arg9 harg9 arg10 harg10 arg11 harg11 arg12 harg12 arg13 harg13 arg14 harg14 v26 v27 v32 v33 v36 v39 cst_13 q b (harg3.unread x) (arg13.view.writes (Elt Ideal) arg13.view.junk [(⟨Rect.unit ![0, 0] S256x1024.size (by decide), w⟩ : View.Piece (Elt Ideal) S256x1024 .f32)]) k0_pay41 ⟨n, by omega⟩
    simp only at e
    rw [e]
    unfold tripR_k0_t4 trip_k0_t4
    dsimp only
    rw [col4_eq, View.readAt_eq_ld, View.readAt_eq_ld, Memref.IsWhole.read_unread, View.read_writes_junk_eq_canon,
      View.canon_unit_zero (by funext a; fin_cases a <;> rfl)]
    rw [attnCol_apply q b _ _ _ Q K B (fun i j => if j.val < n then AT Q K B i j else 0) ⟨n, by omega⟩ (by omega) hq hb
      (fun d => (row4 x ⟨n, by omega⟩ (by show n < 256; omega) _ d).trans (hk _ _)) (fun d => (row4 w ⟨n, by omega⟩ (by show n < 256; omega) _ d).trans (hw _ _)) ih]
    congr 1
    by_cases h1 : j.val = n
    · rw [if_pos h1, if_pos (by omega)]
    · rw [if_neg h1]
      by_cases h2 : j.val < n
      · rw [if_pos h2, if_pos (by omega)]
      · rw [if_neg h2, if_neg (by omega)]

end Cert.KernelIdeal.Gla
-- ==== Proof.Gla.CaseA.lean ====
module

public import proofs.«01_k».proof.Proof.Gla.Heads
public import proofs.«01_k».proof.Proof.Gla.Cols

@[expose] public section

set_option maxRecDepth 16384

noncomputable section

namespace Cert.KernelIdeal.Gla

open Cert.KernelIdeal.Gen
open Idealize.ShloMosaic

variable {F : FTy → Type} [FloatOps F]

theorem A_v261 (X : Blk F) (c : Dev nD) (arg13 : Memref sig .tc .vmem S256x1024 .f32) : runA.sl.v261 c arg13 X.x5 X.x6 X.x7 = View.ld (bV X) (rk 0) := by
  unfold runA.sl.v261 runA.sl.HS1_1
  exact ld_whole _ (by funext a; fin_cases a <;> rfl) _ _ _

theorem A_v294 (X : Blk F) (c : Dev nD) (arg13 : Memref sig .tc .vmem S256x1024 .f32) : runA.sl.v294 c arg13 X.x5 X.x6 X.x7 = View.ld (bV X) (rk 1) := by
  unfold runA.sl.v294 runA.sl.HS1_1
  exact ld_whole _ (by funext a; fin_cases a <;> rfl) _ _ _

theorem A_v327 (X : Blk F) (c : Dev nD) (arg13 : Memref sig .tc .vmem S256x1024 .f32) : runA.sl.v327 c arg13 X.x5 X.x6 X.x7 = View.ld (bV X) (rk 2) := by
  unfold runA.sl.v327 runA.sl.HS1_1
  exact ld_whole _ (by funext a; fin_cases a <;> rfl) _ _ _

theorem A_v360 (X : Blk F) (c : Dev nD) (arg13 : Memref sig .tc .vmem S256x1024 .f32) : runA.sl.v360 c arg13 X.x5 X.x6 X.x7 = View.ld (bV X) (rk 3) := by
  unfold runA.sl.v360 runA.sl.HS1_1
  exact ld_whole _ (by funext a; fin_cases a <;> rfl) _ _ _

theorem A_v71 (c : Dev nD) (arg12 : Memref sig .tc .vmem S4x512x256 .f32) : runA.sl.v71 (F := F) c arg12 = View.ld k0_pay27 (rs 0) := by
  unfold runA.sl.v71
  unfold runA.sl.HS0_1
  exact ld_whole _ (by funext a; fin_cases a <;> rfl) _ _ _

theorem A_v120 (X : Blk F) (c : Dev nD) (arg12 : Memref sig .tc .vmem S4x512x256 .f32) (arg13 : Memref sig .tc .vmem S256x1024 .f32) : runA.sl.v120 (F := F) c arg12 arg13 X.x1 X.x4 X.x5 X.x6 X.x7 = View.ld k0_pay27 (rs 1) := by
  unfold runA.sl.v120
  unfold runA.sl.HS0_2
  refine Eq.trans (View.readCov_cons_of_disjoint _ _ _ _ ?_) ?_
  · exact Rect.unit_disjoint (inb := by decide) 0 (by decide)
  unfold runA.sl.HS0_1
  exact ld_whole _ (by funext a; fin_cases a <;> rfl) _ _ _

theorem A_v169 (X : Blk F) (c : Dev nD) (arg12 : Memref sig .tc .vmem S4x512x256 .f32) (arg13 : Memref sig .tc .vmem S256x1024 .f32) : runA.sl.v169 (F := F) c arg12 arg13 X.x1 X.x4 X.x5 X.x6 X.x7 = View.ld k0_pay27 (rs 2) := by
  unfold runA.sl.v169
  unfold runA.sl.HS0_3
  refine Eq.trans (View.readCov_cons_of_disjoint _ _ _ _ ?_) ?_
  · exact Rect.unit_disjoint (inb := by decide) 0 (by decide)
  unfold runA.sl.HS0_2
  refine Eq.trans (View.readCov_cons_of_disjoint _ _ _ _ ?_) ?_
  · exact Rect.unit_disjoint (inb := by decide) 0 (by decide)
  unfold runA.sl.HS0_1
  exact ld_whole _ (by funext a; fin_cases a <;> rfl) _ _ _

theorem A_v218 (X : Blk F) (c : Dev nD) (arg12 : Memref sig .tc .vmem S4x512x256 .f32) (arg13 : Memref sig .tc .vmem S256x1024 .f32) : runA.sl.v218 (F := F) c arg12 arg13 X.x1 X.x4 X.x5 X.x6 X.x7 = View.ld k0_pay27 (rs 3) := by
  unfold runA.sl.v218
  unfold runA.sl.HS0_4
  refine Eq.trans (View.readCov_cons_of_disjoint _ _ _ _ ?_) ?_
  · exact Rect.unit_disjoint (inb := by decide) 0 (by decide)
  unfold runA.sl.HS0_3
  refine Eq.trans (View.readCov_cons_of_disjoint _ _ _ _ ?_) ?_
  · exact Rect.unit_disjoint (inb := by decide) 0 (by decide)
  unfold runA.sl.HS0_2
  refine Eq.trans (View.readCov_cons_of_disjoint _ _ _ _ ?_) ?_
  · exact Rect.unit_disjoint (inb := by decide) 0 (by decide)
  unfold runA.sl.HS0_1
  exact ld_whole _ (by funext a; fin_cases a <;> rfl) _ _ _

theorem A_v78 (X : Blk F) (c : Dev nD) (arg13 : Memref sig .tc .vmem S256x1024 .f32) (arg14 : Memref sig .tc .vmem S4x256x256 .f32) : runA.sl.v78 c arg13 arg14 X.x0 X.x1 X.x5 X.x6 X.x7 = attnF X 0 := by
  unfold runA.sl.v78 runA.sl.HS2_4
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_toLoadRect _ _ _ _) ?_
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360]
  rfl

theorem A_v127 (X : Blk F) (c : Dev nD) (arg13 : Memref sig .tc .vmem S256x1024 .f32) (arg14 : Memref sig .tc .vmem S4x256x256 .f32) : runA.sl.v127 c arg13 arg14 X.x0 X.x1 X.x5 X.x6 X.x7 = attnF X 1 := by
  unfold runA.sl.v127 runA.sl.HS2_4
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_toLoadRect _ _ _ _) ?_
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360]
  rfl

theorem A_v176 (X : Blk F) (c : Dev nD) (arg13 : Memref sig .tc .vmem S256x1024 .f32) (arg14 : Memref sig .tc .vmem S4x256x256 .f32) : runA.sl.v176 c arg13 arg14 X.x0 X.x1 X.x5 X.x6 X.x7 = attnF X 2 := by
  unfold runA.sl.v176 runA.sl.HS2_4
  refine Eq.trans (View.readCov_cons_of_disjoint _ _ _ _ ?_) ?_
  · exact Rect.unit_disjoint (inb := by decide) 0 (by decide)
  refine Eq.trans (View.readCov_cons_toLoadRect _ _ _ _) ?_
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360]
  rfl

theorem A_v225 (X : Blk F) (c : Dev nD) (arg13 : Memref sig .tc .vmem S256x1024 .f32) (arg14 : Memref sig .tc .vmem S4x256x256 .f32) : runA.sl.v225 c arg13 arg14 X.x0 X.x1 X.x5 X.x6 X.x7 = attnF X 3 := by
  unfold runA.sl.v225 runA.sl.HS2_4
  refine Eq.trans (View.readCov_cons_toLoadRect _ _ _ _) ?_
  simp only [runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360]
  rfl

theorem pcsA_out (c : Dev nD) (t : Fin cfg0.N) (X : Blk F) (hc : cond0_0 (grid0.coords t)) (hf : fac X.x5 X.x6 X.x7) :
    (pcsA c t X hc hf).1 = outPieces X k0_pay27 (attnF X) := by
  unfold pcsA runA
  dsimp only
  simp only [runA.sl.HS0_4, runA.sl.HS0_3, runA.sl.HS0_2, runA.sl.HS0_1, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360, A_v120, A_v169, A_v218, A_v71, A_v127, A_v176, A_v225, A_v78]
  rfl

theorem pcsA_st (c : Dev nD) (t : Fin cfg0.N) (X : Blk F) (hc : cond0_0 (grid0.coords t)) (hf : fac X.x5 X.x6 X.x7) :
    (pcsA c t X hc hf).2 = stPieces X k0_pay27 ++ [⟨Rect.unit ![0, 0, 0] S4x512x256.size (by decide), k0_pay27⟩] := by
  unfold pcsA runA
  dsimp only
  simp only [runA.sl.HS0_4, runA.sl.HS0_3, runA.sl.HS0_2, runA.sl.HS0_1, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_3, runA.sl.r_4, runA.sl.r_5, runA.sl.r_6, runA.sl.r_7, runA.sl.r_8, runA.sl.r_9, runA.sl.v26, runA.sl.v27, runA.sl.v48, runA.sl.cst_13, A_v261, A_v294, A_v327, A_v360, A_v120, A_v169, A_v218, A_v71, A_v127, A_v176, A_v225, A_v78]
  rfl

end Cert.KernelIdeal.Gla
-- ==== Proof.Gla.CaseB.lean ====
module

public import proofs.«01_k».proof.Proof.Gla.Heads
public import proofs.«01_k».proof.Proof.Gla.Cols

@[expose] public section

set_option maxRecDepth 16384

noncomputable section

namespace Cert.KernelIdeal.Gla

open Cert.KernelIdeal.Gen
open Idealize.ShloMosaic

variable {F : FTy → Type} [FloatOps F]

theorem B_v261 (X : Blk F) (c : Dev nD) (arg13 : Memref sig .tc .vmem S256x1024 .f32) : runB.sl.v261 c arg13 X.x5 X.x6 X.x7 = View.ld (bV X) (rk 0) := by
  unfold runB.sl.v261 runB.sl.HS1_1
  exact ld_whole _ (by funext a; fin_cases a <;> rfl) _ _ _

theorem B_v294 (X : Blk F) (c : Dev nD) (arg13 : Memref sig .tc .vmem S256x1024 .f32) : runB.sl.v294 c arg13 X.x5 X.x6 X.x7 = View.ld (bV X) (rk 1) := by
  unfold runB.sl.v294 runB.sl.HS1_1
  exact ld_whole _ (by funext a; fin_cases a <;> rfl) _ _ _

theorem B_v327 (X : Blk F) (c : Dev nD) (arg13 : Memref sig .tc .vmem S256x1024 .f32) : runB.sl.v327 c arg13 X.x5 X.x6 X.x7 = View.ld (bV X) (rk 2) := by
  unfold runB.sl.v327 runB.sl.HS1_1
  exact ld_whole _ (by funext a; fin_cases a <;> rfl) _ _ _

theorem B_v360 (X : Blk F) (c : Dev nD) (arg13 : Memref sig .tc .vmem S256x1024 .f32) : runB.sl.v360 c arg13 X.x5 X.x6 X.x7 = View.ld (bV X) (rk 3) := by
  unfold runB.sl.v360 runB.sl.HS1_1
  exact ld_whole _ (by funext a; fin_cases a <;> rfl) _ _ _

theorem B_v78 (X : Blk F) (c : Dev nD) (arg13 : Memref sig .tc .vmem S256x1024 .f32) (arg14 : Memref sig .tc .vmem S4x256x256 .f32) : runB.sl.v78 c arg13 arg14 X.x0 X.x1 X.x5 X.x6 X.x7 = attnF X 0 := by
  unfold runB.sl.v78 runB.sl.HS2_4
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_toLoadRect _ _ _ _) ?_
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360]
  rfl

theorem B_v127 (X : Blk F) (c : Dev nD) (arg13 : Memref sig .tc .vmem S256x1024 .f32) (arg14 : Memref sig .tc .vmem S4x256x256 .f32) : runB.sl.v127 c arg13 arg14 X.x0 X.x1 X.x5 X.x6 X.x7 = attnF X 1 := by
  unfold runB.sl.v127 runB.sl.HS2_4
  refine Eq.trans (View.readCov_cons_of_disjoint _ _ _ _ ?_) ?_
  · exact Rect.unit_disjoint (inb := by decide) 0 (by decide)
  refine Eq.trans (View.readCov_cons_of_disjoint _ _ _ _ ?_) ?_
  · exact Rect.unit_disjoint (inb := by decide) 0 (by decide)
  refine Eq.trans (View.readCov_cons_toLoadRect _ _ _ _) ?_
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360]
  rfl

theorem B_v176 (X : Blk F) (c : Dev nD) (arg13 : Memref sig .tc .vmem S256x1024 .f32) (arg14 : Memref sig .tc .vmem S4x256x256 .f32) : runB.sl.v176 c arg13 arg14 X.x0 X.x1 X.x5 X.x6 X.x7 = attnF X 2 := by
  unfold runB.sl.v176 runB.sl.HS2_4
  refine Eq.trans (View.readCov_cons_of_disjoint _ _ _ _ ?_) ?_
  · exact Rect.unit_disjoint (inb := by decide) 0 (by decide)
  refine Eq.trans (View.readCov_cons_toLoadRect _ _ _ _) ?_
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360]
  rfl

theorem B_v225 (X : Blk F) (c : Dev nD) (arg13 : Memref sig .tc .vmem S256x1024 .f32) (arg14 : Memref sig .tc .vmem S4x256x256 .f32) : runB.sl.v225 c arg13 arg14 X.x0 X.x1 X.x5 X.x6 X.x7 = attnF X 3 := by
  unfold runB.sl.v225 runB.sl.HS2_4
  refine Eq.trans (View.readCov_cons_toLoadRect _ _ _ _) ?_
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360]
  rfl

theorem pcsB_out (c : Dev nD) (t : Fin cfg0.N) (X : Blk F) (xs : Vec F S4x512x256 .f32) (hc : ¬cond0_0 (grid0.coords t)) (hf : fac X.x5 X.x6 X.x7) :
    (pcsB c t X xs hc hf).1 = outPieces X xs (attnF X) := by
  unfold pcsB runB
  dsimp only
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360, B_v127, B_v176, B_v225, B_v78]
  rfl

theorem pcsB_st (c : Dev nD) (t : Fin cfg0.N) (X : Blk F) (xs : Vec F S4x512x256 .f32) (hc : ¬cond0_0 (grid0.coords t)) (hf : fac X.x5 X.x6 X.x7) :
    (pcsB c t X xs hc hf).2 = stPieces X xs := by
  unfold pcsB runB
  dsimp only
  simp only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_3, runB.sl.r_4, runB.sl.r_5, runB.sl.r_6, runB.sl.r_7, runB.sl.r_8, runB.sl.r_9, runB.sl.v26, runB.sl.v27, runB.sl.v48, runB.sl.cst_13, B_v261, B_v294, B_v327, B_v360, B_v127, B_v176, B_v225, B_v78]
  rfl

end Cert.KernelIdeal.Gla
-- ==== Proof.Gla.CaseC.lean ====
module

public import proofs.«01_k».proof.Proof.Gla.Heads
public import proofs.«01_k».proof.Proof.Gla.Cols

@[expose] public section

set_option maxRecDepth 16384

noncomputable section

namespace Cert.KernelIdeal.Gla

open Cert.KernelIdeal.Gen
open Idealize.ShloMosaic

variable {F : FTy → Type} [FloatOps F]

theorem C_v118 (X : Blk F) (arg13 : Memref sig .tc .vmem S256x1024 .f32) : runC.sl.v118 arg13 X.x5 X.x6 X.x7 = View.ld (bV X) (rk 1) := by
  unfold runC.sl.v118 runC.sl.HS1_1
  exact ld_whole _ (by funext a; fin_cases a <;> rfl) _ _ _

theorem C_v167 (X : Blk F) (arg13 : Memref sig .tc .vmem S256x1024 .f32) : runC.sl.v167 arg13 X.x5 X.x6 X.x7 = View.ld (bV X) (rk 2) := by
  unfold runC.sl.v167 runC.sl.HS1_1
  exact ld_whole _ (by funext a; fin_cases a <;> rfl) _ _ _

theorem C_v216 (X : Blk F) (arg13 : Memref sig .tc .vmem S256x1024 .f32) : runC.sl.v216 arg13 X.x5 X.x6 X.x7 = View.ld (bV X) (rk 3) := by
  unfold runC.sl.v216 runC.sl.HS1_1
  exact ld_whole _ (by funext a; fin_cases a <;> rfl) _ _ _

theorem C_v264 (X : Blk F) (c : Dev nD) (arg13 : Memref sig .tc .vmem S256x1024 .f32) : runC.sl.v264 c arg13 X.x5 X.x6 X.x7 = View.ld (bV X) (rk 0) := by
  unfold runC.sl.v264 runC.sl.HS1_1
  exact ld_whole _ (by funext a; fin_cases a <;> rfl) _ _ _

theorem C_v274 (X : Blk F) (arg13 : Memref sig .tc .vmem S256x1024 .f32) : runC.sl.v274 arg13 X.x5 X.x6 X.x7 = View.ld (bV X) (rk 1) := by
  unfold runC.sl.v274 runC.sl.HS1_1
  exact ld_whole _ (by funext a; fin_cases a <;> rfl) _ _ _

theorem C_v284 (X : Blk F) (arg13 : Memref sig .tc .vmem S256x1024 .f32) : runC.sl.v284 arg13 X.x5 X.x6 X.x7 = View.ld (bV X) (rk 2) := by
  unfold runC.sl.v284 runC.sl.HS1_1
  exact ld_whole _ (by funext a; fin_cases a <;> rfl) _ _ _

theorem C_v294 (X : Blk F) (arg13 : Memref sig .tc .vmem S256x1024 .f32) : runC.sl.v294 arg13 X.x5 X.x6 X.x7 = View.ld (bV X) (rk 3) := by
  unfold runC.sl.v294 runC.sl.HS1_1
  exact ld_whole _ (by funext a; fin_cases a <;> rfl) _ _ _

theorem C_v69 (X : Blk F) (arg13 : Memref sig .tc .vmem S256x1024 .f32) : runC.sl.v69 arg13 X.x5 X.x6 X.x7 = View.ld (bV X) (rk 0) := by
  unfold runC.sl.v69 runC.sl.HS1_1
  exact ld_whole _ (by funext a; fin_cases a <;> rfl) _ _ _

theorem C_v71 (c : Dev nD) (arg12 : Memref sig .tc .vmem S4x512x256 .f32) : runC.sl.v71 (F := F) c arg12 = View.ld k0_pay27 (rs 0) := by
  unfold runC.sl.v71
  unfold runC.sl.HS0_1
  exact ld_whole _ (by funext a; fin_cases a <;> rfl) _ _ _

theorem C_v120 (X : Blk F) (c : Dev nD) (arg12 : Memref sig .tc .vmem S4x512x256 .f32) (arg13 : Memref sig .tc .vmem S256x1024 .f32) : runC.sl.v120 (F := F) c arg12 arg13 X.x1 X.x4 X.x5 X.x6 X.x7 = View.ld k0_pay27 (rs 1) := by
  unfold runC.sl.v120
  unfold runC.sl.HS0_2
  refine Eq.trans (View.readCov_cons_of_disjoint _ _ _ _ ?_) ?_
  · exact Rect.unit_disjoint (inb := by decide) 0 (by decide)
  unfold runC.sl.HS0_1
  exact ld_whole _ (by funext a; fin_cases a <;> rfl) _ _ _

theorem C_v169 (X : Blk F) (c : Dev nD) (arg12 : Memref sig .tc .vmem S4x512x256 .f32) (arg13 : Memref sig .tc .vmem S256x1024 .f32) : runC.sl.v169 (F := F) c arg12 arg13 X.x1 X.x4 X.x5 X.x6 X.x7 = View.ld k0_pay27 (rs 2) := by
  unfold runC.sl.v169
  unfold runC.sl.HS0_3
  refine Eq.trans (View.readCov_cons_of_disjoint _ _ _ _ ?_) ?_
  · exact Rect.unit_disjoint (inb := by decide) 0 (by decide)
  unfold runC.sl.HS0_2
  refine Eq.trans (View.readCov_cons_of_disjoint _ _ _ _ ?_) ?_
  · exact Rect.unit_disjoint (inb := by decide) 0 (by decide)
  unfold runC.sl.HS0_1
  exact ld_whole _ (by funext a; fin_cases a <;> rfl) _ _ _

theorem C_v218 (X : Blk F) (c : Dev nD) (arg12 : Memref sig .tc .vmem S4x512x256 .f32) (arg13 : Memref sig .tc .vmem S256x1024 .f32) : runC.sl.v218 (F := F) c arg12 arg13 X.x1 X.x4 X.x5 X.x6 X.x7 = View.ld k0_pay27 (rs 3) := by
  unfold runC.sl.v218
  unfold runC.sl.HS0_4
  refine Eq.trans (View.readCov_cons_of_disjoint _ _ _ _ ?_) ?_
  · exact Rect.unit_disjoint (inb := by decide) 0 (by decide)
  unfold runC.sl.HS0_3
  refine Eq.trans (View.readCov_cons_of_disjoint _ _ _ _ ?_) ?_
  · exact Rect.unit_disjoint (inb := by decide) 0 (by decide)
  unfold runC.sl.HS0_2
  refine Eq.trans (View.readCov_cons_of_disjoint _ _ _ _ ?_) ?_
  · exact Rect.unit_disjoint (inb := by decide) 0 (by decide)
  unfold runC.sl.HS0_1
  exact ld_whole _ (by funext a; fin_cases a <;> rfl) _ _ _

theorem C_v78_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 0) (ix2 i d) = (Q i d : EReal)) (hk : ∀ (i d : Fin 256), X.x1 (ix2 i ⟨0 * 256 + d.val, by omega⟩) = (K i d : EReal))
    (hb : ∀ (i d : Fin 256), bV X (ix2 i ⟨0 * 256 + d.val, by omega⟩) = (B i d : EReal)) (hb' : ∀ i d, View.ld (bV X) (rk 0) (ix2 i d) = (B i d : EReal)) (i' j' : Fin 256) :
    runC.sl.v78 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runC.sl.v78 runC.sl.HS2_4
  rw [View.readCov_cons_of_disjoint _ _ _ _ (by exact Rect.unit_disjoint (inb := by decide) 0 (by decide))]
  rw [View.readCov_cons_of_disjoint _ _ _ _ (by exact Rect.unit_disjoint (inb := by decide) 0 (by decide))]
  rw [View.readCov_cons_of_disjoint _ _ _ _ (by exact Rect.unit_disjoint (inb := by decide) 0 (by decide))]
  refine (congrFun (View.readCov_cons_toLoadRect _ _ _ _) _).trans ?_
  simp only [runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69]
  pointwise [k0_pay21]
  refine (st1_apply (L := runC.sl.HS1_1 X.x5 X.x6 X.x7) (w := bV X) (q := View.ld X.x0 (rk 0)) (b := View.ld (bV X) (rk 0)) (hL := rfl) (Q := Q) (K := K) (B := B) (hq := hq) (hb := hb') (hk := hk) (hw := hb) (n := 256) (hn := le_refl _) ..).trans ?_
  rw [if_pos j'.isLt]

theorem C_v127_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 1) (ix2 i d) = (Q i d : EReal)) (hk : ∀ (i d : Fin 256), X.x1 (ix2 i ⟨1 * 256 + d.val, by omega⟩) = (K i d : EReal))
    (hb : ∀ (i d : Fin 256), bV X (ix2 i ⟨1 * 256 + d.val, by omega⟩) = (B i d : EReal)) (hb' : ∀ i d, View.ld (bV X) (rk 1) (ix2 i d) = (B i d : EReal)) (i' j' : Fin 256) :
    runC.sl.v127 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runC.sl.v127 runC.sl.HS2_4
  rw [View.readCov_cons_of_disjoint _ _ _ _ (by exact Rect.unit_disjoint (inb := by decide) 0 (by decide))]
  rw [View.readCov_cons_of_disjoint _ _ _ _ (by exact Rect.unit_disjoint (inb := by decide) 0 (by decide))]
  refine (congrFun (View.readCov_cons_toLoadRect _ _ _ _) _).trans ?_
  simp only [runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69]
  pointwise [k0_pay24]
  refine (st2_apply (L := runC.sl.HS1_1 X.x5 X.x6 X.x7) (w := bV X) (q := View.ld X.x0 (rk 1)) (b := View.ld (bV X) (rk 1)) (hL := rfl) (Q := Q) (K := K) (B := B) (hq := hq) (hb := hb') (hk := hk) (hw := hb) (n := 256) (hn := le_refl _) ..).trans ?_
  rw [if_pos j'.isLt]

theorem C_v176_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 2) (ix2 i d) = (Q i d : EReal)) (hk : ∀ (i d : Fin 256), X.x1 (ix2 i ⟨2 * 256 + d.val, by omega⟩) = (K i d : EReal))
    (hb : ∀ (i d : Fin 256), bV X (ix2 i ⟨2 * 256 + d.val, by omega⟩) = (B i d : EReal)) (hb' : ∀ i d, View.ld (bV X) (rk 2) (ix2 i d) = (B i d : EReal)) (i' j' : Fin 256) :
    runC.sl.v176 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runC.sl.v176 runC.sl.HS2_4
  rw [View.readCov_cons_of_disjoint _ _ _ _ (by exact Rect.unit_disjoint (inb := by decide) 0 (by decide))]
  refine (congrFun (View.readCov_cons_toLoadRect _ _ _ _) _).trans ?_
  simp only [runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69]
  pointwise [k0_pay40]
  refine (st3_apply (L := runC.sl.HS1_1 X.x5 X.x6 X.x7) (w := bV X) (q := View.ld X.x0 (rk 2)) (b := View.ld (bV X) (rk 2)) (hL := rfl) (Q := Q) (K := K) (B := B) (hq := hq) (hb := hb') (hk := hk) (hw := hb) (n := 256) (hn := le_refl _) ..).trans ?_
  rw [if_pos j'.isLt]

theorem C_v225_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 3) (ix2 i d) = (Q i d : EReal)) (hk : ∀ (i d : Fin 256), X.x1 (ix2 i ⟨3 * 256 + d.val, by omega⟩) = (K i d : EReal))
    (hb : ∀ (i d : Fin 256), bV X (ix2 i ⟨3 * 256 + d.val, by omega⟩) = (B i d : EReal)) (hb' : ∀ i d, View.ld (bV X) (rk 3) (ix2 i d) = (B i d : EReal)) (i' j' : Fin 256) :
    runC.sl.v225 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runC.sl.v225 runC.sl.HS2_4
  refine (congrFun (View.readCov_cons_toLoadRect _ _ _ _) _).trans ?_
  simp only [runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69]
  pointwise [k0_pay43]
  refine (st4_apply (L := runC.sl.HS1_1 X.x5 X.x6 X.x7) (w := bV X) (q := View.ld X.x0 (rk 3)) (b := View.ld (bV X) (rk 3)) (hL := rfl) (Q := Q) (K := K) (B := B) (hq := hq) (hb := hb') (hk := hk) (hw := hb) (n := 256) (hn := le_refl _) ..).trans ?_
  rw [if_pos j'.isLt]

/-- The attention the loops fill. -/
def attnC (c : Dev nD) (t : Fin cfg0.N) (X : Blk F) : Fin 4 → Vec F S1x256x256 .f32
  | 0 => runC.sl.v78 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 1 => runC.sl.v127 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 2 => runC.sl.v176 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 3 => runC.sl.v225 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7

theorem pcsC_out (c : Dev nD) (t : Fin cfg0.N) (X : Blk F) (hc : cond0_0 (grid0.coords t)) (hf : ¬fac X.x5 X.x6 X.x7) :
    (pcsC c t X hc hf).1 = outPieces X k0_pay27 (attnC c t X) := by
  unfold pcsC runC
  dsimp only
  simp only [runC.sl.HS0_4, runC.sl.HS0_3, runC.sl.HS0_2, runC.sl.HS0_1, runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69, C_v120, C_v169, C_v218, C_v71]
  rfl

theorem pcsC_st (c : Dev nD) (t : Fin cfg0.N) (X : Blk F) (hc : cond0_0 (grid0.coords t)) (hf : ¬fac X.x5 X.x6 X.x7) :
    (pcsC c t X hc hf).2 = stPieces X k0_pay27 ++ [⟨Rect.unit ![0, 0, 0] S4x512x256.size (by decide), k0_pay27⟩] := by
  unfold pcsC runC
  dsimp only
  simp only [runC.sl.HS0_4, runC.sl.HS0_3, runC.sl.HS0_2, runC.sl.HS0_1, runC.sl.r, runC.sl.r_1, runC.sl.r_10, runC.sl.r_11, runC.sl.r_12, runC.sl.r_13, runC.sl.r_14, runC.sl.r_15, runC.sl.r_16, runC.sl.r_17, runC.sl.r_2, runC.sl.r_3, runC.sl.r_4, runC.sl.r_5, runC.sl.r_6, runC.sl.r_7, runC.sl.r_8, runC.sl.r_9, runC.sl.v26, runC.sl.v27, runC.sl.v48, runC.sl.cst_13, C_v118, C_v167, C_v216, C_v264, C_v274, C_v284, C_v294, C_v69, C_v120, C_v169, C_v218, C_v71]
  rfl

end Cert.KernelIdeal.Gla
-- ==== Proof.Gla.CaseD.lean ====
module

public import proofs.«01_k».proof.Proof.Gla.Heads
public import proofs.«01_k».proof.Proof.Gla.Cols

@[expose] public section

set_option maxRecDepth 16384

noncomputable section

namespace Cert.KernelIdeal.Gla

open Cert.KernelIdeal.Gen
open Idealize.ShloMosaic

variable {F : FTy → Type} [FloatOps F]

theorem D_v118 (X : Blk F) (arg13 : Memref sig .tc .vmem S256x1024 .f32) : runD.sl.v118 arg13 X.x5 X.x6 X.x7 = View.ld (bV X) (rk 1) := by
  unfold runD.sl.v118 runD.sl.HS1_1
  exact ld_whole _ (by funext a; fin_cases a <;> rfl) _ _ _

theorem D_v167 (X : Blk F) (arg13 : Memref sig .tc .vmem S256x1024 .f32) : runD.sl.v167 arg13 X.x5 X.x6 X.x7 = View.ld (bV X) (rk 2) := by
  unfold runD.sl.v167 runD.sl.HS1_1
  exact ld_whole _ (by funext a; fin_cases a <;> rfl) _ _ _

theorem D_v216 (X : Blk F) (arg13 : Memref sig .tc .vmem S256x1024 .f32) : runD.sl.v216 arg13 X.x5 X.x6 X.x7 = View.ld (bV X) (rk 3) := by
  unfold runD.sl.v216 runD.sl.HS1_1
  exact ld_whole _ (by funext a; fin_cases a <;> rfl) _ _ _

theorem D_v264 (X : Blk F) (c : Dev nD) (arg13 : Memref sig .tc .vmem S256x1024 .f32) : runD.sl.v264 c arg13 X.x5 X.x6 X.x7 = View.ld (bV X) (rk 0) := by
  unfold runD.sl.v264 runD.sl.HS1_1
  exact ld_whole _ (by funext a; fin_cases a <;> rfl) _ _ _

theorem D_v274 (X : Blk F) (arg13 : Memref sig .tc .vmem S256x1024 .f32) : runD.sl.v274 arg13 X.x5 X.x6 X.x7 = View.ld (bV X) (rk 1) := by
  unfold runD.sl.v274 runD.sl.HS1_1
  exact ld_whole _ (by funext a; fin_cases a <;> rfl) _ _ _

theorem D_v284 (X : Blk F) (arg13 : Memref sig .tc .vmem S256x1024 .f32) : runD.sl.v284 arg13 X.x5 X.x6 X.x7 = View.ld (bV X) (rk 2) := by
  unfold runD.sl.v284 runD.sl.HS1_1
  exact ld_whole _ (by funext a; fin_cases a <;> rfl) _ _ _

theorem D_v294 (X : Blk F) (arg13 : Memref sig .tc .vmem S256x1024 .f32) : runD.sl.v294 arg13 X.x5 X.x6 X.x7 = View.ld (bV X) (rk 3) := by
  unfold runD.sl.v294 runD.sl.HS1_1
  exact ld_whole _ (by funext a; fin_cases a <;> rfl) _ _ _

theorem D_v69 (X : Blk F) (arg13 : Memref sig .tc .vmem S256x1024 .f32) : runD.sl.v69 arg13 X.x5 X.x6 X.x7 = View.ld (bV X) (rk 0) := by
  unfold runD.sl.v69 runD.sl.HS1_1
  exact ld_whole _ (by funext a; fin_cases a <;> rfl) _ _ _

theorem D_v78_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 0) (ix2 i d) = (Q i d : EReal)) (hk : ∀ (i d : Fin 256), X.x1 (ix2 i ⟨0 * 256 + d.val, by omega⟩) = (K i d : EReal))
    (hb : ∀ (i d : Fin 256), bV X (ix2 i ⟨0 * 256 + d.val, by omega⟩) = (B i d : EReal)) (hb' : ∀ i d, View.ld (bV X) (rk 0) (ix2 i d) = (B i d : EReal)) (i' j' : Fin 256) :
    runD.sl.v78 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runD.sl.v78 runD.sl.HS2_4
  rw [View.readCov_cons_of_disjoint _ _ _ _ (by exact Rect.unit_disjoint (inb := by decide) 0 (by decide))]
  rw [View.readCov_cons_of_disjoint _ _ _ _ (by exact Rect.unit_disjoint (inb := by decide) 0 (by decide))]
  rw [View.readCov_cons_of_disjoint _ _ _ _ (by exact Rect.unit_disjoint (inb := by decide) 0 (by decide))]
  refine (congrFun (View.readCov_cons_toLoadRect _ _ _ _) _).trans ?_
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  pointwise [k0_pay21]
  refine (st1_apply (L := runD.sl.HS1_1 X.x5 X.x6 X.x7) (w := bV X) (q := View.ld X.x0 (rk 0)) (b := View.ld (bV X) (rk 0)) (hL := rfl) (Q := Q) (K := K) (B := B) (hq := hq) (hb := hb') (hk := hk) (hw := hb) (n := 256) (hn := le_refl _) ..).trans ?_
  rw [if_pos j'.isLt]

theorem D_v127_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 1) (ix2 i d) = (Q i d : EReal)) (hk : ∀ (i d : Fin 256), X.x1 (ix2 i ⟨1 * 256 + d.val, by omega⟩) = (K i d : EReal))
    (hb : ∀ (i d : Fin 256), bV X (ix2 i ⟨1 * 256 + d.val, by omega⟩) = (B i d : EReal)) (hb' : ∀ i d, View.ld (bV X) (rk 1) (ix2 i d) = (B i d : EReal)) (i' j' : Fin 256) :
    runD.sl.v127 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runD.sl.v127 runD.sl.HS2_4
  rw [View.readCov_cons_of_disjoint _ _ _ _ (by exact Rect.unit_disjoint (inb := by decide) 0 (by decide))]
  rw [View.readCov_cons_of_disjoint _ _ _ _ (by exact Rect.unit_disjoint (inb := by decide) 0 (by decide))]
  refine (congrFun (View.readCov_cons_toLoadRect _ _ _ _) _).trans ?_
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  pointwise [k0_pay24]
  refine (st2_apply (L := runD.sl.HS1_1 X.x5 X.x6 X.x7) (w := bV X) (q := View.ld X.x0 (rk 1)) (b := View.ld (bV X) (rk 1)) (hL := rfl) (Q := Q) (K := K) (B := B) (hq := hq) (hb := hb') (hk := hk) (hw := hb) (n := 256) (hn := le_refl _) ..).trans ?_
  rw [if_pos j'.isLt]

theorem D_v176_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 2) (ix2 i d) = (Q i d : EReal)) (hk : ∀ (i d : Fin 256), X.x1 (ix2 i ⟨2 * 256 + d.val, by omega⟩) = (K i d : EReal))
    (hb : ∀ (i d : Fin 256), bV X (ix2 i ⟨2 * 256 + d.val, by omega⟩) = (B i d : EReal)) (hb' : ∀ i d, View.ld (bV X) (rk 2) (ix2 i d) = (B i d : EReal)) (i' j' : Fin 256) :
    runD.sl.v176 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runD.sl.v176 runD.sl.HS2_4
  rw [View.readCov_cons_of_disjoint _ _ _ _ (by exact Rect.unit_disjoint (inb := by decide) 0 (by decide))]
  refine (congrFun (View.readCov_cons_toLoadRect _ _ _ _) _).trans ?_
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  pointwise [k0_pay40]
  refine (st3_apply (L := runD.sl.HS1_1 X.x5 X.x6 X.x7) (w := bV X) (q := View.ld X.x0 (rk 2)) (b := View.ld (bV X) (rk 2)) (hL := rfl) (Q := Q) (K := K) (B := B) (hq := hq) (hb := hb') (hk := hk) (hw := hb) (n := 256) (hn := le_refl _) ..).trans ?_
  rw [if_pos j'.isLt]

theorem D_v225_apply (X : Blk Ideal) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x128 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x512 .f32) (harg10 : arg10.IsWhole) (arg11 : Memref sig .tc .vmem S256x2048 .f32) (harg11 : arg11.IsWhole) (arg12 : Memref sig .tc .vmem S4x512x256 .f32) (harg12 : arg12.IsWhole) (arg13 : Memref sig .tc .vmem S256x1024 .f32) (harg13 : arg13.IsWhole) (arg14 : Memref sig .tc .vmem S4x256x256 .f32) (harg14 : arg14.IsWhole) (Q K B : Fin 256 → Fin 256 → ℝ)
    (hq : ∀ i d, View.ld X.x0 (rk 3) (ix2 i d) = (Q i d : EReal)) (hk : ∀ (i d : Fin 256), X.x1 (ix2 i ⟨3 * 256 + d.val, by omega⟩) = (K i d : EReal))
    (hb : ∀ (i d : Fin 256), bV X (ix2 i ⟨3 * 256 + d.val, by omega⟩) = (B i d : EReal)) (hb' : ∀ i d, View.ld (bV X) (rk 3) (ix2 i d) = (B i d : EReal)) (i' j' : Fin 256) :
    runD.sl.v225 c i arg2 harg2 arg3 harg3 arg4 harg4 arg5 harg5 arg6 harg6 arg7 harg7 arg8 harg8 arg9 harg9 arg10 harg10 arg11 harg11 arg12 harg12 arg13 harg13 arg14 harg14 X.x0 X.x1 X.x5 X.x6 X.x7 (ix3 0 i' j') = ((AT Q K B i' j' : ℝ) : EReal) := by
  unfold runD.sl.v225 runD.sl.HS2_4
  refine (congrFun (View.readCov_cons_toLoadRect _ _ _ _) _).trans ?_
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  pointwise [k0_pay43]
  refine (st4_apply (L := runD.sl.HS1_1 X.x5 X.x6 X.x7) (w := bV X) (q := View.ld X.x0 (rk 3)) (b := View.ld (bV X) (rk 3)) (hL := rfl) (Q := Q) (K := K) (B := B) (hq := hq) (hb := hb') (hk := hk) (hw := hb) (n := 256) (hn := le_refl _) ..).trans ?_
  rw [if_pos j'.isLt]

/-- The attention the loops fill. -/
def attnD (c : Dev nD) (t : Fin cfg0.N) (X : Blk F) : Fin 4 → Vec F S1x256x256 .f32
  | 0 => runD.sl.v78 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 1 => runD.sl.v127 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 2 => runD.sl.v176 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7
  | 3 => runD.sl.v225 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) X.x0 X.x1 X.x5 X.x6 X.x7

theorem pcsD_out (c : Dev nD) (t : Fin cfg0.N) (X : Blk F) (xs : Vec F S4x512x256 .f32) (hc : ¬cond0_0 (grid0.coords t)) (hf : ¬fac X.x5 X.x6 X.x7) :
    (pcsD c t X xs hc hf).1 = outPieces X xs (attnD c t X) := by
  unfold pcsD runD
  dsimp only
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  rfl

theorem pcsD_st (c : Dev nD) (t : Fin cfg0.N) (X : Blk F) (xs : Vec F S4x512x256 .f32) (hc : ¬cond0_0 (grid0.coords t)) (hf : ¬fac X.x5 X.x6 X.x7) :
    (pcsD c t X xs hc hf).2 = stPieces X xs := by
  unfold pcsD runD
  dsimp only
  simp only [runD.sl.r, runD.sl.r_1, runD.sl.r_10, runD.sl.r_11, runD.sl.r_12, runD.sl.r_13, runD.sl.r_14, runD.sl.r_15, runD.sl.r_16, runD.sl.r_17, runD.sl.r_2, runD.sl.r_3, runD.sl.r_4, runD.sl.r_5, runD.sl.r_6, runD.sl.r_7, runD.sl.r_8, runD.sl.r_9, runD.sl.v26, runD.sl.v27, runD.sl.v48, runD.sl.cst_13, D_v118, D_v167, D_v216, D_v264, D_v274, D_v284, D_v294, D_v69]
  rfl

end Cert.KernelIdeal.Gla
-- ==== Proof.Gla.Chunk.lean ====
module

public import proofs.«01_k».proof.Proof.Gla.CaseA
public import proofs.«01_k».proof.Proof.Gla.CaseB
public import proofs.«01_k».proof.Proof.Gla.CaseC
public import proofs.«01_k».proof.Proof.Gla.CaseD

@[expose] public section

set_option maxRecDepth 16384

noncomputable section

/-! # One chunk over the reals

On blocks of reals both branches of the body give one formula: the output of each head from the chunk and the
state, and the state after it. -/

namespace Cert.KernelIdeal.Gla

open Cert.KernelIdeal.Gen
open Idealize.ShloMosaic

/-- Column `d` of head `h` among the keys' columns. -/
abbrev kc (h : Fin 4) (d : Fin 256) : Fin 1024 := ⟨h.val * 256 + d.val, by omega⟩
/-- Column `e` of head `h` among the values' columns. -/
abbrev vc (h : Fin 4) (e : Fin 512) : Fin 2048 := ⟨h.val * 512 + e.val, by omega⟩

/-! ## Loads of a head's part -/

theorem ld_rk {F : FTy → Type} {e} (x : S256x1024.Idx → Elt F e) (h : Fin 4) (i d : Fin 256) : View.ld x (rk h) (ix2 i d) = x (ix2 i (kc h d)) := by
  refine congrArg x (funext fun a => Fin.ext ?_)
  fin_cases a
  · show 0 + 1 * i.val = i.val; omega
  · show h.val * 256 + 1 * d.val = h.val * 256 + d.val; omega
theorem ld_rv {F : FTy → Type} {e'} (x : S256x2048.Idx → Elt F e') (h : Fin 4) (i : Fin 256) (e : Fin 512) : View.ld x (rv h) (ix2 i e) = x (ix2 i (vc h e)) := by
  refine congrArg x (funext fun a => Fin.ext ?_)
  fin_cases a
  · show 0 + 1 * i.val = i.val; omega
  · show h.val * 512 + 1 * e.val = h.val * 512 + e.val; omega
theorem ld_rs {F : FTy → Type} {e'} (x : S4x512x256.Idx → Elt F e') (h : Fin 4) (e : Fin 512) (d : Fin 256) : View.ld x (rs h) (ix3 0 e d) = x (ix3 h e d) := by
  refine congrArg x (funext fun a => Fin.ext ?_)
  fin_cases a
  · show h.val + 1 * 0 = h.val; omega
  · show 0 + 1 * e.val = e.val; omega
  · show 0 + 1 * d.val = d.val; omega

theorem emb_rv (h : Fin 4) (i : Fin 256) (e : Fin 512) : (rv h).emb (ix2 i e) = ix2 i (vc h e) := by
  funext a; refine Fin.ext ?_
  fin_cases a
  · show 0 + 1 * i.val = i.val; omega
  · show h.val * 512 + 1 * e.val = h.val * 512 + e.val; omega
theorem emb_rs (h : Fin 4) (e : Fin 512) (d : Fin 256) : (rs h).emb (ix3 0 e d) = ix3 h e d := by
  funext a; refine Fin.ext ?_
  fin_cases a
  · show h.val + 1 * 0 = h.val; omega
  · show 0 + 1 * e.val = e.val; omega
  · show 0 + 1 * d.val = d.val; omega

theorem rv_not_mem (g h : Fin 4) (hg : g ≠ h) (i : Fin 256) (e : Fin 512) : ix2 i (vc h e) ∉ (rv g).set := by
  rw [Rect.mem_set_unit]; intro H
  have h1 := H 1
  have e1 : ((ix2 i (vc h e)) 1 : Fin 2048).val = h.val * 512 + e.val := rfl
  have : g.val * 512 ≤ h.val * 512 + e.val ∧ h.val * 512 + e.val < g.val * 512 + 512 := h1
  have : g.val = h.val := by omega
  exact hg (Fin.ext this)
theorem rs_not_mem (g h : Fin 4) (hg : g ≠ h) (e : Fin 512) (d : Fin 256) : ix3 h e d ∉ (rs g).set := by
  rw [Rect.mem_set_unit]; intro H
  have h1 := H 0
  have : g.val ≤ h.val ∧ h.val < g.val + 1 := h1
  have : g.val = h.val := by omega
  exact hg (Fin.ext this)

/-- Under its first piece a list of pieces reads that piece. -/
theorem canon_head {s : Shape} {e : EltTy} (r : Rect s) (w : r.shape.Idx → Elt Ideal e) (L : List (View.Piece (Elt Ideal) s e)) (x : r.shape.Idx) (y : s.Idx) (h : r.emb x = y) :
    View.canon (⟨r, w⟩ :: L) y = w x := by
  subst h; exact View.canon_cons_emb _ _ _ _

/-- Off its first piece it reads the others. -/
theorem canon_skip {s : Shape} {e : EltTy} (r : Rect s) (w : r.shape.Idx → Elt Ideal e) (L : List (View.Piece (Elt Ideal) s e)) (y : s.Idx) (h : y ∉ r.set) :
    View.canon (⟨r, w⟩ :: L) y = View.canon L y := View.canon_cons_of_not_mem _ _ h

/-- What the output's pieces leave. -/
theorem canon_out (X : Blk Ideal) (S : Vec Ideal S4x512x256 .f32) (A : Fin 4 → Vec Ideal S1x256x256 .f32) (i : Fin 256) (e : Fin 512) : ∀ h : Fin 4,
    View.canon (Val := Elt Ideal) (outPieces X S A) (ix2 i (vc h e)) = outHead X S A h (ix2 i e)
  | 0 => (canon_skip (rv 3) _ _ _ (rv_not_mem 3 0 (by decide) i e)).trans <| (canon_skip (rv 2) _ _ _ (rv_not_mem 2 0 (by decide) i e)).trans <| (canon_skip (rv 1) _ _ _ (rv_not_mem 1 0 (by decide) i e)).trans <| canon_head (rv 0) _ _ (ix2 i e) _ (emb_rv 0 i e)
  | 1 => (canon_skip (rv 3) _ _ _ (rv_not_mem 3 1 (by decide) i e)).trans <| (canon_skip (rv 2) _ _ _ (rv_not_mem 2 1 (by decide) i e)).trans <| canon_head (rv 1) _ _ (ix2 i e) _ (emb_rv 1 i e)
  | 2 => (canon_skip (rv 3) _ _ _ (rv_not_mem 3 2 (by decide) i e)).trans <| canon_head (rv 2) _ _ (ix2 i e) _ (emb_rv 2 i e)
  | 3 => canon_head (rv 3) _ _ (ix2 i e) _ (emb_rv 3 i e)

/-- What the state's pieces leave. -/
theorem canon_st (X : Blk Ideal) (S : Vec Ideal S4x512x256 .f32) (L) (e : Fin 512) (d : Fin 256) : ∀ h : Fin 4,
    View.canon (Val := Elt Ideal) (stPieces X S ++ L) (ix3 h e d) = stHead X S h (ix3 0 e d)
  | 0 => (canon_skip (rs 3) _ _ _ (rs_not_mem 3 0 (by decide) e d)).trans <| (canon_skip (rs 2) _ _ _ (rs_not_mem 2 0 (by decide) e d)).trans <| (canon_skip (rs 1) _ _ _ (rs_not_mem 1 0 (by decide) e d)).trans <| canon_head (rs 0) _ _ (ix3 0 e d) _ (emb_rs 0 e d)
  | 1 => (canon_skip (rs 3) _ _ _ (rs_not_mem 3 1 (by decide) e d)).trans <| (canon_skip (rs 2) _ _ _ (rs_not_mem 2 1 (by decide) e d)).trans <| canon_head (rs 1) _ _ (ix3 0 e d) _ (emb_rs 1 e d)
  | 2 => (canon_skip (rs 3) _ _ _ (rs_not_mem 3 2 (by decide) e d)).trans <| canon_head (rs 2) _ _ (ix3 0 e d) _ (emb_rs 2 e d)
  | 3 => canon_head (rs 3) _ _ (ix3 0 e d) _ (emb_rs 3 e d)

/-! ## The chunk -/

/-- The blocks hold these reals: queries, keys, values, gates. -/
structure IsR (X : Blk Ideal) (Q K : Fin 256 → Fin 1024 → ℝ) (V : Fin 256 → Fin 2048 → ℝ) (G : Fin 256 → Fin 1024 → ℝ) : Prop where
  q : ∀ i d, X.x0 (ix2 i d) = (Q i d : EReal)
  k : ∀ i d, X.x1 (ix2 i d) = (K i d : EReal)
  v : ∀ i d, X.x4 (ix2 i d) = (V i d : EReal)
  g : ∀ i d, k0_pay28 (F := Ideal) X.x5 X.x6 X.x7 (ix2 i d) = (G i d : EReal)

/-- The running sums of the gates. -/
def Bc (G : Fin 256 → Fin 1024 → ℝ) (i : Fin 256) (c : Fin 1024) : ℝ := ∑ x : Fin 256, if x.val ≤ i.val then G x c else 0

/-- Head `h`'s columns. -/
abbrev hk (h : Fin 4) (Q : Fin 256 → Fin 1024 → ℝ) : Fin 256 → Fin 256 → ℝ := fun i d => Q i (kc h d)
abbrev hv (h : Fin 4) (V : Fin 256 → Fin 2048 → ℝ) : Fin 256 → Fin 512 → ℝ := fun i e => V i (vc h e)

variable {X : Blk Ideal} {Q K : Fin 256 → Fin 1024 → ℝ} {V : Fin 256 → Fin 2048 → ℝ} {G : Fin 256 → Fin 1024 → ℝ}

theorem bV_apply (H : IsR X Q K V G) (i : Fin 256) (c : Fin 1024) : bV X (ix2 i c) = ((Bc G i c : ℝ) : EReal) :=
  b_apply X.x5 X.x6 X.x7 G H.g i c

theorem outHead_apply (H : IsR X Q K V G) (S : Vec Ideal S4x512x256 .f32) (SS : Fin 4 → Fin 512 → Fin 256 → ℝ)
    (hS : ∀ h e d, S (ix3 h e d) = (SS h e d : EReal)) (A : Fin 4 → Vec Ideal S1x256x256 .f32)
    (hA : ∀ (h : Fin 4) (i j : Fin 256), A h (ix3 0 i j) = ((AT (hk h Q) (hk h K) (hk h (Bc G)) i j : ℝ) : EReal)) (h : Fin 4) (i : Fin 256) (e : Fin 512) :
    outHead X S A h (ix2 i e)
      = epi (fun e => ((OR (hk h Q) (hk h (Bc G)) (hv h V) (SS h) (AT (hk h Q) (hk h K) (hk h (Bc G))) i e : ℝ) : EReal))
          (X.x8 (ix2 0 e)) (X.x3 (ix2 i (vc h e))) (X.x2 (ix2 i (vc h e))) e := by
  unfold outHead
  rw [epi_apply, ld_rv, ld_rv]
  congr 1
  funext e
  exact o_apply _ _ _ _ _ (hk h Q) (hk h (Bc G)) (hv h V) (SS h) _ (fun i d => (ld_rk (F := Ideal) X.x0 h i d).trans (H.q _ _))
    (fun i d => (ld_rk (F := Ideal) _ h i d).trans (bV_apply H _ _)) (fun i d => (ld_rv (F := Ideal) X.x4 h i d).trans (H.v _ _)) (fun i d => (ld_rs (F := Ideal) S h i d).trans (hS _ _ _)) (hA h) i e

theorem stHead_apply (H : IsR X Q K V G) (S : Vec Ideal S4x512x256 .f32) (SS : Fin 4 → Fin 512 → Fin 256 → ℝ)
    (hS : ∀ h e d, S (ix3 h e d) = (SS h e d : EReal)) (h : Fin 4) (e : Fin 512) (d : Fin 256) :
    stHead X S h (ix3 0 e d) = ((SR (hk h K) (hk h (Bc G)) (hv h V) (SS h) e d : ℝ) : EReal) :=
  st_apply _ _ _ _ (hk h K) (hk h (Bc G)) (hv h V) (SS h) (fun i d => (ld_rk (F := Ideal) X.x1 h i d).trans (H.k _ _))
    (fun i d => (ld_rk (F := Ideal) _ h i d).trans (bV_apply H _ _)) (fun i d => (ld_rv (F := Ideal) X.x4 h i d).trans (H.v _ _)) (fun i d => (ld_rs (F := Ideal) S h i d).trans (hS _ _ _)) 0 e d

theorem attnF_real (H : IsR X Q K V G) (h : Fin 4) (i j : Fin 256) :
    attnF X h (ix3 0 i j) = ((AT (hk h Q) (hk h K) (hk h (Bc G)) i j : ℝ) : EReal) :=
  attnF_apply _ _ _ (hk h Q) (hk h K) (hk h (Bc G)) (fun i d => (ld_rk (F := Ideal) X.x0 h i d).trans (H.q _ _))
    (fun i d => (ld_rk (F := Ideal) X.x1 h i d).trans (H.k _ _)) (fun i d => (ld_rk (F := Ideal) _ h i d).trans (bV_apply H _ _)) 0 i j

theorem attnC_real (H : IsR X Q K V G) (c : Dev nD) (t : Fin cfg0.N) (h : Fin 4) (i j : Fin 256) :
    attnC c t X h (ix3 0 i j) = ((AT (hk h Q) (hk h K) (hk h (Bc G)) i j : ℝ) : EReal) := by
  fin_cases h
  · exact C_v78_apply _ (Q := hk 0 Q) (K := hk 0 K) (B := hk 0 (Bc G)) (hq := fun i d => (ld_rk (F := Ideal) X.x0 0 i d).trans (H.q _ _)) (hk := fun i d => H.k _ _) (hb := fun i d => bV_apply H _ _) (hb' := fun i d => (ld_rk (F := Ideal) _ 0 i d).trans (bV_apply H _ _)) ..
  · exact C_v127_apply _ (Q := hk 1 Q) (K := hk 1 K) (B := hk 1 (Bc G)) (hq := fun i d => (ld_rk (F := Ideal) X.x0 1 i d).trans (H.q _ _)) (hk := fun i d => H.k _ _) (hb := fun i d => bV_apply H _ _) (hb' := fun i d => (ld_rk (F := Ideal) _ 1 i d).trans (bV_apply H _ _)) ..
  · exact C_v176_apply _ (Q := hk 2 Q) (K := hk 2 K) (B := hk 2 (Bc G)) (hq := fun i d => (ld_rk (F := Ideal) X.x0 2 i d).trans (H.q _ _)) (hk := fun i d => H.k _ _) (hb := fun i d => bV_apply H _ _) (hb' := fun i d => (ld_rk (F := Ideal) _ 2 i d).trans (bV_apply H _ _)) ..
  · exact C_v225_apply _ (Q := hk 3 Q) (K := hk 3 K) (B := hk 3 (Bc G)) (hq := fun i d => (ld_rk (F := Ideal) X.x0 3 i d).trans (H.q _ _)) (hk := fun i d => H.k _ _) (hb := fun i d => bV_apply H _ _) (hb' := fun i d => (ld_rk (F := Ideal) _ 3 i d).trans (bV_apply H _ _)) ..

theorem attnD_real (H : IsR X Q K V G) (c : Dev nD) (t : Fin cfg0.N) (h : Fin 4) (i j : Fin 256) :
    attnD c t X h (ix3 0 i j) = ((AT (hk h Q) (hk h K) (hk h (Bc G)) i j : ℝ) : EReal) := by
  fin_cases h
  · exact D_v78_apply _ (Q := hk 0 Q) (K := hk 0 K) (B := hk 0 (Bc G)) (hq := fun i d => (ld_rk (F := Ideal) X.x0 0 i d).trans (H.q _ _)) (hk := fun i d => H.k _ _) (hb := fun i d => bV_apply H _ _) (hb' := fun i d => (ld_rk (F := Ideal) _ 0 i d).trans (bV_apply H _ _)) ..
  · exact D_v127_apply _ (Q := hk 1 Q) (K := hk 1 K) (B := hk 1 (Bc G)) (hq := fun i d => (ld_rk (F := Ideal) X.x0 1 i d).trans (H.q _ _)) (hk := fun i d => H.k _ _) (hb := fun i d => bV_apply H _ _) (hb' := fun i d => (ld_rk (F := Ideal) _ 1 i d).trans (bV_apply H _ _)) ..
  · exact D_v176_apply _ (Q := hk 2 Q) (K := hk 2 K) (B := hk 2 (Bc G)) (hq := fun i d => (ld_rk (F := Ideal) X.x0 2 i d).trans (H.q _ _)) (hk := fun i d => H.k _ _) (hb := fun i d => bV_apply H _ _) (hb' := fun i d => (ld_rk (F := Ideal) _ 2 i d).trans (bV_apply H _ _)) ..
  · exact D_v225_apply _ (Q := hk 3 Q) (K := hk 3 K) (B := hk 3 (Bc G)) (hq := fun i d => (ld_rk (F := Ideal) X.x0 3 i d).trans (H.q _ _)) (hk := fun i d => H.k _ _) (hb := fun i d => bV_apply H _ _) (hb' := fun i d => (ld_rk (F := Ideal) _ 3 i d).trans (bV_apply H _ _)) ..

theorem zero_state (h : Fin 4) (e : Fin 512) (d : Fin 256) : (k0_pay27 (F := Ideal)) (ix3 h e d) = ((0 : ℝ) : EReal) := by
  pointwise [k0_pay27]
  rfl

/-- The output block at one point. -/
theorem outAt_real (H : IsR X Q K V G) (c : Dev nD) (t : Fin cfg0.N) (xs : Vec Ideal S4x512x256 .f32) (SS : Fin 4 → Fin 512 → Fin 256 → ℝ)
    (h0 : cond0_0 (grid0.coords t) → SS = fun _ _ _ => 0) (h1 : ¬cond0_0 (grid0.coords t) → ∀ h e d, xs (ix3 h e d) = (SS h e d : EReal))
    (h : Fin 4) (i : Fin 256) (e : Fin 512) :
    outAt c t X xs (ix2 i (vc h e))
      = epi (fun e => ((OR (hk h Q) (hk h (Bc G)) (hv h V) (SS h) (AT (hk h Q) (hk h K) (hk h (Bc G))) i e : ℝ) : EReal))
          (X.x8 (ix2 0 e)) (X.x3 (ix2 i (vc h e))) (X.x2 (ix2 i (vc h e))) e := by
  unfold outAt
  by_cases hc : cond0_0 (grid0.coords t)
  · rw [dif_pos hc]
    have hS : ∀ h e d, (k0_pay27 (F := Ideal)) (ix3 h e d) = (SS h e d : EReal) := by intro h e d; rw [zero_state, h0 hc]
    by_cases hf : fac X.x5 X.x6 X.x7
    · rw [dif_pos hf, View.read_writes_junk_eq_canon, pcsA_out, canon_out, outHead_apply H _ SS hS _ (attnF_real H)]
    · rw [dif_neg hf, View.read_writes_junk_eq_canon, pcsC_out, canon_out, outHead_apply H _ SS hS _ (attnC_real H c t)]
  · rw [dif_neg hc]
    by_cases hf : fac X.x5 X.x6 X.x7
    · rw [dif_pos hf, View.read_writes_junk_eq_canon, pcsB_out, canon_out, outHead_apply H _ SS (h1 hc) _ (attnF_real H)]
    · rw [dif_neg hf, View.read_writes_junk_eq_canon, pcsD_out, canon_out, outHead_apply H _ SS (h1 hc) _ (attnD_real H c t)]

/-- The state after one point. -/
theorem stAt_real (H : IsR X Q K V G) (c : Dev nD) (t : Fin cfg0.N) (xs : Vec Ideal S4x512x256 .f32) (SS : Fin 4 → Fin 512 → Fin 256 → ℝ)
    (h0 : cond0_0 (grid0.coords t) → SS = fun _ _ _ => 0) (h1 : ¬cond0_0 (grid0.coords t) → ∀ h e d, xs (ix3 h e d) = (SS h e d : EReal))
    (h : Fin 4) (e : Fin 512) (d : Fin 256) :
    stAt c t X xs (ix3 h e d) = ((SR (hk h K) (hk h (Bc G)) (hv h V) (SS h) e d : ℝ) : EReal) := by
  unfold stAt
  by_cases hc : cond0_0 (grid0.coords t)
  · rw [dif_pos hc]
    have hS : ∀ h e d, (k0_pay27 (F := Ideal)) (ix3 h e d) = (SS h e d : EReal) := by intro h e d; rw [zero_state, h0 hc]
    by_cases hf : fac X.x5 X.x6 X.x7
    · rw [dif_pos hf, View.read_writes_junk_eq_canon, pcsA_st, canon_st, stHead_apply H _ SS hS]
    · rw [dif_neg hf, View.read_writes_junk_eq_canon, pcsC_st, canon_st, stHead_apply H _ SS hS]
  · rw [dif_neg hc]
    by_cases hf : fac X.x5 X.x6 X.x7
    · rw [dif_pos hf, View.read_writes_junk_eq_canon, pcsB_st, ← List.append_nil (stPieces X xs), canon_st, stHead_apply H _ SS (h1 hc)]
    · rw [dif_neg hf, View.read_writes_junk_eq_canon, pcsD_st, ← List.append_nil (stPieces X xs), canon_st, stHead_apply H _ SS (h1 hc)]

end Cert.KernelIdeal.Gla
-- ==== Proof.Gla.Blocks.lean ====
module

public import proofs.«01_k».proof.Proof.Gla.Frame
public import Idealize.ShloMosaic.Lib.Pipeline.Value
public import proofs.«01_k».proof.Proof.Gla.Vec

@[expose] public section

set_option maxRecDepth 16384

noncomputable section

/-! # The blocks of the arrays

Where each grid point's input blocks lie in the arguments, and the result array after the run. -/

namespace Cert.KernelIdeal.Gla

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The block indices -/

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 2) = t.val ∧ win0_1.index t (1 : Fin 2) = 1 := (by decide +kernel : ∀ t : Fin grid0.N, _)
theorem ix_2 : ∀ t : Fin cfg0.N, win0_2.index t (0 : Fin 2) = t.val ∧ win0_2.index t (1 : Fin 2) = 0 := (by decide +kernel : ∀ t : Fin grid0.N, _)
theorem ix_3 : ∀ t : Fin cfg0.N, win0_3.index t (0 : Fin 2) = t.val ∧ win0_3.index t (1 : Fin 2) = 0 := (by decide +kernel : ∀ t : Fin grid0.N, _)
theorem ix_4 : ∀ t : Fin cfg0.N, win0_4.index t (0 : Fin 2) = t.val ∧ win0_4.index t (1 : Fin 2) = 2 := (by decide +kernel : ∀ t : Fin grid0.N, _)
theorem ix_5 : ∀ t : Fin cfg0.N, win0_5.index t (0 : Fin 2) = t.val ∧ win0_5.index t (1 : Fin 2) = 0 := (by decide +kernel : ∀ t : Fin grid0.N, _)
theorem ix_9 : ∀ t : Fin cfg0.N, win0_9.index t (0 : Fin 2) = t.val ∧ win0_9.index t (1 : Fin 2) = 0 := (by decide +kernel : ∀ t : Fin grid0.N, _)

theorem lt32 (t : Fin cfg0.N) : t.val < 32 := lt_of_lt_of_eq t.isLt N_0

/-- Row `i` of point `t`'s blocks in the arguments. -/
abbrev prow (t : Fin cfg0.N) (i : Fin 256) : Fin 8192 := ⟨t.val * 256 + i.val, by have := lt32 t; omega⟩

/-! ## The input blocks -/

theorem x0_apply (c : Dev nD) (t : Fin cfg0.N) (i : Fin 256) (j : Fin 1024) :
    (blkAt m c t).x0 (ix2 i j) = (m ((c : Thread nD τ).loc main_arg0) : S8192x2048.Idx → Elt F _) (ix2 (prow t i) ⟨j.val, by omega⟩) := by
  show V m c main_arg0 (((cfg0.win 0).blk t).view.emb (ix2 i j)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 256 + 1 * i.val = t.val * 256 + i.val; omega
  | ⟨1, _⟩ => show win0_0.index t (1 : Fin 2) * 1024 + 1 * j.val = j.val; omega

theorem x1_apply (c : Dev nD) (t : Fin cfg0.N) (i : Fin 256) (j : Fin 1024) :
    (blkAt m c t).x1 (ix2 i j) = (m ((c : Thread nD τ).loc main_arg0) : S8192x2048.Idx → Elt F _) (ix2 (prow t i) ⟨1024 + j.val, by omega⟩) := by
  show V m c main_arg0 (((cfg0.win 1).blk t).view.emb (ix2 i j)) = _
  rw [V_main_arg0]
  refine congrArg (m ((c : Thread nD τ).loc main_arg0)) (funext fun a => Fin.ext ?_)
  obtain ⟨e0, e1⟩ := ix_1 t
  match a with
  | ⟨0, _⟩ => show win0_1.index t (0 : Fin 2) * 256 + 1 * i.val = t.val * 256 + i.val; omega
  | ⟨1, _⟩ => show win0_1.index t (1 : Fin 2) * 1024 + 1 * j.val = 1024 + j.val; omega

theorem x2_apply (c : Dev nD) (t : Fin cfg0.N) (i : Fin 256) (j : Fin 2048) :
    (blkAt m c t).x2 (ix2 i j) = (m ((c : Thread nD τ).loc main_arg1) : S8192x2048.Idx → Elt F _) (ix2 (prow t i) j) := by
  show V m c main_arg1 (((cfg0.win 2).blk t).view.emb (ix2 i j)) = _
  rw [V_main_arg1]
  refine congrArg (m ((c : Thread nD τ).loc main_arg1)) (funext fun a => Fin.ext ?_)
  obtain ⟨e0, e1⟩ := ix_2 t
  match a with
  | ⟨0, _⟩ => show win0_2.index t (0 : Fin 2) * 256 + 1 * i.val = t.val * 256 + i.val; omega
  | ⟨1, _⟩ => show win0_2.index t (1 : Fin 2) * 2048 + 1 * j.val = j.val; omega

theorem x3_apply (c : Dev nD) (t : Fin cfg0.N) (i : Fin 256) (j : Fin 2048) :
    (blkAt m c t).x3 (ix2 i j) = (m ((c : Thread nD τ).loc main_arg2) : S8192x4096.Idx → Elt F _) (ix2 (prow t i) ⟨j.val, by omega⟩) := by
  show V m c main_arg2 (((cfg0.win 3).blk t).view.emb (ix2 i j)) = _
  rw [V_main_arg2]
  refine congrArg (m ((c : Thread nD τ).loc main_arg2)) (funext fun a => Fin.ext ?_)
  obtain ⟨e0, e1⟩ := ix_3 t
  match a with
  | ⟨0, _⟩ => show win0_3.index t (0 : Fin 2) * 256 + 1 * i.val = t.val * 256 + i.val; omega
  | ⟨1, _⟩ => show win0_3.index t (1 : Fin 2) * 2048 + 1 * j.val = j.val; omega

theorem x4_apply (c : Dev nD) (t : Fin cfg0.N) (i : Fin 256) (j : Fin 2048) :
    (blkAt m c t).x4 (ix2 i j) = (m ((c : Thread nD τ).loc main_arg3) : S8192x7168.Idx → Elt F _) (ix2 (prow t i) ⟨4096 + j.val, by omega⟩) := by
  show X0_4 m c t (ix2 i j) = _
  unfold X0_4 Pipeline.Window.fill
  rw [dif_pos (moved0_4 t (ix2 i j))]
  unfold iblk
  show V m c main_arg3 (((cfg0.win 4).blk t).view.emb _) = _
  rw [V_main_arg3]
  refine congrArg (m ((c : Thread nD τ).loc main_arg3)) (funext fun a => Fin.ext ?_)
  obtain ⟨e0, e1⟩ := ix_4 t
  match a with
  | ⟨0, _⟩ => show win0_4.index t (0 : Fin 2) * 256 + 1 * i.val = t.val * 256 + i.val; omega
  | ⟨1, _⟩ => show win0_4.index t (1 : Fin 2) * 2048 + 1 * j.val = 4096 + j.val; omega

theorem x5_apply (c : Dev nD) (t : Fin cfg0.N) (i : Fin 256) (j : Fin 128) :
    (blkAt m c t).x5 (ix2 i j) = (m ((c : Thread nD τ).loc main_arg4) : S8192x128.Idx → Elt F _) (ix2 (prow t i) j) := by
  show V m c main_arg4 (((cfg0.win 5).blk t).view.emb (ix2 i j)) = _
  rw [V_main_arg4]
  refine congrArg (m ((c : Thread nD τ).loc main_arg4)) (funext fun a => Fin.ext ?_)
  obtain ⟨e0, e1⟩ := ix_5 t
  match a with
  | ⟨0, _⟩ => show win0_5.index t (0 : Fin 2) * 256 + 1 * i.val = t.val * 256 + i.val; omega
  | ⟨1, _⟩ => show win0_5.index t (1 : Fin 2) * 128 + 1 * j.val = j.val; omega

theorem x6_apply (c : Dev nD) (t : Fin cfg0.N) (i : Fin 128) (j : Fin 1024) :
    (blkAt m c t).x6 (ix2 i j) = (V m c main_v3 : S128x1024.Idx → Elt F _) (ix2 i j) := by
  show V m c main_v3 (((cfg0.win 6).blk t).view.emb (ix2 i j)) = _
  refine congrArg (V m c main_v3) (funext fun a => Fin.ext ?_)
  match a with
  | ⟨0, _⟩ => show 0 * 128 + 1 * i.val = i.val; omega
  | ⟨1, _⟩ => show 0 * 1024 + 1 * j.val = j.val; omega

theorem x7_apply (c : Dev nD) (t : Fin cfg0.N) (i : Fin 1) (j : Fin 1024) :
    (blkAt m c t).x7 (ix2 i j) = (V m c main_v4 : S1x1024.Idx → Elt F _) (ix2 i j) := by
  show V m c main_v4 (((cfg0.win 7).blk t).view.emb (ix2 i j)) = _
  refine congrArg (V m c main_v4) (funext fun a => Fin.ext ?_)
  match a with
  | ⟨0, _⟩ => show 0 * 1 + 1 * i.val = i.val; omega
  | ⟨1, _⟩ => show 0 * 1024 + 1 * j.val = j.val; omega

theorem x8_apply (c : Dev nD) (t : Fin cfg0.N) (i : Fin 1) (j : Fin 512) :
    (blkAt m c t).x8 (ix2 i j) = (V m c main_v5 : S1x512.Idx → Elt F _) (ix2 i j) := by
  show V m c main_v5 (((cfg0.win 8).blk t).view.emb (ix2 i j)) = _
  refine congrArg (V m c main_v5) (funext fun a => Fin.ext ?_)
  match a with
  | ⟨0, _⟩ => show 0 * 1 + 1 * i.val = i.val; omega
  | ⟨1, _⟩ => show 0 * 512 + 1 * j.val = j.val; omega

/-! ## The result array -/

/-- The result array: block `t` is what point `t` leaves in its output block. -/
def res (c : Dev nD) : Buf (Elt F) ((c : Thread nD τ).loc main_v6) := fun i =>
  outN m c ⟨(i 0).val / 256, lt_of_lt_of_eq (Nat.div_lt_of_lt_mul (show (i 0).val < 256 * 32 from (i 0).isLt)) N_0.symm⟩
    (ix2 ⟨(i 0).val % 256, Nat.mod_lt _ (by decide)⟩ ⟨(i 1).val, (i 1).isLt⟩)

theorem outN_congr (c : Dev nD) (t t' : Fin cfg0.N) (i i' : S256x2048.Idx) (ht : t = t') (hi : i = i') : outN m c t i = outN m c t' i' := by
  subst ht hi; rfl

/-- What a point writes back is its block of `res`. -/
theorem flushed_res (c : Dev nD) (t : Fin cfg0.N) :
    (dats m 0 c).flushed 9 t = ((cfg0.win 9).blk t).view.read (Elt F) (res m c) := by
  show (cfg0.win 9).cut (grid0.coords t) ((dats m 0 c).after 9 t) = _
  rw [after0_9]
  obtain ⟨e0, e1⟩ := ix_9 t
  funext y
  have hy0 : (y 0).val < 256 := (y 0).isLt
  have hy1 : (y 1).val < 2048 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 2048 + 1 * (y 1).val := rfl
  show outN m c t ((cfg0.win 9).xinj (grid0.coords t) y) = res m c (((cfg0.win 9).blk t).view.emb y)
  refine outN_congr m c _ _ _ _ (Fin.ext ?_) (funext fun a => Fin.ext ?_)
  · show t.val = (((cfg0.win 9).blk t).view.emb y 0).val / 256
    rw [hb0, e0]; omega
  · match a with
    | ⟨0, _⟩ => show (y 0).val = (((cfg0.win 9).blk t).view.emb y 0).val % 256; rw [hb0]; omega
    | ⟨1, _⟩ => show (y 1).val = (((cfg0.win 9).blk t).view.emb y 1).val; rw [hb1]; omega

/-- An index is in point `t`'s block iff each coordinate is in the block's range on its axis. -/
theorem mem_blk (t : Fin cfg0.N) (i : S8192x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v6).slice (win0_9.rect t)).set ↔ _
  rw [View.set_slice_whole, Rect.mem_set_unit]
  exact Iff.rfl

theorem flush_all : ∀ t : Fin cfg0.N, (cfg0.win 9).flush t = true := (by decide +kernel : ∀ t : Fin grid0.N, win0_9.flush t = true)

/-- The result array after the run. -/
theorem final_res (c : Dev nD) : (dats m 0 c).arrAt 9 cfg0.N = res m c :=
  (dats m 0 c).arrAt_eq_of_cover 9 _ (fun t _ => flushed_res m c t) (fun i => by
    have h0 : (i 0).val < 8192 := (i 0).isLt
    have h1 : (i 1).val < 2048 := (i 1).isLt
    refine ⟨⟨(i 0).val / 256, lt_of_lt_of_eq (by omega) N_0.symm⟩, flush_all _, (mem_blk _ i).mpr fun a => ?_⟩
    obtain ⟨e0, e1⟩ := ix_9 ⟨(i 0).val / 256, lt_of_lt_of_eq (by omega) N_0.symm⟩
    match a with
    | ⟨0, _⟩ =>
      show win0_9.index _ (0 : Fin 2) * 256 ≤ (i 0).val ∧ (i 0).val < win0_9.index _ (0 : Fin 2) * 256 + 256
      rw [e0]; dsimp only; omega
    | ⟨1, _⟩ =>
      show win0_9.index _ (1 : Fin 2) * 2048 ≤ (i 1).val ∧ (i 1).val < win0_9.index _ (1 : Fin 2) * 2048 + 2048
      rw [e1]; omega)

/-- The run: the result array ends at `res`, the arguments as launched. -/
theorem run : θ_run defs (onTc (τ := τ) (main (F := F))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 9).trans (final_res m c), h.2 c⟩)
    (θ_run_and (run_main m ρ) (unchanged m ρ))

end Cert.KernelIdeal.Gla

end
-- ==== Proof.Gla.Pad.lean ====
module

public import proofs.«01_k».proof.Proof.Gla.Blocks
public import Idealize.ShloMosaic.Lib.StableHlo.RunRead
public import Idealize.ShloMosaic.Lib.Claim
public import Idealize.ShloMosaic.Lib.Routing.OpsSet
public import Idealize.ShloMosaic.Lib.Routing.OpsPair

@[expose] public section

set_option maxRecDepth 16384

noncomputable section

/-! # The arguments the host prepares

The gate's weights set into rows 80..95 of a zero matrix, and the two reshaped vectors. -/

namespace Cert.KernelIdeal.Gla

open Cert.KernelIdeal Cert.KernelIdeal.Gen Idealize.ShloMosaic Idealize.ShloMosaic.TcCoe
open Idealize.ShloMosaic.Routing

abbrev dS : ScatterDims S128x1024 S1 S16x1024 := scatter_S128x1024_S1_S16x1024_01_n_0_0

/-- Update `(a, b)` lands at `(80 + a, b)`. -/
theorem lands (idx : IVec S1 32) (hi : ∀ k, idx k = 80#32) (a : Fin 16) (b : Fin 1024) (r : Fin 128) (c : Fin 1024) :
    dS.resultIdx? (ix2 a b) idx = some (ix2 r c) ↔ 80 + a.val = r.val ∧ b = c := by
  have hs0 : dS.start (ix2 a b) idx 0 = 80 := by
    unfold ScatterDims.start
    rw [dif_pos (by decide), hi]; rfl
  have hs1 : dS.start (ix2 a b) idx 1 = 0 := by
    unfold ScatterDims.start
    rw [dif_neg (by decide)]
  have hw0 : dS.window (ix2 a b) 0 = a.val := rfl
  have hw1 : dS.window (ix2 a b) 1 = b.val := rfl
  rw [Fin.ext_iff]
  refine (resultIdx?_ix2 (R := 128) (C := 1024) dS (ix2 a b) idx r c).trans ?_
  rw [hs0, hs1, hw0, hw1]
  omega

/-- The scatter read at an entry. -/
theorem scatter_apply {α : Type} (x0 : S128x1024.Idx → α) (idx : IVec S1 32) (hi : ∀ k, idx k = 80#32) (u : S16x1024.Idx → α)
    (r : Fin 128) (c : Fin 1024) :
    Host.scatter dS (fun _ b => b) x0 idx u (ix2 r c)
      = if h : 80 ≤ r.val ∧ r.val < 96 then u (ix2 ⟨r.val - 80, by omega⟩ c) else x0 (ix2 r c) := by
  have key : ∀ k : S16x1024.Idx, dS.resultIdx? k idx = some (ix2 r c) → 80 + (k 0).val = r.val ∧ k 1 = c := fun k hk =>
    (lands idx hi (k 0) (k 1) r c).1 ((congrArg (fun t => dS.resultIdx? t idx) (eq_ix2 k).symm).trans hk)
  by_cases h : 80 ≤ r.val ∧ r.val < 96
  · rw [dif_pos h]
    refine scatter_set_hit dS x0 idx u _ _ (fun k hk => ?_) (ix2 ⟨r.val - 80, by omega⟩ c) ?_
    · obtain ⟨h1, h2⟩ := key k hk
      refine (congrArg u (eq_ix2 k)).trans ?_
      rw [h2, show k 0 = (⟨r.val - 80, by omega⟩ : Fin 16) from Fin.ext (by dsimp only; omega)]
    · exact (lands idx hi _ _ r c).2 ⟨by dsimp only; omega, rfl⟩
  · rw [dif_neg h]
    refine scatter_set_miss dS x0 idx u _ fun k hk => ?_
    obtain ⟨h1, h2⟩ := key k hk
    have h3 : (k 0).val < 16 := (k 0).isLt
    omega

variable (m : (ℓ : Loc nD τ sig) → Buf (Elt Ideal) ℓ)

/-- The weights as launched. -/
abbrev e5 (c : Dev nD) : S16x1024.Idx → EReal := m ((c : Thread nD τ).loc main_arg5)

theorem v3_eq {F : FTy → Type} [FloatOps F] (m : (ℓ : Loc nD τ sig) → Buf (Elt F) ℓ) (c : Dev nD) :
    (V m c main_v3 : S128x1024.Idx → Elt F .bf16)
      = truncf .bf16 (Host.scatter dS (fun _ b => b) (broadcastInDim S128x1024 ![] bcast_S_S128x1024 (constant (F := F) S_ .f32 0x00000000#32) : S128x1024.Idx → Elt F .f32)
          (broadcastInDim S1 ![] bcast_S_S1 (constantI S_ 32 80#32)) (m ((c : Thread nD τ).loc main_arg5) : S16x1024.Idx → Elt F .f32)) bitsLt_bf16_f32 := by
  unfold_abbrev_sides
  after_results

/-- The padded weights. -/
theorem w_apply (c : Dev nD) (r : Fin 128) (j : Fin 1024) :
    (V m c main_v3 : S128x1024.Idx → EReal) (ix2 r j)
      = (if h : 80 ≤ r.val ∧ r.val < 96 then e5 m c (ix2 ⟨r.val - 80, by omega⟩ j) else 0 : EReal) := by
  refine (congrFun (v3_eq m c) (ix2 r j)).trans ?_
  refine Eq.trans (b := Host.scatter dS (fun _ b => b) (broadcastInDim S128x1024 ![] bcast_S_S128x1024 (constant (F := Ideal) S_ .f32 0x00000000#32) : S128x1024.Idx → EReal)
          (broadcastInDim S1 ![] bcast_S_S1 (constantI S_ 32 80#32)) (e5 m c) (ix2 r j)) ?_ ?_
  · generalize Host.scatter dS (fun _ b => b) _ _ _ = X
    rfl
  refine (scatter_apply _ _ (fun k => rfl) (e5 m c) r j).trans ?_
  refine dite_congr rfl (fun _ => rfl) fun _ => ?_
  exact Ideal.ofBits_zero_f32

theorem b_row (c : Dev nD) (j : Fin 1024) :
    (V m c main_v4 : S1x1024.Idx → EReal) (ix2 0 j) = (m ((c : Thread nD τ).loc main_arg6) : S1024.Idx → EReal) (ix1 j) := by
  refine Eq.trans (b := shapeCast S1x1024 (m ((c : Thread nD τ).loc main_arg6) : S1024.Idx → EReal) shapeCasts_S1024_S1x1024 (ix2 0 j)) rfl ?_
  pointwise []

theorem n_row (c : Dev nD) (j : Fin 512) :
    (V m c main_v5 : S1x512.Idx → EReal) (ix2 0 j) = (m ((c : Thread nD τ).loc main_arg7) : S512.Idx → EReal) (ix1 j) := by
  refine Eq.trans (b := shapeCast S1x512 (m ((c : Thread nD τ).loc main_arg7) : S512.Idx → EReal) shapeCasts_S512_S1x512 (ix2 0 j)) rfl ?_
  pointwise []

end Cert.KernelIdeal.Gla

end
-- ==== Proof.Gla.Math.lean ====
module

public import Mathlib.Analysis.SpecialFunctions.Exp
public import Mathlib.Algebra.BigOperators.Fin
public import Mathlib.Algebra.BigOperators.Intervals
public import Mathlib.Tactic.Ring

@[expose] public section

noncomputable section

/-! # The recurrence over the reals

One head of one batch entry: rows `q`, `k`, `v` and gates `g` by position. The closed form of the state and of the
output, and the step by a chunk of any length from any position. -/

namespace Cert.GlaMath

open Finset

variable {D E : Type} [Fintype D]

/-- The gates summed before position `n`. -/
def P (g : ℕ → D → ℝ) (n : ℕ) (d : D) : ℝ := ∑ m ∈ range n, g m d

/-- The state before position `n`. -/
def St (k : ℕ → D → ℝ) (v : ℕ → E → ℝ) (g : ℕ → D → ℝ) (n : ℕ) (e : E) (d : D) : ℝ :=
  ∑ j ∈ range n, v j e * k j d * Real.exp (P g n d - P g (j + 1) d)

/-- The attention of position `s` to position `j`. -/
def Att (q k g : ℕ → D → ℝ) (s j : ℕ) : ℝ := ∑ d, q s d * (1 / 16) * k j d * Real.exp (P g (s + 1) d - P g (j + 1) d)

/-- The output at position `s`. -/
def Ot (q k : ℕ → D → ℝ) (v : ℕ → E → ℝ) (g : ℕ → D → ℝ) (s : ℕ) (e : E) : ℝ :=
  ∑ j ∈ range (s + 1), Att q k g s j * v j e

theorem St_zero (k : ℕ → D → ℝ) (v : ℕ → E → ℝ) (g : ℕ → D → ℝ) (e : E) (d : D) : St k v g 0 e d = 0 := by
  simp [St]

/-- The running sum inside a chunk that starts at `n`. -/
theorem P_chunk (g : ℕ → D → ℝ) (n C : ℕ) (i : Fin C) (d : D) :
    (∑ x : Fin C, if x.val ≤ i.val then g (n + x.val) d else 0) = P g (n + i.val + 1) d - P g n d := by
  have h : P g (n + i.val + 1) d = P g n d + ∑ x ∈ range (i.val + 1), g (n + x) d := by
    rw [P, add_assoc, sum_range_add]; rfl
  rw [h, add_sub_cancel_left, ← Finset.sum_range (fun x => if x ≤ i.val then g (n + x) d else 0), ← Finset.sum_filter]
  refine Finset.sum_congr (Finset.ext fun x => ?_) fun _ _ => rfl
  simp only [mem_filter, mem_range]; omega

/-- The state after a chunk of length `C` from `n`. -/
theorem St_step (k : ℕ → D → ℝ) (v : ℕ → E → ℝ) (g : ℕ → D → ℝ) (n C : ℕ) (e : E) (d : D) :
    Real.exp (P g (n + C) d - P g n d) * St k v g n e d
      + ∑ x : Fin C, v (n + x.val) e * (k (n + x.val) d * Real.exp ((P g (n + C) d - P g n d) - (P g (n + x.val + 1) d - P g n d)))
      = St k v g (n + C) e d := by
  rw [St, St, sum_range_add, mul_sum, Finset.sum_range (fun x => v (n + x) e * k (n + x) d * _)]
  congr 1
  · refine sum_congr rfl fun j _ => ?_
    rw [show P g (n + C) d - P g (j + 1) d = (P g (n + C) d - P g n d) + (P g n d - P g (j + 1) d) by ring, Real.exp_add]; ring
  · refine sum_congr rfl fun j _ => ?_
    rw [show (P g (n + C) d - P g n d) - (P g (n + j.val + 1) d - P g n d) = P g (n + C) d - P g (n + j.val + 1) d by ring]; ring

/-- The output at position `n + i` of a chunk of length `C` from `n`. -/
theorem Ot_step (q k : ℕ → D → ℝ) (v : ℕ → E → ℝ) (g : ℕ → D → ℝ) (n C : ℕ) (i : Fin C) (e : E) :
    (∑ d, q (n + i.val) d * (1 / 16) * Real.exp (P g (n + i.val + 1) d - P g n d) * St k v g n e d)
      + ∑ x : Fin C, (if x.val ≤ i.val then ∑ d, q (n + i.val) d * (1 / 16) * k (n + x.val) d
          * Real.exp ((P g (n + i.val + 1) d - P g n d) - (P g (n + x.val + 1) d - P g n d)) else 0) * v (n + x.val) e
      = Ot q k v g (n + i.val) e := by
  rw [Ot, show n + i.val + 1 = n + (i.val + 1) from rfl, sum_range_add]
  simp only [← add_assoc]
  congr 1
  · simp only [St, mul_sum, Att, sum_mul]
    rw [sum_comm]
    refine sum_congr rfl fun j _ => sum_congr rfl fun d _ => ?_
    rw [show P g (n + i.val + 1) d - P g (j + 1) d = (P g (n + i.val + 1) d - P g n d) + (P g n d - P g (j + 1) d) by ring, Real.exp_add]
    ring
  · rw [← Finset.sum_range (fun x => (if x ≤ i.val then ∑ d, q (n + i.val) d * (1 / 16) * k (n + x) d
          * Real.exp ((P g (n + i.val + 1) d - P g n d) - (P g (n + x + 1) d - P g n d)) else 0) * v (n + x) e)]
    simp only [ite_mul, zero_mul]
    rw [← Finset.sum_filter]
    refine Finset.sum_congr (Finset.ext fun x => ?_) fun x _ => ?_
    · simp only [mem_filter, mem_range]; omega
    · rw [Att]
      congr 1
      refine sum_congr rfl fun d _ => ?_
      congr 1; ring_nf

end Cert.GlaMath
-- ==== Proof.Gla.Args.lean ====
module

public import proofs.«01_k».proof.Proof.Gla.Vec
public import proofs.«01_k».proof.Proof.Gla.Math

@[expose] public section

noncomputable section

/-! # The arguments as reals

Where each head's rows lie in the arguments, and the output both programs compute of them. -/

namespace Cert.GlaMath

open Idealize.ShloMosaic
open Cert.KernelIdeal.Gla (gate epi)

/-- The row of position `s` of batch entry `b`. -/
def row (b : Fin 2) (s : ℕ) : Fin 8192 := ⟨(b.val * 4096 + s) % 8192, Nat.mod_lt _ (by norm_num)⟩

theorem row_of_lt (b : Fin 2) (s : ℕ) (hs : s < 4096) (r : Fin 8192) (hr : r.val = b.val * 4096 + s) : row b s = r := by
  have := b.isLt
  apply Fin.ext; rw [row, hr]; exact Nat.mod_eq_of_lt (by omega)

/-- The arguments that enter the recurrence, as reals: `z_qk`, `z_b`, `misc`, `w_gate_up`, `b_gate`. -/
structure Args where
  Z : Fin 8192 → Fin 2048 → ℝ
  W : Fin 8192 → Fin 2048 → ℝ
  M : Fin 8192 → Fin 16 → ℝ
  U : Fin 16 → Fin 1024 → ℝ
  C : Fin 1024 → ℝ

namespace Args
variable (A : Args)
def q (b : Fin 2) (h : Fin 4) (s : ℕ) (d : Fin 256) : ℝ := A.Z (row b s) ⟨h.val * 256 + d.val, by omega⟩
def k (b : Fin 2) (h : Fin 4) (s : ℕ) (d : Fin 256) : ℝ := A.Z (row b s) ⟨1024 + (h.val * 256 + d.val), by omega⟩
def v (b : Fin 2) (h : Fin 4) (s : ℕ) (e : Fin 512) : ℝ := A.W (row b s) ⟨h.val * 512 + e.val, by omega⟩
/-- The gate's argument at row `r`, column `j`. -/
def x (r : Fin 8192) (j : Fin 1024) : ℝ := (∑ l, A.M r l * A.U l j) + A.C j
def g (b : Fin 2) (h : Fin 4) (s : ℕ) (d : Fin 256) : ℝ := gate (A.x (row b s) ⟨h.val * 256 + d.val, by omega⟩)

/-- The recurrence's output at position `s`, channel `e` of head `h`. -/
def out (b : Fin 2) (h : Fin 4) (s : ℕ) (e : Fin 512) : ℝ := Ot (A.q b h) (A.k b h) (A.v b h) (A.g b h) s e

/-- The result at row `p`, column `j`: the recurrence's output normalised over its head, scaled, and gated. -/
def fin (gg r : Fin 8192 → Fin 2048 → EReal) (gn : Fin 512 → EReal) (p : Fin 8192) (j : Fin 2048) : EReal :=
  epi (fun e => (A.out ⟨p.val / 4096, by omega⟩ ⟨j.val / 512, by omega⟩ (p.val % 4096) e : EReal))
    (gn ⟨j.val % 512, by omega⟩) (gg p j) (r p j) ⟨j.val % 512, by omega⟩
end Args

end Cert.GlaMath
-- ==== Proof.Gla.Final.lean ====
module

public import proofs.«01_k».proof.Proof.Gla.Chunk
public import proofs.«01_k».proof.Proof.Gla.Pad
public import proofs.«01_k».proof.Proof.Gla.Args

@[expose] public section

set_option maxRecDepth 16384

noncomputable section

/-! # The kernel's result as the recurrence

Chunk after chunk, the carried state is the recurrence's state and the output block its output. -/

namespace Cert.KernelIdeal.Gla

open Cert.KernelIdeal Cert.KernelIdeal.Gen Idealize.ShloMosaic Idealize.ShloMosaic.TcCoe
open Cert.GlaMath

variable (m : (ℓ : Loc nD τ sig) → Buf (Elt Ideal) ℓ) (c : Dev nD)

abbrev e0 : S8192x2048.Idx → EReal := m ((c : Thread nD τ).loc main_arg0)
abbrev e1 : S8192x2048.Idx → EReal := m ((c : Thread nD τ).loc main_arg1)
abbrev e2 : S8192x4096.Idx → EReal := m ((c : Thread nD τ).loc main_arg2)
abbrev e3 : S8192x7168.Idx → EReal := m ((c : Thread nD τ).loc main_arg3)
abbrev e4 : S8192x128.Idx → EReal := m ((c : Thread nD τ).loc main_arg4)
abbrev e6 : S1024.Idx → EReal := m ((c : Thread nD τ).loc main_arg6)
abbrev e7 : S512.Idx → EReal := m ((c : Thread nD τ).loc main_arg7)

/-- The arguments are the reals of `A`. -/
structure IsArgs (A : Args) : Prop where
  hZ : ∀ r j, e0 m c (ix2 r j) = (A.Z r j : EReal)
  hW : ∀ r (j : Fin 2048), e3 m c (ix2 r ⟨4096 + j.val, by omega⟩) = (A.W r j : EReal)
  hM : ∀ r (l : Fin 16), e4 m c (ix2 r ⟨80 + l.val, by omega⟩) = (A.M r l : EReal)
  hU : ∀ l j, e5 m c (ix2 l j) = (A.U l j : EReal)
  hC : ∀ j, e6 m c (ix1 j) = (A.C j : EReal)

variable {m c} {A : Args}

/-- The pre-activation of the gate: the padded rows contribute nothing. -/
theorem pre_real (H : IsArgs m c A) (t : Fin cfg0.N) (i : Fin 256) (j : Fin 1024) :
    ∑ l : Fin 128, (blkAt m c t).x5 (ix2 i l) * (blkAt m c t).x6 (ix2 l j) + (blkAt m c t).x7 (ix2 0 j) = (A.x (prow t i) j : EReal) := by
  have h7 : (blkAt m c t).x7 (ix2 0 j) = (A.C j : EReal) := (x7_apply m c t 0 j).trans ((b_row m c j).trans (H.hC j))
  have hs : ∑ l : Fin 128, (blkAt m c t).x5 (ix2 i l) * (blkAt m c t).x6 (ix2 l j) = ((∑ l, A.M (prow t i) l * A.U l j : ℝ) : EReal) := by
    rw [← coe_sum]
    symm
    refine Fintype.sum_of_injective (fun l : Fin 16 => (⟨80 + l.val, by omega⟩ : Fin 128)) (fun a b h => ?_) _ _ (fun l hl => ?_) (fun l => ?_)
    · have := congrArg Fin.val h; dsimp only at this; exact Fin.ext (by omega)
    · have hn : ¬(80 ≤ l.val ∧ l.val < 96) := fun h => hl ⟨⟨l.val - 80, by omega⟩, Fin.ext (by dsimp only; omega)⟩
      have h6 : (blkAt m c t).x6 (ix2 l j) = (0 : EReal) := (x6_apply m c t l j).trans ((w_apply m c l j).trans (dif_neg hn))
      rw [h6, mul_zero]
    · have h5 : (blkAt m c t).x5 (ix2 i ⟨80 + l.val, by omega⟩) = (A.M (prow t i) l : EReal) := (x5_apply m c t i _).trans (H.hM _ l)
      have h6 : (blkAt m c t).x6 (ix2 ⟨80 + l.val, by omega⟩ j) = (A.U l j : EReal) := by
        refine (x6_apply m c t _ j).trans ((w_apply m c _ j).trans ((dif_pos ⟨by dsimp only; omega, by dsimp only; omega⟩).trans ?_))
        refine Eq.trans (congrArg (fun k => e5 m c (ix2 k j)) (Fin.ext ?_)) (H.hU l j)
        dsimp only; omega
      show _ = (blkAt m c t).x5 (ix2 i ⟨80 + l.val, _⟩) * (blkAt m c t).x6 (ix2 ⟨80 + l.val, _⟩ j)
      rw [h5, h6, EReal.coe_mul]
  rw [hs, h7, ← EReal.coe_add]; rfl

variable (A) in
abbrev Qt (t : Fin cfg0.N) (i : Fin 256) (d : Fin 1024) : ℝ := A.Z (prow t i) ⟨d.val, by omega⟩
variable (A) in
abbrev Kt (t : Fin cfg0.N) (i : Fin 256) (d : Fin 1024) : ℝ := A.Z (prow t i) ⟨1024 + d.val, by omega⟩
variable (A) in
abbrev Vt (t : Fin cfg0.N) (i : Fin 256) (e : Fin 2048) : ℝ := A.W (prow t i) e
variable (A) in
abbrev Gt (t : Fin cfg0.N) (i : Fin 256) (d : Fin 1024) : ℝ := gate (A.x (prow t i) d)

/-- Each point's blocks are the reals of `A`. -/
theorem isR (H : IsArgs m c A) (t : Fin cfg0.N) : IsR (blkAt m c t) (Qt A t) (Kt A t) (Vt A t) (Gt A t) where
  q i d := (x0_apply m c t i d).trans (H.hZ _ _)
  k i d := (x1_apply m c t i d).trans (H.hZ _ _)
  v i d := (x4_apply m c t i d).trans (H.hW _ _)
  g i d := g_apply _ _ _ i d _ (pre_real H t i d)

/-! ## The chunk of batch entry `b` that starts at `N` -/

section chunk
variable (A) (t : Fin cfg0.N) (b : Fin 2) (n : ℕ) (hn : n < 16) (ht : t.val = 16 * b.val + n) (h : Fin 4)
include hn ht

theorem row_eq (i : Fin 256) : row b (256 * n + i.val) = prow t i :=
  row_of_lt b _ (by omega) _ (by show t.val * 256 + i.val = _; omega)

theorem hq (i : Fin 256) (d : Fin 256) : hk h (Qt A t) i d = A.q b h (256 * n + i.val) d := by
  rw [Args.q, row_eq t b n hn ht i]
theorem hkk (i : Fin 256) (d : Fin 256) : hk h (Kt A t) i d = A.k b h (256 * n + i.val) d := by
  rw [Args.k, row_eq t b n hn ht i]
theorem hvv (i : Fin 256) (e : Fin 512) : hv h (Vt A t) i e = A.v b h (256 * n + i.val) e := by
  rw [Args.v, row_eq t b n hn ht i]
theorem hB (i : Fin 256) (d : Fin 256) : hk h (Bc (Gt A t)) i d = P (A.g b h) (256 * n + i.val + 1) d - P (A.g b h) (256 * n) d := by
  rw [← P_chunk (A.g b h) (256 * n) 256 i d]
  refine Finset.sum_congr rfl fun x _ => ?_
  rw [Args.g, row_eq t b n hn ht x]

theorem SR_eq (e : Fin 512) (d : Fin 256) :
    SR (hk h (Kt A t)) (hk h (Bc (Gt A t))) (hv h (Vt A t)) (fun e d => St (A.k b h) (A.v b h) (A.g b h) (256 * n) e d) e d
      = St (A.k b h) (A.v b h) (A.g b h) (256 * (n + 1)) e d := by
  unfold SR
  simp only [hkk A t b n hn ht h, hvv A t b n hn ht h, hB A t b n hn ht h]
  exact St_step (A.k b h) (A.v b h) (A.g b h) (256 * n) 256 e d

theorem OR_eq (i : Fin 256) (e : Fin 512) :
    OR (hk h (Qt A t)) (hk h (Bc (Gt A t))) (hv h (Vt A t)) (fun e d => St (A.k b h) (A.v b h) (A.g b h) (256 * n) e d)
        (AT (hk h (Qt A t)) (hk h (Kt A t)) (hk h (Bc (Gt A t)))) i e
      = A.out b h (256 * n + i.val) e := by
  unfold OR AT
  simp only [hq A t b n hn ht h, hkk A t b n hn ht h, hvv A t b n hn ht h, hB A t b n hn ht h]
  exact Ot_step (A.q b h) (A.k b h) (A.v b h) (A.g b h) (256 * n) 256 i e

theorem reset (SS : Fin 4 → Fin 512 → Fin 256 → ℝ) (hS : SS = fun h e d => St (A.k b h) (A.v b h) (A.g b h) (256 * n) e d)
    (hc : cond0_0 (grid0.coords t)) : SS = fun _ _ _ => 0 := by
  have := (hcond0_0 t).mp hc
  obtain rfl : n = 0 := by omega
  rw [hS]
  funext h e d
  exact St_zero _ _ _ _ _
end chunk

/-- The state after point `16 b + n`. -/
theorem stN_real (H : IsArgs m c A) (b : Fin 2) : ∀ (n : ℕ) (hn : n < 16) (t : ℕ) (hlt : t < cfg0.N) (ht : t = 16 * b.val + n) (h : Fin 4) (e : Fin 512) (d : Fin 256),
    stN m c t hlt (ix3 h e d) = (St (A.k b h) (A.v b h) (A.g b h) (256 * (n + 1)) e d : EReal) := by
  intro n
  induction n with
  | zero =>
    intro hn t hlt ht h e d
    rw [stN_eq, stAt_real (isR H ⟨t, hlt⟩) c ⟨t, hlt⟩ _ (fun h e d => St (A.k b h) (A.v b h) (A.g b h) (256 * 0) e d)
      (fun hc => reset A ⟨t, hlt⟩ b 0 hn ht _ rfl hc) (fun hc => absurd ((hcond0_0 ⟨t, hlt⟩).mpr (by dsimp only; omega)) hc),
      SR_eq A ⟨t, hlt⟩ b 0 hn ht h e d]
  | succ n ih =>
    intro hn t hlt ht h e d
    obtain _ | t := t
    · omega
    rw [stN_eq, stAt_real (isR H ⟨t + 1, hlt⟩) c ⟨t + 1, hlt⟩ (stB m c (t + 1) hlt) (fun h e d => St (A.k b h) (A.v b h) (A.g b h) (256 * (n + 1)) e d)
      (fun hc => reset A ⟨t + 1, hlt⟩ b (n + 1) hn ht _ rfl hc) (fun _ h e d => ih (by omega) t (Nat.lt_of_succ_lt hlt) (by omega) h e d),
      SR_eq A ⟨t + 1, hlt⟩ b (n + 1) hn ht h e d]

/-- The state before point `16 b + n`, `n` not zero. -/
theorem stB_real (H : IsArgs m c A) (b : Fin 2) (n : ℕ) (hn : n < 16) (hz : n ≠ 0) (t : ℕ) (hlt : t < cfg0.N) (ht : t = 16 * b.val + n) (h : Fin 4) (e : Fin 512) (d : Fin 256) :
    stB m c t hlt (ix3 h e d) = (St (A.k b h) (A.v b h) (A.g b h) (256 * n) e d : EReal) := by
  obtain _ | t := t
  · omega
  obtain _ | n := n
  · exact absurd rfl hz
  exact stN_real H b n (by omega) t _ (by omega) h e d

/-- The output block of point `16 b + n`. -/
theorem outN_real (H : IsArgs m c A) (b : Fin 2) (n : ℕ) (hn : n < 16) (t : Fin cfg0.N) (ht : t.val = 16 * b.val + n) (h : Fin 4) (i : Fin 256) (e : Fin 512) :
    outN m c t (ix2 i (vc h e)) = epi (fun e => (A.out b h (256 * n + i.val) e : EReal)) (e7 m c (ix1 e))
      (e2 m c (ix2 (prow t i) ⟨h.val * 512 + e.val, by omega⟩)) (e1 m c (ix2 (prow t i) (vc h e))) e := by
  unfold outN
  rw [outAt_real (isR H t) c t _ (fun h e d => St (A.k b h) (A.v b h) (A.g b h) (256 * n) e d)
    (fun hc => reset A t b n hn ht _ rfl hc)
    (fun hc h e d => stB_real H b n hn (fun hz => hc ((hcond0_0 t).mpr (by omega))) t.val t.isLt ht h e d) h i e]
  simp only [OR_eq A t b n hn ht h]
  rw [x2_apply, x3_apply, x8_apply]
  refine congrArg (fun z => epi _ z _ _ e) (n_row m c e)

theorem fin_congr {a b : ℕ} {N : ℕ} (ha : a < N) (hb : b < N) (h : a = b) : (⟨a, ha⟩ : Fin N) = ⟨b, hb⟩ := by subst h; rfl

/-- The kernel's result. -/
theorem res_real (H : IsArgs m c A) (p : Fin 8192) (j : Fin 2048) :
    (res m c : S8192x2048.Idx → EReal) (ix2 p j)
      = A.fin (fun p j => e2 m c (ix2 p ⟨j.val, by omega⟩)) (fun p j => e1 m c (ix2 p j)) (fun e => e7 m c (ix1 e)) p j := by
  have hp := p.isLt
  have hj := j.isLt
  have hN : p.val / 256 < cfg0.N := lt_of_lt_of_eq (by omega) N_0.symm
  have key := outN_real H ⟨p.val / 4096, by omega⟩ (p.val / 256 % 16) (by omega) ⟨p.val / 256, hN⟩ (by dsimp only; omega) ⟨j.val / 512, by omega⟩
    ⟨p.val % 256, by omega⟩ ⟨j.val % 512, by omega⟩
  have hr : prow ⟨p.val / 256, hN⟩ ⟨p.val % 256, by omega⟩ = p := Fin.ext (by show p.val / 256 * 256 + p.val % 256 = p.val; omega)
  have hjj : vc ⟨j.val / 512, by omega⟩ ⟨j.val % 512, by omega⟩ = j := Fin.ext (by show j.val / 512 * 512 + j.val % 512 = j.val; omega)
  have hs : 256 * (p.val / 256 % 16) + p.val % 256 = p.val % 4096 := by omega
  rw [hr, hjj] at key
  dsimp only at key
  rw [hs] at key
  refine Eq.trans ?_ (key.trans ?_)
  · rfl
  · rw [Args.fin]
    congr 1
    refine congrArg (fun z => e2 m c (ix2 p z)) (Fin.ext ?_)
    show j.val / 512 * 512 + j.val % 512 = j.val; omega

end Cert.KernelIdeal.Gla

end
-- ==== Proof.Gla.Finite.lean ====
module

public import proofs.«01_k».proof.Defs
public import proofs.«01_k».proof.Proof.Gen.Pre_finite_operands
public import proofs.«01_k».proof.Proof.Gla.Final
public import Idealize.ShloMosaic.Lib.ReduceAll

@[expose] public section

set_option maxRecDepth 16384

noncomputable section

/-! # Finite arguments are reals

The precondition read: every entry that enters the recurrence is a real number. -/

namespace Cert.KernelIdeal.Gla

open Cert.GlaMath Idealize.ShloMosaic Idealize.ShloMosaic.TcCoe

theorem c_pinf : Ideal.ofBits .f32 2139095040#32 = ⊤ := by
  simp [Ideal.ofBits, Ideal.ieee, -EReal.coe_mul]

/-- A number whose absolute value is below infinity is real. -/
theorem real_of_lt (x : EReal) (h : FloatOps.cmpf (F := Ideal) (φ := .f32) .olt (FloatOps.absf (F := Ideal) (φ := .f32) x) (FloatOps.ofBits (F := Ideal) .f32 0x7F800000#32) = 1#1) :
    x = (x.toReal : EReal) := by
  have h' : Ideal.cmp .olt (max x (-x)) (Ideal.ofBits .f32 2139095040#32) = 1#1 := h
  rw [c_pinf] at h'
  induction x using EReal.rec with
  | bot => simp [Ideal.cmp] at h'
  | top => simp [Ideal.cmp] at h'
  | coe x => rw [EReal.toReal_coe]

instance : Subsingleton Cert.Pre_finite_operands.S_.Idx := ⟨fun a b => funext fun k => k.elim0⟩

/-- The reals the arguments hold. -/
def argsOf (m : (ℓ : Loc nD τ sig) → Buf (Elt Ideal) ℓ) (c : Dev nD) : Args where
  Z r j := (e0 m c (ix2 r j)).toReal
  W r j := (e3 m c (ix2 r ⟨4096 + j.val, by omega⟩)).toReal
  M r l := (e4 m c (ix2 r ⟨80 + l.val, by omega⟩)).toReal
  U l j := (e5 m c (ix2 l j)).toReal
  C j := (e6 m c (ix1 j)).toReal

open Cert.Pre_finite_operands Cert.Pre_finite_operands.Facts in
/-- The precondition's five parts, each at every entry. -/
theorem parts (x0 : FVec Ideal Cert.Pre_finite_operands.S8192x2048 .f32) (x1 : FVec Ideal Cert.Pre_finite_operands.S8192x2048 .f32) (x2 : FVec Ideal Cert.Pre_finite_operands.S8192x4096 .f32)
    (x3 : FVec Ideal Cert.Pre_finite_operands.S8192x7168 .bf16) (x4 : FVec Ideal Cert.Pre_finite_operands.S8192x128 .f32) (x5 : FVec Ideal Cert.Pre_finite_operands.S16x1024 .f32)
    (x6 : FVec Ideal Cert.Pre_finite_operands.S1024 .f32) (x7 : FVec Ideal Cert.Pre_finite_operands.S512 .f32)
    (h : Cert.Pre_finite_operands.fn (F := Ideal) x0 x1 x2 x3 x4 x5 x6 x7 = fun _ => 1#1) :
    (∀ i, (x0 i : EReal) = ((x0 i : EReal).toReal : EReal))
    ∧ (∀ i, (extractStridedSlice Cert.Pre_finite_operands.S8192x2048 ![0, 4096] x3 slices_S8192x7168_S8192x2048_0_4096 i : EReal)
        = ((extractStridedSlice Cert.Pre_finite_operands.S8192x2048 ![0, 4096] x3 slices_S8192x7168_S8192x2048_0_4096 i : EReal).toReal : EReal))
    ∧ (∀ i, (extractStridedSlice Cert.Pre_finite_operands.S8192x16 ![0, 80] x4 slices_S8192x128_S8192x16_0_80 i : EReal)
        = ((extractStridedSlice Cert.Pre_finite_operands.S8192x16 ![0, 80] x4 slices_S8192x128_S8192x16_0_80 i : EReal).toReal : EReal))
    ∧ (∀ i, (x5 i : EReal) = ((x5 i : EReal).toReal : EReal))
    ∧ (∀ i, (x6 i : EReal) = ((x6 i : EReal).toReal : EReal)) := by
  have h0 := congrFun h ix0
  unfold Cert.Pre_finite_operands.fn Cert.Pre_finite_operands.fn_part1 at h0
  obtain ⟨h1, k5⟩ := IntOp.andi_eq_one.1 h0
  obtain ⟨h2, k4⟩ := IntOp.andi_eq_one.1 h1
  obtain ⟨h3, k3⟩ := IntOp.andi_eq_one.1 h2
  obtain ⟨k1, k2⟩ := IntOp.andi_eq_one.1 h3
  exact ⟨fun i => real_of_lt _ (Host.reduce_andi_all _ _ _ _ _ k1 i), fun i => real_of_lt _ (Host.reduce_andi_all _ _ _ _ _ k2 i),
    fun i => real_of_lt _ (Host.reduce_andi_all _ _ _ _ _ k3 i), fun i => real_of_lt _ (Host.reduce_andi_all _ _ _ _ _ k4 i),
    fun i => real_of_lt _ (Host.reduce_andi_all _ _ _ _ _ k5 i)⟩

/-- Under the precondition the arguments are reals. -/
theorem isArgs (m : (ℓ : Loc nD τ sig) → Buf (Elt Ideal) ℓ) (h : Cert.Pre_KernelIdeal_finite_operands m) (c : Dev nD) : IsArgs m c (argsOf m c) := by
  obtain ⟨p0, p3, p4, p5, p6⟩ := parts _ _ _ _ _ _ _ _ (h c)
  refine ⟨fun r j => p0 (ix2 r j), fun r j => ?_, fun r l => ?_, fun l j => p5 (ix2 l j), fun j => p6 (ix1 j)⟩
  · have hs : extractStridedSlice Cert.Pre_finite_operands.S8192x2048 ![0, 4096] (e3 m c) Cert.Pre_finite_operands.Facts.slices_S8192x7168_S8192x2048_0_4096 (ix2 r j)
        = e3 m c (ix2 r ⟨4096 + j.val, by omega⟩) := by
      refine congrArg (e3 m c) (funext fun a => Fin.ext ?_)
      match a with
      | ⟨0, _⟩ => show 0 + r.val = r.val; omega
      | ⟨1, _⟩ => rfl
    have := p3 (ix2 r j)
    rw [hs] at this
    exact this
  · have hs : extractStridedSlice Cert.Pre_finite_operands.S8192x16 ![0, 80] (e4 m c) Cert.Pre_finite_operands.Facts.slices_S8192x128_S8192x16_0_80 (ix2 r l)
        = e4 m c (ix2 r ⟨80 + l.val, by omega⟩) := by
      refine congrArg (e4 m c) (funext fun a => Fin.ext ?_)
      match a with
      | ⟨0, _⟩ => show 0 + r.val = r.val; omega
      | ⟨1, _⟩ => rfl
    have := p4 (ix2 r l)
    rw [hs] at this
    exact this

end Cert.KernelIdeal.Gla

end
-- ==== Proof.Ref.Window.lean ====
module

public import proofs.«01_k».proof.Proof.Gen.ReferenceIdeal.Run
public import Idealize.ShloMosaic.PureOps.BitExact
public import Idealize.ShloMosaic.PureOps.Ideal
public import Idealize.ShloMosaic.Lib.Pointwise

@[expose] public section

set_option maxRecDepth 16384

noncomputable section

/-! # The reference's running sum along a chunk, as a masked sum -/

namespace Cert.ReferenceIdeal.Gla
open Cert.ReferenceIdeal.Gen
open Idealize.ShloMosaic

theorem foldl_add {ι : Type} (l : List ι) (f : ι → EReal) (v : EReal) : l.foldl (fun r n => r + f n) v = v + (l.map f).sum := by
  induction l generalizing v with
  | nil => simp
  | cons a l ih => simp [ih, add_assoc]

/-- A window of 64 that ends at position `i` sums the positions up to `i`. -/
theorem window_sum (y : ℕ → EReal) (i : Fin 64) :
    (∑ w : Fin 64, if 63 ≤ i.val + w.val then y (i.val + w.val - 63) else 0) = ∑ n : Fin 64, if n.val ≤ i.val then y n.val else 0 := by
  rw [← Finset.sum_range (fun w => if 63 ≤ i.val + w then y (i.val + w - 63) else 0), ← Finset.sum_range (fun n => if n ≤ i.val then y n else 0)]
  generalize hi : i.val = a
  have ha : a < 64 := hi ▸ i.isLt
  have h1 : Finset.range 64 = Finset.range ((63 - a) + (a + 1)) := by congr 1; omega
  have h2 : Finset.range 64 = Finset.range ((a + 1) + (63 - a)) := by congr 1; omega
  conv_lhs => rw [h1, Finset.sum_range_add]
  conv_rhs => rw [h2, Finset.sum_range_add]
  rw [Finset.sum_eq_zero (s := Finset.range (63 - a)), zero_add, Finset.sum_eq_zero (s := Finset.range (63 - a)), add_zero]
  · refine Finset.sum_congr rfl fun n hn => ?_
    have := Finset.mem_range.mp hn
    rw [if_pos (by omega), if_pos (by omega)]; congr 1; omega
  · intro n hn; have := Finset.mem_range.mp hn; rw [if_neg (by omega)]
  · intro n hn; have := Finset.mem_range.mp hn; rw [if_neg (by omega)]

/-- The window's axes: only the third is longer than one. -/
def winEquiv : (⟨4, ![1, 1, 64, 1]⟩ : Shape).Idx ≃ Fin 64 where
  toFun k := k 2
  invFun w := ix4 (0 : Fin 1) (0 : Fin 1) w (0 : Fin 1)
  left_inv k := by
    funext a
    apply Fin.ext
    fin_cases a
    · have h : (k 0).val < 1 := (k 0).isLt
      show 0 = (k 0).val; omega
    · have h : (k 1).val < 1 := (k 1).isLt
      show 0 = (k 1).val; omega
    · rfl
    · have h : (k 3).val < 1 := (k 3).isLt
      show 0 = (k 3).val; omega
  right_inv w := rfl

theorem window_term (x : FVec Ideal S2x4x64x256 .f32) (b : Fin 2) (h : Fin 4) (i : Fin 64) (d : Fin 256)
    (K : (⟨4, ![1, 1, 64, 1]⟩ : Shape).Idx) (hr : (4 : ℕ) = 4) :
    (if hin : ∀ a : Fin 4, (![0, 0, 63, 0] : Fin 4 → ℕ) a ≤ (ix4 b h i d (Fin.cast hr a)).val * (![1, 1, 1, 1] : Fin 4 → ℕ) a + (K a).val
        ∧ (ix4 b h i d (Fin.cast hr a)).val * (![1, 1, 1, 1] : Fin 4 → ℕ) a + (K a).val - (![0, 0, 63, 0] : Fin 4 → ℕ) a < S2x4x64x256.size a
      then x (fun a => ⟨(ix4 b h i d (Fin.cast hr a)).val * (![1, 1, 1, 1] : Fin 4 → ℕ) a + (K a).val - (![0, 0, 63, 0] : Fin 4 → ℕ) a, (hin a).2⟩)
      else (0 : EReal))
      = if 63 ≤ i.val + (winEquiv K).val then (if hn : i.val + (winEquiv K).val - 63 < 64 then x (ix4 b h ⟨i.val + (winEquiv K).val - 63, hn⟩ d) else 0) else 0 := by
  have he : (winEquiv K).val = (K 2).val := rfl
  have hk0 : (K 0).val < 1 := (K 0).isLt
  have hk1 : (K 1).val < 1 := (K 1).isLt
  have hk3 : (K 3).val < 1 := (K 3).isLt
  have hlt : (K 2).val < 64 := (K 2).isLt
  have := b.isLt; have := h.isLt; have := i.isLt; have := d.isLt
  simp only [he]
  by_cases hc : 63 ≤ i.val + (K 2).val
  · rw [if_pos hc, dif_pos (c := _ < 64) (by omega), dif_pos]
    · congr 1
      funext a
      apply Fin.ext
      fin_cases a
      · show b.val * 1 + (K 0).val - 0 = b.val; omega
      · show h.val * 1 + (K 1).val - 0 = h.val; omega
      · show i.val * 1 + (K 2).val - 63 = i.val + (K 2).val - 63; omega
      · show d.val * 1 + (K 3).val - 0 = d.val; omega
    · intro a
      fin_cases a
      · show 0 ≤ b.val * 1 + (K 0).val ∧ b.val * 1 + (K 0).val - 0 < 2; omega
      · show 0 ≤ h.val * 1 + (K 1).val ∧ h.val * 1 + (K 1).val - 0 < 4; omega
      · show 63 ≤ i.val * 1 + (K 2).val ∧ i.val * 1 + (K 2).val - 63 < 64; omega
      · show 0 ≤ d.val * 1 + (K 3).val ∧ d.val * 1 + (K 3).val - 0 < 256; omega
  · rw [if_neg hc, dif_neg]
    intro H
    have h2 : 63 ≤ i.val * 1 + (K 2).val := (H 2).1
    omega

theorem cumsum_apply (x : FVec Ideal S2x4x64x256 .f32) (b : Fin 2) (h : Fin 4) (i : Fin 64) (d : Fin 256) :
    Host.reduceWindowAdd (F := Ideal) ![1, 1, 64, 1] ![1, 1, 1, 1] ![0, 0, 63, 0] ![0, 0, 0, 0] x
      (broadcastInDim S_ ![] bcast_S_S_ (constant S_ .f32 0x00000000#32))
      reduceWindows_S2x4x64x256_S2x4x64x256_w1s1p0_0_w1s1p0_0_w64s1p63_0_w1s1p0_0 h_S_ (ix4 b h i d)
      = ∑ n : Fin 64, if n.val ≤ i.val then x (ix4 b h n d) else 0 := by
  have hc : broadcastInDim S_ ![] bcast_S_S_ (constant (F := Ideal) S_ .f32 0x00000000#32) (Shape.Idx.first h_S_) = (0 : EReal) := by
    show Ideal.ofBits .f32 0x00000000#32 = 0
    simp [Ideal.ofBits, Ideal.ieee]
  unfold Host.reduceWindowAdd
  rw [hc]
  rw [Ideal.hostReduceWindowAdd_def]
  unfold Ideal.hostReduceWindowAdd Host.reduceWindow
  dsimp only
  rw [foldl_add, zero_add, ← List.ofFn_eq_map, List.sum_ofFn]
  have hw := window_sum (fun n => if hn : n < 64 then x (ix4 b h ⟨n, hn⟩ d) else 0) i
  simp only [Fin.isLt, dite_true, Fin.eta] at hw
  rw [← hw]
  refine Fintype.sum_equiv ((Shape.rowMajor _).symm.trans winEquiv) _ _ fun n => ?_
  exact (dite_congr rfl (fun _ => rfl) (fun _ => rfl)).trans (window_term x b h i d (Shape.rowMajor _ |>.symm n) rfl)

end Cert.ReferenceIdeal.Gla
-- ==== Proof.Ref.Step.lean ====
module

public import proofs.«01_k».proof.Proof.Ref.Window
public import proofs.«01_k».proof.Proof.Gla.Vec
public import proofs.«01_k».proof.Proof.Gla.Math
public import Idealize.ShloMosaic.Lib.DynamicIndex
public import Idealize.ShloMosaic.Lib.Pipeline.Value

@[expose] public section

set_option maxRecDepth 16384

noncomputable section

/-! # One step of the reference's loop, entry by entry -/

namespace Cert.ReferenceIdeal.Gla
open Cert.ReferenceIdeal.Gen
open Idealize.ShloMosaic Idealize.ShloMosaic.TcCoe
open Cert.ReferenceIdeal.Value
open Cert.KernelIdeal.Gla (coe_sum c_16 c_16th c_ninf)
open Cert.GlaMath

abbrev Vl := Valuation τ sig (Elt Ideal)
abbrev qV (V0 : Vl) : S64x2x4x64x256.Idx → EReal := V0 (Proc.devRef .tc main_v33_0)
abbrev kV (V0 : Vl) : S64x2x4x64x256.Idx → EReal := V0 (Proc.devRef .tc main_v33_1)
abbrev vV (V0 : Vl) : S64x2x4x64x512.Idx → EReal := V0 (Proc.devRef .tc main_v33_2)
abbrev gV (V0 : Vl) : S64x2x4x64x256.Idx → EReal := V0 (Proc.devRef .tc main_v33_3)
abbrev mV (V0 : Vl) : S64x64.Idx → BitVec 1 := V0 (Proc.devRef .tc main_v33_4)
abbrev nV (V0 : Vl) : S_.Idx → BitVec 32 := V0 (Proc.devRef .tc main_v33_5)
abbrev sV (V0 : Vl) : S2x4x256x512.Idx → EReal := V0 (Proc.devRef .tc main_v33_6)
abbrev oV (V0 : Vl) : S64x2x4x64x512.Idx → EReal := V0 (Proc.devRef .tc main_v33_7)

theorem toInt_of_lt (n : ℕ) (h : n < 64) : (BitVec.ofNat 32 n).toInt = (n : ℤ) := by
  interval_cases n <;> rfl

/-- The scan's slice starts: the counter, then zeros. -/
theorem starts (n : Fin 64) (f : IVec S_ 32) (hf : f = (fun _ => BitVec.ofNat 32 n.val)) (a : Fin 5) :
    (((![f, constantI S_ 32 0#32, constantI S_ 32 0#32, constantI S_ 32 0#32, constantI S_ 32 0#32] : Fin 5 → IVec S_ 32)) a (Shape.Idx.first h_S_)).toInt
      = (((![n.val, 0, 0, 0, 0] : Fin 5 → ℕ) a : ℕ) : ℤ) := by
  subst hf
  match a with
  | 0 => exact toInt_of_lt n.val n.isLt
  | 1 => rfl
  | 2 => rfl
  | 3 => rfl
  | 4 => rfl

theorem slices (n : Fin 64) : S64x2x4x64x256.Slices ![n.val, 0, 0, 0, 0] S1x2x4x64x256 := by
  have := n.isLt
  refine ⟨rfl, fun a => ?_⟩
  match a with
  | 0 => show n.val + 1 ≤ 64; omega
  | 1 => show 0 + 2 ≤ 2; omega
  | 2 => show 0 + 4 ≤ 4; omega
  | 3 => show 0 + 64 ≤ 64; omega
  | 4 => show 0 + 256 ≤ 256; omega

theorem slice_apply (n : Fin 64) (x : FVec Ideal S64x2x4x64x256 .f32) (b : Fin 2) (h : Fin 4) (i : Fin 64) (d : Fin 256) :
    shapeCast S2x4x64x256 (extractStridedSlice S1x2x4x64x256 ![n.val, 0, 0, 0, 0] x (slices n)) shapeCasts_S1x2x4x64x256_S2x4x64x256 (ix4 b h i d)
      = x (ix5 n b h i d) := by
  pointwise

theorem slices' (n : Fin 64) : S64x2x4x64x512.Slices ![n.val, 0, 0, 0, 0] S1x2x4x64x512 := by
  have := n.isLt
  refine ⟨rfl, fun a => ?_⟩
  match a with
  | 0 => show n.val + 1 ≤ 64; omega
  | 1 => show 0 + 2 ≤ 2; omega
  | 2 => show 0 + 4 ≤ 4; omega
  | 3 => show 0 + 64 ≤ 64; omega
  | 4 => show 0 + 512 ≤ 512; omega

theorem slice'_apply (n : Fin 64) (x : FVec Ideal S64x2x4x64x512 .f32) (b : Fin 2) (h : Fin 4) (i : Fin 64) (d : Fin 512) :
    shapeCast S2x4x64x512 (extractStridedSlice S1x2x4x64x512 ![n.val, 0, 0, 0, 0] x (slices' n)) shapeCasts_S1x2x4x64x512_S2x4x64x512 (ix4 b h i d)
      = x (ix5 n b h i d) := by
  pointwise

theorem q_apply (V0 : Vl) (n : Fin 64) (hn : nV V0 = (fun _ => BitVec.ofNat 32 n.val)) (b : Fin 2) (h : Fin 4) (i : Fin 64) (d : Fin 256) :
    res_main_while0b_v56 V0 (ix4 b h i d) = qV V0 (ix5 n b h i d) := by
  unfold res_main_while0b_v56
  rw [Host.dynamicSlice_eq_extractStridedSlice _ _ _ ![n.val, 0, 0, 0, 0] _ (slices n) (starts n _ hn)]
  exact slice_apply n _ b h i d

theorem k_apply (V0 : Vl) (n : Fin 64) (hn : nV V0 = (fun _ => BitVec.ofNat 32 n.val)) (b : Fin 2) (h : Fin 4) (i : Fin 64) (d : Fin 256) :
    res_main_while0b_v57 V0 (ix4 b h i d) = kV V0 (ix5 n b h i d) := by
  unfold res_main_while0b_v57
  rw [Host.dynamicSlice_eq_extractStridedSlice _ _ _ ![n.val, 0, 0, 0, 0] _ (slices n) (starts n _ hn)]
  exact slice_apply n _ b h i d

theorem v_apply (V0 : Vl) (n : Fin 64) (hn : nV V0 = (fun _ => BitVec.ofNat 32 n.val)) (b : Fin 2) (h : Fin 4) (i : Fin 64) (d : Fin 512) :
    res_main_while0b_v58 V0 (ix4 b h i d) = vV V0 (ix5 n b h i d) := by
  unfold res_main_while0b_v58
  rw [Host.dynamicSlice_eq_extractStridedSlice _ _ _ ![n.val, 0, 0, 0, 0] _ (slices' n) (starts n _ hn)]
  exact slice'_apply n _ b h i d

theorem g_apply (V0 : Vl) (n : Fin 64) (hn : nV V0 = (fun _ => BitVec.ofNat 32 n.val)) (b : Fin 2) (h : Fin 4) (i : Fin 64) (d : Fin 256) :
    res_main_while0b_v60 V0 (ix4 b h i d)
      = ∑ x : Fin 64, if x.val ≤ i.val then gV V0 (ix5 n b h x d) else 0 := by
  unfold res_main_while0b_v60
  rw [Host.dynamicSlice_eq_extractStridedSlice _ _ _ ![n.val, 0, 0, 0, 0] _ (slices n) (starts n _ hn)]
  refine (cumsum_apply _ b h i d).trans (Finset.sum_congr rfl fun x _ => ?_)
  rw [slice_apply]

theorem last_apply (V0 : Vl) (b : Fin 2) (h : Fin 4) (d : Fin 256) :
    res_main_while0b_v81 V0 (ix4 b h 0 d) = res_main_while0b_v60 V0 (ix4 b h 63 d) := by
  unfold res_main_while0b_v81
  pointwise

/-- The next state as one expression of the chunk's rows. -/
abbrev stX (B K : FVec Ideal S2x4x64x256 .f32) (L : FVec Ideal S2x4x1x256 .f32) (V : FVec Ideal S2x4x64x512 .f32) (S : FVec Ideal S2x4x256x512 .f32) : FVec Ideal S2x4x256x512 .f32 :=
  addf (mulf (broadcastInDim S2x4x256x512 ![0, 1, 2, 3] bcast_S2x4x256x1_S2x4x256x512_0_1_2_3 (broadcastInDim S2x4x256x1 ![0, 1, 2] bcast_S2x4x256_S2x4x256x1_0_1_2 (Host.exp (shapeCast S2x4x256 L shapeCasts_S2x4x1x256_S2x4x256)))) S) (Host.dotGeneral dot_S2x4x64x256_S2x4x64x512_S2x4x256x512_2_2_3_3_01_01 none (mulf K (Host.exp (subf (broadcastInDim S2x4x64x256 ![0, 1, 2, 3] bcast_S2x4x1x256_S2x4x64x256_0_1_2_3 L) B))) V)

theorem stX_apply (B K : FVec Ideal S2x4x64x256 .f32) (L : FVec Ideal S2x4x1x256 .f32) (V : FVec Ideal S2x4x64x512 .f32) (S : FVec Ideal S2x4x256x512 .f32)
    (b : Fin 2) (h : Fin 4) (d : Fin 256) (e : Fin 512) :
    (stX B K L V S (ix4 b h d e) : EReal) = Ideal.exp (L (ix4 b h 0 d)) * S (ix4 b h d e)
      + ∑ x : Fin 64, K (ix4 b h x d) * Ideal.exp ((L (ix4 b h 0 d) : EReal) - B (ix4 b h x d)) * V (ix4 b h x e) := by
  pointwise

/-- The chunk's output as one expression of its rows. -/
abbrev oX (B Q K : FVec Ideal S2x4x64x256 .f32) (M : IVec S64x64 1) (V : FVec Ideal S2x4x64x512 .f32) (S : FVec Ideal S2x4x256x512 .f32) : FVec Ideal S2x4x64x512 .f32 :=
  addf (Host.dotGeneral dot_S2x4x64x256_S2x4x256x512_S2x4x64x512_3_2_2_3_01_01 none (mulf Q (Host.exp B)) S) (Host.dotGeneral dot_S2x4x64x64_S2x4x64x512_S2x4x64x512_3_2_2_3_01_01 none (Host.reduceAdd (mulf (mulf (broadcastInDim S2x4x64x64x256 ![0, 1, 2, 3, 4] bcast_S2x4x64x1x256_S2x4x64x64x256_0_1_2_3_4 (broadcastInDim S2x4x64x1x256 ![0, 1, 2, 4] bcast_S2x4x64x256_S2x4x64x1x256_0_1_2_4 Q)) (broadcastInDim S2x4x64x64x256 ![0, 1, 2, 3, 4] bcast_S2x4x1x64x256_S2x4x64x64x256_0_1_2_3_4 (broadcastInDim S2x4x1x64x256 ![0, 1, 3, 4] bcast_S2x4x64x256_S2x4x1x64x256_0_1_3_4 K))) (Host.exp (select (broadcastInDim S2x4x64x64x256 ![2, 3, 4] bcast_S64x64x1_S2x4x64x64x256_2_3_4 (broadcastInDim S64x64x1 ![0, 1] bcast_S64x64_S64x64x1_0_1 M)) (subf (broadcastInDim S2x4x64x64x256 ![0, 1, 2, 3, 4] bcast_S2x4x64x1x256_S2x4x64x64x256_0_1_2_3_4 (broadcastInDim S2x4x64x1x256 ![0, 1, 2, 4] bcast_S2x4x64x256_S2x4x64x1x256_0_1_2_4 B)) (broadcastInDim S2x4x64x64x256 ![0, 1, 2, 3, 4] bcast_S2x4x1x64x256_S2x4x64x64x256_0_1_2_3_4 (broadcastInDim S2x4x1x64x256 ![0, 1, 3, 4] bcast_S2x4x64x256_S2x4x1x64x256_0_1_3_4 B))) (broadcastInDim S2x4x64x64x256 ![] bcast_S_S2x4x64x64x256 (id (constant S_ .f32 0xFF800000#32)))))) (constant S_ .f32 0x00000000#32) reducesTo_S2x4x64x64x256_S2x4x64x64_d4 h_S_) V)

theorem oX_apply (B Q K : FVec Ideal S2x4x64x256 .f32) (M : IVec S64x64 1) (V : FVec Ideal S2x4x64x512 .f32) (S : FVec Ideal S2x4x256x512 .f32)
    (b : Fin 2) (h : Fin 4) (i : Fin 64) (e : Fin 512) :
    (oX B Q K M V S (ix4 b h i e) : EReal) = ∑ x : Fin 256, Q (ix4 b h i x) * Ideal.exp (B (ix4 b h i x)) * S (ix4 b h x e)
      + ∑ x : Fin 64, (∑ y : Fin 256, Q (ix4 b h i y) * K (ix4 b h x y)
          * Ideal.exp (Scalar.select (M (ix2 i x)) ((B (ix4 b h i y) : EReal) - B (ix4 b h x y)) (⊥ : EReal))) * V (ix4 b h x e) := by
  pointwise
  have hc : (id (constant (F := Ideal) S_ FTy.f32 4286578688#32) ix0 : EReal) = ⊥ := c_ninf
  simp only [hc]

/-! ## Over the reals -/

/-- The loop's read-only buffers are reals: scaled queries, keys, values, gates; and the mask is the triangle. -/
structure Rows (V0 : Vl) (q k g : Fin 2 → Fin 4 → ℕ → Fin 256 → ℝ) (v : Fin 2 → Fin 4 → ℕ → Fin 512 → ℝ) : Prop where
  hq : ∀ n b h i d, qV V0 (ix5 n b h i d) = ((q b h (64 * n.val + i.val) d * (1 / 16) : ℝ) : EReal)
  hk : ∀ n b h i d, kV V0 (ix5 n b h i d) = (k b h (64 * n.val + i.val) d : EReal)
  hv : ∀ n b h i e, vV V0 (ix5 n b h i e) = (v b h (64 * n.val + i.val) e : EReal)
  hg : ∀ n b h i d, gV V0 (ix5 n b h i d) = (g b h (64 * n.val + i.val) d : EReal)
  hm : ∀ i j, mV V0 (ix2 i j) = BitVec.ofBool (decide (j.val ≤ i.val))

/-- What the loop holds after `n` steps. -/
structure Held (V0 : Vl) (q k g : Fin 2 → Fin 4 → ℕ → Fin 256 → ℝ) (v : Fin 2 → Fin 4 → ℕ → Fin 512 → ℝ) (n : ℕ) : Prop where
  hn : nV V0 = fun _ => BitVec.ofNat 32 n
  hs : ∀ b h d e, sV V0 (ix4 b h d e) = (St (k b h) (v b h) (g b h) (64 * n) e d : EReal)
  ho : ∀ (m : Fin 64), m.val < n → ∀ b h i e, oV V0 (ix5 m b h i e) = (Ot (q b h) (k b h) (v b h) (g b h) (64 * m.val + i.val) e : EReal)

variable {V0 : Vl} {q k g : Fin 2 → Fin 4 → ℕ → Fin 256 → ℝ} {v : Fin 2 → Fin 4 → ℕ → Fin 512 → ℝ}

theorem B_real (R : Rows V0 q k g v) (n : Fin 64) (hn : nV V0 = (fun _ => BitVec.ofNat 32 n.val)) (b : Fin 2) (h : Fin 4) (i : Fin 64) (d : Fin 256) :
    (res_main_while0b_v60 V0 (ix4 b h i d) : EReal)
      = ((P (g b h) (64 * n.val + i.val + 1) d - P (g b h) (64 * n.val) d : ℝ) : EReal) := by
  have h1 : (∑ x : Fin 64, if x.val ≤ i.val then gV V0 (ix5 n b h x d) else 0)
      = ((P (g b h) (64 * n.val + i.val + 1) d - P (g b h) (64 * n.val) d : ℝ) : EReal) := by
    rw [← P_chunk (g b h) (64 * n.val) 64 i d, ← coe_sum]
    refine Finset.sum_congr rfl fun x _ => ?_
    rw [R.hg]
    split <;> simp
  exact (g_apply V0 n hn b h i d).trans h1

theorem s_step (R : Rows V0 q k g v) (n : Fin 64) (H : Held V0 q k g v n.val) (b : Fin 2) (h : Fin 4) (d : Fin 256) (e : Fin 512) :
    (step_main_v33_6 V0 (ix4 b h d e) : EReal) = (St (k b h) (v b h) (g b h) (64 * (n.val + 1)) e d : EReal) := by
  have hB := B_real R n H.hn b h
  refine (stX_apply (res_main_while0b_v60 V0) (res_main_while0b_v57 V0) (res_main_while0b_v81 V0) (res_main_while0b_v58 V0) (sV V0) b h d e).trans ?_
  rw [last_apply, H.hs]
  simp only [hB, k_apply V0 n H.hn, v_apply V0 n H.hn, R.hk, R.hv]
  simp only [← EReal.coe_sub, Ideal.exp_coe, ← EReal.coe_mul, coe_sum, ← EReal.coe_add]
  rw [show 64 * (n.val + 1) = 64 * n.val + 64 by ring, ← St_step (k b h) (v b h) (g b h) (64 * n.val) 64 e d]
  congr 2
  refine Finset.sum_congr rfl fun x _ => ?_
  show _ * _ * _ = _ * (_ * Real.exp (_ - _))
  rw [mul_comm]
  have e63 : 64 * n.val + (63 : Fin 64).val + 1 = 64 * n.val + 64 := rfl
  rw [e63]

theorem o_step (R : Rows V0 q k g v) (n : Fin 64) (H : Held V0 q k g v n.val) (b : Fin 2) (h : Fin 4) (i : Fin 64) (e : Fin 512) :
    (oX (res_main_while0b_v60 V0) (res_main_while0b_v56 V0) (res_main_while0b_v57 V0) (mV V0) (res_main_while0b_v58 V0) (sV V0) (ix4 b h i e) : EReal)
      = (Ot (q b h) (k b h) (v b h) (g b h) (64 * n.val + i.val) e : EReal) := by
  have hB := B_real R n H.hn b h
  rw [oX_apply]
  simp only [hB, q_apply V0 n H.hn, k_apply V0 n H.hn, v_apply V0 n H.hn, R.hq, R.hk, R.hv, R.hm, H.hs]
  simp only [← EReal.coe_sub, Ideal.exp_coe, ← EReal.coe_mul, coe_sum]
  have hA : ∀ x : Fin 64, (∑ y : Fin 256, ((q b h (64 * n.val + i.val) y * (1 / 16) * k b h (64 * n.val + x.val) y : ℝ) : EReal)
        * Ideal.exp (Scalar.select (BitVec.ofBool (decide (x.val ≤ i.val)))
          (((P (g b h) (64 * n.val + i.val + 1) y - P (g b h) (64 * n.val) y) - (P (g b h) (64 * n.val + x.val + 1) y - P (g b h) (64 * n.val) y) : ℝ) : EReal) ⊥))
      = ((if x.val ≤ i.val then ∑ d, q b h (64 * n.val + i.val) d * (1 / 16) * k b h (64 * n.val + x.val) d
          * Real.exp ((P (g b h) (64 * n.val + i.val + 1) d - P (g b h) (64 * n.val) d) - (P (g b h) (64 * n.val + x.val + 1) d - P (g b h) (64 * n.val) d)) else 0 : ℝ) : EReal) := by
    intro x
    simp only [Scalar.select_ofBool]
    by_cases hx : x.val ≤ i.val
    · simp only [hx, decide_true, if_true, Ideal.exp_coe, ← EReal.coe_mul, coe_sum]
    · simp [hx, Ideal.exp_bot]
  simp only [hA, ← EReal.coe_mul, coe_sum, ← EReal.coe_add]
  rw [← Ot_step (q b h) (k b h) (v b h) (g b h) (64 * n.val) 64 i e]

/-- The outputs with the chunk's rows written at position `n`. -/
theorem upd_apply (n : Fin 64) (x : FVec Ideal S64x2x4x64x512 .f32) (u : FVec Ideal S2x4x64x512 .f32) (hf : S64x2x4x64x512.Slices ![n.val, 0, 0, 0, 0] S1x2x4x64x512)
    (m : Fin 64) (b : Fin 2) (h : Fin 4) (i : Fin 64) (e : Fin 512) :
    (updateSlice x (broadcastInDim S1x2x4x64x512 ![1, 2, 3, 4] bcast_S2x4x64x512_S1x2x4x64x512_1_2_3_4 u) ![n.val, 0, 0, 0, 0] hf (ix5 m b h i e) : EReal)
      = if m = n then u (ix4 b h i e) else x (ix5 m b h i e) := by
  pointwise
  by_cases hm : m = n
  · subst hm; rw [dif_pos ⟨le_refl _, Nat.lt_succ_self _⟩, if_pos rfl]
  · have : ¬ (n.val ≤ m.val ∧ m.val < n.val + 1) := fun h => hm (Fin.ext (by omega))
    rw [dif_neg this, if_neg hm]

theorem clamp (n : Fin 64) (f : IVec S_ 32) (hf : f = (fun _ => BitVec.ofNat 32 n.val)) (a : Fin 5) (r : (5 : ℕ) = 5) :
    (min (max (((![f, constantI S_ 32 0#32, constantI S_ 32 0#32, constantI S_ 32 0#32, constantI S_ 32 0#32] : Fin 5 → IVec S_ 32)) a (Shape.Idx.first h_S_)).toInt 0)
      ((S64x2x4x64x512.size a - S1x2x4x64x512.size (a.cast r) : ℕ) : ℤ)).toNat = (![n.val, 0, 0, 0, 0] : Fin 5 → ℕ) a := by
  rw [starts n f hf a]
  have := n.isLt
  match a with
  | 0 => show (min (max (n.val : ℤ) 0) ((64 - 1 : ℕ) : ℤ)).toNat = n.val; omega
  | 1 => rfl
  | 2 => rfl
  | 3 => rfl
  | 4 => rfl

theorem out_step (n : Fin 64) (hn : nV V0 = (fun _ => BitVec.ofNat 32 n.val)) (m : Fin 64) (b : Fin 2) (h : Fin 4) (i : Fin 64) (e : Fin 512) :
    (step_main_v33_7 V0 (ix5 m b h i e) : EReal) = if m = n then
      (oX (res_main_while0b_v60 V0) (res_main_while0b_v56 V0) (res_main_while0b_v57 V0) (mV V0) (res_main_while0b_v58 V0) (sV V0) (ix4 b h i e) : EReal)
      else oV V0 (ix5 m b h i e) := by
  unfold step_main_v33_7
  rw [Host.dynamicUpdateSlice_eq_updateSlice _ _ _ _ ![n.val, 0, 0, 0, 0] (fun a => clamp n _ hn a _) (slices' n)]
  exact upd_apply n _ _ (slices' n) m b h i e

theorem rows_step (R : Rows V0 q k g v) : Rows (STEP V0) q k g v where
  hq := by rw [show qV (STEP V0) = qV V0 from STEP_main_v33_0 V0]; exact R.hq
  hk := by rw [show kV (STEP V0) = kV V0 from STEP_main_v33_1 V0]; exact R.hk
  hv := by rw [show vV (STEP V0) = vV V0 from STEP_main_v33_2 V0]; exact R.hv
  hg := by rw [show gV (STEP V0) = gV V0 from STEP_main_v33_3 V0]; exact R.hg
  hm := by rw [show mV (STEP V0) = mV V0 from STEP_main_v33_4 V0]; exact R.hm

theorem held_step (R : Rows V0 q k g v) (n : Fin 64) (H : Held V0 q k g v n.val) : Held (STEP V0) q k g v (n.val + 1) where
  hn := by
    rw [show nV (STEP V0) = step_main_v33_5 V0 from STEP_main_v33_5 V0]
    show addi (nV V0) (constantI S_ 32 1#32) = _
    rw [H.hn]
    funext j
    exact (BitVec.ofNat_add n.val 1).symm
  hs := by
    rw [show sV (STEP V0) = step_main_v33_6 V0 from STEP_main_v33_6 V0]
    exact s_step R n H
  ho := by
    rw [show oV (STEP V0) = step_main_v33_7 V0 from STEP_main_v33_7 V0]
    intro m hm b h i e
    refine (out_step n H.hn m b h i e).trans ?_
    by_cases hmn : m = n
    · subst hmn; rw [if_pos rfl]; exact o_step R m H b h i e
    · rw [if_neg hmn]; exact H.ho m (by have : m.val ≠ n.val := fun h => hmn (Fin.ext h); omega) b h i e

/-- All the steps. -/
theorem held_all (R : Rows V0 q k g v) (H : Held V0 q k g v 0) : ∀ n, n ≤ 64 → Rows (STEP^[n] V0) q k g v ∧ Held (STEP^[n] V0) q k g v n
  | 0, _ => ⟨R, H⟩
  | n + 1, hn => by
    have h := held_all R H n (by omega)
    rw [Function.iterate_succ_apply']
    exact ⟨rows_step h.1, held_step h.1 ⟨n, by omega⟩ h.2⟩

end Cert.ReferenceIdeal.Gla
-- ==== Proof.Ref.Entry.lean ====
module

public import proofs.«01_k».proof.Proof.Ref.Step
public import proofs.«01_k».proof.Proof.Gla.Args

@[expose] public section

set_option maxRecDepth 16384

noncomputable section
namespace Cert.ReferenceIdeal.Gla
open Cert.ReferenceIdeal.Gen
open Idealize.ShloMosaic Idealize.ShloMosaic.TcCoe
open Cert.ReferenceIdeal.Value
open Idealize.ShloMosaic.StableHlo
open Cert.KernelIdeal.Gla (coe_sum c_16 c_16th gate epi absf_coe max_zero_coe log1p_exp_coe)
open Cert.GlaMath
variable (m : (ℓ : Loc nD τ sig) → Buf (Elt Ideal) ℓ) (c : Dev nD)

/-- The launch contents of an argument, as its vector. -/
abbrev a0 : FVec Ideal S8192x2048 .f32 := m ((c.tc : Thread nD τ).loc main_arg0)
abbrev a1 : FVec Ideal S8192x2048 .f32 := m ((c.tc : Thread nD τ).loc main_arg1)
abbrev a2 : FVec Ideal S8192x4096 .f32 := m ((c.tc : Thread nD τ).loc main_arg2)
abbrev a3 : FVec Ideal S8192x7168 .bf16 := m ((c.tc : Thread nD τ).loc main_arg3)
abbrev a4 : FVec Ideal S8192x128 .f32 := m ((c.tc : Thread nD τ).loc main_arg4)
abbrev a5 : FVec Ideal S16x1024 .f32 := m ((c.tc : Thread nD τ).loc main_arg5)
abbrev a6 : FVec Ideal S1024 .f32 := m ((c.tc : Thread nD τ).loc main_arg6)
abbrev a7 : FVec Ideal S512 .f32 := m ((c.tc : Thread nD τ).loc main_arg7)

/-- Rows of the two batch entries, by chunk and head. -/
abbrev ch (x : FVec Ideal S2x4096x4x256 .f32) : FVec Ideal S64x2x4x64x256 .f32 :=
  transpose S64x2x4x64x256 [1, 0, 3, 2, 4] (shapeCast S2x64x64x4x256 x shapeCasts_S2x4096x4x256_S2x64x64x4x256) transposes_S2x64x64x4x256_S64x2x4x64x256_1_0_3_2_4

abbrev qE (z : FVec Ideal S8192x2048 .f32) : FVec Ideal S64x2x4x64x256 .f32 :=
  ch (mulf (shapeCast S2x4096x4x256 (extractStridedSlice S2x4096x1024 ![0, 0, 0] (shapeCast S2x4096x2048 z shapeCasts_S8192x2048_S2x4096x2048) slices_S2x4096x2048_S2x4096x1024_0_0_0) shapeCasts_S2x4096x1024_S2x4096x4x256)
    (broadcastInDim S2x4096x4x256 ![] bcast_S_S2x4096x4x256 (constant S_ .f32 0x3D800000#32)))

abbrev kE (z : FVec Ideal S8192x2048 .f32) : FVec Ideal S64x2x4x64x256 .f32 :=
  ch (shapeCast S2x4096x4x256 (extractStridedSlice S2x4096x1024 ![0, 0, 1024] (shapeCast S2x4096x2048 z shapeCasts_S8192x2048_S2x4096x2048) slices_S2x4096x2048_S2x4096x1024_0_0_1024) shapeCasts_S2x4096x1024_S2x4096x4x256)

abbrev vE (z : FVec Ideal S8192x7168 .bf16) : FVec Ideal S64x2x4x64x512 .f32 :=
  transpose S64x2x4x64x512 [1, 0, 3, 2, 4] (shapeCast S2x64x64x4x512 (extf .f32 (shapeCast S2x4096x4x512 (extractStridedSlice S2x4096x2048 ![0, 0, 4096] (shapeCast S2x4096x7168 z shapeCasts_S8192x7168_S2x4096x7168) slices_S2x4096x7168_S2x4096x2048_0_0_4096) shapeCasts_S2x4096x2048_S2x4096x4x512) bitsLt_bf16_f32) shapeCasts_S2x4096x4x512_S2x64x64x4x512) transposes_S2x64x64x4x512_S64x2x4x64x512_1_0_3_2_4

/-- The gate's argument. -/
abbrev xE (z : FVec Ideal S8192x128 .f32) (w : FVec Ideal S16x1024 .f32) (b : FVec Ideal S1024 .f32) : FVec Ideal S2x4096x1024 .f32 :=
  addf (Host.dotGeneral dot_S2x4096x16_S16x1024_S2x4096x1024_2_0_01_1_n_n none (extractStridedSlice S2x4096x16 ![0, 0, 80] (shapeCast S2x4096x128 z shapeCasts_S8192x128_S2x4096x128) slices_S2x4096x128_S2x4096x16_0_0_80) w)
    (broadcastInDim S2x4096x1024 ![0, 1, 2] bcast_S1x1x1024_S2x4096x1024_0_1_2 (broadcastInDim S1x1x1024 ![2] bcast_S1024_S1x1x1024_2 b))

abbrev zE : FVec Ideal S2x4096x1024 .f32 := broadcastInDim S2x4096x1024 ![] bcast_S_S2x4096x1024 (constant S_ .f32 0x00000000#32)

/-- The gate: the logarithm of the sigmoid, over 16. -/
abbrev lE (x : FVec Ideal S2x4096x1024 .f32) : FVec Ideal S2x4096x1024 .f32 :=
  Host.divf (Host.negf (select (cmpf .une (subf (Host.negf x) zE) (subf (Host.negf x) zE)) (addf (Host.negf x) zE)
    (addf (maximumf (Host.negf x) zE) (Host.log1p (Host.exp (Host.negf (Host.absf (subf (Host.negf x) zE))))))))
    (broadcastInDim S2x4096x1024 ![] bcast_S_S2x4096x1024 (constant S_ .f32 0x41800000#32))

abbrev gE (z : FVec Ideal S8192x128 .f32) (w : FVec Ideal S16x1024 .f32) (b : FVec Ideal S1024 .f32) : FVec Ideal S64x2x4x64x256 .f32 :=
  ch (shapeCast S2x4096x4x256 (lE (xE z w b)) shapeCasts_S2x4096x1024_S2x4096x4x256)

abbrev mE : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem q_entry : qV (entryContents preI m c) = qE (a0 m c) := by
  show (entryContents preI m c) (Proc.devRef .tc main_v33_0) = _
  simp only [entryContents, afterL_cons, afterL_nil]
  after_reads_simp
  rfl

theorem k_entry : kV (entryContents preI m c) = kE (a0 m c) := by
  show (entryContents preI m c) (Proc.devRef .tc main_v33_1) = _
  simp only [entryContents, afterL_cons, afterL_nil]
  after_reads_simp
  rfl

theorem v_entry : vV (entryContents preI m c) = vE (a3 m c) := by
  show (entryContents preI m c) (Proc.devRef .tc main_v33_2) = _
  simp only [entryContents, afterL_cons, afterL_nil]
  after_reads_simp
  rfl

theorem g_entry : gV (entryContents preI m c) = gE (a4 m c) (a5 m c) (a6 m c) := by
  show (entryContents preI m c) (Proc.devRef .tc main_v33_3) = _
  simp only [entryContents, afterL_cons, afterL_nil]
  after_reads_simp
  rfl

theorem m_entry : mV (entryContents preI m c) = mE := by
  show (entryContents preI m c) (Proc.devRef .tc main_v33_4) = _
  simp only [entryContents, afterL_cons, afterL_nil]
  after_reads_simp
  rfl

theorem s_entry : sV (entryContents preI m c) = broadcastInDim S2x4x256x512 ![] bcast_S_S2x4x256x512 (constant (F := Ideal) S_ .f32 0x00000000#32) := by
  show (entryContents preI m c) (Proc.devRef .tc main_v33_6) = _
  simp only [entryContents, afterL_cons, afterL_nil]
  after_reads_simp
  rfl

theorem mE_apply (i j : Fin 64) : mE (ix2 i j) = BitVec.ofBool (decide (j.val ≤ i.val)) := by
  pointwise
  have h0 : IntOp.addi (BitVec.ofNat 32 i.val) 0#32 = BitVec.ofNat 32 i.val := by simp [IntOp.addi]
  rw [h0, WordCmp.cmpi_sge_ofNat (by omega) (by omega), Scalar.select_ofBool]
  by_cases h : j.val ≤ i.val <;> simp [h]

theorem lE_apply (x : FVec Ideal S2x4096x1024 .f32) (p : Fin 2) (s : Fin 4096) (j : Fin 1024) (y : ℝ) (hy : x (ix3 p s j) = (y : EReal)) :
    lE x (ix3 p s j) = (gate y : EReal) := by
  pointwise
  rw [hy, c_16, Ideal.div_coe (by norm_num), if_neg (fun h => h rfl), ← EReal.coe_neg, max_zero_coe, absf_coe, abs_neg, ← EReal.coe_neg, Ideal.exp_coe, log1p_exp_coe,
    ← EReal.coe_add, ← EReal.coe_neg, ← EReal.coe_mul]
  unfold gate; congr 1; ring

/-- The arguments are the reals of `A`. -/
structure IsArgs (A : Args) : Prop where
  hZ : ∀ r j, (a0 m c (ix2 r j) : EReal) = A.Z r j
  hW : ∀ (r : Fin 8192) (j : Fin 2048), (a3 m c (ix2 r ⟨4096 + j.val, by omega⟩) : EReal) = A.W r j
  hM : ∀ (r : Fin 8192) (l : Fin 16), (a4 m c (ix2 r ⟨80 + l.val, by omega⟩) : EReal) = A.M r l
  hU : ∀ l j, (a5 m c (ix2 l j) : EReal) = A.U l j
  hC : ∀ j, (a6 m c (ix1 j) : EReal) = A.C j

variable {m c} {A : Args}

theorem xE_real (H : IsArgs m c A) (p : Fin 2) (s : Fin 4096) (j : Fin 1024) :
    xE (a4 m c) (a5 m c) (a6 m c) (ix3 p s j) = (A.x (row p s.val) j : EReal) := by
  pointwise
  rw [row_of_lt p s.val s.isLt ⟨p.val * 4096 + s.val, by omega⟩ rfl, H.hC, Args.x]
  simp only [H.hM, H.hU, ← EReal.coe_mul, coe_sum, ← EReal.coe_add]

theorem rows_entry (H : IsArgs m c A) : Rows (entryContents preI m c) A.q A.k A.g A.v where
  hq n b h i d := by
    rw [q_entry]
    pointwise
    rw [c_16th, H.hZ, ← EReal.coe_mul, Args.q, row_of_lt b (64 * n.val + i.val) (by omega) ⟨b.val * 4096 + (n.val * 64 + i.val), by omega⟩ (by simp; ring)]
  hk n b h i d := by
    rw [k_entry]
    pointwise
    rw [H.hZ, Args.k, row_of_lt b (64 * n.val + i.val) (by omega) ⟨b.val * 4096 + (n.val * 64 + i.val), by omega⟩ (by simp; ring)]
  hv n b h i d := by
    rw [v_entry]
    pointwise
    rw [Args.v, row_of_lt b (64 * n.val + i.val) (by omega) ⟨b.val * 4096 + (n.val * 64 + i.val), by omega⟩ (by simp; ring), ← H.hW]
  hg n b h i d := by
    rw [g_entry]
    have e : gE (a4 m c) (a5 m c) (a6 m c) (ix5 n b h i d)
        = lE (xE (a4 m c) (a5 m c) (a6 m c)) (ix3 b ⟨n.val * 64 + i.val, by omega⟩ ⟨h.val * 256 + d.val, by omega⟩) := by
      show ch (shapeCast S2x4096x4x256 (lE (xE (a4 m c) (a5 m c) (a6 m c))) shapeCasts_S2x4096x1024_S2x4096x4x256) _ = _
      generalize lE (xE (a4 m c) (a5 m c) (a6 m c)) = z
      pointwise
    rw [e, lE_apply _ _ _ _ _ (xE_real H _ _ _), Args.g]
    congr 4; dsimp only; ring
  hm i j := by rw [m_entry]; exact mE_apply i j

theorem held_entry (H : IsArgs m c A) : Held (entryContents preI m c) A.q A.k A.g A.v 0 where
  hn := ctr_entry m c
  hs b h d e := by
    rw [s_entry, Nat.mul_zero, St_zero]
    pointwise
    exact EReal.coe_zero.symm
  ho m hm := absurd hm (Nat.not_lt_zero _)

/-- The scan's outputs. -/
theorem o_final (H : IsArgs m c A) (n : Fin 64) (b : Fin 2) (h : Fin 4) (i : Fin 64) (e : Fin 512) :
    oV (STEP^[64] (entryContents preI m c)) (ix5 n b h i e) = (A.out b h (64 * n.val + i.val) e : EReal) :=
  (held_all (rows_entry H) (held_entry H) 64 le_rfl).2.ho n n.isLt b h i e

/-- The result after the loop, of the scan's outputs. -/
abbrev fX (o : FVec Ideal S64x2x4x64x512 .f32) (gg : FVec Ideal S8192x4096 .f32) (r : FVec Ideal S8192x2048 .f32) (gn : FVec Ideal S512 .f32) : FVec Ideal S8192x2048 .f32 :=
  shapeCast _ (mulf (extractStridedSlice S2x4096x2048 ![0, 0, 0] (shapeCast _ gg shapeCasts_S8192x4096_S2x4096x4096) slices_S2x4096x4096_S2x4096x2048_0_0_0) (mulf (shapeCast _ (mulf (mulf (shapeCast _ (transpose S2x64x64x4x512 [1, 0, 3, 2, 4] o transposes_S64x2x4x64x512_S2x64x64x4x512_1_0_3_2_4) shapeCasts_S2x64x64x4x512_S2x4096x4x512) (broadcastInDim S2x4096x4x512 ![0, 1, 2, 3] bcast_S2x4096x4x1_S2x4096x4x512_0_1_2_3 (Host.rsqrt (addf (Host.divf (broadcastInDim S2x4096x4x1 ![0, 1, 2] bcast_S2x4096x4_S2x4096x4x1_0_1_2 (Host.reduceAdd (mulf (shapeCast _ (transpose S2x64x64x4x512 [1, 0, 3, 2, 4] o transposes_S64x2x4x64x512_S2x64x64x4x512_1_0_3_2_4) shapeCasts_S2x64x64x4x512_S2x4096x4x512) (shapeCast _ (transpose S2x64x64x4x512 [1, 0, 3, 2, 4] o transposes_S64x2x4x64x512_S2x64x64x4x512_1_0_3_2_4) shapeCasts_S2x64x64x4x512_S2x4096x4x512)) (constant S_ .f32 0x00000000#32) reducesTo_S2x4096x4x512_S2x4096x4_d3 h_S_)) (broadcastInDim S2x4096x4x1 ![] bcast_S_S2x4096x4x1 (constant S_ .f32 0x44000000#32))) (broadcastInDim S2x4096x4x1 ![] bcast_S_S2x4096x4x1 (constant S_ .f32 0x358637BD#32)))))) (broadcastInDim S2x4096x4x512 ![0, 1, 2, 3] bcast_S1x1x1x512_S2x4096x4x512_0_1_2_3 (broadcastInDim S1x1x1x512 ![3] bcast_S512_S1x1x1x512_3 gn))) shapeCasts_S2x4096x4x512_S2x4096x2048) (shapeCast _ r shapeCasts_S8192x2048_S2x4096x2048))) shapeCasts_S2x4096x2048_S8192x2048

theorem fX_apply (o : FVec Ideal S64x2x4x64x512 .f32) (gg : FVec Ideal S8192x4096 .f32) (r : FVec Ideal S8192x2048 .f32) (gn : FVec Ideal S512 .f32)
    (A : Args) (ho : ∀ n b h i e, (o (ix5 n b h i e) : EReal) = A.out b h (64 * n.val + i.val) e) (p : Fin 8192) (j : Fin 2048) :
    fX o gg r gn (ix2 p j) = A.fin (fun p j => gg (ix2 p ⟨j.val, by omega⟩)) (fun p j => r (ix2 p j)) (fun e => gn (ix1 e)) p j := by
  pointwise
  have h1 : 64 * (p.val % 4096 / 64) + p.val % 4096 % 64 = p.val % 4096 := Nat.div_add_mod _ _
  simp only [ho, h1]
  rfl

/-- The reference's result of arguments that are reals. -/
theorem out_real (H : IsArgs m c A) (p : Fin 8192) (j : Fin 2048) :
    (out_main_v55 (STEP^[64] (entryContents preI m c)) (ix2 p j) : EReal)
      = A.fin (fun p j => a2 m c (ix2 p ⟨j.val, by omega⟩)) (fun p j => a1 m c (ix2 p j)) (fun e => a7 m c (ix1 e)) p j := by
  have k1 : (STEP^[64] (entryContents preI m c)) (Proc.devRef .tc main_arg1) = a1 m c := iter_main_arg1 m c 64
  have k2 : (STEP^[64] (entryContents preI m c)) (Proc.devRef .tc main_arg2) = a2 m c := iter_main_arg2 m c 64
  have k7 : (STEP^[64] (entryContents preI m c)) (Proc.devRef .tc main_arg7) = a7 m c := iter_main_arg7 m c 64
  unfold out_main_v55
  rw [k1, k2, k7]
  exact fX_apply _ _ _ _ A (o_final H) p j

end Cert.ReferenceIdeal.Gla
-- ==== Proof.Ffn.Up.lean ====
module

public import proofs.«01_k».proof.Proof.Gen.Kernel2Ideal.Value
public import proofs.«01_k».proof.Proof.Gen.Reference2Ideal.Run
public import Idealize.ShloMosaic.PureOps.Ideal
public import Idealize.ShloMosaic.Lib.Pointwise

@[expose] public section

set_option maxRecDepth 16384

noncomputable section

/-! # The feed-forward up projection

A weight tile is cast once per column tile and kept while the row tiles pass; every tile of the result is the squared
rectified product. -/

namespace Cert.Kernel2Ideal.Up

open Cert.Kernel2Ideal Cert.Kernel2Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_A (c : Dev nD) (i : grid0.Coords) (a2 : Memref sig .tc .vmem S2048x2048 .bf16) (h2 : a2.IsWhole) (a3 : Memref sig .tc .vmem S1x2048x1024 .f32) (h3 : a3.IsWhole)
    (a4 : Memref sig .tc .vmem S2048x1024 .bf16) (h4 : a4.IsWhole) (a5 : Memref sig .tc .vmem S2048x1024 .bf16) (h5 : a5.IsWhole) (hc0 : cond0_0 i) (hc1 : ¬cond0_1 i)
    (x0 : Vec F S2048x2048 .bf16) (x1 : Vec F S1x2048x1024 .f32) :
    out0_A_2 c i a2 h2 a3 h3 a4 h4 a5 h5 hc0 hc1 x0 x1 = k0_pay2 x0 (k0_pay1 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2, View.readCov_unit_zero (S := S2048x1024) _ hz2]
  simp only [View.readAt_eq_ld, h2.read_unread, h3.read_unread, View.ld_unit_zero (S := S2048x2048) hz2, View.ld_unit_zero (S := S1x2048x1024) hz3, View.ld_unit_zero (S := S2048x1024) hz2]

theorem sout_A (c : Dev nD) (i : grid0.Coords) (a2 : Memref sig .tc .vmem S2048x2048 .bf16) (h2 : a2.IsWhole) (a3 : Memref sig .tc .vmem S1x2048x1024 .f32) (h3 : a3.IsWhole)
    (a4 : Memref sig .tc .vmem S2048x1024 .bf16) (h4 : a4.IsWhole) (a5 : Memref sig .tc .vmem S2048x1024 .bf16) (h5 : a5.IsWhole) (hc0 : cond0_0 i) (hc1 : ¬cond0_1 i)
    (x0 : Vec F S2048x2048 .bf16) (x1 : Vec F S1x2048x1024 .f32) :
    sout0_A_0 c i a2 h2 a3 h3 a4 h4 a5 h5 hc0 hc1 x0 x1 = k0_pay1 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_unit_zero hz2]
  simp only [View.readAt_eq_ld, h3.read_unread, View.ld_unit_zero (S := S1x2048x1024) hz3]

theorem out_B (c : Dev nD) (i : grid0.Coords) (a2 : Memref sig .tc .vmem S2048x2048 .bf16) (h2 : a2.IsWhole) (a3 : Memref sig .tc .vmem S1x2048x1024 .f32) (h3 : a3.IsWhole)
    (a4 : Memref sig .tc .vmem S2048x1024 .bf16) (h4 : a4.IsWhole) (a5 : Memref sig .tc .vmem S2048x1024 .bf16) (h5 : a5.IsWhole) (hc0 : ¬cond0_0 i) (hc1 : cond0_1 i)
    (x0 : Vec F S2048x2048 .bf16) (x1 : Vec F S1x2048x1024 .f32) (xs : Vec F S2048x1024 .bf16) :
    out0_B_2 c i a2 h2 a3 h3 a4 h4 a5 h5 hc0 hc1 x0 x1 xs = k0_pay2 x0 xs := by
  unfold out0_B_2
  rw [View.read_writes_eq_canon _ _ _ (cover0_B_2 c i a2 h2 a3 h3 a4 h4 a5 h5 hc0 hc1 x0 x1 xs)]
  unfold kernelRun0_B
  dsimp only
  rw [View.canon_unit_zero hz2]
  simp only [View.readAt_eq_ld, h2.read_unread, h5.read_unread, View.ld_unit_zero (S := S2048x2048) hz2, View.ld_unit_zero (S := S2048x1024) hz2]
  rfl

theorem fst_A (c : Dev nD) (t : Fin cfg0.N) (h : t.val % 4 = 0) : (outsAt0 m c t.val t.isLt).1 = k0_pay2 (iblk m c 0 t) (k0_pay1 (iblk m c 1 t)) := by
  rw [outsAt0_A m c t h (by omega)]
  dsimp only
  rw [out_A]

theorem snd_A (c : Dev nD) (t : Fin cfg0.N) (h : t.val % 4 = 0) : (outsAt0 m c t.val t.isLt).2 = k0_pay1 (iblk m c 1 t) := by
  rw [outsAt0_A m c t h (by omega)]
  dsimp only
  rw [sout_A]

theorem fst_B (c : Dev nD) (t : Fin cfg0.N) (h : ¬t.val % 4 = 0) :
    (outsAt0 m c t.val t.isLt).1 = k0_pay2 (iblk m c 0 t) (outsAt0 m c (t.val - 1) (Nat.lt_of_le_of_lt (Nat.sub_le _ _) t.isLt)).2 := by
  rw [outsAt0_B m c t h (by omega)]
  dsimp only
  rw [out_B]

theorem snd_B (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h (by omega)]
  rfl

/-! ## The blocks -/

theorem ix_0 : ∀ t : Fin cfg0.N, win0_0.index t (0 : Fin 2) = t.val % 4 ∧ win0_0.index t (1 : Fin 2) = 0 := (by decide +kernel : ∀ t : Fin grid0.N, _)
theorem ix_1 : ∀ t : Fin cfg0.N, win0_1.index t (0 : Fin 3) = 1 ∧ win0_1.index t (1 : Fin 3) = 0 ∧ win0_1.index t (2 : Fin 3) = t.val / 4 := (by decide +kernel : ∀ t : Fin grid0.N, _)

theorem lt32 (t : Fin cfg0.N) : t.val < 32 := lt_of_lt_of_eq t.isLt N_0

theorem x0_apply (c : Dev nD) (t : Fin cfg0.N) (i : Fin 2048) (k : Fin 2048) :
    (iblk m c 0 t : S2048x2048.Idx → Elt F _) (ix2 i k) = (m ((c : Thread nD τ).loc main_arg0) : S8192x2048.Idx → Elt F _) (ix2 ⟨t.val % 4 * 2048 + i.val, by omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 2048 + 1 * i.val = t.val % 4 * 2048 + i.val; omega
  | ⟨1, _⟩ => show win0_0.index t (1 : Fin 2) * 2048 + 1 * k.val = k.val; omega

theorem x1_apply (c : Dev nD) (t : Fin cfg0.N) (l : Fin 1) (k : Fin 2048) (j : Fin 1024) :
    (iblk m c 1 t : S1x2048x1024.Idx → Elt F _) (ix3 l k j) = (m ((c : Thread nD τ).loc main_arg1) : S2x2048x8192.Idx → Elt F _) (ix3 1 k ⟨t.val / 4 * 1024 + j.val, by have := lt32 t; omega⟩) := by
  show V m c main_arg1 (((cfg0.win 1).blk t).view.emb (ix3 l k j)) = _
  rw [V_main_arg1]
  refine congrArg (m ((c : Thread nD τ).loc main_arg1)) (funext fun a => Fin.ext ?_)
  obtain ⟨e0, e1, e2⟩ := ix_1 t
  match a with
  | ⟨0, _⟩ => show win0_1.index t (0 : Fin 3) * 1 + 1 * l.val = 1; omega
  | ⟨1, _⟩ => show win0_1.index t (1 : Fin 3) * 2048 + 1 * k.val = k.val; omega
  | ⟨2, _⟩ => show win0_1.index t (2 : Fin 3) * 1024 + 1 * j.val = t.val / 4 * 1024 + j.val; omega

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x8192 .f32 := m ((c : Thread nD τ).loc main_arg1)

/-- The result's entry. -/
def val (c : Dev nD) (p : Fin 8192) (j : Fin 8192) : EReal :=
  max (∑ k : Fin 2048, (a0 m c (ix2 p k) : EReal) * a1 m c (ix3 1 k j)) 0 * max (∑ k : Fin 2048, (a0 m c (ix2 p k) : EReal) * a1 m c (ix3 1 k j)) 0

theorem pay1_apply (x : Vec Ideal S1x2048x1024 .f32) (k : Fin 2048) (j : Fin 1024) : (k0_pay1 (F := Ideal) x (ix2 k j) : EReal) = x (ix3 0 k j) := by
  pointwise [k0_pay1]

theorem pay2_apply (x : Vec Ideal S2048x2048 .bf16) (w : Vec Ideal S2048x1024 .bf16) (i : Fin 2048) (j : Fin 1024) :
    (k0_pay2 (F := Ideal) x w (ix2 i j) : EReal) = max (∑ k : Fin 2048, (x (ix2 i k) : EReal) * w (ix2 k j)) 0 * max (∑ k : Fin 2048, (x (ix2 i k) : EReal) * w (ix2 k j)) 0 := by
  pointwise [k0_pay2]

/-- The scratch holds the point's column tile of the weight. -/
theorem scr (c : Dev nD) (k : Fin 2048) (j : Fin 1024) : ∀ (n : ℕ) (hn : n < cfg0.N) (q : Fin 8192), q.val = n / 4 * 1024 + j.val →
    ((outsAt0 m c n hn).2 (ix2 k j) : EReal) = a1 m c (ix3 1 k q) := by
  have hA : ∀ (t : Fin cfg0.N) (q : Fin 8192), t.val % 4 = 0 → q.val = t.val / 4 * 1024 + j.val → ((outsAt0 m c t.val t.isLt).2 (ix2 k j) : EReal) = a1 m c (ix3 1 k q) := by
    intro t q h hq
    rw [snd_A m c t h]
    refine (pay1_apply _ k j).trans ((x1_apply m c t 0 k j).trans ?_)
    rw [show q = ⟨t.val / 4 * 1024 + j.val, hq ▸ q.isLt⟩ from Fin.ext hq]
  intro n
  induction n with
  | zero => exact fun hn q hq => hA ⟨0, hn⟩ q rfl hq
  | succ n ih =>
    intro hn q hq
    by_cases h : (n + 1) % 4 = 0
    · exact hA ⟨n + 1, hn⟩ q h hq
    · rw [snd_B m c ⟨n + 1, hn⟩ h]
      exact ih (Nat.lt_of_succ_lt hn) q (by omega)

/-- A product's entry, from the entries of its tiles. -/
theorem tile (c : Dev nD) (x : Vec Ideal S2048x2048 .bf16) (w : Vec Ideal S2048x1024 .bf16) (i : Fin 2048) (j : Fin 1024) (p : Fin 8192) (q : Fin 8192)
    (hx : ∀ k, (x (ix2 i k) : EReal) = a0 m c (ix2 p k)) (hw : ∀ k, (w (ix2 k j) : EReal) = a1 m c (ix3 1 k q)) :
    (k0_pay2 (F := Ideal) x w (ix2 i j) : EReal) = val m c p q := by
  refine (pay2_apply x w i j).trans ?_
  simp only [hx, hw]
  rfl

/-- What a point writes into its tile. -/
theorem out (c : Dev nD) (n : ℕ) (hn : n < cfg0.N) (i : Fin 2048) (j : Fin 1024) (p : Fin 8192) (q : Fin 8192)
    (hp : p.val = n % 4 * 2048 + i.val) (hq : q.val = n / 4 * 1024 + j.val) :
    ((outsAt0 m c n hn).1 (ix2 i j) : EReal) = val m c p q := by
  have hx : ∀ k, ((iblk m c 0 ⟨n, hn⟩ : Vec Ideal S2048x2048 .bf16) (ix2 i k) : EReal) = a0 m c (ix2 p k) := fun k =>
    (x0_apply m c ⟨n, hn⟩ i k).trans (by rw [show p = ⟨n % 4 * 2048 + i.val, hp ▸ p.isLt⟩ from Fin.ext hp])
  by_cases h : n % 4 = 0
  · rw [fst_A m c ⟨n, hn⟩ h]
    refine tile m c _ _ i j p q hx fun k => ?_
    rw [← snd_A m c ⟨n, hn⟩ h]
    exact scr m c k j n hn q hq
  · rw [fst_B m c ⟨n, hn⟩ h]
    exact tile m c _ _ i j p q hx fun k => scr m c k j (n - 1) _ q (by omega)

theorem res (c : Dev nD) (p : Fin 8192) (j : Fin 8192) : (Value.G2 m c (ix2 p j) : EReal) = val m c p j := by
  have hq : Value.pt2Of (ix2 p j) = p.val / 2048 + 4 * (j.val / 1024) := by
    show 1 * (p.val / 2048 - 0) + 4 * (j.val / 1024 - 0) = _; omega
  have hN : Value.pt2Of (ix2 p j) < cfg0.N := by rw [hq, show cfg0.N = 32 from N_0]; omega
  have hl : Value.loc2Of (ix2 p j) = (ix2 (⟨p.val % 2048, by omega⟩ : Fin 2048) (⟨j.val % 1024, by omega⟩ : Fin 1024)) := by
    funext a
    match a with
    | ⟨0, _⟩ => rfl
    | ⟨1, _⟩ => rfl
  unfold Value.G2
  rw [dif_pos hN, ← Value.outsAt0_sweep m c _ hN, hl]
  refine out m c _ hN _ _ p j ?_ ?_
  · show p.val = Value.pt2Of (ix2 p j) % 4 * 2048 + p.val % 2048
    rw [hq]; omega
  · show j.val = Value.pt2Of (ix2 p j) / 4 * 1024 + j.val % 1024
    rw [hq]; omega

end Cert.Kernel2Ideal.Up

namespace Cert.Reference2Ideal.Up

open Cert.Reference2Ideal Cert.Reference2Ideal.Gen Idealize.ShloMosaic Idealize.ShloMosaic.TcCoe

/-- The reference's entry. -/
theorem ref (x : FVec Ideal S8192x2048 .bf16) (w : FVec Ideal S2x2048x8192 .f32) (p : Fin 8192) (j : Fin 8192) :
    (truncf (F := Ideal) .bf16 (mulf (maximumf (Host.dotGeneral dot_S8192x2048_S2048x8192_S8192x8192_1_0_0_1_n_n none (extf .f32 x bitsLt_bf16_f32) (shapeCast _ (extractStridedSlice S1x2048x8192 ![1, 0, 0] w slices_S2x2048x8192_S1x2048x8192_1_0_0) shapeCasts_S1x2048x8192_S2048x8192)) (broadcastInDim S8192x8192 ![] bcast_S_S8192x8192 (constant S_ .f32 0x00000000#32)))
      (maximumf (Host.dotGeneral dot_S8192x2048_S2048x8192_S8192x8192_1_0_0_1_n_n none (extf .f32 x bitsLt_bf16_f32) (shapeCast _ (extractStridedSlice S1x2048x8192 ![1, 0, 0] w slices_S2x2048x8192_S1x2048x8192_1_0_0) shapeCasts_S1x2048x8192_S2048x8192)) (broadcastInDim S8192x8192 ![] bcast_S_S8192x8192 (constant S_ .f32 0x00000000#32)))) bitsLt_bf16_f32 (ix2 p j) : EReal)
    = max (∑ k : Fin 2048, (x (ix2 p k) : EReal) * w (ix3 1 k j)) 0 * max (∑ k : Fin 2048, (x (ix2 p k) : EReal) * w (ix3 1 k j)) 0 := by
  pointwise []

end Cert.Reference2Ideal.Up

end
-- ==== Proof.Ffn.Down.lean ====
module

public import proofs.«01_k».proof.Proof.Gen.Kernel3Ideal.Value
public import proofs.«01_k».proof.Proof.Gen.Reference3Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The feed-forward down projection with the closing norm

Four blocks of the contracted axis are added up in a scratch tile; the last one adds the gated residual and
normalises the rows. -/

namespace Cert.Kernel3Ideal.Down

open Cert.Kernel3Ideal Cert.Kernel3Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem sout_A (c : Dev nD) (i : grid0.Coords) (b2 : Memref sig .tc .vmem S512x2048 .bf16) (h2 : b2.IsWhole) (b3 : Memref sig .tc .vmem S1x2048x2048 .bf16) (h3 : b3.IsWhole)
    (b4 : Memref sig .tc .vmem S512x2048 .f32) (h4 : b4.IsWhole) (b5 : Memref sig .tc .vmem S1x1x2048 .f32) (h5 : b5.IsWhole) (b6 : Memref sig .tc .vmem S1x2048 .f32) (h6 : b6.IsWhole)
    (b7 : Memref sig .tc .vmem S512x2048 .f32) (h7 : b7.IsWhole) (b8 : Memref sig .tc .vmem S512x2048 .f32) (h8 : b8.IsWhole) (hc0 : cond0_0 i) (hc1 : ¬cond0_1 i) (hc2 : ¬cond0_2 i)
    (x0 : Vec F S512x2048 .bf16) (x1 : Vec F S1x2048x2048 .bf16) (x2 : Vec F S512x2048 .f32) (x3 : Vec F S1x1x2048 .f32) (x4 : Vec F S1x2048 .f32) :
    sout0_A_0 c i b2 h2 b3 h3 b4 h4 b5 h5 b6 h6 b7 h7 b8 h8 hc0 hc1 hc2 x0 x1 x2 x3 x4 = k0_pay1 x0 x1 := by
  unfold sout0_A_0
  rw [View.read_writes_eq_canon _ _ _ (scover0_A_0 c i b2 h2 b3 h3 b4 h4 b5 h5 b6 h6 b7 h7 b8 h8 hc0 hc1 hc2 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h8.read_unread, View.ld_unit_zero (S := S512x2048) hz2, View.ld_unit_zero (S := S1x2048x2048) hz3, View.ld_unit_zero (S := S1x1x2048) hz3, View.ld_unit_zero (S := S1x2048) hz2]

theorem sout_B (c : Dev nD) (i : grid0.Coords) (b2 : Memref sig .tc .vmem S512x2048 .bf16) (h2 : b2.IsWhole) (b3 : Memref sig .tc .vmem S1x2048x2048 .bf16) (h3 : b3.IsWhole)
    (b4 : Memref sig .tc .vmem S512x2048 .f32) (h4 : b4.IsWhole) (b5 : Memref sig .tc .vmem S1x1x2048 .f32) (h5 : b5.IsWhole) (b6 : Memref sig .tc .vmem S1x2048 .f32) (h6 : b6.IsWhole)
    (b7 : Memref sig .tc .vmem S512x2048 .f32) (h7 : b7.IsWhole) (b8 : Memref sig .tc .vmem S512x2048 .f32) (h8 : b8.IsWhole) (hc0 : ¬cond0_0 i) (hc1 : cond0_1 i) (hc2 : ¬cond0_2 i)
    (x0 : Vec F S512x2048 .bf16) (x1 : Vec F S1x2048x2048 .bf16) (x2 : Vec F S512x2048 .f32) (x3 : Vec F S1x1x2048 .f32) (x4 : Vec F S1x2048 .f32) (xs : Vec F S512x2048 .f32) :
    sout0_B_0 c i b2 h2 b3 h3 b4 h4 b5 h5 b6 h6 b7 h7 b8 h8 hc0 hc1 hc2 x0 x1 x2 x3 x4 xs = k0_pay2 xs x0 x1 := by
  unfold sout0_B_0
  rw [View.read_writes_eq_canon _ _ _ (scover0_B_0 c i b2 h2 b3 h3 b4 h4 b5 h5 b6 h6 b7 h7 b8 h8 hc0 hc1 hc2 x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S512x2048) hz2, View.ld_unit_zero (S := S1x2048x2048) hz3, View.ld_unit_zero (S := S1x1x2048) hz3, View.ld_unit_zero (S := S1x2048) hz2]

theorem out_C (c : Dev nD) (i : grid0.Coords) (b2 : Memref sig .tc .vmem S512x2048 .bf16) (h2 : b2.IsWhole) (b3 : Memref sig .tc .vmem S1x2048x2048 .bf16) (h3 : b3.IsWhole)
    (b4 : Memref sig .tc .vmem S512x2048 .f32) (h4 : b4.IsWhole) (b5 : Memref sig .tc .vmem S1x1x2048 .f32) (h5 : b5.IsWhole) (b6 : Memref sig .tc .vmem S1x2048 .f32) (h6 : b6.IsWhole)
    (b7 : Memref sig .tc .vmem S512x2048 .f32) (h7 : b7.IsWhole) (b8 : Memref sig .tc .vmem S512x2048 .f32) (h8 : b8.IsWhole) (hc0 : ¬cond0_0 i) (hc1 : ¬cond0_1 i) (hc2 : cond0_2 i)
    (x0 : Vec F S512x2048 .bf16) (x1 : Vec F S1x2048x2048 .bf16) (x2 : Vec F S512x2048 .f32) (x3 : Vec F S1x1x2048 .f32) (x4 : Vec F S1x2048 .f32) (xs : Vec F S512x2048 .f32) :
    out0_C_5 c i b2 h2 b3 h3 b4 h4 b5 h5 b6 h6 b7 h7 b8 h8 hc0 hc1 hc2 x0 x1 x2 x3 x4 xs = k0_pay3 xs x0 x1 x2 x3 x4 := by
  unfold out0_C_5
  rw [View.read_writes_eq_canon _ _ _ (cover0_C_5 c i b2 h2 b3 h3 b4 h4 b5 h5 b6 h6 b7 h7 b8 h8 hc0 hc1 hc2 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h8.read_unread, View.ld_unit_zero (S := S512x2048) hz2, View.ld_unit_zero (S := S1x2048x2048) hz3, View.ld_unit_zero (S := S1x1x2048) hz3, View.ld_unit_zero (S := S1x2048) hz2]

abbrev prev (c : Dev nD) (t : Fin cfg0.N) : Vec F S512x2048 .f32 := (outsAt0 m c (t.val - 1) (Nat.lt_of_le_of_lt (Nat.sub_le _ _) t.isLt)).2

theorem snd_A (c : Dev nD) (t : Fin cfg0.N) (h : t.val % 4 = 0) : (outsAt0 m c t.val t.isLt).2 = k0_pay1 (iblk m c 0 t) (iblk m c 1 t) := by
  rw [outsAt0_A m c t h (by omega) (by omega)]
  dsimp only
  rw [sout_A]

theorem snd_B (c : Dev nD) (t : Fin cfg0.N) (h : 1 ≤ t.val % 4 ∧ t.val % 4 ≤ 2) :
    (outsAt0 m c t.val t.isLt).2 = k0_pay2 (prev m c t) (iblk m c 0 t) (iblk m c 1 t) := by
  rw [outsAt0_B m c t (by omega) h (by omega)]
  dsimp only
  rw [sout_B]

theorem fst_C (c : Dev nD) (t : Fin cfg0.N) (h : t.val % 4 = 3) :
    (outsAt0 m c t.val t.isLt).1 = k0_pay3 (prev m c t) (iblk m c 0 t) (iblk m c 1 t) (iblk m c 2 t) (iblk m c 3 t) (iblk m c 4 t) := by
  rw [outsAt0_C m c t (by omega) (by omega) h]
  dsimp only
  rw [out_C]

/-! ## The blocks -/

theorem ix_0 : ∀ t : Fin cfg0.N, win0_0.index t (0 : Fin 2) = t.val / 4 ∧ win0_0.index t (1 : Fin 2) = t.val % 4 := (by decide +kernel : ∀ t : Fin grid0.N, _)
theorem ix_1 : ∀ t : Fin cfg0.N, win0_1.index t (0 : Fin 3) = 1 ∧ win0_1.index t (1 : Fin 3) = t.val % 4 ∧ win0_1.index t (2 : Fin 3) = 0 := (by decide +kernel : ∀ t : Fin grid0.N, _)
theorem ix_2 : ∀ t : Fin cfg0.N, win0_2.index t (0 : Fin 2) = t.val / 4 ∧ win0_2.index t (1 : Fin 2) = 0 := (by decide +kernel : ∀ t : Fin grid0.N, _)
theorem ix_3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)

theorem lt64 (t : Fin cfg0.N) : t.val < 64 := lt_of_lt_of_eq t.isLt N_0

theorem x0_apply (c : Dev nD) (t : Fin cfg0.N) (i : Fin 512) (k : Fin 2048) :
    (iblk m c 0 t : S512x2048.Idx → Elt F _) (ix2 i k)
      = (m ((c : Thread nD τ).loc main_arg0) : S8192x8192.Idx → Elt F _) (ix2 ⟨t.val / 4 * 512 + i.val, by have := lt64 t; omega⟩ ⟨t.val % 4 * 2048 + k.val, by omega⟩) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 512 + 1 * i.val = t.val / 4 * 512 + i.val; omega
  | ⟨1, _⟩ => show win0_0.index t (1 : Fin 2) * 2048 + 1 * k.val = t.val % 4 * 2048 + k.val; omega

theorem x1_apply (c : Dev nD) (t : Fin cfg0.N) (l : Fin 1) (k : Fin 2048) (j : Fin 2048) :
    (iblk m c 1 t : S1x2048x2048.Idx → Elt F _) (ix3 l k j) = (V m c main_v0 : S2x8192x2048.Idx → Elt F _) (ix3 1 ⟨t.val % 4 * 2048 + k.val, by omega⟩ j) := by
  show V m c main_v0 (((cfg0.win 1).blk t).view.emb (ix3 l k j)) = _
  refine congrArg (V m c main_v0) (funext fun a => Fin.ext ?_)
  obtain ⟨e0, e1, e2⟩ := ix_1 t
  match a with
  | ⟨0, _⟩ => show win0_1.index t (0 : Fin 3) * 1 + 1 * l.val = 1; omega
  | ⟨1, _⟩ => show win0_1.index t (1 : Fin 3) * 2048 + 1 * k.val = t.val % 4 * 2048 + k.val; omega
  | ⟨2, _⟩ => show win0_1.index t (2 : Fin 3) * 2048 + 1 * j.val = j.val; omega

theorem x2_apply (c : Dev nD) (t : Fin cfg0.N) (i : Fin 512) (j : Fin 2048) :
    (iblk m c 2 t : S512x2048.Idx → Elt F _) (ix2 i j)
      = (m ((c : Thread nD τ).loc main_arg2) : S8192x2048.Idx → Elt F _) (ix2 ⟨t.val / 4 * 512 + i.val, by have := lt64 t; omega⟩ j) := by
  show V m c main_arg2 (((cfg0.win 2).blk t).view.emb (ix2 i j)) = _
  rw [V_main_arg2]
  refine congrArg (m ((c : Thread nD τ).loc main_arg2)) (funext fun a => Fin.ext ?_)
  obtain ⟨e0, e1⟩ := ix_2 t
  match a with
  | ⟨0, _⟩ => show win0_2.index t (0 : Fin 2) * 512 + 1 * i.val = t.val / 4 * 512 + i.val; omega
  | ⟨1, _⟩ => show win0_2.index t (1 : Fin 2) * 2048 + 1 * j.val = j.val; omega

theorem x3_apply (c : Dev nD) (t : Fin cfg0.N) (l l' : Fin 1) (j : Fin 2048) :
    (iblk m c 3 t : S1x1x2048.Idx → Elt F _) (ix3 l l' j) = (V m c main_v1 : S2x1x2048.Idx → Elt F _) (ix3 ⟨t.val / 32, by have := lt64 t; omega⟩ 0 j) := by
  show V m c main_v1 (((cfg0.win 3).blk t).view.emb (ix3 l l' j)) = _
  refine congrArg (V m c main_v1) (funext fun a => Fin.ext ?_)
  obtain ⟨e0, e1, e2⟩ := ix_3 t
  match a with
  | ⟨0, _⟩ => show win0_3.index t (0 : Fin 3) * 1 + 1 * l.val = t.val / 32; omega
  | ⟨1, _⟩ => show win0_3.index t (1 : Fin 3) * 1 + 1 * l'.val = 0; omega
  | ⟨2, _⟩ => show win0_3.index t (2 : Fin 3) * 2048 + 1 * j.val = j.val; omega

theorem x4_apply (c : Dev nD) (t : Fin cfg0.N) (l : Fin 1) (j : Fin 2048) :
    (iblk m c 4 t : S1x2048.Idx → Elt F _) (ix2 l j) = (V m c main_v2 : S1x2048.Idx → Elt F _) (ix2 0 j) := by
  show V m c main_v2 (((cfg0.win 4).blk t).view.emb (ix2 l j)) = _
  refine congrArg (V m c main_v2) (funext fun a => Fin.ext ?_)
  obtain ⟨e0, e1⟩ := ix_4 t
  match a with
  | ⟨0, _⟩ => show win0_4.index t (0 : Fin 2) * 1 + 1 * l.val = 0; omega
  | ⟨1, _⟩ => show win0_4.index t (1 : Fin 2) * 2048 + 1 * j.val = j.val; omega

theorem v0_eq (c : Dev nD) : (V m c main_v0 : S2x8192x2048.Idx → Elt F .bf16) = truncf .bf16 (m ((c : Thread nD τ).loc main_arg1) : S2x8192x2048.Idx → Elt F .f32) bitsLt_bf16_f32 := by
  unfold_abbrev_sides
  after_results

theorem v1_eq (c : Dev nD) : (V m c main_v1 : S2x1x2048.Idx → Elt F .f32) = shapeCast S2x1x2048 (m ((c : Thread nD τ).loc main_arg3) : S2x2048.Idx → Elt F .f32) shapeCasts_S2x2048_S2x1x2048 := by
  unfold_abbrev_sides
  after_results
  rfl

theorem v2_eq (c : Dev nD) : (V m c main_v2 : S1x2048.Idx → Elt F .f32) = shapeCast S1x2048 (m ((c : Thread nD τ).loc main_arg4) : S2048.Idx → Elt F .f32) shapeCasts_S2048_S1x2048 := by
  unfold_abbrev_sides
  after_results
  rfl

end

/-! ## At ideal values -/

variable (m : (ℓ : Loc nD τ sig) → Buf (Elt Ideal) ℓ)

abbrev a0 (c : Dev nD) : FVec Ideal S8192x8192 .bf16 := m ((c : Thread nD τ).loc main_arg0)
abbrev a1 (c : Dev nD) : FVec Ideal S2x8192x2048 .f32 := m ((c : Thread nD τ).loc main_arg1)
abbrev a2 (c : Dev nD) : FVec Ideal S8192x2048 .f32 := m ((c : Thread nD τ).loc main_arg2)
abbrev a3 (c : Dev nD) : FVec Ideal S2x2048 .f32 := m ((c : Thread nD τ).loc main_arg3)
abbrev a4 (c : Dev nD) : FVec Ideal S2048 .f32 := m ((c : Thread nD τ).loc main_arg4)

/-- The normalised row's entry, from the row and the gain. -/
def nrm (r : Fin 2048 → EReal) (g : EReal) (j : Fin 2048) : EReal :=
  r j * Ideal.rsqrt (Ideal.div (∑ x, r x * r x) (Ideal.ofBits FTy.f32 0x45000000#32) + Ideal.ofBits FTy.f32 0x358637BD#32) * g

/-- The residual row with the gated product added. -/
def row (c : Dev nD) (p : Fin 8192) (j : Fin 2048) : EReal :=
  a2 m c (ix2 p j) + a3 m c (ix2 ⟨p.val / 4096, by omega⟩ j) * ∑ k : Fin 8192, (a0 m c (ix2 p k) : EReal) * a1 m c (ix3 1 k j)

theorem v1_apply (c : Dev nD) (b : Fin 2) (j : Fin 2048) : (V m c main_v1 : S2x1x2048.Idx → EReal) (ix3 b 0 j) = a3 m c (ix2 b j) := by
  refine (congrFun (v1_eq m c) (ix3 b 0 j)).trans ?_
  show shapeCast S2x1x2048 (a3 m c) shapeCasts_S2x2048_S2x1x2048 (ix3 b 0 j) = _
  generalize a3 m c = X
  pointwise []

theorem v2_apply (c : Dev nD) (j : Fin 2048) : (V m c main_v2 : S1x2048.Idx → EReal) (ix2 0 j) = a4 m c (ix1 j) := by
  refine (congrFun (v2_eq m c) (ix2 0 j)).trans ?_
  show shapeCast S1x2048 (a4 m c) shapeCasts_S2048_S1x2048 (ix2 0 j) = _
  generalize a4 m c = X
  pointwise []

theorem pay1_apply (x : Vec Ideal S512x2048 .bf16) (w : Vec Ideal S1x2048x2048 .bf16) (i : Fin 512) (j : Fin 2048) :
    (k0_pay1 (F := Ideal) x w (ix2 i j) : EReal) = ∑ k : Fin 2048, (x (ix2 i k) : EReal) * w (ix3 0 k j) := by
  pointwise [k0_pay1]

theorem pay2_apply (s : Vec Ideal S512x2048 .f32) (x : Vec Ideal S512x2048 .bf16) (w : Vec Ideal S1x2048x2048 .bf16) (i : Fin 512) (j : Fin 2048) :
    (k0_pay2 (F := Ideal) s x w (ix2 i j) : EReal) = s (ix2 i j) + ∑ k : Fin 2048, (x (ix2 i k) : EReal) * w (ix3 0 k j) := by
  pointwise [k0_pay2]

theorem pay3_apply (s : Vec Ideal S512x2048 .f32) (x : Vec Ideal S512x2048 .bf16) (w : Vec Ideal S1x2048x2048 .bf16) (y : Vec Ideal S512x2048 .f32) (g : Vec Ideal S1x1x2048 .f32)
    (f : Vec Ideal S1x2048 .f32) (i : Fin 512) (j : Fin 2048) :
    (k0_pay3 (F := Ideal) s x w y g f (ix2 i j) : EReal)
      = nrm (fun j => (y (ix2 i j) : EReal) + g (ix3 0 0 j) * (s (ix2 i j) + ∑ k : Fin 2048, (x (ix2 i k) : EReal) * w (ix3 0 k j))) (f (ix2 0 j)) j := by
  unfold nrm
  pointwise [k0_pay3]

/-- The product's terms, by the contracted position. -/
def term (c : Dev nD) (p : Fin 8192) (j : Fin 2048) (k : ℕ) : EReal := if h : k < 8192 then (a0 m c (ix2 p ⟨k, h⟩) : EReal) * a1 m c (ix3 1 ⟨k, h⟩ j) else 0

abbrev b0 (c : Dev nD) (t : Fin cfg0.N) : FVec Ideal S512x2048 .bf16 := iblk m c 0 t
abbrev b1 (c : Dev nD) (t : Fin cfg0.N) : FVec Ideal S1x2048x2048 .bf16 := iblk m c 1 t

theorem blk (c : Dev nD) (t : Fin cfg0.N) (i : Fin 512) (j : Fin 2048) (p : Fin 8192) (hp : p.val = t.val / 4 * 512 + i.val) :
    (∑ k : Fin 2048, (b0 m c t (ix2 i k) : EReal) * b1 m c t (ix3 0 k j))
      = ∑ k ∈ Finset.range 2048, term m c p j (2048 * (t.val % 4) + k) := by
  rw [Finset.sum_range]
  refine Finset.sum_congr rfl fun k _ => ?_
  unfold term
  rw [dif_pos (by omega)]
  refine congrArg₂ (· * ·) ((x0_apply m c t i k).trans ?_) ((x1_apply m c t 0 k j).trans ((congrFun (v0_eq m c) _).trans ?_))
  · refine congrArg (a0 m c) (funext fun a => Fin.ext ?_)
    match a with
    | ⟨0, _⟩ => exact hp.symm
    | ⟨1, _⟩ => show t.val % 4 * 2048 + k.val = 2048 * (t.val % 4) + k.val; omega
  · show a1 m c _ = a1 m c _
    refine congrArg (a1 m c) (funext fun a => Fin.ext ?_)
    match a with
    | ⟨0, _⟩ => rfl
    | ⟨1, _⟩ => show t.val % 4 * 2048 + k.val = 2048 * (t.val % 4) + k.val; omega
    | ⟨2, _⟩ => rfl

/-- The scratch holds the sum over the blocks met so far. -/
theorem scr (c : Dev nD) (i : Fin 512) (j : Fin 2048) : ∀ (n : ℕ) (hn : n < cfg0.N) (p : Fin 8192), p.val = n / 4 * 512 + i.val → n % 4 ≤ 2 →
    ((outsAt0 m c n hn).2 (ix2 i j) : EReal) = ∑ k ∈ Finset.range (2048 * (n % 4) + 2048), term m c p j k := by
  have hA : ∀ (t : Fin cfg0.N) (p : Fin 8192), t.val % 4 = 0 → p.val = t.val / 4 * 512 + i.val →
      ((outsAt0 m c t.val t.isLt).2 (ix2 i j) : EReal) = ∑ k ∈ Finset.range (2048 * (t.val % 4) + 2048), term m c p j k := by
    intro t p h hp
    rw [snd_A m c t h]
    refine (pay1_apply _ _ i j).trans ((blk m c t i j p hp).trans ?_)
    simp only [h, Nat.mul_zero, Nat.zero_add]
  intro n
  induction n with
  | zero => exact fun hn p hp _ => hA ⟨0, hn⟩ p rfl hp
  | succ n ih =>
    intro hn p hp hle
    by_cases h : (n + 1) % 4 = 0
    · exact hA ⟨n + 1, hn⟩ p h hp
    · rw [snd_B m c ⟨n + 1, hn⟩ ⟨by dsimp only; omega, hle⟩, Finset.sum_range_add]
      refine (pay2_apply _ _ _ i j).trans (congrArg₂ (· + ·) ?_ (blk m c ⟨n + 1, hn⟩ i j p hp))
      rw [show 2048 * ((n + 1) % 4) = 2048 * (n % 4) + 2048 by omega]
      exact ih (Nat.lt_of_succ_lt hn) p (by omega) (by omega)

/-- What a row tile's last point writes. -/
theorem out (c : Dev nD) (t : Fin cfg0.N) (h : t.val % 4 = 3) (i : Fin 512) (j : Fin 2048) (p : Fin 8192) (hp : p.val = t.val / 4 * 512 + i.val) :
    ((outsAt0 m c t.val t.isLt).1 (ix2 i j) : EReal) = nrm (row m c p) (a4 m c (ix1 j)) j := by
  rw [fst_C m c t h]
  refine (pay3_apply _ _ _ _ _ _ i j).trans (congrArg₂ (fun r g => nrm r g j) (funext fun j => ?_) ((x4_apply m c t 0 j).trans (v2_apply m c j)))
  unfold row
  refine congrArg₂ (· + ·) ((x2_apply m c t i j).trans ?_) (congrArg₂ (· * ·) ((x3_apply m c t 0 0 j).trans ((v1_apply m c _ j).trans ?_)) ?_)
  · rw [show p = ⟨t.val / 4 * 512 + i.val, hp ▸ p.isLt⟩ from Fin.ext hp]
  · refine congrArg (a3 m c) (funext fun a => Fin.ext ?_)
    match a with
    | ⟨0, _⟩ => show t.val / 32 = p.val / 4096; omega
    | ⟨1, _⟩ => rfl
  · refine (congrArg₂ (· + ·) (scr m c i j (t.val - 1) _ p (by omega) (by omega)) (blk m c t i j p hp)).trans ?_
    rw [show 2048 * ((t.val - 1) % 4) + 2048 = 2048 * (t.val % 4) by omega, ← Finset.sum_range_add, h, Finset.sum_range]
    exact Finset.sum_congr rfl fun k _ => dif_pos k.isLt

theorem res (c : Dev nD) (p : Fin 8192) (j : Fin 2048) : (Value.G5 m c (ix2 p j) : EReal) = nrm (row m c p) (a4 m c (ix1 j)) j := by
  have hq : Value.pt5Of (ix2 p j) = 4 * (p.val / 512) + 3 := by
    show 4 * (1 * (p.val / 512 - 0) + 1 * (j.val / 2048 - 0)) + 3 = _; omega
  have hN : Value.pt5Of (ix2 p j) < cfg0.N := by rw [hq, show cfg0.N = 64 from N_0]; omega
  have hl : Value.loc5Of (ix2 p j) = (ix2 (⟨p.val % 512, by omega⟩ : Fin 512) j : S512x2048.Idx) := by
    funext a
    match a with
    | ⟨0, _⟩ => rfl
    | ⟨1, _⟩ => exact Fin.ext (show j.val % 2048 = j.val by omega)
  unfold Value.G5
  rw [dif_pos hN, ← Value.outsAt0_sweep m c _ hN, hl]
  refine out m c ⟨_, hN⟩ ?_ _ _ p ?_
  · show Value.pt5Of (ix2 p j) % 4 = 3
    rw [hq]; omega
  · show p.val = Value.pt5Of (ix2 p j) / 4 * 512 + p.val % 512
    rw [hq]; omega

end Cert.Kernel3Ideal.Down

namespace Cert.Reference3Ideal.Down

open Cert.Reference3Ideal Cert.Reference3Ideal.Gen Idealize.ShloMosaic Idealize.ShloMosaic.TcCoe

variable (u : FVec Ideal S8192x8192 .bf16) (w : FVec Ideal S2x8192x2048 .f32) (x : FVec Ideal S8192x2048 .f32) (g : FVec Ideal S2x2048 .f32) (f : FVec Ideal S2048 .f32)

/-- The rows before the norm. -/
abbrev R : FVec Ideal S2x4096x2048 .f32 := addf (shapeCast _ x shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 g)) (Host.dotGeneral dot_S2x4096x8192_S8192x2048_S2x4096x2048_2_0_01_1_n_n none (extf .f32 (shapeCast _ u shapeCasts_S8192x8192_S2x4096x8192) bitsLt_bf16_f32) (shapeCast _ (extractStridedSlice S1x8192x2048 ![1, 0, 0] w slices_S2x8192x2048_S1x8192x2048_1_0_0) shapeCasts_S1x8192x2048_S8192x2048)))

theorem R_apply (b : Fin 2) (t : Fin 4096) (p : Fin 8192) (hp : p.val = b.val * 4096 + t.val) (j : Fin 2048) :
    (R u w x g (ix3 b t j) : EReal) = x (ix2 p j) + g (ix2 b j) * ∑ k : Fin 8192, (u (ix2 p k) : EReal) * w (ix3 1 k j) := by
  rw [show p = ⟨b.val * 4096 + t.val, by omega⟩ from Fin.ext hp]
  unfold R
  pointwise []

theorem ref (p : Fin 8192) (j : Fin 2048) :
    (shapeCast S8192x2048 (mulf (mulf (R u w x g) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (R u w x g) (R u w x g)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 f))) shapeCasts_S2x4096x2048_S8192x2048 (ix2 p j) : EReal)
      = Kernel3Ideal.Down.nrm (fun j => x (ix2 p j) + g (ix2 ⟨p.val / 4096, by omega⟩ j) * ∑ k : Fin 8192, (u (ix2 p k) : EReal) * w (ix3 1 k j)) (f (ix1 j)) j := by
  have e := fun j => R_apply u w x g ⟨p.val / 4096, by omega⟩ ⟨p.val % 4096, by omega⟩ p (by dsimp only; omega) j
  generalize R u w x g = Q at e ⊢
  unfold Kernel3Ideal.Down.nrm
  simp only [← e]
  pointwise []

end Cert.Reference3Ideal.Down

end
-- ==== Proof.Proj.Gates.lean ====
module

public import proofs.«01_k».proof.Proof.Gen.Kernel4Ideal.Value
public import proofs.«01_k».proof.Proof.Gen.Reference4Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The input projection of the two branch gates

Every tile of the result is the logistic function of a product with a column tile of the weights, which is cast once and kept while the row tiles pass. -/

namespace Cert.Kernel4Ideal.Gates

open Cert.Kernel4Ideal Cert.Kernel4Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    out0_A_2 c i a2 h2 a3 h3 a4 h4 a5 h5 hc0 hc1 x0 x1 = k0_pay2 x0 (k0_pay1 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1024x2048) hz2, View.ld_unit_zero (S := S1x1024x2048) hz3, View.ld_unit_zero (S := S1024x1024) hz2]

theorem sout_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    sout0_A_0 c i a2 h2 a3 h3 a4 h4 a5 h5 hc0 hc1 x0 x1 = k0_pay1 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_unit_zero hz2]
  simp only [View.readAt_eq_ld, h3.read_unread, View.ld_unit_zero (S := S1x1024x2048) hz3]

theorem out_B (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : ¬cond0_0 i) (hc1 : cond0_1 i)
    (x0 : Vec F S1024x2048 .bf16) (x1 : Vec F S1x1024x2048 .f32) (xs : Vec F S1024x2048 .bf16) :
    out0_B_2 c i a2 h2 a3 h3 a4 h4 a5 h5 hc0 hc1 x0 x1 xs = k0_pay2 x0 xs := by
  unfold out0_B_2
  rw [View.read_writes_eq_canon _ _ _ (cover0_B_2 c i a2 h2 a3 h3 a4 h4 a5 h5 hc0 hc1 x0 x1 xs)]
  unfold kernelRun0_B
  dsimp only
  rw [View.canon_unit_zero hz2]
  simp only [View.readAt_eq_ld, h2.read_unread, h5.read_unread, View.ld_unit_zero (S := S1024x2048) hz2, View.ld_unit_zero (S := S1x1024x2048) hz3, View.ld_unit_zero (S := S1024x1024) hz2]
  rfl

theorem fst_A (c : Dev nD) (t : Fin cfg0.N) (h : t.val % 8 = 0) : (outsAt0 m c t.val t.isLt).1 = k0_pay2 (iblk m c 0 t) (k0_pay1 (iblk m c 1 t)) := by
  rw [outsAt0_A m c t h (by omega)]
  dsimp only
  rw [out_A]

theorem snd_A (c : Dev nD) (t : Fin cfg0.N) (h : t.val % 8 = 0) : (outsAt0 m c t.val t.isLt).2 = k0_pay1 (iblk m c 1 t) := by
  rw [outsAt0_A m c t h (by omega)]
  dsimp only
  rw [sout_A]

theorem fst_B (c : Dev nD) (t : Fin cfg0.N) (h : ¬t.val % 8 = 0) :
    (outsAt0 m c t.val t.isLt).1 = k0_pay2 (iblk m c 0 t) (outsAt0 m c (t.val - 1) (Nat.lt_of_le_of_lt (Nat.sub_le _ _) t.isLt)).2 := by
  rw [outsAt0_B m c t h (by omega)]
  dsimp only
  rw [out_B]

theorem snd_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  rfl

/-! ## The blocks -/

/-- Where a column tile begins among the weights' columns. -/
abbrev off (q : ℕ) : ℕ := 11616 + 1024 * q

theorem ix_0 : ∀ t : Fin cfg0.N, win0_0.index t (0 : Fin 2) = t.val % 8 ∧ win0_0.index t (1 : Fin 2) = 0 := (by decide +kernel : ∀ t : Fin grid0.N, _)
theorem ix_1 : ∀ t : Fin cfg0.N, win0_1.index t (0 : Fin 3) = 1 ∧ win0_1.index t (1 : Fin 3) = off (t.val / 8) ∧ win0_1.index t (2 : Fin 3) = 0 := (by decide +kernel : ∀ t : Fin grid0.N, _)

theorem ltN (t : Fin cfg0.N) : t.val < 32 := lt_of_lt_of_eq t.isLt N_0

theorem x0_apply (c : Dev nD) (t : Fin cfg0.N) (i : Fin 1024) (k : Fin 2048) :
    (iblk m c 0 t : S1024x2048.Idx → Elt F _) (ix2 i k) = (m ((c : Thread nD τ).loc main_arg0) : S8192x2048.Idx → Elt F _) (ix2 ⟨t.val % 8 * 1024 + i.val, by omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 1024 + 1 * i.val = t.val % 8 * 1024 + i.val; omega
  | ⟨1, _⟩ => show win0_0.index t (1 : Fin 2) * 2048 + 1 * k.val = k.val; omega

theorem x1_apply (c : Dev nD) (t : Fin cfg0.N) (l : Fin 1) (j : Fin 1024) (k : Fin 2048) (q : Fin 15712) (hq : q.val = off (t.val / 8) + j.val) :
    (iblk m c 1 t : S1x1024x2048.Idx → Elt F _) (ix3 l j k) = (V m c main_v0 : S2x15712x2048.Idx → Elt F _) (ix3 1 q k) := by
  show V m c main_v0 (((cfg0.win 1).blk t).view.emb (ix3 l j k)) = _
  refine congrArg (V m c main_v0) (funext fun a => Fin.ext ?_)
  obtain ⟨e0, e1, e2⟩ := ix_1 t
  match a with
  | ⟨0, _⟩ => show win0_1.index t (0 : Fin 3) + 1 * l.val = 1; omega
  | ⟨1, _⟩ => show win0_1.index t (1 : Fin 3) + 1 * j.val = q.val; omega
  | ⟨2, _⟩ => show win0_1.index t (2 : Fin 3) + 1 * k.val = k.val; omega

theorem v0_eq (c : Dev nD) : (V m c main_v0 : S2x15712x2048.Idx → Elt F .f32)
    = transpose S2x15712x2048 [0, 2, 1] (m ((c : Thread nD τ).loc main_arg1) : S2x2048x15712.Idx → Elt F .f32) transposes_S2x2048x15712_S2x15712x2048_0_2_1 := by
  unfold_abbrev_sides
  after_results

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x15712 .f32 := m ((c : Thread nD τ).loc main_arg1)

/-- What is stored of a product's entry. -/
def act (z : EReal) : EReal := Ideal.div 1 (1 + Ideal.exp (-z))

/-- The result's entry. -/
def val (c : Dev nD) (p : Fin 8192) (j : Fin 4096) : EReal := act (∑ k : Fin 2048, (a0 m c (ix2 p k) : EReal) * (a1 m c (ix3 1 k ⟨off (j.val / 1024) + j.val % 1024, by unfold off; (try split_ifs) <;> omega⟩)))

theorem v0_apply (c : Dev nD) (q : Fin 15712) (k : Fin 2048) : (V m c main_v0 : S2x15712x2048.Idx → EReal) (ix3 1 q k) = a1 m c (ix3 1 k q) := by
  refine (congrFun (v0_eq m c) (ix3 1 q k)).trans ?_
  show transpose S2x15712x2048 [0, 2, 1] (a1 m c) transposes_S2x2048x15712_S2x15712x2048_0_2_1 (ix3 1 q k) = _
  generalize a1 m c = X
  pointwise []

theorem pay1_apply (x : Vec Ideal S1x1024x2048 .f32) (j : Fin 1024) (k : Fin 2048) : (k0_pay1 (F := Ideal) x (ix2 j k) : EReal) = x (ix3 0 j k) := by
  pointwise [k0_pay1]

theorem pay2_apply (x : Vec Ideal S1024x2048 .bf16) (w : Vec Ideal S1024x2048 .bf16) (i : Fin 1024) (j : Fin 1024) :
    (k0_pay2 (F := Ideal) x w (ix2 i j) : EReal) = act (∑ k : Fin 2048, (x (ix2 i k) : EReal) * w (ix2 j k)) := by
  unfold act
  pointwise [k0_pay2]
  rw [zero_sub]

/-- The scratch holds the point's column tile of the weight. -/
theorem scr (c : Dev nD) (j : Fin 1024) (k : Fin 2048) : ∀ (n : ℕ) (hn : n < cfg0.N) (q : Fin 15712), q.val = off (n / 8) + j.val →
    ((outsAt0 m c n hn).2 (ix2 j k) : EReal) = a1 m c (ix3 1 k q) := by
  have hA : ∀ (t : Fin cfg0.N) (q : Fin 15712), t.val % 8 = 0 → q.val = off (t.val / 8) + j.val → ((outsAt0 m c t.val t.isLt).2 (ix2 j k) : EReal) = a1 m c (ix3 1 k q) := by
    intro t q h hq
    rw [snd_A m c t h]
    exact (pay1_apply _ j k).trans (((x1_apply m c t 0 j k q hq).trans (v0_apply m c q k)))
  intro n
  induction n with
  | zero => exact fun hn q hq => hA ⟨0, hn⟩ q rfl hq
  | succ n ih =>
    intro hn q hq
    by_cases h : (n + 1) % 8 = 0
    · exact hA ⟨n + 1, hn⟩ q h hq
    · rw [snd_B m c ⟨n + 1, hn⟩ h]
      have e : (n + 1) / 8 = n / 8 := by omega
      rw [e] at hq
      exact ih (Nat.lt_of_succ_lt hn) q hq

/-- A product's entry, from the entries of its tiles. -/
theorem tile (c : Dev nD) (x : Vec Ideal S1024x2048 .bf16) (w : Vec Ideal S1024x2048 .bf16) (i : Fin 1024) (j : Fin 1024) (p : Fin 8192) (q : Fin 4096) (r : Fin 15712)
    (hr : r.val = off (q.val / 1024) + q.val % 1024)
    (hx : ∀ k, (x (ix2 i k) : EReal) = a0 m c (ix2 p k)) (hw : ∀ k, (w (ix2 j k) : EReal) = a1 m c (ix3 1 k r)) :
    (k0_pay2 (F := Ideal) x w (ix2 i j) : EReal) = val m c p q := by
  refine (pay2_apply x w i j).trans ?_
  simp only [hx, hw]
  unfold val
  rw [show r = ⟨_, hr ▸ r.isLt⟩ from Fin.ext hr]

/-- What a point writes into its tile. -/
theorem out (c : Dev nD) (n : ℕ) (hn : n < cfg0.N) (i : Fin 1024) (j : Fin 1024) (p : Fin 8192) (q : Fin 4096)
    (hp : p.val = n % 8 * 1024 + i.val) (hq : q.val = n / 8 * 1024 + j.val) :
    ((outsAt0 m c n hn).1 (ix2 i j) : EReal) = val m c p q := by
  have hx : ∀ k, ((iblk m c 0 ⟨n, hn⟩ : Vec Ideal S1024x2048 .bf16) (ix2 i k) : EReal) = a0 m c (ix2 p k) := fun k =>
    (x0_apply m c ⟨n, hn⟩ i k).trans (by rw [show p = ⟨n % 8 * 1024 + i.val, hp ▸ p.isLt⟩ from Fin.ext hp])
  have e1 : q.val / 1024 = n / 8 := by omega
  have e2 : q.val % 1024 = j.val := by omega
  have hb : off (q.val / 1024) + q.val % 1024 < 15712 := by unfold off; (try split_ifs) <;> omega
  by_cases h : n % 8 = 0
  · rw [fst_A m c ⟨n, hn⟩ h]
    refine tile m c _ _ i j p q ⟨_, hb⟩ rfl hx fun k => ?_
    rw [← snd_A m c ⟨n, hn⟩ h]
    exact scr m c j k n hn _ (by dsimp only; rw [e1, e2])
  · rw [fst_B m c ⟨n, hn⟩ h]
    have e : (n - 1) / 8 = n / 8 := by omega
    refine tile m c _ _ i j p q ⟨_, hb⟩ rfl hx fun k => ?_
    exact scr m c j k (n - 1) _ _ (by dsimp only; rw [e1, e2, e])

theorem res (c : Dev nD) (p : Fin 8192) (j : Fin 4096) : (Value.G2 m c (ix2 p j) : EReal) = val m c p j := by
  have hq : Value.pt2Of (ix2 p j) = p.val / 1024 + 8 * (j.val / 1024) := by
    show 1 * (p.val / 1024 - 0) + 8 * (j.val / 1024 - 0) = _; omega
  have hN : Value.pt2Of (ix2 p j) < cfg0.N := by rw [hq, show cfg0.N = 32 from N_0]; omega
  have hl : Value.loc2Of (ix2 p j) = (ix2 (⟨p.val % 1024, by omega⟩ : Fin 1024) (⟨j.val % 1024, by omega⟩ : Fin 1024)) := by
    funext a
    match a with
    | ⟨0, _⟩ => rfl
    | ⟨1, _⟩ => rfl
  unfold Value.G2
  rw [dif_pos hN, ← Value.outsAt0_sweep m c _ hN, hl]
  refine out m c _ hN _ _ p j ?_ ?_
  · show p.val = Value.pt2Of (ix2 p j) % 8 * 1024 + p.val % 1024
    rw [hq]; omega
  · show j.val = Value.pt2Of (ix2 p j) / 8 * 1024 + j.val % 1024
    rw [hq]; omega

end Cert.Kernel4Ideal.Gates

namespace Cert.Reference4Ideal.Gates

open Cert.Reference4Ideal Cert.Reference4Ideal.Gen Idealize.ShloMosaic Idealize.ShloMosaic.TcCoe

variable (x : FVec Ideal S8192x2048 .bf16) (w : FVec Ideal S2x2048x15712 .f32)

/-- The whole projection. -/
abbrev Z : FVec Ideal S8192x15712 .f32 := Host.dotGeneral dot_S8192x2048_S2048x15712_S8192x15712_1_0_0_1_n_n none (extf .f32 x bitsLt_bf16_f32) (shapeCast _ (extractStridedSlice S1x2048x15712 ![1, 0, 0] w slices_S2x2048x15712_S1x2048x15712_1_0_0) shapeCasts_S1x2048x15712_S2048x15712)

theorem Z_apply (p : Fin 8192) (q : Fin 15712) : (Z x w (ix2 p q) : EReal) = ∑ k : Fin 2048, (x (ix2 p k) : EReal) * w (ix3 1 k q) := by
  unfold Z
  pointwise []

/-- The reference's result. -/
abbrev res : FVec Ideal S8192x4096 .f32 := concatenate S8192x4096 1 [⟨S8192x2048, (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 11616] (Z x w) slices_S8192x15712_S8192x2048_0_11616)))))⟩, ⟨S8192x2048, (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 13664] (Z x w) slices_S8192x15712_S8192x2048_0_13664)))))⟩] concatenates_S8192x2048_S8192x2048_S8192x4096_d1

theorem ref (p : Fin 8192) (j : Fin 4096) (q : Fin 15712) (hq : q.val = Kernel4Ideal.Gates.off (j.val / 1024) + j.val % 1024) :
    (res x w (ix2 p j) : EReal) = Kernel4Ideal.Gates.act (∑ k : Fin 2048, (x (ix2 p k) : EReal) * w (ix3 1 k q)) := by
  unfold Kernel4Ideal.Gates.off at hq
  unfold res Kernel4Ideal.Gates.act
  rw [← Z_apply]
  generalize Z x w = Q
  pointwise []
  by_cases h : j.val < 2048
  · rw [dif_pos h, show q = ⟨11616 + j.val, by omega⟩ from Fin.ext (by dsimp only; omega)]
  · rw [dif_neg h, show q = ⟨13664 + (j.val - 2048), by omega⟩ from Fin.ext (by dsimp only; omega)]

end Cert.Reference4Ideal.Gates

end
-- ==== Proof.Proj.Qk.lean ====
module

public import proofs.«01_k».proof.Proof.Gen.Kernel5Ideal.Value
public import proofs.«01_k».proof.Proof.Gen.Reference5Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The input projection of the queries and keys

Every tile of the result is a product with a column tile of the weights, which is cast once and kept while the row tiles pass. -/

namespace Cert.Kernel5Ideal.Qk

open Cert.Kernel5Ideal Cert.Kernel5Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    out0_A_2 c i a2 h2 a3 h3 a4 h4 a5 h5 hc0 hc1 x0 x1 = k0_pay2 x0 (k0_pay1 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1024x2048) hz2, View.ld_unit_zero (S := S1x1024x2048) hz3, View.ld_unit_zero (S := S1024x1024) hz2]

theorem sout_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    sout0_A_0 c i a2 h2 a3 h3 a4 h4 a5 h5 hc0 hc1 x0 x1 = k0_pay1 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_unit_zero hz2]
  simp only [View.readAt_eq_ld, h3.read_unread, View.ld_unit_zero (S := S1x1024x2048) hz3]

theorem out_B (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : ¬cond0_0 i) (hc1 : cond0_1 i)
    (x0 : Vec F S1024x2048 .bf16) (x1 : Vec F S1x1024x2048 .f32) (xs : Vec F S1024x2048 .bf16) :
    out0_B_2 c i a2 h2 a3 h3 a4 h4 a5 h5 hc0 hc1 x0 x1 xs = k0_pay2 x0 xs := by
  unfold out0_B_2
  rw [View.read_writes_eq_canon _ _ _ (cover0_B_2 c i a2 h2 a3 h3 a4 h4 a5 h5 hc0 hc1 x0 x1 xs)]
  unfold kernelRun0_B
  dsimp only
  rw [View.canon_unit_zero hz2]
  simp only [View.readAt_eq_ld, h2.read_unread, h5.read_unread, View.ld_unit_zero (S := S1024x2048) hz2, View.ld_unit_zero (S := S1x1024x2048) hz3, View.ld_unit_zero (S := S1024x1024) hz2]
  rfl

theorem fst_A (c : Dev nD) (t : Fin cfg0.N) (h : t.val % 8 = 0) : (outsAt0 m c t.val t.isLt).1 = k0_pay2 (iblk m c 0 t) (k0_pay1 (iblk m c 1 t)) := by
  rw [outsAt0_A m c t h (by omega)]
  dsimp only
  rw [out_A]

theorem snd_A (c : Dev nD) (t : Fin cfg0.N) (h : t.val % 8 = 0) : (outsAt0 m c t.val t.isLt).2 = k0_pay1 (iblk m c 1 t) := by
  rw [outsAt0_A m c t h (by omega)]
  dsimp only
  rw [sout_A]

theorem fst_B (c : Dev nD) (t : Fin cfg0.N) (h : ¬t.val % 8 = 0) :
    (outsAt0 m c t.val t.isLt).1 = k0_pay2 (iblk m c 0 t) (outsAt0 m c (t.val - 1) (Nat.lt_of_le_of_lt (Nat.sub_le _ _) t.isLt)).2 := by
  rw [outsAt0_B m c t h (by omega)]
  dsimp only
  rw [out_B]

theorem snd_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  rfl

/-! ## The blocks -/

/-- Where a column tile begins among the weights' columns. -/
abbrev off (q : ℕ) : ℕ := 1024 * q

theorem ix_0 : ∀ t : Fin cfg0.N, win0_0.index t (0 : Fin 2) = t.val % 8 ∧ win0_0.index t (1 : Fin 2) = 0 := (by decide +kernel : ∀ t : Fin grid0.N, _)
theorem ix_1 : ∀ t : Fin cfg0.N, win0_1.index t (0 : Fin 3) = 1 ∧ win0_1.index t (1 : Fin 3) = off (t.val / 8) ∧ win0_1.index t (2 : Fin 3) = 0 := (by decide +kernel : ∀ t : Fin grid0.N, _)

theorem ltN (t : Fin cfg0.N) : t.val < 16 := lt_of_lt_of_eq t.isLt N_0

theorem x0_apply (c : Dev nD) (t : Fin cfg0.N) (i : Fin 1024) (k : Fin 2048) :
    (iblk m c 0 t : S1024x2048.Idx → Elt F _) (ix2 i k) = (m ((c : Thread nD τ).loc main_arg0) : S8192x2048.Idx → Elt F _) (ix2 ⟨t.val % 8 * 1024 + i.val, by omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 1024 + 1 * i.val = t.val % 8 * 1024 + i.val; omega
  | ⟨1, _⟩ => show win0_0.index t (1 : Fin 2) * 2048 + 1 * k.val = k.val; omega

theorem x1_apply (c : Dev nD) (t : Fin cfg0.N) (l : Fin 1) (j : Fin 1024) (k : Fin 2048) (q : Fin 15712) (hq : q.val = off (t.val / 8) + j.val) :
    (iblk m c 1 t : S1x1024x2048.Idx → Elt F _) (ix3 l j k) = (V m c main_v0 : S2x15712x2048.Idx → Elt F _) (ix3 1 q k) := by
  show V m c main_v0 (((cfg0.win 1).blk t).view.emb (ix3 l j k)) = _
  refine congrArg (V m c main_v0) (funext fun a => Fin.ext ?_)
  obtain ⟨e0, e1, e2⟩ := ix_1 t
  match a with
  | ⟨0, _⟩ => show win0_1.index t (0 : Fin 3) + 1 * l.val = 1; omega
  | ⟨1, _⟩ => show win0_1.index t (1 : Fin 3) + 1 * j.val = q.val; omega
  | ⟨2, _⟩ => show win0_1.index t (2 : Fin 3) + 1 * k.val = k.val; omega

theorem v0_eq (c : Dev nD) : (V m c main_v0 : S2x15712x2048.Idx → Elt F .f32)
    = transpose S2x15712x2048 [0, 2, 1] (m ((c : Thread nD τ).loc main_arg1) : S2x2048x15712.Idx → Elt F .f32) transposes_S2x2048x15712_S2x15712x2048_0_2_1 := by
  unfold_abbrev_sides
  after_results

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x15712 .f32 := m ((c : Thread nD τ).loc main_arg1)

/-- What is stored of a product's entry. -/
def act (z : EReal) : EReal := z

/-- The result's entry. -/
def val (c : Dev nD) (p : Fin 8192) (j : Fin 2048) : EReal := act (∑ k : Fin 2048, (a0 m c (ix2 p k) : EReal) * (a1 m c (ix3 1 k ⟨off (j.val / 1024) + j.val % 1024, by unfold off; (try split_ifs) <;> omega⟩)))

theorem v0_apply (c : Dev nD) (q : Fin 15712) (k : Fin 2048) : (V m c main_v0 : S2x15712x2048.Idx → EReal) (ix3 1 q k) = a1 m c (ix3 1 k q) := by
  refine (congrFun (v0_eq m c) (ix3 1 q k)).trans ?_
  show transpose S2x15712x2048 [0, 2, 1] (a1 m c) transposes_S2x2048x15712_S2x15712x2048_0_2_1 (ix3 1 q k) = _
  generalize a1 m c = X
  pointwise []

theorem pay1_apply (x : Vec Ideal S1x1024x2048 .f32) (j : Fin 1024) (k : Fin 2048) : (k0_pay1 (F := Ideal) x (ix2 j k) : EReal) = x (ix3 0 j k) := by
  pointwise [k0_pay1]

theorem pay2_apply (x : Vec Ideal S1024x2048 .bf16) (w : Vec Ideal S1024x2048 .bf16) (i : Fin 1024) (j : Fin 1024) :
    (k0_pay2 (F := Ideal) x w (ix2 i j) : EReal) = act (∑ k : Fin 2048, (x (ix2 i k) : EReal) * w (ix2 j k)) := by
  unfold act
  pointwise [k0_pay2]

/-- The scratch holds the point's column tile of the weight. -/
theorem scr (c : Dev nD) (j : Fin 1024) (k : Fin 2048) : ∀ (n : ℕ) (hn : n < cfg0.N) (q : Fin 15712), q.val = off (n / 8) + j.val →
    ((outsAt0 m c n hn).2 (ix2 j k) : EReal) = a1 m c (ix3 1 k q) := by
  have hA : ∀ (t : Fin cfg0.N) (q : Fin 15712), t.val % 8 = 0 → q.val = off (t.val / 8) + j.val → ((outsAt0 m c t.val t.isLt).2 (ix2 j k) : EReal) = a1 m c (ix3 1 k q) := by
    intro t q h hq
    rw [snd_A m c t h]
    exact (pay1_apply _ j k).trans (((x1_apply m c t 0 j k q hq).trans (v0_apply m c q k)))
  intro n
  induction n with
  | zero => exact fun hn q hq => hA ⟨0, hn⟩ q rfl hq
  | succ n ih =>
    intro hn q hq
    by_cases h : (n + 1) % 8 = 0
    · exact hA ⟨n + 1, hn⟩ q h hq
    · rw [snd_B m c ⟨n + 1, hn⟩ h]
      have e : (n + 1) / 8 = n / 8 := by omega
      rw [e] at hq
      exact ih (Nat.lt_of_succ_lt hn) q hq

/-- A product's entry, from the entries of its tiles. -/
theorem tile (c : Dev nD) (x : Vec Ideal S1024x2048 .bf16) (w : Vec Ideal S1024x2048 .bf16) (i : Fin 1024) (j : Fin 1024) (p : Fin 8192) (q : Fin 2048) (r : Fin 15712)
    (hr : r.val = off (q.val / 1024) + q.val % 1024)
    (hx : ∀ k, (x (ix2 i k) : EReal) = a0 m c (ix2 p k)) (hw : ∀ k, (w (ix2 j k) : EReal) = a1 m c (ix3 1 k r)) :
    (k0_pay2 (F := Ideal) x w (ix2 i j) : EReal) = val m c p q := by
  refine (pay2_apply x w i j).trans ?_
  simp only [hx, hw]
  unfold val
  rw [show r = ⟨_, hr ▸ r.isLt⟩ from Fin.ext hr]

/-- What a point writes into its tile. -/
theorem out (c : Dev nD) (n : ℕ) (hn : n < cfg0.N) (i : Fin 1024) (j : Fin 1024) (p : Fin 8192) (q : Fin 2048)
    (hp : p.val = n % 8 * 1024 + i.val) (hq : q.val = n / 8 * 1024 + j.val) :
    ((outsAt0 m c n hn).1 (ix2 i j) : EReal) = val m c p q := by
  have hx : ∀ k, ((iblk m c 0 ⟨n, hn⟩ : Vec Ideal S1024x2048 .bf16) (ix2 i k) : EReal) = a0 m c (ix2 p k) := fun k =>
    (x0_apply m c ⟨n, hn⟩ i k).trans (by rw [show p = ⟨n % 8 * 1024 + i.val, hp ▸ p.isLt⟩ from Fin.ext hp])
  have e1 : q.val / 1024 = n / 8 := by omega
  have e2 : q.val % 1024 = j.val := by omega
  have hb : off (q.val / 1024) + q.val % 1024 < 15712 := by unfold off; (try split_ifs) <;> omega
  by_cases h : n % 8 = 0
  · rw [fst_A m c ⟨n, hn⟩ h]
    refine tile m c _ _ i j p q ⟨_, hb⟩ rfl hx fun k => ?_
    rw [← snd_A m c ⟨n, hn⟩ h]
    exact scr m c j k n hn _ (by dsimp only; rw [e1, e2])
  · rw [fst_B m c ⟨n, hn⟩ h]
    have e : (n - 1) / 8 = n / 8 := by omega
    refine tile m c _ _ i j p q ⟨_, hb⟩ rfl hx fun k => ?_
    exact scr m c j k (n - 1) _ _ (by dsimp only; rw [e1, e2, e])

theorem res (c : Dev nD) (p : Fin 8192) (j : Fin 2048) : (Value.G2 m c (ix2 p j) : EReal) = val m c p j := by
  have hq : Value.pt2Of (ix2 p j) = p.val / 1024 + 8 * (j.val / 1024) := by
    show 1 * (p.val / 1024 - 0) + 8 * (j.val / 1024 - 0) = _; omega
  have hN : Value.pt2Of (ix2 p j) < cfg0.N := by rw [hq, show cfg0.N = 16 from N_0]; omega
  have hl : Value.loc2Of (ix2 p j) = (ix2 (⟨p.val % 1024, by omega⟩ : Fin 1024) (⟨j.val % 1024, by omega⟩ : Fin 1024)) := by
    funext a
    match a with
    | ⟨0, _⟩ => rfl
    | ⟨1, _⟩ => rfl
  unfold Value.G2
  rw [dif_pos hN, ← Value.outsAt0_sweep m c _ hN, hl]
  refine out m c _ hN _ _ p j ?_ ?_
  · show p.val = Value.pt2Of (ix2 p j) % 8 * 1024 + p.val % 1024
    rw [hq]; omega
  · show j.val = Value.pt2Of (ix2 p j) / 8 * 1024 + j.val % 1024
    rw [hq]; omega

end Cert.Kernel5Ideal.Qk

namespace Cert.Reference5Ideal.Qk

open Cert.Reference5Ideal Cert.Reference5Ideal.Gen Idealize.ShloMosaic Idealize.ShloMosaic.TcCoe

variable (x : FVec Ideal S8192x2048 .bf16) (w : FVec Ideal S2x2048x15712 .f32)

/-- The whole projection. -/
abbrev Z : FVec Ideal S8192x15712 .f32 := Host.dotGeneral dot_S8192x2048_S2048x15712_S8192x15712_1_0_0_1_n_n none (extf .f32 x bitsLt_bf16_f32) (shapeCast _ (extractStridedSlice S1x2048x15712 ![1, 0, 0] w slices_S2x2048x15712_S1x2048x15712_1_0_0) shapeCasts_S1x2048x15712_S2048x15712)

theorem Z_apply (p : Fin 8192) (q : Fin 15712) : (Z x w (ix2 p q) : EReal) = ∑ k : Fin 2048, (x (ix2 p k) : EReal) * w (ix3 1 k q) := by
  unfold Z
  pointwise []

/-- The reference's result. -/
abbrev res : FVec Ideal S8192x2048 .f32 := extractStridedSlice S8192x2048 ![0, 0] (Z x w) slices_S8192x15712_S8192x2048_0_0

theorem ref (p : Fin 8192) (j : Fin 2048) (q : Fin 15712) (hq : q.val = Kernel5Ideal.Qk.off (j.val / 1024) + j.val % 1024) :
    (res x w (ix2 p j) : EReal) = Kernel5Ideal.Qk.act (∑ k : Fin 2048, (x (ix2 p k) : EReal) * w (ix3 1 k q)) := by
  unfold Kernel5Ideal.Qk.off at hq
  unfold res Kernel5Ideal.Qk.act
  rw [← Z_apply, show q = ⟨j.val, by omega⟩ from Fin.ext (by dsimp only; omega)]
  generalize Z x w = Q
  pointwise []

end Cert.Reference5Ideal.Qk

end
-- ==== Proof.Proj.R.lean ====
module

public import proofs.«01_k».proof.Proof.Gen.Kernel6Ideal.Value
public import proofs.«01_k».proof.Proof.Gen.Reference6Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The input projection of the recurrence's output gate

Every tile of the result is a product with a column tile of the weights, times its logistic function. -/

namespace Cert.Kernel6Ideal.R

open Cert.Kernel6Ideal Cert.Kernel6Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    out0_A_2 c i a2 h2 a3 h3 a4 h4 a5 h5 hc0 hc1 x0 x1 = k0_pay2 x0 (k0_pay1 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1024x2048) hz2, View.ld_unit_zero (S := S1x1024x2048) hz3, View.ld_unit_zero (S := S1024x1024) hz2]

theorem sout_A (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : cond0_0 i) (hc1 : ¬cond0_1 i)
    (x0 : Vec F S1024x2048 .bf16) (x1 : Vec F S1x1024x2048 .f32) :
    sout0_A_0 c i a2 h2 a3 h3 a4 h4 a5 h5 hc0 hc1 x0 x1 = k0_pay1 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_unit_zero hz2]
  simp only [View.readAt_eq_ld, h3.read_unread, View.ld_unit_zero (S := S1x1024x2048) hz3]

theorem out_B (c : Dev nD) (i : grid0.Coords) (a2 : Memref sig .tc .vmem S1024x2048 .bf16) (h2 : a2.IsWhole) (a3 : Memref sig .tc .vmem S1x1024x2048 .f32) (h3 : a3.IsWhole)
    (a4 : Memref sig .tc .vmem S1024x1024 .f32) (h4 : a4.IsWhole) (a5 : Memref sig .tc .vmem S1024x2048 .bf16) (h5 : a5.IsWhole) (hc0 : ¬cond0_0 i) (hc1 : cond0_1 i)
    (x0 : Vec F S1024x2048 .bf16) (x1 : Vec F S1x1024x2048 .f32) (xs : Vec F S1024x2048 .bf16) :
    out0_B_2 c i a2 h2 a3 h3 a4 h4 a5 h5 hc0 hc1 x0 x1 xs = k0_pay2 x0 xs := by
  unfold out0_B_2
  rw [View.read_writes_eq_canon _ _ _ (cover0_B_2 c i a2 h2 a3 h3 a4 h4 a5 h5 hc0 hc1 x0 x1 xs)]
  unfold kernelRun0_B
  dsimp only
  rw [View.canon_unit_zero hz2]
  simp only [View.readAt_eq_ld, h2.read_unread, h5.read_unread, View.ld_unit_zero (S := S1024x2048) hz2, View.ld_unit_zero (S := S1x1024x2048) hz3, View.ld_unit_zero (S := S1024x1024) hz2]
  rfl

theorem fst_A (c : Dev nD) (t : Fin cfg0.N) (h : t.val % 8 = 0) : (outsAt0 m c t.val t.isLt).1 = k0_pay2 (iblk m c 0 t) (k0_pay1 (iblk m c 1 t)) := by
  rw [outsAt0_A m c t h (by omega)]
  dsimp only
  rw [out_A]

theorem snd_A (c : Dev nD) (t : Fin cfg0.N) (h : t.val % 8 = 0) : (outsAt0 m c t.val t.isLt).2 = k0_pay1 (iblk m c 1 t) := by
  rw [outsAt0_A m c t h (by omega)]
  dsimp only
  rw [sout_A]

theorem fst_B (c : Dev nD) (t : Fin cfg0.N) (h : ¬t.val % 8 = 0) :
    (outsAt0 m c t.val t.isLt).1 = k0_pay2 (iblk m c 0 t) (outsAt0 m c (t.val - 1) (Nat.lt_of_le_of_lt (Nat.sub_le _ _) t.isLt)).2 := by
  rw [outsAt0_B m c t h (by omega)]
  dsimp only
  rw [out_B]

theorem snd_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  rfl

/-! ## The blocks -/

/-- Where a column tile begins among the weights' columns. -/
abbrev off (q : ℕ) : ℕ := 4112 + 1024 * q

theorem ix_0 : ∀ t : Fin cfg0.N, win0_0.index t (0 : Fin 2) = t.val % 8 ∧ win0_0.index t (1 : Fin 2) = 0 := (by decide +kernel : ∀ t : Fin grid0.N, _)
theorem ix_1 : ∀ t : Fin cfg0.N, win0_1.index t (0 : Fin 3) = 1 ∧ win0_1.index t (1 : Fin 3) = off (t.val / 8) ∧ win0_1.index t (2 : Fin 3) = 0 := (by decide +kernel : ∀ t : Fin grid0.N, _)

theorem ltN (t : Fin cfg0.N) : t.val < 16 := lt_of_lt_of_eq t.isLt N_0

theorem x0_apply (c : Dev nD) (t : Fin cfg0.N) (i : Fin 1024) (k : Fin 2048) :
    (iblk m c 0 t : S1024x2048.Idx → Elt F _) (ix2 i k) = (m ((c : Thread nD τ).loc main_arg0) : S8192x2048.Idx → Elt F _) (ix2 ⟨t.val % 8 * 1024 + i.val, by omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 1024 + 1 * i.val = t.val % 8 * 1024 + i.val; omega
  | ⟨1, _⟩ => show win0_0.index t (1 : Fin 2) * 2048 + 1 * k.val = k.val; omega

theorem x1_apply (c : Dev nD) (t : Fin cfg0.N) (l : Fin 1) (j : Fin 1024) (k : Fin 2048) (q : Fin 15712) (hq : q.val = off (t.val / 8) + j.val) :
    (iblk m c 1 t : S1x1024x2048.Idx → Elt F _) (ix3 l j k) = (V m c main_v0 : S2x15712x2048.Idx → Elt F _) (ix3 1 q k) := by
  show V m c main_v0 (((cfg0.win 1).blk t).view.emb (ix3 l j k)) = _
  refine congrArg (V m c main_v0) (funext fun a => Fin.ext ?_)
  obtain ⟨e0, e1, e2⟩ := ix_1 t
  match a with
  | ⟨0, _⟩ => show win0_1.index t (0 : Fin 3) + 1 * l.val = 1; omega
  | ⟨1, _⟩ => show win0_1.index t (1 : Fin 3) + 1 * j.val = q.val; omega
  | ⟨2, _⟩ => show win0_1.index t (2 : Fin 3) + 1 * k.val = k.val; omega

theorem v0_eq (c : Dev nD) : (V m c main_v0 : S2x15712x2048.Idx → Elt F .f32)
    = transpose S2x15712x2048 [0, 2, 1] (m ((c : Thread nD τ).loc main_arg1) : S2x2048x15712.Idx → Elt F .f32) transposes_S2x2048x15712_S2x15712x2048_0_2_1 := by
  unfold_abbrev_sides
  after_results

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x15712 .f32 := m ((c : Thread nD τ).loc main_arg1)

/-- What is stored of a product's entry. -/
def act (z : EReal) : EReal := z * Ideal.div 1 (1 + Ideal.exp (-z))

/-- The result's entry. -/
def val (c : Dev nD) (p : Fin 8192) (j : Fin 2048) : EReal := act (∑ k : Fin 2048, (a0 m c (ix2 p k) : EReal) * (a1 m c (ix3 1 k ⟨off (j.val / 1024) + j.val % 1024, by unfold off; (try split_ifs) <;> omega⟩)))

theorem v0_apply (c : Dev nD) (q : Fin 15712) (k : Fin 2048) : (V m c main_v0 : S2x15712x2048.Idx → EReal) (ix3 1 q k) = a1 m c (ix3 1 k q) := by
  refine (congrFun (v0_eq m c) (ix3 1 q k)).trans ?_
  show transpose S2x15712x2048 [0, 2, 1] (a1 m c) transposes_S2x2048x15712_S2x15712x2048_0_2_1 (ix3 1 q k) = _
  generalize a1 m c = X
  pointwise []

theorem pay1_apply (x : Vec Ideal S1x1024x2048 .f32) (j : Fin 1024) (k : Fin 2048) : (k0_pay1 (F := Ideal) x (ix2 j k) : EReal) = x (ix3 0 j k) := by
  pointwise [k0_pay1]

theorem pay2_apply (x : Vec Ideal S1024x2048 .bf16) (w : Vec Ideal S1024x2048 .bf16) (i : Fin 1024) (j : Fin 1024) :
    (k0_pay2 (F := Ideal) x w (ix2 i j) : EReal) = act (∑ k : Fin 2048, (x (ix2 i k) : EReal) * w (ix2 j k)) := by
  unfold act
  pointwise [k0_pay2]
  rw [zero_sub]

/-- The scratch holds the point's column tile of the weight. -/
theorem scr (c : Dev nD) (j : Fin 1024) (k : Fin 2048) : ∀ (n : ℕ) (hn : n < cfg0.N) (q : Fin 15712), q.val = off (n / 8) + j.val →
    ((outsAt0 m c n hn).2 (ix2 j k) : EReal) = a1 m c (ix3 1 k q) := by
  have hA : ∀ (t : Fin cfg0.N) (q : Fin 15712), t.val % 8 = 0 → q.val = off (t.val / 8) + j.val → ((outsAt0 m c t.val t.isLt).2 (ix2 j k) : EReal) = a1 m c (ix3 1 k q) := by
    intro t q h hq
    rw [snd_A m c t h]
    exact (pay1_apply _ j k).trans (((x1_apply m c t 0 j k q hq).trans (v0_apply m c q k)))
  intro n
  induction n with
  | zero => exact fun hn q hq => hA ⟨0, hn⟩ q rfl hq
  | succ n ih =>
    intro hn q hq
    by_cases h : (n + 1) % 8 = 0
    · exact hA ⟨n + 1, hn⟩ q h hq
    · rw [snd_B m c ⟨n + 1, hn⟩ h]
      have e : (n + 1) / 8 = n / 8 := by omega
      rw [e] at hq
      exact ih (Nat.lt_of_succ_lt hn) q hq

/-- A product's entry, from the entries of its tiles. -/
theorem tile (c : Dev nD) (x : Vec Ideal S1024x2048 .bf16) (w : Vec Ideal S1024x2048 .bf16) (i : Fin 1024) (j : Fin 1024) (p : Fin 8192) (q : Fin 2048) (r : Fin 15712)
    (hr : r.val = off (q.val / 1024) + q.val % 1024)
    (hx : ∀ k, (x (ix2 i k) : EReal) = a0 m c (ix2 p k)) (hw : ∀ k, (w (ix2 j k) : EReal) = a1 m c (ix3 1 k r)) :
    (k0_pay2 (F := Ideal) x w (ix2 i j) : EReal) = val m c p q := by
  refine (pay2_apply x w i j).trans ?_
  simp only [hx, hw]
  unfold val
  rw [show r = ⟨_, hr ▸ r.isLt⟩ from Fin.ext hr]

/-- What a point writes into its tile. -/
theorem out (c : Dev nD) (n : ℕ) (hn : n < cfg0.N) (i : Fin 1024) (j : Fin 1024) (p : Fin 8192) (q : Fin 2048)
    (hp : p.val = n % 8 * 1024 + i.val) (hq : q.val = n / 8 * 1024 + j.val) :
    ((outsAt0 m c n hn).1 (ix2 i j) : EReal) = val m c p q := by
  have hx : ∀ k, ((iblk m c 0 ⟨n, hn⟩ : Vec Ideal S1024x2048 .bf16) (ix2 i k) : EReal) = a0 m c (ix2 p k) := fun k =>
    (x0_apply m c ⟨n, hn⟩ i k).trans (by rw [show p = ⟨n % 8 * 1024 + i.val, hp ▸ p.isLt⟩ from Fin.ext hp])
  have e1 : q.val / 1024 = n / 8 := by omega
  have e2 : q.val % 1024 = j.val := by omega
  have hb : off (q.val / 1024) + q.val % 1024 < 15712 := by unfold off; (try split_ifs) <;> omega
  by_cases h : n % 8 = 0
  · rw [fst_A m c ⟨n, hn⟩ h]
    refine tile m c _ _ i j p q ⟨_, hb⟩ rfl hx fun k => ?_
    rw [← snd_A m c ⟨n, hn⟩ h]
    exact scr m c j k n hn _ (by dsimp only; rw [e1, e2])
  · rw [fst_B m c ⟨n, hn⟩ h]
    have e : (n - 1) / 8 = n / 8 := by omega
    refine tile m c _ _ i j p q ⟨_, hb⟩ rfl hx fun k => ?_
    exact scr m c j k (n - 1) _ _ (by dsimp only; rw [e1, e2, e])

theorem res (c : Dev nD) (p : Fin 8192) (j : Fin 2048) : (Value.G2 m c (ix2 p j) : EReal) = val m c p j := by
  have hq : Value.pt2Of (ix2 p j) = p.val / 1024 + 8 * (j.val / 1024) := by
    show 1 * (p.val / 1024 - 0) + 8 * (j.val / 1024 - 0) = _; omega
  have hN : Value.pt2Of (ix2 p j) < cfg0.N := by rw [hq, show cfg0.N = 16 from N_0]; omega
  have hl : Value.loc2Of (ix2 p j) = (ix2 (⟨p.val % 1024, by omega⟩ : Fin 1024) (⟨j.val % 1024, by omega⟩ : Fin 1024)) := by
    funext a
    match a with
    | ⟨0, _⟩ => rfl
    | ⟨1, _⟩ => rfl
  unfold Value.G2
  rw [dif_pos hN, ← Value.outsAt0_sweep m c _ hN, hl]
  refine out m c _ hN _ _ p j ?_ ?_
  · show p.val = Value.pt2Of (ix2 p j) % 8 * 1024 + p.val % 1024
    rw [hq]; omega
  · show j.val = Value.pt2Of (ix2 p j) / 8 * 1024 + j.val % 1024
    rw [hq]; omega

end Cert.Kernel6Ideal.R

namespace Cert.Reference6Ideal.R

open Cert.Reference6Ideal Cert.Reference6Ideal.Gen Idealize.ShloMosaic Idealize.ShloMosaic.TcCoe

variable (x : FVec Ideal S8192x2048 .bf16) (w : FVec Ideal S2x2048x15712 .f32)

/-- The whole projection. -/
abbrev Z : FVec Ideal S8192x15712 .f32 := Host.dotGeneral dot_S8192x2048_S2048x15712_S8192x15712_1_0_0_1_n_n none (extf .f32 x bitsLt_bf16_f32) (shapeCast _ (extractStridedSlice S1x2048x15712 ![1, 0, 0] w slices_S2x2048x15712_S1x2048x15712_1_0_0) shapeCasts_S1x2048x15712_S2048x15712)

theorem Z_apply (p : Fin 8192) (q : Fin 15712) : (Z x w (ix2 p q) : EReal) = ∑ k : Fin 2048, (x (ix2 p k) : EReal) * w (ix3 1 k q) := by
  unfold Z
  pointwise []

/-- The reference's result. -/
abbrev res : FVec Ideal S8192x2048 .f32 := mulf (extractStridedSlice S8192x2048 ![0, 4112] (Z x w) slices_S8192x15712_S8192x2048_0_4112) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 4112] (Z x w) slices_S8192x15712_S8192x2048_0_4112)))))

theorem ref (p : Fin 8192) (j : Fin 2048) (q : Fin 15712) (hq : q.val = Kernel6Ideal.R.off (j.val / 1024) + j.val % 1024) :
    (res x w (ix2 p j) : EReal) = Kernel6Ideal.R.act (∑ k : Fin 2048, (x (ix2 p k) : EReal) * w (ix3 1 k q)) := by
  unfold Kernel6Ideal.R.off at hq
  unfold res Kernel6Ideal.R.act
  rw [← Z_apply, show q = ⟨4112 + j.val, by omega⟩ from Fin.ext (by dsimp only; omega)]
  generalize Z x w = Q
  pointwise []

end Cert.Reference6Ideal.R

end
-- ==== Proof.Proj.B.lean ====
module

public import proofs.«01_k».proof.Proof.Gen.Kernel7Ideal.Value
public import proofs.«01_k».proof.Proof.Gen.Reference7Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The input projection of the attention's queries, the recurrence's values and the indexer's queries

The column tiles come from three stretches of the weights; the first four are scaled before the product, which is the product scaled. -/

namespace Cert.Kernel7Ideal.B

open Cert.Kernel7Ideal Cert.Kernel7Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_A (c : Dev nD) (i : grid0.Coords) (a2 : Memref sig .tc .vmem S2048x2048 .bf16) (h2 : a2.IsWhole) (a3 : Memref sig .tc .vmem S1x1024x2048 .f32) (h3 : a3.IsWhole)
    (a4 : Memref sig .tc .vmem S2048x1024 .bf16) (h4 : a4.IsWhole) (a5 : Memref sig .tc .vmem S1024x2048 .bf16) (h5 : a5.IsWhole) (hc0 : cond0_0 i) (hc1 : ¬cond0_1 i)
    (x0 : Vec F S2048x2048 .bf16) (x1 : Vec F S1x1024x2048 .f32) :
    out0_A_2 c i a2 h2 a3 h3 a4 h4 a5 h5 hc0 hc1 x0 x1 = k0_pay2 x0 (k0_pay1 i x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S2048x2048) hz2, View.ld_unit_zero (S := S1x1024x2048) hz3, View.ld_unit_zero (S := S1024x2048) hz2, View.ld_unit_zero (S := S2048x1024) hz2]

theorem sout_A (c : Dev nD) (i : grid0.Coords) (a2 : Memref sig .tc .vmem S2048x2048 .bf16) (h2 : a2.IsWhole) (a3 : Memref sig .tc .vmem S1x1024x2048 .f32) (h3 : a3.IsWhole)
    (a4 : Memref sig .tc .vmem S2048x1024 .bf16) (h4 : a4.IsWhole) (a5 : Memref sig .tc .vmem S1024x2048 .bf16) (h5 : a5.IsWhole) (hc0 : cond0_0 i) (hc1 : ¬cond0_1 i)
    (x0 : Vec F S2048x2048 .bf16) (x1 : Vec F S1x1024x2048 .f32) :
    sout0_A_0 c i a2 h2 a3 h3 a4 h4 a5 h5 hc0 hc1 x0 x1 = k0_pay1 i x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_unit_zero hz2]
  simp only [View.readAt_eq_ld, h3.read_unread, View.ld_unit_zero (S := S1x1024x2048) hz3]

theorem out_B (c : Dev nD) (i : grid0.Coords) (a2 : Memref sig .tc .vmem S2048x2048 .bf16) (h2 : a2.IsWhole) (a3 : Memref sig .tc .vmem S1x1024x2048 .f32) (h3 : a3.IsWhole)
    (a4 : Memref sig .tc .vmem S2048x1024 .bf16) (h4 : a4.IsWhole) (a5 : Memref sig .tc .vmem S1024x2048 .bf16) (h5 : a5.IsWhole) (hc0 : ¬cond0_0 i) (hc1 : cond0_1 i)
    (x0 : Vec F S2048x2048 .bf16) (x1 : Vec F S1x1024x2048 .f32) (xs : Vec F S1024x2048 .bf16) :
    out0_B_2 c i a2 h2 a3 h3 a4 h4 a5 h5 hc0 hc1 x0 x1 xs = k0_pay2 x0 xs := by
  unfold out0_B_2
  rw [View.read_writes_eq_canon _ _ _ (cover0_B_2 c i a2 h2 a3 h3 a4 h4 a5 h5 hc0 hc1 x0 x1 xs)]
  unfold kernelRun0_B
  dsimp only
  rw [View.canon_unit_zero hz2]
  simp only [View.readAt_eq_ld, h2.read_unread, h5.read_unread, View.ld_unit_zero (S := S2048x2048) hz2, View.ld_unit_zero (S := S1x1024x2048) hz3, View.ld_unit_zero (S := S1024x2048) hz2, View.ld_unit_zero (S := S2048x1024) hz2]
  rfl

theorem fst_A (c : Dev nD) (t : Fin cfg0.N) (h : t.val % 4 = 0) : (outsAt0 m c t.val t.isLt).1 = k0_pay2 (iblk m c 0 t) (k0_pay1 (grid0.coords t) (iblk m c 1 t)) := by
  rw [outsAt0_A m c t h (by omega)]
  dsimp only
  rw [out_A]

theorem snd_A (c : Dev nD) (t : Fin cfg0.N) (h : t.val % 4 = 0) : (outsAt0 m c t.val t.isLt).2 = k0_pay1 (grid0.coords t) (iblk m c 1 t) := by
  rw [outsAt0_A m c t h (by omega)]
  dsimp only
  rw [sout_A]

theorem fst_B (c : Dev nD) (t : Fin cfg0.N) (h : ¬t.val % 4 = 0) :
    (outsAt0 m c t.val t.isLt).1 = k0_pay2 (iblk m c 0 t) (outsAt0 m c (t.val - 1) (Nat.lt_of_le_of_lt (Nat.sub_le _ _) t.isLt)).2 := by
  rw [outsAt0_B m c t h (by omega)]
  dsimp only
  rw [out_B]

theorem snd_B (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h (by omega)]
  rfl

/-! ## The blocks -/

/-- Where a column tile begins among the weights' columns. -/
abbrev off (q : ℕ) : ℕ := if q < 4 then 6160 + 1024 * q else if q < 6 then 2048 + 1024 * (q - 4) else 10512 + 1024 * (q - 6)

theorem ix_0 : ∀ t : Fin cfg0.N, win0_0.index t (0 : Fin 2) = t.val % 4 ∧ win0_0.index t (1 : Fin 2) = 0 := (by decide +kernel : ∀ t : Fin grid0.N, _)
theorem ix_1 : ∀ t : Fin cfg0.N, win0_1.index t (0 : Fin 3) = 1 ∧ win0_1.index t (1 : Fin 3) = off (t.val / 4) ∧ win0_1.index t (2 : Fin 3) = 0 := (by decide +kernel : ∀ t : Fin grid0.N, _)

theorem ltN (t : Fin cfg0.N) : t.val < 28 := lt_of_lt_of_eq t.isLt N_0

theorem x0_apply (c : Dev nD) (t : Fin cfg0.N) (i : Fin 2048) (k : Fin 2048) :
    (iblk m c 0 t : S2048x2048.Idx → Elt F _) (ix2 i k) = (m ((c : Thread nD τ).loc main_arg0) : S8192x2048.Idx → Elt F _) (ix2 ⟨t.val % 4 * 2048 + i.val, by omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 2048 + 1 * i.val = t.val % 4 * 2048 + i.val; omega
  | ⟨1, _⟩ => show win0_0.index t (1 : Fin 2) * 2048 + 1 * k.val = k.val; omega

theorem x1_apply (c : Dev nD) (t : Fin cfg0.N) (l : Fin 1) (j : Fin 1024) (k : Fin 2048) (q : Fin 15712) (hq : q.val = off (t.val / 4) + j.val) :
    (iblk m c 1 t : S1x1024x2048.Idx → Elt F _) (ix3 l j k) = (V m c main_v0 : S2x15712x2048.Idx → Elt F _) (ix3 1 q k) := by
  show V m c main_v0 (((cfg0.win 1).blk t).view.emb (ix3 l j k)) = _
  refine congrArg (V m c main_v0) (funext fun a => Fin.ext ?_)
  obtain ⟨e0, e1, e2⟩ := ix_1 t
  match a with
  | ⟨0, _⟩ => show win0_1.index t (0 : Fin 3) + 1 * l.val = 1; omega
  | ⟨1, _⟩ => show win0_1.index t (1 : Fin 3) + 1 * j.val = q.val; omega
  | ⟨2, _⟩ => show win0_1.index t (2 : Fin 3) + 1 * k.val = k.val; omega

theorem v0_eq (c : Dev nD) : (V m c main_v0 : S2x15712x2048.Idx → Elt F .f32)
    = transpose S2x15712x2048 [0, 2, 1] (m ((c : Thread nD τ).loc main_arg1) : S2x2048x15712.Idx → Elt F .f32) transposes_S2x2048x15712_S2x15712x2048_0_2_1 := by
  unfold_abbrev_sides
  after_results

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x15712 .f32 := m ((c : Thread nD τ).loc main_arg1)

/-- What is stored of a product's entry. -/
def act (z : EReal) : EReal := z

/-- The factor of a column tile. -/
def scl (q : ℕ) : EReal := if q < 4 then Ideal.ofBits FTy.f32 0x3DB8AA3B#32 else 1

/-- The result's entry. -/
def val (c : Dev nD) (p : Fin 8192) (j : Fin 7168) : EReal := act (∑ k : Fin 2048, (a0 m c (ix2 p k) : EReal) * (a1 m c (ix3 1 k ⟨off (j.val / 1024) + j.val % 1024, by unfold off; (try split_ifs) <;> omega⟩) * scl (j.val / 1024)))

theorem v0_apply (c : Dev nD) (q : Fin 15712) (k : Fin 2048) : (V m c main_v0 : S2x15712x2048.Idx → EReal) (ix3 1 q k) = a1 m c (ix3 1 k q) := by
  refine (congrFun (v0_eq m c) (ix3 1 q k)).trans ?_
  show transpose S2x15712x2048 [0, 2, 1] (a1 m c) transposes_S2x2048x15712_S2x15712x2048_0_2_1 (ix3 1 q k) = _
  generalize a1 m c = X
  pointwise []

theorem sel : ∀ t : Fin cfg0.N, Scalar.cmpi .slt (BitVec.ofNat 32 ((grid0.coords t) 0).val) 4#32 = if t.val / 4 < 4 then 1#1 else 0#1 := (by decide +kernel : ∀ t : Fin grid0.N, _)

theorem pay1_apply (t : Fin cfg0.N) (x : Vec Ideal S1x1024x2048 .f32) (j : Fin 1024) (k : Fin 2048) : (k0_pay1 (F := Ideal) (grid0.coords t) x (ix2 j k) : EReal) = x (ix3 0 j k) * scl (t.val / 4) := by
  unfold k0_pay1
  rw [sel t]
  unfold scl
  split_ifs
  · pointwise []
  · pointwise []

theorem pay2_apply (x : Vec Ideal S2048x2048 .bf16) (w : Vec Ideal S1024x2048 .bf16) (i : Fin 2048) (j : Fin 1024) :
    (k0_pay2 (F := Ideal) x w (ix2 i j) : EReal) = act (∑ k : Fin 2048, (x (ix2 i k) : EReal) * w (ix2 j k)) := by
  unfold act
  pointwise [k0_pay2]

/-- The scratch holds the point's column tile of the weight. -/
theorem scr (c : Dev nD) (j : Fin 1024) (k : Fin 2048) : ∀ (n : ℕ) (hn : n < cfg0.N) (q : Fin 15712), q.val = off (n / 4) + j.val →
    ((outsAt0 m c n hn).2 (ix2 j k) : EReal) = a1 m c (ix3 1 k q) * scl (n / 4) := by
  have hA : ∀ (t : Fin cfg0.N) (q : Fin 15712), t.val % 4 = 0 → q.val = off (t.val / 4) + j.val → ((outsAt0 m c t.val t.isLt).2 (ix2 j k) : EReal) = a1 m c (ix3 1 k q) * scl (t.val / 4) := by
    intro t q h hq
    rw [snd_A m c t h]
    exact (pay1_apply t _ j k).trans (congrArg (· * scl _) ((x1_apply m c t 0 j k q hq).trans (v0_apply m c q k)))
  intro n
  induction n with
  | zero => exact fun hn q hq => hA ⟨0, hn⟩ q rfl hq
  | succ n ih =>
    intro hn q hq
    by_cases h : (n + 1) % 4 = 0
    · exact hA ⟨n + 1, hn⟩ q h hq
    · rw [snd_B m c ⟨n + 1, hn⟩ h]
      have e : (n + 1) / 4 = n / 4 := by omega
      rw [e] at hq ⊢
      exact ih (Nat.lt_of_succ_lt hn) q hq

/-- A product's entry, from the entries of its tiles. -/
theorem tile (c : Dev nD) (x : Vec Ideal S2048x2048 .bf16) (w : Vec Ideal S1024x2048 .bf16) (i : Fin 2048) (j : Fin 1024) (p : Fin 8192) (q : Fin 7168) (r : Fin 15712)
    (hr : r.val = off (q.val / 1024) + q.val % 1024)
    (hx : ∀ k, (x (ix2 i k) : EReal) = a0 m c (ix2 p k)) (hw : ∀ k, (w (ix2 j k) : EReal) = a1 m c (ix3 1 k r) * scl (q.val / 1024)) :
    (k0_pay2 (F := Ideal) x w (ix2 i j) : EReal) = val m c p q := by
  refine (pay2_apply x w i j).trans ?_
  simp only [hx, hw]
  unfold val
  rw [show r = ⟨_, hr ▸ r.isLt⟩ from Fin.ext hr]

/-- What a point writes into its tile. -/
theorem out (c : Dev nD) (n : ℕ) (hn : n < cfg0.N) (i : Fin 2048) (j : Fin 1024) (p : Fin 8192) (q : Fin 7168)
    (hp : p.val = n % 4 * 2048 + i.val) (hq : q.val = n / 4 * 1024 + j.val) :
    ((outsAt0 m c n hn).1 (ix2 i j) : EReal) = val m c p q := by
  have hx : ∀ k, ((iblk m c 0 ⟨n, hn⟩ : Vec Ideal S2048x2048 .bf16) (ix2 i k) : EReal) = a0 m c (ix2 p k) := fun k =>
    (x0_apply m c ⟨n, hn⟩ i k).trans (by rw [show p = ⟨n % 4 * 2048 + i.val, hp ▸ p.isLt⟩ from Fin.ext hp])
  have e1 : q.val / 1024 = n / 4 := by omega
  have e2 : q.val % 1024 = j.val := by omega
  have hb : off (q.val / 1024) + q.val % 1024 < 15712 := by unfold off; (try split_ifs) <;> omega
  by_cases h : n % 4 = 0
  · rw [fst_A m c ⟨n, hn⟩ h]
    refine tile m c _ _ i j p q ⟨_, hb⟩ rfl hx fun k => ?_
    rw [← snd_A m c ⟨n, hn⟩ h]
    rw [congrArg scl e1]
    exact scr m c j k n hn _ (by dsimp only; rw [e1, e2])
  · rw [fst_B m c ⟨n, hn⟩ h]
    have e : (n - 1) / 4 = n / 4 := by omega
    refine tile m c _ _ i j p q ⟨_, hb⟩ rfl hx fun k => ?_
    rw [congrArg scl (e1.trans e.symm)]
    exact scr m c j k (n - 1) _ _ (by dsimp only; rw [e1, e2, e])

theorem res (c : Dev nD) (p : Fin 8192) (j : Fin 7168) : (Value.G2 m c (ix2 p j) : EReal) = val m c p j := by
  have hq : Value.pt2Of (ix2 p j) = p.val / 2048 + 4 * (j.val / 1024) := by
    show 1 * (p.val / 2048 - 0) + 4 * (j.val / 1024 - 0) = _; omega
  have hN : Value.pt2Of (ix2 p j) < cfg0.N := by rw [hq, show cfg0.N = 28 from N_0]; omega
  have hl : Value.loc2Of (ix2 p j) = (ix2 (⟨p.val % 2048, by omega⟩ : Fin 2048) (⟨j.val % 1024, by omega⟩ : Fin 1024)) := by
    funext a
    match a with
    | ⟨0, _⟩ => rfl
    | ⟨1, _⟩ => rfl
  unfold Value.G2
  rw [dif_pos hN, ← Value.outsAt0_sweep m c _ hN, hl]
  refine out m c _ hN _ _ p j ?_ ?_
  · show p.val = Value.pt2Of (ix2 p j) % 4 * 2048 + p.val % 2048
    rw [hq]; omega
  · show j.val = Value.pt2Of (ix2 p j) / 4 * 1024 + j.val % 1024
    rw [hq]; omega

end Cert.Kernel7Ideal.B

namespace Cert.Reference7Ideal.B

open Cert.Reference7Ideal Cert.Reference7Ideal.Gen Idealize.ShloMosaic Idealize.ShloMosaic.TcCoe

variable (x : FVec Ideal S8192x2048 .bf16) (w : FVec Ideal S2x2048x15712 .f32)

/-- The whole projection. -/
abbrev Z : FVec Ideal S8192x15712 .f32 := Host.dotGeneral dot_S8192x2048_S2048x15712_S8192x15712_1_0_0_1_n_n none (extf .f32 x bitsLt_bf16_f32) (shapeCast _ (extractStridedSlice S1x2048x15712 ![1, 0, 0] w slices_S2x2048x15712_S1x2048x15712_1_0_0) shapeCasts_S1x2048x15712_S2048x15712)

theorem Z_apply (p : Fin 8192) (q : Fin 15712) : (Z x w (ix2 p q) : EReal) = ∑ k : Fin 2048, (x (ix2 p k) : EReal) * w (ix3 1 k q) := by
  unfold Z
  pointwise []

theorem scale : Ideal.ofBits FTy.f32 0x3DB8AA3B#32 = ((12102203 / 134217728 : ℝ) : EReal) := by
  simp [Ideal.ofBits, Ideal.ieee, -EReal.coe_mul]; norm_num

/-- A factor of the weights goes through the sum. -/
theorem sum_scl (n : ℕ) (f g : Fin 2048 → EReal) : ∑ k, f k * (g k * Kernel7Ideal.B.scl n) = (∑ k, f k * g k) * Kernel7Ideal.B.scl n := by
  have h : 0 ≤ Kernel7Ideal.B.scl n ∧ Kernel7Ideal.B.scl n ≠ ⊤ := by
    unfold Kernel7Ideal.B.scl
    split_ifs
    · rw [scale]
      exact ⟨EReal.coe_nonneg.mpr (by norm_num), EReal.coe_ne_top _⟩
    · exact ⟨zero_le_one, EReal.coe_ne_top 1⟩
  generalize Kernel7Ideal.B.scl n = s at h ⊢
  simp only [← mul_assoc]
  induction (Finset.univ : Finset (Fin 2048)) using Finset.induction_on with
  | empty => simp
  | insert a S ha ih => rw [Finset.sum_insert ha, Finset.sum_insert ha, ih, EReal.right_distrib_of_nonneg_of_ne_top h.1 h.2]

/-- The reference's result. -/
abbrev res : FVec Ideal S8192x7168 .bf16 := truncf .bf16 ((concatenate S8192x7168 1 [⟨S8192x4096, ((mulf (extractStridedSlice S8192x4096 ![0, 6160] (Z x w) slices_S8192x15712_S8192x4096_0_6160) (broadcastInDim S8192x4096 ![] bcast_S_S8192x4096 (constant S_ .f32 0x3DB8AA3B#32))) : (⟨S8192x4096, .f32⟩ : BufTy).Contents (Elt Ideal))⟩, ⟨S8192x2048, ((extractStridedSlice S8192x2048 ![0, 2048] (Z x w) slices_S8192x15712_S8192x2048_0_2048) : (⟨S8192x2048, .f32⟩ : BufTy).Contents (Elt Ideal))⟩, ⟨S8192x1024, ((extractStridedSlice S8192x1024 ![0, 10512] (Z x w) slices_S8192x15712_S8192x1024_0_10512) : (⟨S8192x1024, .f32⟩ : BufTy).Contents (Elt Ideal))⟩] concatenates_S8192x4096_S8192x2048_S8192x1024_S8192x7168_d1 : (⟨S8192x7168, .f32⟩ : BufTy).Contents (Elt Ideal))) bitsLt_bf16_f32

theorem ref (p : Fin 8192) (j : Fin 7168) (q : Fin 15712) (hq : q.val = Kernel7Ideal.B.off (j.val / 1024) + j.val % 1024) :
    (res x w (ix2 p j) : EReal) = Kernel7Ideal.B.act (∑ k : Fin 2048, (x (ix2 p k) : EReal) * (w (ix3 1 k q) * Kernel7Ideal.B.scl (j.val / 1024))) := by
  unfold Kernel7Ideal.B.off at hq
  unfold res Kernel7Ideal.B.act
  rw [sum_scl, ← Z_apply]
  generalize Z x w = Q
  unfold Kernel7Ideal.B.scl
  pointwise []
  by_cases h : j.val < 4096
  · rw [if_pos (by omega)] at hq
    rw [dif_pos h, if_pos (show j.val / 1024 < 4 by omega), show q = ⟨6160 + j.val, by omega⟩ from Fin.ext (by dsimp only; omega)]
  · rw [if_neg (by omega)] at hq
    rw [dif_neg h, if_neg (show ¬j.val / 1024 < 4 by omega), mul_one]
    by_cases h' : j.val - 4096 < 2048
    · rw [if_pos (by omega)] at hq
      rw [dif_pos h', show q = ⟨2048 + (j.val - 4096), by omega⟩ from Fin.ext (by dsimp only; omega)]
    · rw [if_neg (by omega)] at hq
      rw [dif_neg h', show q = ⟨10512 + (j.val - 4096 - 2048), by omega⟩ from Fin.ext (by dsimp only; omega)]

end Cert.Reference7Ideal.B

end
-- ==== Proof.Ffn.Out.lean ====
module

public import proofs.«01_k».proof.Proof.Gen.Kernel8Ideal.Value
public import proofs.«01_k».proof.Proof.Gen.Reference8Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The output projection with the normalisation after it

Each point multiplies a tile of rows by the whole weight, adds the gated product to the residual rows, and normalises and
modulates them. -/

namespace Cert.Kernel8Ideal.Out

open Cert.Kernel8Ideal Cert.Kernel8Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_7 (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S8x128 .f32) (h11 : b11.IsWhole)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) :
    out0_A_7 c i b2 h2 b3 h3 b4 h4 b5 h5 b6 h6 b7 h7 b8 h8 b9 h9 b10 h10 b11 h11 x0 x1 x2 x3 x4 x5 x6 = k0_pay2 x0 x1 x2 x3 := by
  unfold out0_A_7
  rw [View.read_writes_eq_canon _ _ _ (cover0_A_7 c i b2 h2 b3 h3 b4 h4 b5 h5 b6 h6 b7 h7 b8 h8 b9 h9 b10 h10 b11 h11 x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, View.ld_unit_zero (S := S512x2048) hz2, View.ld_unit_zero (S := S1x2048x2048) hz3, View.ld_unit_zero (S := S1x1x2048) hz3, View.ld_unit_zero (S := S1x2048) hz2]

theorem out_8 (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S8x128 .f32) (h11 : b11.IsWhole)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) :
    out0_A_8 c i b2 h2 b3 h3 b4 h4 b5 h5 b6 h6 b7 h7 b8 h8 b9 h9 b10 h10 b11 h11 x0 x1 x2 x3 x4 x5 x6 = k0_pay1 (k0_pay3 x0 x1 x2 x3 x4 x5) x6 := by
  unfold out0_A_8
  rw [View.read_writes_eq_canon _ _ _ (cover0_A_8 c i b2 h2 b3 h3 b4 h4 b5 h5 b6 h6 b7 h7 b8 h8 b9 h9 b10 h10 b11 h11 x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, View.ld_unit_zero (S := S512x2048) hz2, View.ld_unit_zero (S := S1x2048x2048) hz3, View.ld_unit_zero (S := S1x1x2048) hz3, View.ld_unit_zero (S := S1x2048) hz2]

theorem fst_eq (c : Dev nD) (t : Fin cfg0.N) : (outsAt0 m c t).1 = k0_pay2 (iblk m c 0 t) (iblk m c 1 t) (iblk m c 2 t) (iblk m c 3 t) := by
  unfold outsAt0
  dsimp only
  rw [out_7]

theorem snd_eq (c : Dev nD) (t : Fin cfg0.N) : (outsAt0 m c t).2 = k0_pay1 (k0_pay3 (iblk m c 0 t) (iblk m c 1 t) (iblk m c 2 t) (iblk m c 3 t) (iblk m c 4 t) (iblk m c 5 t)) (iblk m c 6 t) := by
  unfold outsAt0
  dsimp only
  rw [out_8]

/-! ## The blocks -/

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 3) = 1 ∧ win0_1.index t (1 : Fin 3) = 0 ∧ win0_1.index t (2 : Fin 3) = 0 := (by decide +kernel : ∀ t : Fin grid0.N, _)
theorem ix_2 : ∀ t : Fin cfg0.N, win0_2.index t (0 : Fin 2) = t.val ∧ win0_2.index t (1 : Fin 2) = 0 := (by decide +kernel : ∀ t : Fin grid0.N, _)
theorem ix_3 : ∀ t : Fin cfg0.N, win0_3.index t (0 : Fin 3) = t.val / 8 ∧ win0_3.index t (1 : Fin 3) = 0 ∧ win0_3.index t (2 : Fin 3) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)
theorem ix_5 : ∀ t : Fin cfg0.N, win0_5.index t (0 : Fin 3) = t.val / 8 ∧ win0_5.index t (1 : Fin 3) = 0 ∧ win0_5.index t (2 : Fin 3) = 0 := (by decide +kernel : ∀ t : Fin grid0.N, _)
theorem ix_6 : ∀ t : Fin cfg0.N, win0_6.index t (0 : Fin 3) = t.val / 8 ∧ win0_6.index t (1 : Fin 3) = 0 ∧ win0_6.index t (2 : Fin 3) = 0 := (by decide +kernel : ∀ t : Fin grid0.N, _)

theorem ltN (t : Fin cfg0.N) : t.val < 16 := lt_of_lt_of_eq t.isLt N_0

theorem x0_apply (c : Dev nD) (t : Fin cfg0.N) (i : Fin 512) (k : Fin 2048) :
    (iblk m c 0 t : S512x2048.Idx → Elt F _) (ix2 i k)
      = (m ((c : Thread nD τ).loc main_arg0) : S8192x2048.Idx → Elt F _) (ix2 ⟨t.val * 512 + i.val, by have := ltN t; omega⟩ k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 512 + 1 * i.val = t.val * 512 + i.val; omega
  | ⟨1, _⟩ => show win0_0.index t (1 : Fin 2) * 2048 + 1 * k.val = k.val; omega

theorem x1_apply (c : Dev nD) (t : Fin cfg0.N) (l : Fin 1) (k : Fin 2048) (j : Fin 2048) :
    (iblk m c 1 t : S1x2048x2048.Idx → Elt F _) (ix3 l k j) = (V m c main_v0 : S2x2048x2048.Idx → Elt F _) (ix3 1 k j) := by
  show V m c main_v0 (((cfg0.win 1).blk t).view.emb (ix3 l k j)) = _
  refine congrArg (V m c main_v0) (funext fun a => Fin.ext ?_)
  obtain ⟨e0, e1, e2⟩ := ix_1 t
  match a with
  | ⟨0, _⟩ => show win0_1.index t (0 : Fin 3) * 1 + 1 * l.val = 1; omega
  | ⟨1, _⟩ => show win0_1.index t (1 : Fin 3) * 2048 + 1 * k.val = k.val; omega
  | ⟨2, _⟩ => show win0_1.index t (2 : Fin 3) * 2048 + 1 * j.val = j.val; omega

theorem x2_apply (c : Dev nD) (t : Fin cfg0.N) (i : Fin 512) (j : Fin 2048) :
    (iblk m c 2 t : S512x2048.Idx → Elt F _) (ix2 i j)
      = (m ((c : Thread nD τ).loc main_arg2) : S8192x2048.Idx → Elt F _) (ix2 ⟨t.val * 512 + i.val, by have := ltN t; omega⟩ j) := by
  show V m c main_arg2 (((cfg0.win 2).blk t).view.emb (ix2 i j)) = _
  rw [V_main_arg2]
  refine congrArg (m ((c : Thread nD τ).loc main_arg2)) (funext fun a => Fin.ext ?_)
  obtain ⟨e0, e1⟩ := ix_2 t
  match a with
  | ⟨0, _⟩ => show win0_2.index t (0 : Fin 2) * 512 + 1 * i.val = t.val * 512 + i.val; omega
  | ⟨1, _⟩ => show win0_2.index t (1 : Fin 2) * 2048 + 1 * j.val = j.val; omega

theorem x3_apply (c : Dev nD) (t : Fin cfg0.N) (l l' : Fin 1) (j : Fin 2048) :
    (iblk m c 3 t : S1x1x2048.Idx → Elt F _) (ix3 l l' j) = (V m c main_v3 : S2x1x2048.Idx → Elt F _) (ix3 ⟨t.val / 8, by have := ltN t; omega⟩ 0 j) := by
  show V m c main_v3 (((cfg0.win 3).blk t).view.emb (ix3 l l' j)) = _
  refine congrArg (V m c main_v3) (funext fun a => Fin.ext ?_)
  obtain ⟨e0, e1, e2⟩ := ix_3 t
  match a with
  | ⟨0, _⟩ => show win0_3.index t (0 : Fin 3) * 1 + 1 * l.val = t.val / 8; omega
  | ⟨1, _⟩ => show win0_3.index t (1 : Fin 3) * 1 + 1 * l'.val = 0; omega
  | ⟨2, _⟩ => show win0_3.index t (2 : Fin 3) * 2048 + 1 * j.val = j.val; omega

theorem x5_apply (c : Dev nD) (t : Fin cfg0.N) (l l' : Fin 1) (j : Fin 2048) :
    (iblk m c 5 t : S1x1x2048.Idx → Elt F _) (ix3 l l' j) = (V m c main_v5 : S2x1x2048.Idx → Elt F _) (ix3 ⟨t.val / 8, by have := ltN t; omega⟩ 0 j) := by
  show V m c main_v5 (((cfg0.win 5).blk t).view.emb (ix3 l l' j)) = _
  refine congrArg (V m c main_v5) (funext fun a => Fin.ext ?_)
  obtain ⟨e0, e1, e2⟩ := ix_5 t
  match a with
  | ⟨0, _⟩ => show win0_5.index t (0 : Fin 3) * 1 + 1 * l.val = t.val / 8; omega
  | ⟨1, _⟩ => show win0_5.index t (1 : Fin 3) * 1 + 1 * l'.val = 0; omega
  | ⟨2, _⟩ => show win0_5.index t (2 : Fin 3) * 2048 + 1 * j.val = j.val; omega

theorem x6_apply (c : Dev nD) (t : Fin cfg0.N) (l l' : Fin 1) (j : Fin 2048) :
    (iblk m c 6 t : S1x1x2048.Idx → Elt F _) (ix3 l l' j) = (V m c main_v6 : S2x1x2048.Idx → Elt F _) (ix3 ⟨t.val / 8, by have := ltN t; omega⟩ 0 j) := by
  show V m c main_v6 (((cfg0.win 6).blk t).view.emb (ix3 l l' j)) = _
  refine congrArg (V m c main_v6) (funext fun a => Fin.ext ?_)
  obtain ⟨e0, e1, e2⟩ := ix_6 t
  match a with
  | ⟨0, _⟩ => show win0_6.index t (0 : Fin 3) * 1 + 1 * l.val = t.val / 8; omega
  | ⟨1, _⟩ => show win0_6.index t (1 : Fin 3) * 1 + 1 * l'.val = 0; omega
  | ⟨2, _⟩ => show win0_6.index t (2 : Fin 3) * 2048 + 1 * j.val = j.val; omega

theorem x4_apply (c : Dev nD) (t : Fin cfg0.N) (l : Fin 1) (j : Fin 2048) :
    (iblk m c 4 t : S1x2048.Idx → Elt F _) (ix2 l j) = (V m c main_v4 : S1x2048.Idx → Elt F _) (ix2 0 j) := by
  show V m c main_v4 (((cfg0.win 4).blk t).view.emb (ix2 l j)) = _
  refine congrArg (V m c main_v4) (funext fun a => Fin.ext ?_)
  obtain ⟨e0, e1⟩ := ix_4 t
  match a with
  | ⟨0, _⟩ => show win0_4.index t (0 : Fin 2) * 1 + 1 * l.val = 0; omega
  | ⟨1, _⟩ => show win0_4.index t (1 : Fin 2) * 2048 + 1 * j.val = j.val; omega

theorem v0_eq (c : Dev nD) : (V m c main_v0 : S2x2048x2048.Idx → Elt F .bf16) = truncf .bf16 (m ((c : Thread nD τ).loc main_arg1) : S2x2048x2048.Idx → Elt F .f32) bitsLt_bf16_f32 := by
  unfold_abbrev_sides
  after_results

theorem v3_eq (c : Dev nD) : (V m c main_v3 : S2x1x2048.Idx → Elt F .f32) = shapeCast S2x1x2048 (m ((c : Thread nD τ).loc main_arg3) : S2x2048.Idx → Elt F .f32) shapeCasts_S2x2048_S2x1x2048 := by
  unfold_abbrev_sides
  after_results
  rfl

theorem v5_eq (c : Dev nD) : (V m c main_v5 : S2x1x2048.Idx → Elt F .f32) = shapeCast S2x1x2048 (m ((c : Thread nD τ).loc main_arg5) : S2x2048.Idx → Elt F .f32) shapeCasts_S2x2048_S2x1x2048 := by
  unfold_abbrev_sides
  after_results
  rfl

theorem v6_eq (c : Dev nD) : (V m c main_v6 : S2x1x2048.Idx → Elt F .f32) = shapeCast S2x1x2048 (m ((c : Thread nD τ).loc main_arg6) : S2x2048.Idx → Elt F .f32) shapeCasts_S2x2048_S2x1x2048 := by
  unfold_abbrev_sides
  after_results
  rfl

theorem v4_eq (c : Dev nD) : (V m c main_v4 : S1x2048.Idx → Elt F .f32) = shapeCast S1x2048 (shapeCast S2048 (extractStridedSlice S1x2048 ![1, 0] (m ((c : Thread nD τ).loc main_arg4) : S2x2048.Idx → Elt F .f32) slices_S2x2048_S1x2048_1_0) shapeCasts_S1x2048_S2048) shapeCasts_S2048_S1x2048 := by
  unfold_abbrev_sides
  after_results
  rfl

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x2048 .f32 := m ((c : Thread nD τ).loc main_arg1)
abbrev a2 (c : Dev nD) : FVec Ideal S8192x2048 .f32 := m ((c : Thread nD τ).loc main_arg2)
abbrev a3 (c : Dev nD) : FVec Ideal S2x2048 .f32 := m ((c : Thread nD τ).loc main_arg3)
abbrev a4 (c : Dev nD) : FVec Ideal S2x2048 .f32 := m ((c : Thread nD τ).loc main_arg4)
abbrev a5 (c : Dev nD) : FVec Ideal S2x2048 .f32 := m ((c : Thread nD τ).loc main_arg5)
abbrev a6 (c : Dev nD) : FVec Ideal S2x2048 .f32 := m ((c : Thread nD τ).loc main_arg6)

/-- The normalised and modulated row's entry, from the row, the gain, the scale and the shift. -/
def nrm (r : Fin 2048 → EReal) (g s h : EReal) (j : Fin 2048) : EReal :=
  r j * Ideal.rsqrt (Ideal.div (∑ x, r x * r x) (Ideal.ofBits FTy.f32 0x45000000#32) + Ideal.ofBits FTy.f32 0x358637BD#32) * g * (Ideal.ofBits FTy.f32 0x3F800000#32 + s) + h

/-- The residual row with the gated product added. -/
def row (c : Dev nD) (p : Fin 8192) (j : Fin 2048) : EReal :=
  a2 m c (ix2 p j) + a3 m c (ix2 ⟨p.val / 4096, by omega⟩ j) * ∑ k : Fin 2048, (a0 m c (ix2 p k) : EReal) * a1 m c (ix3 1 k j)

/-- The second result's entry. -/
def mod (c : Dev nD) (p : Fin 8192) (j : Fin 2048) : EReal :=
  nrm (row m c p) (a4 m c (ix2 1 j)) (a5 m c (ix2 ⟨p.val / 4096, by omega⟩ j)) (a6 m c (ix2 ⟨p.val / 4096, by omega⟩ j)) j

theorem v3_apply (c : Dev nD) (b : Fin 2) (j : Fin 2048) : (V m c main_v3 : S2x1x2048.Idx → EReal) (ix3 b 0 j) = a3 m c (ix2 b j) := by
  refine (congrFun (v3_eq m c) (ix3 b 0 j)).trans ?_
  show shapeCast S2x1x2048 (a3 m c) shapeCasts_S2x2048_S2x1x2048 (ix3 b 0 j) = _
  generalize a3 m c = X
  pointwise []

theorem v5_apply (c : Dev nD) (b : Fin 2) (j : Fin 2048) : (V m c main_v5 : S2x1x2048.Idx → EReal) (ix3 b 0 j) = a5 m c (ix2 b j) := by
  refine (congrFun (v5_eq m c) (ix3 b 0 j)).trans ?_
  show shapeCast S2x1x2048 (a5 m c) shapeCasts_S2x2048_S2x1x2048 (ix3 b 0 j) = _
  generalize a5 m c = X
  pointwise []

theorem v6_apply (c : Dev nD) (b : Fin 2) (j : Fin 2048) : (V m c main_v6 : S2x1x2048.Idx → EReal) (ix3 b 0 j) = a6 m c (ix2 b j) := by
  refine (congrFun (v6_eq m c) (ix3 b 0 j)).trans ?_
  show shapeCast S2x1x2048 (a6 m c) shapeCasts_S2x2048_S2x1x2048 (ix3 b 0 j) = _
  generalize a6 m c = X
  pointwise []

theorem v4_apply (c : Dev nD) (j : Fin 2048) : (V m c main_v4 : S1x2048.Idx → EReal) (ix2 0 j) = a4 m c (ix2 1 j) := by
  refine (congrFun (v4_eq m c) (ix2 0 j)).trans ?_
  show shapeCast S1x2048 (shapeCast S2048 (extractStridedSlice S1x2048 ![1, 0] (a4 m c) slices_S2x2048_S1x2048_1_0) shapeCasts_S1x2048_S2048) shapeCasts_S2048_S1x2048 (ix2 0 j) = _
  generalize a4 m c = X
  pointwise []

theorem payR_apply (x : Vec Ideal S512x2048 .bf16) (w : Vec Ideal S1x2048x2048 .bf16) (y : Vec Ideal S512x2048 .f32) (g : Vec Ideal S1x1x2048 .f32)
    (i : Fin 512) (j : Fin 2048) :
    (k0_pay2 (F := Ideal) x w y g (ix2 i j) : EReal) = (y (ix2 i j) : EReal) + g (ix3 0 0 j) * ∑ k : Fin 2048, (x (ix2 i k) : EReal) * w (ix3 0 k j) := by
  pointwise [k0_pay2]

theorem payM_apply (x : Vec Ideal S512x2048 .bf16) (w : Vec Ideal S1x2048x2048 .bf16) (y : Vec Ideal S512x2048 .f32) (g : Vec Ideal S1x1x2048 .f32)
    (f : Vec Ideal S1x2048 .f32) (sc sh : Vec Ideal S1x1x2048 .f32) (i : Fin 512) (j : Fin 2048) :
    (k0_pay1 (F := Ideal) (k0_pay3 x w y g f sc) sh (ix2 i j) : EReal)
      = nrm (fun j => (k0_pay2 (F := Ideal) x w y g (ix2 i j) : EReal)) (f (ix2 0 j)) (sc (ix3 0 0 j)) (sh (ix3 0 0 j)) j := by
  unfold nrm k0_pay1 k0_pay3
  generalize k0_pay2 (F := Ideal) x w y g = Q
  pointwise []

abbrev b0 (c : Dev nD) (t : Fin cfg0.N) : FVec Ideal S512x2048 .bf16 := iblk m c 0 t
abbrev b1 (c : Dev nD) (t : Fin cfg0.N) : FVec Ideal S1x2048x2048 .bf16 := iblk m c 1 t

theorem rowBlk (c : Dev nD) (t : Fin cfg0.N) (i : Fin 512) (p : Fin 8192) (hp : p.val = t.val * 512 + i.val) (j : Fin 2048) :
    (k0_pay2 (F := Ideal) (iblk m c 0 t) (iblk m c 1 t) (iblk m c 2 t) (iblk m c 3 t) (ix2 i j) : EReal) = row m c p j := by
  refine (payR_apply _ _ _ _ i j).trans ?_
  unfold row
  refine congrArg₂ (· + ·) ((x2_apply m c t i j).trans ?_) (congrArg₂ (· * ·) ((x3_apply m c t 0 0 j).trans ((v3_apply m c _ j).trans ?_)) ?_)
  · rw [show p = ⟨t.val * 512 + i.val, hp ▸ p.isLt⟩ from Fin.ext hp]
  · refine congrArg (a3 m c) (funext fun a => Fin.ext ?_)
    match a with
    | ⟨0, _⟩ => show t.val / 8 = p.val / 4096; omega
    | ⟨1, _⟩ => rfl
  · refine Finset.sum_congr rfl fun k _ => congrArg₂ (· * ·) ((x0_apply m c t i k).trans ?_) ((x1_apply m c t 0 k j).trans (congrFun (v0_eq m c) _))
    rw [show p = ⟨t.val * 512 + i.val, hp ▸ p.isLt⟩ from Fin.ext hp]

/-- What a row tile's point writes: the rows. -/
theorem outX (c : Dev nD) (t : Fin cfg0.N) (i : Fin 512) (j : Fin 2048) (p : Fin 8192) (hp : p.val = t.val * 512 + i.val) :
    ((outsAt0 m c t).1 (ix2 i j) : EReal) = row m c p j := by
  rw [fst_eq m c t]
  exact rowBlk m c t i p hp j

/-- … and the normalised, modulated rows. -/
theorem outH (c : Dev nD) (t : Fin cfg0.N) (i : Fin 512) (j : Fin 2048) (p : Fin 8192) (hp : p.val = t.val * 512 + i.val) :
    ((outsAt0 m c t).2 (ix2 i j) : EReal) = mod m c p j := by
  rw [snd_eq m c t]
  refine (payM_apply _ _ _ _ _ _ _ i j).trans ?_
  have hb : (⟨t.val / 8, by have := ltN t; omega⟩ : Fin 2) = ⟨p.val / 4096, by omega⟩ := Fin.ext (by dsimp only; omega)
  unfold mod
  rw [← hb, ← (x4_apply m c t 0 j).trans (v4_apply m c j), ← (x5_apply m c t 0 0 j).trans (v5_apply m c _ j), ← (x6_apply m c t 0 0 j).trans (v6_apply m c _ j)]
  exact congrArg (fun r => nrm r _ _ _ j) (funext fun j => rowBlk m c t i p hp j)

theorem fl_7 : ∀ t : Fin cfg0.N, (cfg0.win 7).flush t = true ∧ win0_7.index t (0 : Fin 2) = t.val ∧ win0_7.index t (1 : Fin 2) = 0 :=
  (by decide +kernel : ∀ t : Fin grid0.N, win0_7.flush t = true ∧ win0_7.index t (0 : Fin 2) = t.val ∧ win0_7.index t (1 : Fin 2) = 0)

/-- The array after the run. -/
abbrev G7 (c : Dev nD) : Buf (Elt Ideal) ((c : Thread nD τ).loc main_v7_0) := (dats m 0 c).arrAt 7 cfg0.N

theorem resX (c : Dev nD) (p : Fin 8192) (j : Fin 2048) : (G7 m c (ix2 p j) : EReal) = row m c p j := by
  have hN : p.val / 512 < cfg0.N := by rw [show cfg0.N = 16 from N_0]; omega
  obtain ⟨hf, e0, e1⟩ := fl_7 ⟨p.val / 512, hN⟩
  have e := congrFun ((Value.blocks7 m c ⟨p.val / 512, hN⟩ hf).trans (Value.flushed7 m c ⟨p.val / 512, hN⟩)) (ix2 (⟨p.val % 512, by omega⟩ : Fin 512) j : S512x2048.Idx)
  refine Eq.trans (congrArg (G7 m c) (funext fun a => Fin.ext ?_)) (e.trans ?_)
  · match a with
    | ⟨0, _⟩ => show p.val = win0_7.index ⟨p.val / 512, hN⟩ (0 : Fin 2) * 512 + 1 * (p.val % 512); rw [e0]; dsimp only; omega
    | ⟨1, _⟩ => show j.val = win0_7.index ⟨p.val / 512, hN⟩ (1 : Fin 2) * 2048 + 1 * j.val; omega
  · refine Eq.trans (congrArg (outsAt0 m c ⟨p.val / 512, hN⟩).1 (funext fun a => ?_)) (outX m c ⟨p.val / 512, hN⟩ ⟨p.val % 512, by omega⟩ j p (by dsimp only; omega))
    match a with
    | ⟨0, _⟩ => rfl
    | ⟨1, _⟩ => rfl

theorem fl_8 : ∀ t : Fin cfg0.N, (cfg0.win 8).flush t = true ∧ win0_8.index t (0 : Fin 2) = t.val ∧ win0_8.index t (1 : Fin 2) = 0 :=
  (by decide +kernel : ∀ t : Fin grid0.N, win0_8.flush t = true ∧ win0_8.index t (0 : Fin 2) = t.val ∧ win0_8.index t (1 : Fin 2) = 0)

/-- The array after the run. -/
abbrev G8 (c : Dev nD) : Buf (Elt Ideal) ((c : Thread nD τ).loc main_v7_1) := (dats m 0 c).arrAt 8 cfg0.N

theorem resH (c : Dev nD) (p : Fin 8192) (j : Fin 2048) : (G8 m c (ix2 p j) : EReal) = mod m c p j := by
  have hN : p.val / 512 < cfg0.N := by rw [show cfg0.N = 16 from N_0]; omega
  obtain ⟨hf, e0, e1⟩ := fl_8 ⟨p.val / 512, hN⟩
  have e := congrFun ((Value.blocks8 m c ⟨p.val / 512, hN⟩ hf).trans (Value.flushed8 m c ⟨p.val / 512, hN⟩)) (ix2 (⟨p.val % 512, by omega⟩ : Fin 512) j : S512x2048.Idx)
  refine Eq.trans (congrArg (G8 m c) (funext fun a => Fin.ext ?_)) (e.trans ?_)
  · match a with
    | ⟨0, _⟩ => show p.val = win0_8.index ⟨p.val / 512, hN⟩ (0 : Fin 2) * 512 + 1 * (p.val % 512); rw [e0]; dsimp only; omega
    | ⟨1, _⟩ => show j.val = win0_8.index ⟨p.val / 512, hN⟩ (1 : Fin 2) * 2048 + 1 * j.val; omega
  · refine Eq.trans (congrArg (outsAt0 m c ⟨p.val / 512, hN⟩).2 (funext fun a => ?_)) (outH m c ⟨p.val / 512, hN⟩ ⟨p.val % 512, by omega⟩ j p (by dsimp only; omega))
    match a with
    | ⟨0, _⟩ => rfl
    | ⟨1, _⟩ => rfl

end Cert.Kernel8Ideal.Out

namespace Cert.Reference8Ideal.Out

open Cert.Reference8Ideal Cert.Reference8Ideal.Gen Idealize.ShloMosaic Idealize.ShloMosaic.TcCoe

variable (u : FVec Ideal S8192x2048 .bf16) (w : FVec Ideal S2x2048x2048 .f32) (x : FVec Ideal S8192x2048 .f32) (g f sc sh : FVec Ideal S2x2048 .f32)

/-- The rows before the norm. -/
abbrev R : FVec Ideal S2x4096x2048 .f32 := addf (shapeCast _ x shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 g)) (Host.dotGeneral dot_S2x4096x2048_S2048x2048_S2x4096x2048_2_0_01_1_n_n none (extf .f32 (shapeCast _ u shapeCasts_S8192x2048_S2x4096x2048) bitsLt_bf16_f32) (shapeCast _ (extractStridedSlice S1x2048x2048 ![1, 0, 0] w slices_S2x2048x2048_S1x2048x2048_1_0_0) shapeCasts_S1x2048x2048_S2048x2048)))

theorem R_apply (b : Fin 2) (t : Fin 4096) (p : Fin 8192) (hp : p.val = b.val * 4096 + t.val) (j : Fin 2048) :
    (R u w x g (ix3 b t j) : EReal) = x (ix2 p j) + g (ix2 b j) * ∑ k : Fin 2048, (u (ix2 p k) : EReal) * w (ix3 1 k j) := by
  rw [show p = ⟨b.val * 4096 + t.val, by omega⟩ from Fin.ext hp]
  unfold R
  pointwise []

theorem refX (p : Fin 8192) (j : Fin 2048) :
    (shapeCast S8192x2048 (R u w x g) shapeCasts_S2x4096x2048_S8192x2048 (ix2 p j) : EReal) = x (ix2 p j) + g (ix2 ⟨p.val / 4096, by omega⟩ j) * ∑ k : Fin 2048, (u (ix2 p k) : EReal) * w (ix3 1 k j) := by
  have e := R_apply u w x g ⟨p.val / 4096, by omega⟩ ⟨p.val % 4096, by omega⟩ p (by dsimp only; omega) j
  generalize R u w x g = Q at e ⊢
  rw [← e]
  pointwise []

/-- The second result. -/
abbrev H : FVec Ideal S8192x2048 .bf16 := truncf .bf16 (shapeCast S8192x2048 (addf (mulf (mulf (mulf (R u w x g) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (R u w x g) (R u w x g)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![1, 0] f slices_S2x2048_S1x2048_1_0) shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc)))) (broadcastInDim S2x4096x2048 ![0, 1, 2] bcast_S2x1x2048_S2x4096x2048_0_1_2 (broadcastInDim S2x1x2048 ![0, 2] bcast_S2x2048_S2x1x2048_0_2 sh))) shapeCasts_S2x4096x2048_S8192x2048) bitsLt_bf16_f32

theorem refH (p : Fin 8192) (j : Fin 2048) :
    (H u w x g f sc sh (ix2 p j) : EReal)
      = Kernel8Ideal.Out.nrm (fun j => x (ix2 p j) + g (ix2 ⟨p.val / 4096, by omega⟩ j) * ∑ k : Fin 2048, (u (ix2 p k) : EReal) * w (ix3 1 k j))
        (f (ix2 1 j)) (sc (ix2 ⟨p.val / 4096, by omega⟩ j)) (sh (ix2 ⟨p.val / 4096, by omega⟩ j)) j := by
  have e := fun j => R_apply u w x g ⟨p.val / 4096, by omega⟩ ⟨p.val % 4096, by omega⟩ p (by dsimp only; omega) j
  unfold H
  generalize R u w x g = Q at e ⊢
  unfold Kernel8Ideal.Out.nrm
  simp only [← e]
  pointwise []

end Cert.Reference8Ideal.Out

end
-- ==== Proof.Ffn.Mid.lean ====
module

public import proofs.«01_k».proof.Proof.Gen.Kernel9Ideal.Value
public import proofs.«01_k».proof.Proof.Gen.Reference9Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The first layer's feed-forward down projection with the next layer's normalisation

Four blocks of the contracted axis are added up in a scratch tile; the last one adds the gated product to the residual
rows, and normalises and modulates them. -/

namespace Cert.Kernel9Ideal.Mid

open Cert.Kernel9Ideal Cert.Kernel9Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem sout_A (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S512x2048 .f32) (h11 : b11.IsWhole) (hc0 : cond0_0 i) (hc1 : ¬cond0_1 i) (hc2 : ¬cond0_2 i)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) :
    sout0_A_0 c i b2 h2 b3 h3 b4 h4 b5 h5 b6 h6 b7 h7 b8 h8 b9 h9 b10 h10 b11 h11 hc0 hc1 hc2 x0 x1 x2 x3 x4 x5 x6 = k0_pay1 x0 x1 := by
  unfold sout0_A_0
  rw [View.read_writes_eq_canon _ _ _ (scover0_A_0 c i b2 h2 b3 h3 b4 h4 b5 h5 b6 h6 b7 h7 b8 h8 b9 h9 b10 h10 b11 h11 hc0 hc1 hc2 x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h11.read_unread, View.ld_unit_zero (S := S512x2048) hz2, View.ld_unit_zero (S := S1x2048x2048) hz3, View.ld_unit_zero (S := S1x1x2048) hz3, View.ld_unit_zero (S := S1x2048) hz2]

theorem sout_B (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S512x2048 .f32) (h11 : b11.IsWhole) (hc0 : ¬cond0_0 i) (hc1 : cond0_1 i) (hc2 : ¬cond0_2 i)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) (xs : Vec F S512x2048 .f32) :
    sout0_B_0 c i b2 h2 b3 h3 b4 h4 b5 h5 b6 h6 b7 h7 b8 h8 b9 h9 b10 h10 b11 h11 hc0 hc1 hc2 x0 x1 x2 x3 x4 x5 x6 xs = k0_pay2 xs x0 x1 := by
  unfold sout0_B_0
  rw [View.read_writes_eq_canon _ _ _ (scover0_B_0 c i b2 h2 b3 h3 b4 h4 b5 h5 b6 h6 b7 h7 b8 h8 b9 h9 b10 h10 b11 h11 hc0 hc1 hc2 x0 x1 x2 x3 x4 x5 x6 xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h11.read_unread, View.ld_unit_zero (S := S512x2048) hz2, View.ld_unit_zero (S := S1x2048x2048) hz3, View.ld_unit_zero (S := S1x1x2048) hz3, View.ld_unit_zero (S := S1x2048) hz2]

theorem out_7 (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S512x2048 .f32) (h11 : b11.IsWhole) (hc0 : ¬cond0_0 i) (hc1 : ¬cond0_1 i) (hc2 : cond0_2 i)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) (xs : Vec F S512x2048 .f32) :
    out0_C_7 c i b2 h2 b3 h3 b4 h4 b5 h5 b6 h6 b7 h7 b8 h8 b9 h9 b10 h10 b11 h11 hc0 hc1 hc2 x0 x1 x2 x3 x4 x5 x6 xs = k0_pay4 xs x0 x1 x2 x3 := by
  unfold out0_C_7
  rw [View.read_writes_eq_canon _ _ _ (cover0_C_7 c i b2 h2 b3 h3 b4 h4 b5 h5 b6 h6 b7 h7 b8 h8 b9 h9 b10 h10 b11 h11 hc0 hc1 hc2 x0 x1 x2 x3 x4 x5 x6 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h11.read_unread, View.ld_unit_zero (S := S512x2048) hz2, View.ld_unit_zero (S := S1x2048x2048) hz3, View.ld_unit_zero (S := S1x1x2048) hz3, View.ld_unit_zero (S := S1x2048) hz2]

theorem out_8 (c : Dev nD) (i : grid0.Coords) (b2 : Memref sig .tc .vmem S512x2048 .bf16) (h2 : b2.IsWhole)
    (b3 : Memref sig .tc .vmem S1x2048x2048 .bf16) (h3 : b3.IsWhole)
    (b4 : Memref sig .tc .vmem S512x2048 .f32) (h4 : b4.IsWhole)
    (b5 : Memref sig .tc .vmem S1x1x2048 .f32) (h5 : b5.IsWhole)
    (b6 : Memref sig .tc .vmem S1x2048 .f32) (h6 : b6.IsWhole)
    (b7 : Memref sig .tc .vmem S1x1x2048 .f32) (h7 : b7.IsWhole)
    (b8 : Memref sig .tc .vmem S1x1x2048 .f32) (h8 : b8.IsWhole)
    (b9 : Memref sig .tc .vmem S512x2048 .f32) (h9 : b9.IsWhole)
    (b10 : Memref sig .tc .vmem S512x2048 .bf16) (h10 : b10.IsWhole)
    (b11 : Memref sig .tc .vmem S512x2048 .f32) (h11 : b11.IsWhole) (hc0 : ¬cond0_0 i) (hc1 : ¬cond0_1 i) (hc2 : cond0_2 i)
    (x0 : Vec F S512x2048 .bf16) (x1 : Vec F S1x2048x2048 .bf16) (x2 : Vec F S512x2048 .f32) (x3 : Vec F S1x1x2048 .f32) (x4 : Vec F S1x2048 .f32) (x5 : Vec F S1x1x2048 .f32) (x6 : Vec F S1x1x2048 .f32) (xs : Vec F S512x2048 .f32) :
    out0_C_8 c i b2 h2 b3 h3 b4 h4 b5 h5 b6 h6 b7 h7 b8 h8 b9 h9 b10 h10 b11 h11 hc0 hc1 hc2 x0 x1 x2 x3 x4 x5 x6 xs = k0_pay3 (k0_pay5 xs x0 x1 x2 x3 x4 x5) x6 := by
  unfold out0_C_8
  rw [View.read_writes_eq_canon _ _ _ (cover0_C_8 c i b2 h2 b3 h3 b4 h4 b5 h5 b6 h6 b7 h7 b8 h8 b9 h9 b10 h10 b11 h11 hc0 hc1 hc2 x0 x1 x2 x3 x4 x5 x6 xs)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h11.read_unread, View.ld_unit_zero (S := S512x2048) hz2, View.ld_unit_zero (S := S1x2048x2048) hz3, View.ld_unit_zero (S := S1x1x2048) hz3, View.ld_unit_zero (S := S1x2048) hz2]

abbrev prev (c : Dev nD) (t : Fin cfg0.N) : Vec F S512x2048 .f32 := (outsAt0 m c (t.val - 1) (Nat.lt_of_le_of_lt (Nat.sub_le _ _) t.isLt)).2.2

theorem scr_A (c : Dev nD) (t : Fin cfg0.N) (h : t.val % 4 = 0) : (outsAt0 m c t.val t.isLt).2.2 = k0_pay1 (iblk m c 0 t) (iblk m c 1 t) := by
  rw [outsAt0_A m c t h (by omega) (by omega)]
  dsimp only
  rw [sout_A]

theorem scr_B (c : Dev nD) (t : Fin cfg0.N) (h : 1 ≤ t.val % 4 ∧ t.val % 4 ≤ 2) :
    (outsAt0 m c t.val t.isLt).2.2 = k0_pay2 (prev m c t) (iblk m c 0 t) (iblk m c 1 t) := by
  rw [outsAt0_B m c t (by omega) h (by omega)]
  dsimp only
  rw [sout_B]

theorem fst_eq (c : Dev nD) (t : Fin cfg0.N) (h : t.val % 4 = 3) :
    (outsAt0 m c t.val t.isLt).1 = k0_pay4 (prev m c t) (iblk m c 0 t) (iblk m c 1 t) (iblk m c 2 t) (iblk m c 3 t) := by
  rw [outsAt0_C m c t (by omega) (by omega) h]
  dsimp only
  rw [out_7]

theorem snd_eq (c : Dev nD) (t : Fin cfg0.N) (h : t.val % 4 = 3) :
    (outsAt0 m c t.val t.isLt).2.1 = k0_pay3 (k0_pay5 (prev m c t) (iblk m c 0 t) (iblk m c 1 t) (iblk m c 2 t) (iblk m c 3 t) (iblk m c 4 t) (iblk m c 5 t)) (iblk m c 6 t) := by
  rw [outsAt0_C m c t (by omega) (by omega) h]
  dsimp only
  rw [out_8]

/-! ## The blocks -/

theorem ix_0 : ∀ t : Fin cfg0.N, win0_0.index t (0 : Fin 2) = t.val / 4 ∧ win0_0.index t (1 : Fin 2) = t.val % 4 := (by decide +kernel : ∀ t : Fin grid0.N, _)
theorem ix_1 : ∀ t : Fin cfg0.N, win0_1.index t (0 : Fin 3) = 0 ∧ win0_1.index t (1 : Fin 3) = t.val % 4 ∧ win0_1.index t (2 : Fin 3) = 0 := (by decide +kernel : ∀ t : Fin grid0.N, _)
theorem ix_2 : ∀ t : Fin cfg0.N, win0_2.index t (0 : Fin 2) = t.val / 4 ∧ win0_2.index t (1 : Fin 2) = 0 := (by decide +kernel : ∀ t : Fin grid0.N, _)
theorem ix_3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)
theorem ix_5 : ∀ t : Fin cfg0.N, win0_5.index t (0 : Fin 3) = t.val / 32 ∧ win0_5.index t (1 : Fin 3) = 0 ∧ win0_5.index t (2 : Fin 3) = 0 := (by decide +kernel : ∀ t : Fin grid0.N, _)
theorem ix_6 : ∀ t : Fin cfg0.N, win0_6.index t (0 : Fin 3) = t.val / 32 ∧ win0_6.index t (1 : Fin 3) = 0 ∧ win0_6.index t (2 : Fin 3) = 0 := (by decide +kernel : ∀ t : Fin grid0.N, _)

theorem ltN (t : Fin cfg0.N) : t.val < 64 := lt_of_lt_of_eq t.isLt N_0

theorem x0_apply (c : Dev nD) (t : Fin cfg0.N) (i : Fin 512) (k : Fin 2048) :
    (iblk m c 0 t : S512x2048.Idx → Elt F _) (ix2 i k)
      = (m ((c : Thread nD τ).loc main_arg0) : S8192x8192.Idx → Elt F _) (ix2 ⟨t.val / 4 * 512 + i.val, by have := ltN t; omega⟩ ⟨t.val % 4 * 2048 + k.val, by omega⟩) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 512 + 1 * i.val = t.val / 4 * 512 + i.val; omega
  | ⟨1, _⟩ => show win0_0.index t (1 : Fin 2) * 2048 + 1 * k.val = t.val % 4 * 2048 + k.val; omega

theorem x1_apply (c : Dev nD) (t : Fin cfg0.N) (l : Fin 1) (k : Fin 2048) (j : Fin 2048) :
    (iblk m c 1 t : S1x2048x2048.Idx → Elt F _) (ix3 l k j) = (V m c main_v0 : S2x8192x2048.Idx → Elt F _) (ix3 0 ⟨t.val % 4 * 2048 + k.val, by omega⟩ j) := by
  show V m c main_v0 (((cfg0.win 1).blk t).view.emb (ix3 l k j)) = _
  refine congrArg (V m c main_v0) (funext fun a => Fin.ext ?_)
  obtain ⟨e0, e1, e2⟩ := ix_1 t
  match a with
  | ⟨0, _⟩ => show win0_1.index t (0 : Fin 3) * 1 + 1 * l.val = 0; omega
  | ⟨1, _⟩ => show win0_1.index t (1 : Fin 3) * 2048 + 1 * k.val = t.val % 4 * 2048 + k.val; omega
  | ⟨2, _⟩ => show win0_1.index t (2 : Fin 3) * 2048 + 1 * j.val = j.val; omega

theorem x2_apply (c : Dev nD) (t : Fin cfg0.N) (i : Fin 512) (j : Fin 2048) :
    (iblk m c 2 t : S512x2048.Idx → Elt F _) (ix2 i j)
      = (m ((c : Thread nD τ).loc main_arg2) : S8192x2048.Idx → Elt F _) (ix2 ⟨t.val / 4 * 512 + i.val, by have := ltN t; omega⟩ j) := by
  show V m c main_arg2 (((cfg0.win 2).blk t).view.emb (ix2 i j)) = _
  rw [V_main_arg2]
  refine congrArg (m ((c : Thread nD τ).loc main_arg2)) (funext fun a => Fin.ext ?_)
  obtain ⟨e0, e1⟩ := ix_2 t
  match a with
  | ⟨0, _⟩ => show win0_2.index t (0 : Fin 2) * 512 + 1 * i.val = t.val / 4 * 512 + i.val; omega
  | ⟨1, _⟩ => show win0_2.index t (1 : Fin 2) * 2048 + 1 * j.val = j.val; omega

theorem x3_apply (c : Dev nD) (t : Fin cfg0.N) (l l' : Fin 1) (j : Fin 2048) :
    (iblk m c 3 t : S1x1x2048.Idx → Elt F _) (ix3 l l' j) = (V m c main_v3 : S2x1x2048.Idx → Elt F _) (ix3 ⟨t.val / 32, by have := ltN t; omega⟩ 0 j) := by
  show V m c main_v3 (((cfg0.win 3).blk t).view.emb (ix3 l l' j)) = _
  refine congrArg (V m c main_v3) (funext fun a => Fin.ext ?_)
  obtain ⟨e0, e1, e2⟩ := ix_3 t
  match a with
  | ⟨0, _⟩ => show win0_3.index t (0 : Fin 3) * 1 + 1 * l.val = t.val / 32; omega
  | ⟨1, _⟩ => show win0_3.index t (1 : Fin 3) * 1 + 1 * l'.val = 0; omega
  | ⟨2, _⟩ => show win0_3.index t (2 : Fin 3) * 2048 + 1 * j.val = j.val; omega

theorem x5_apply (c : Dev nD) (t : Fin cfg0.N) (l l' : Fin 1) (j : Fin 2048) :
    (iblk m c 5 t : S1x1x2048.Idx → Elt F _) (ix3 l l' j) = (V m c main_v5 : S2x1x2048.Idx → Elt F _) (ix3 ⟨t.val / 32, by have := ltN t; omega⟩ 0 j) := by
  show V m c main_v5 (((cfg0.win 5).blk t).view.emb (ix3 l l' j)) = _
  refine congrArg (V m c main_v5) (funext fun a => Fin.ext ?_)
  obtain ⟨e0, e1, e2⟩ := ix_5 t
  match a with
  | ⟨0, _⟩ => show win0_5.index t (0 : Fin 3) * 1 + 1 * l.val = t.val / 32; omega
  | ⟨1, _⟩ => show win0_5.index t (1 : Fin 3) * 1 + 1 * l'.val = 0; omega
  | ⟨2, _⟩ => show win0_5.index t (2 : Fin 3) * 2048 + 1 * j.val = j.val; omega

theorem x6_apply (c : Dev nD) (t : Fin cfg0.N) (l l' : Fin 1) (j : Fin 2048) :
    (iblk m c 6 t : S1x1x2048.Idx → Elt F _) (ix3 l l' j) = (V m c main_v6 : S2x1x2048.Idx → Elt F _) (ix3 ⟨t.val / 32, by have := ltN t; omega⟩ 0 j) := by
  show V m c main_v6 (((cfg0.win 6).blk t).view.emb (ix3 l l' j)) = _
  refine congrArg (V m c main_v6) (funext fun a => Fin.ext ?_)
  obtain ⟨e0, e1, e2⟩ := ix_6 t
  match a with
  | ⟨0, _⟩ => show win0_6.index t (0 : Fin 3) * 1 + 1 * l.val = t.val / 32; omega
  | ⟨1, _⟩ => show win0_6.index t (1 : Fin 3) * 1 + 1 * l'.val = 0; omega
  | ⟨2, _⟩ => show win0_6.index t (2 : Fin 3) * 2048 + 1 * j.val = j.val; omega

theorem x4_apply (c : Dev nD) (t : Fin cfg0.N) (l : Fin 1) (j : Fin 2048) :
    (iblk m c 4 t : S1x2048.Idx → Elt F _) (ix2 l j) = (V m c main_v4 : S1x2048.Idx → Elt F _) (ix2 0 j) := by
  show V m c main_v4 (((cfg0.win 4).blk t).view.emb (ix2 l j)) = _
  refine congrArg (V m c main_v4) (funext fun a => Fin.ext ?_)
  obtain ⟨e0, e1⟩ := ix_4 t
  match a with
  | ⟨0, _⟩ => show win0_4.index t (0 : Fin 2) * 1 + 1 * l.val = 0; omega
  | ⟨1, _⟩ => show win0_4.index t (1 : Fin 2) * 2048 + 1 * j.val = j.val; omega

theorem v0_eq (c : Dev nD) : (V m c main_v0 : S2x8192x2048.Idx → Elt F .bf16) = truncf .bf16 (m ((c : Thread nD τ).loc main_arg1) : S2x8192x2048.Idx → Elt F .f32) bitsLt_bf16_f32 := by
  unfold_abbrev_sides
  after_results

theorem v3_eq (c : Dev nD) : (V m c main_v3 : S2x1x2048.Idx → Elt F .f32) = shapeCast S2x1x2048 (m ((c : Thread nD τ).loc main_arg3) : S2x2048.Idx → Elt F .f32) shapeCasts_S2x2048_S2x1x2048 := by
  unfold_abbrev_sides
  after_results
  rfl

theorem v5_eq (c : Dev nD) : (V m c main_v5 : S2x1x2048.Idx → Elt F .f32) = shapeCast S2x1x2048 (m ((c : Thread nD τ).loc main_arg5) : S2x2048.Idx → Elt F .f32) shapeCasts_S2x2048_S2x1x2048 := by
  unfold_abbrev_sides
  after_results
  rfl

theorem v6_eq (c : Dev nD) : (V m c main_v6 : S2x1x2048.Idx → Elt F .f32) = shapeCast S2x1x2048 (m ((c : Thread nD τ).loc main_arg6) : S2x2048.Idx → Elt F .f32) shapeCasts_S2x2048_S2x1x2048 := by
  unfold_abbrev_sides
  after_results
  rfl

theorem v4_eq (c : Dev nD) : (V m c main_v4 : S1x2048.Idx → Elt F .f32) = shapeCast S1x2048 (shapeCast S2048 (extractStridedSlice S1x2048 ![1, 0] (m ((c : Thread nD τ).loc main_arg4) : S2x2048.Idx → Elt F .f32) slices_S2x2048_S1x2048_1_0) shapeCasts_S1x2048_S2048) shapeCasts_S2048_S1x2048 := by
  unfold_abbrev_sides
  after_results
  rfl

end

/-! ## At ideal values -/

variable (m : (ℓ : Loc nD τ sig) → Buf (Elt Ideal) ℓ)

abbrev a0 (c : Dev nD) : FVec Ideal S8192x8192 .bf16 := m ((c : Thread nD τ).loc main_arg0)
abbrev a1 (c : Dev nD) : FVec Ideal S2x8192x2048 .f32 := m ((c : Thread nD τ).loc main_arg1)
abbrev a2 (c : Dev nD) : FVec Ideal S8192x2048 .f32 := m ((c : Thread nD τ).loc main_arg2)
abbrev a3 (c : Dev nD) : FVec Ideal S2x2048 .f32 := m ((c : Thread nD τ).loc main_arg3)
abbrev a4 (c : Dev nD) : FVec Ideal S2x2048 .f32 := m ((c : Thread nD τ).loc main_arg4)
abbrev a5 (c : Dev nD) : FVec Ideal S2x2048 .f32 := m ((c : Thread nD τ).loc main_arg5)
abbrev a6 (c : Dev nD) : FVec Ideal S2x2048 .f32 := m ((c : Thread nD τ).loc main_arg6)

/-- The normalised and modulated row's entry, from the row, the gain, the scale and the shift. -/
def nrm (r : Fin 2048 → EReal) (g s h : EReal) (j : Fin 2048) : EReal :=
  r j * Ideal.rsqrt (Ideal.div (∑ x, r x * r x) (Ideal.ofBits FTy.f32 0x45000000#32) + Ideal.ofBits FTy.f32 0x358637BD#32) * g * (Ideal.ofBits FTy.f32 0x3F800000#32 + s) + h

/-- The residual row with the gated product added. -/
def row (c : Dev nD) (p : Fin 8192) (j : Fin 2048) : EReal :=
  a2 m c (ix2 p j) + a3 m c (ix2 ⟨p.val / 4096, by omega⟩ j) * ∑ k : Fin 8192, (a0 m c (ix2 p k) : EReal) * a1 m c (ix3 0 k j)

/-- The second result's entry. -/
def mod (c : Dev nD) (p : Fin 8192) (j : Fin 2048) : EReal :=
  nrm (row m c p) (a4 m c (ix2 1 j)) (a5 m c (ix2 ⟨p.val / 4096, by omega⟩ j)) (a6 m c (ix2 ⟨p.val / 4096, by omega⟩ j)) j

theorem v3_apply (c : Dev nD) (b : Fin 2) (j : Fin 2048) : (V m c main_v3 : S2x1x2048.Idx → EReal) (ix3 b 0 j) = a3 m c (ix2 b j) := by
  refine (congrFun (v3_eq m c) (ix3 b 0 j)).trans ?_
  show shapeCast S2x1x2048 (a3 m c) shapeCasts_S2x2048_S2x1x2048 (ix3 b 0 j) = _
  generalize a3 m c = X
  pointwise []

theorem v5_apply (c : Dev nD) (b : Fin 2) (j : Fin 2048) : (V m c main_v5 : S2x1x2048.Idx → EReal) (ix3 b 0 j) = a5 m c (ix2 b j) := by
  refine (congrFun (v5_eq m c) (ix3 b 0 j)).trans ?_
  show shapeCast S2x1x2048 (a5 m c) shapeCasts_S2x2048_S2x1x2048 (ix3 b 0 j) = _
  generalize a5 m c = X
  pointwise []

theorem v6_apply (c : Dev nD) (b : Fin 2) (j : Fin 2048) : (V m c main_v6 : S2x1x2048.Idx → EReal) (ix3 b 0 j) = a6 m c (ix2 b j) := by
  refine (congrFun (v6_eq m c) (ix3 b 0 j)).trans ?_
  show shapeCast S2x1x2048 (a6 m c) shapeCasts_S2x2048_S2x1x2048 (ix3 b 0 j) = _
  generalize a6 m c = X
  pointwise []

theorem v4_apply (c : Dev nD) (j : Fin 2048) : (V m c main_v4 : S1x2048.Idx → EReal) (ix2 0 j) = a4 m c (ix2 1 j) := by
  refine (congrFun (v4_eq m c) (ix2 0 j)).trans ?_
  show shapeCast S1x2048 (shapeCast S2048 (extractStridedSlice S1x2048 ![1, 0] (a4 m c) slices_S2x2048_S1x2048_1_0) shapeCasts_S1x2048_S2048) shapeCasts_S2048_S1x2048 (ix2 0 j) = _
  generalize a4 m c = X
  pointwise []

theorem pay1_apply (x : Vec Ideal S512x2048 .bf16) (w : Vec Ideal S1x2048x2048 .bf16) (i : Fin 512) (j : Fin 2048) :
    (k0_pay1 (F := Ideal) x w (ix2 i j) : EReal) = ∑ k : Fin 2048, (x (ix2 i k) : EReal) * w (ix3 0 k j) := by
  pointwise [k0_pay1]

theorem pay2_apply (s : Vec Ideal S512x2048 .f32) (x : Vec Ideal S512x2048 .bf16) (w : Vec Ideal S1x2048x2048 .bf16) (i : Fin 512) (j : Fin 2048) :
    (k0_pay2 (F := Ideal) s x w (ix2 i j) : EReal) = s (ix2 i j) + ∑ k : Fin 2048, (x (ix2 i k) : EReal) * w (ix3 0 k j) := by
  pointwise [k0_pay2]

theorem payR_apply (s : Vec Ideal S512x2048 .f32) (x : Vec Ideal S512x2048 .bf16) (w : Vec Ideal S1x2048x2048 .bf16) (y : Vec Ideal S512x2048 .f32) (g : Vec Ideal S1x1x2048 .f32)
    (i : Fin 512) (j : Fin 2048) :
    (k0_pay4 (F := Ideal) s x w y g (ix2 i j) : EReal) = (y (ix2 i j) : EReal) + g (ix3 0 0 j) * (s (ix2 i j) + ∑ k : Fin 2048, (x (ix2 i k) : EReal) * w (ix3 0 k j)) := by
  pointwise [k0_pay4]

theorem payM_apply (s : Vec Ideal S512x2048 .f32) (x : Vec Ideal S512x2048 .bf16) (w : Vec Ideal S1x2048x2048 .bf16) (y : Vec Ideal S512x2048 .f32) (g : Vec Ideal S1x1x2048 .f32)
    (f : Vec Ideal S1x2048 .f32) (sc sh : Vec Ideal S1x1x2048 .f32) (i : Fin 512) (j : Fin 2048) :
    (k0_pay3 (F := Ideal) (k0_pay5 s x w y g f sc) sh (ix2 i j) : EReal)
      = nrm (fun j => (k0_pay4 (F := Ideal) s x w y g (ix2 i j) : EReal)) (f (ix2 0 j)) (sc (ix3 0 0 j)) (sh (ix3 0 0 j)) j := by
  unfold nrm k0_pay3 k0_pay5
  generalize k0_pay4 (F := Ideal) s x w y g = Q
  pointwise []

abbrev b0 (c : Dev nD) (t : Fin cfg0.N) : FVec Ideal S512x2048 .bf16 := iblk m c 0 t
abbrev b1 (c : Dev nD) (t : Fin cfg0.N) : FVec Ideal S1x2048x2048 .bf16 := iblk m c 1 t

/-- The product's terms, by the contracted position. -/
def term (c : Dev nD) (p : Fin 8192) (j : Fin 2048) (k : ℕ) : EReal := if h : k < 8192 then (a0 m c (ix2 p ⟨k, h⟩) : EReal) * a1 m c (ix3 0 ⟨k, h⟩ j) else 0

theorem blk (c : Dev nD) (t : Fin cfg0.N) (i : Fin 512) (j : Fin 2048) (p : Fin 8192) (hp : p.val = t.val / 4 * 512 + i.val) :
    (∑ k : Fin 2048, (b0 m c t (ix2 i k) : EReal) * b1 m c t (ix3 0 k j))
      = ∑ k ∈ Finset.range 2048, term m c p j (2048 * (t.val % 4) + k) := by
  rw [Finset.sum_range]
  refine Finset.sum_congr rfl fun k _ => ?_
  unfold term
  rw [dif_pos (by omega)]
  refine congrArg₂ (· * ·) ((x0_apply m c t i k).trans ?_) ((x1_apply m c t 0 k j).trans ((congrFun (v0_eq m c) _).trans ?_))
  · refine congrArg (a0 m c) (funext fun a => Fin.ext ?_)
    match a with
    | ⟨0, _⟩ => exact hp.symm
    | ⟨1, _⟩ => show t.val % 4 * 2048 + k.val = 2048 * (t.val % 4) + k.val; omega
  · show a1 m c _ = a1 m c _
    refine congrArg (a1 m c) (funext fun a => Fin.ext ?_)
    match a with
    | ⟨0, _⟩ => rfl
    | ⟨1, _⟩ => show t.val % 4 * 2048 + k.val = 2048 * (t.val % 4) + k.val; omega
    | ⟨2, _⟩ => rfl

/-- The scratch holds the sum over the blocks met so far. -/
theorem scr (c : Dev nD) (i : Fin 512) (j : Fin 2048) : ∀ (n : ℕ) (hn : n < cfg0.N) (p : Fin 8192), p.val = n / 4 * 512 + i.val → n % 4 ≤ 2 →
    ((outsAt0 m c n hn).2.2 (ix2 i j) : EReal) = ∑ k ∈ Finset.range (2048 * (n % 4) + 2048), term m c p j k := by
  have hA : ∀ (t : Fin cfg0.N) (p : Fin 8192), t.val % 4 = 0 → p.val = t.val / 4 * 512 + i.val →
      ((outsAt0 m c t.val t.isLt).2.2 (ix2 i j) : EReal) = ∑ k ∈ Finset.range (2048 * (t.val % 4) + 2048), term m c p j k := by
    intro t p h hp
    rw [scr_A m c t h]
    refine (pay1_apply _ _ i j).trans ((blk m c t i j p hp).trans ?_)
    simp only [h, Nat.mul_zero, Nat.zero_add]
  intro n
  induction n with
  | zero => exact fun hn p hp _ => hA ⟨0, hn⟩ p rfl hp
  | succ n ih =>
    intro hn p hp hle
    by_cases h : (n + 1) % 4 = 0
    · exact hA ⟨n + 1, hn⟩ p h hp
    · rw [scr_B m c ⟨n + 1, hn⟩ ⟨by dsimp only; omega, hle⟩, Finset.sum_range_add]
      refine (pay2_apply _ _ _ i j).trans (congrArg₂ (· + ·) ?_ (blk m c ⟨n + 1, hn⟩ i j p hp))
      rw [show 2048 * ((n + 1) % 4) = 2048 * (n % 4) + 2048 by omega]
      exact ih (Nat.lt_of_succ_lt hn) p (by omega) (by omega)

theorem rowBlk (c : Dev nD) (t : Fin cfg0.N) (h : t.val % 4 = 3) (i : Fin 512) (p : Fin 8192) (hp : p.val = t.val / 4 * 512 + i.val) (j : Fin 2048) :
    (k0_pay4 (F := Ideal) (prev m c t) (iblk m c 0 t) (iblk m c 1 t) (iblk m c 2 t) (iblk m c 3 t) (ix2 i j) : EReal) = row m c p j := by
  refine (payR_apply _ _ _ _ _ i j).trans ?_
  unfold row
  refine congrArg₂ (· + ·) ((x2_apply m c t i j).trans ?_) (congrArg₂ (· * ·) ((x3_apply m c t 0 0 j).trans ((v3_apply m c _ j).trans ?_)) ?_)
  · rw [show p = ⟨t.val / 4 * 512 + i.val, hp ▸ p.isLt⟩ from Fin.ext hp]
  · refine congrArg (a3 m c) (funext fun a => Fin.ext ?_)
    match a with
    | ⟨0, _⟩ => show t.val / 32 = p.val / 4096; omega
    | ⟨1, _⟩ => rfl
  · refine (congrArg₂ (· + ·) (scr m c i j (t.val - 1) _ p (by omega) (by omega)) (blk m c t i j p hp)).trans ?_
    rw [show 2048 * ((t.val - 1) % 4) + 2048 = 2048 * (t.val % 4) by omega, ← Finset.sum_range_add, h, Finset.sum_range]
    exact Finset.sum_congr rfl fun k _ => dif_pos k.isLt

/-- What a row tile's last point writes: the rows. -/
theorem outX (c : Dev nD) (t : Fin cfg0.N) (h : t.val % 4 = 3) (i : Fin 512) (j : Fin 2048) (p : Fin 8192) (hp : p.val = t.val / 4 * 512 + i.val) :
    ((outsAt0 m c t.val t.isLt).1 (ix2 i j) : EReal) = row m c p j := by
  rw [fst_eq m c t h]
  exact rowBlk m c t h i p hp j

/-- … and the normalised, modulated rows. -/
theorem outH (c : Dev nD) (t : Fin cfg0.N) (h : t.val % 4 = 3) (i : Fin 512) (j : Fin 2048) (p : Fin 8192) (hp : p.val = t.val / 4 * 512 + i.val) :
    ((outsAt0 m c t.val t.isLt).2.1 (ix2 i j) : EReal) = mod m c p j := by
  rw [snd_eq m c t h]
  refine (payM_apply _ _ _ _ _ _ _ _ i j).trans ?_
  have hb : (⟨t.val / 32, by have := ltN t; omega⟩ : Fin 2) = ⟨p.val / 4096, by omega⟩ := Fin.ext (by dsimp only; omega)
  unfold mod
  rw [← hb, ← (x4_apply m c t 0 j).trans (v4_apply m c j), ← (x5_apply m c t 0 0 j).trans (v5_apply m c _ j), ← (x6_apply m c t 0 0 j).trans (v6_apply m c _ j)]
  exact congrArg (fun r => nrm r _ _ _ j) (funext fun j => rowBlk m c t h i p hp j)

theorem resX (c : Dev nD) (p : Fin 8192) (j : Fin 2048) : (Value.G7 m c (ix2 p j) : EReal) = row m c p j := by
  have hq : Value.pt7Of (ix2 p j) = 4 * (p.val / 512) + 3 := by
    show 4 * (1 * (p.val / 512 - 0) + 1 * (j.val / 2048 - 0)) + 3 = _; omega
  have hN : Value.pt7Of (ix2 p j) < cfg0.N := by rw [hq, show cfg0.N = 64 from N_0]; omega
  have hl : Value.loc7Of (ix2 p j) = (ix2 (⟨p.val % 512, by omega⟩ : Fin 512) j : S512x2048.Idx) := by
    funext a
    match a with
    | ⟨0, _⟩ => rfl
    | ⟨1, _⟩ => exact Fin.ext (show j.val % 2048 = j.val by omega)
  unfold Value.G7
  rw [dif_pos hN, ← Value.outsAt0_sweep m c _ hN, hl]
  refine outX m c ⟨_, hN⟩ ?_ _ _ p ?_
  · show Value.pt7Of (ix2 p j) % 4 = 3
    rw [hq]; omega
  · show p.val = Value.pt7Of (ix2 p j) / 4 * 512 + p.val % 512
    rw [hq]; omega

theorem resH (c : Dev nD) (p : Fin 8192) (j : Fin 2048) : (Value.G8 m c (ix2 p j) : EReal) = mod m c p j := by
  have hq : Value.pt8Of (ix2 p j) = 4 * (p.val / 512) + 3 := by
    show 4 * (1 * (p.val / 512 - 0) + 1 * (j.val / 2048 - 0)) + 3 = _; omega
  have hN : Value.pt8Of (ix2 p j) < cfg0.N := by rw [hq, show cfg0.N = 64 from N_0]; omega
  have hl : Value.loc8Of (ix2 p j) = (ix2 (⟨p.val % 512, by omega⟩ : Fin 512) j : S512x2048.Idx) := by
    funext a
    match a with
    | ⟨0, _⟩ => rfl
    | ⟨1, _⟩ => exact Fin.ext (show j.val % 2048 = j.val by omega)
  unfold Value.G8
  rw [dif_pos hN, ← Value.outsAt0_sweep m c _ hN, hl]
  refine outH m c ⟨_, hN⟩ ?_ _ _ p ?_
  · show Value.pt8Of (ix2 p j) % 4 = 3
    rw [hq]; omega
  · show p.val = Value.pt8Of (ix2 p j) / 4 * 512 + p.val % 512
    rw [hq]; omega

end Cert.Kernel9Ideal.Mid

namespace Cert.Reference9Ideal.Mid

open Cert.Reference9Ideal Cert.Reference9Ideal.Gen Idealize.ShloMosaic Idealize.ShloMosaic.TcCoe

variable (u : FVec Ideal S8192x8192 .bf16) (w : FVec Ideal S2x8192x2048 .f32) (x : FVec Ideal S8192x2048 .f32) (g f sc sh : FVec Ideal S2x2048 .f32)

/-- The rows before the norm. -/
abbrev R : FVec Ideal S2x4096x2048 .f32 := addf (shapeCast _ x shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 g)) (Host.dotGeneral dot_S2x4096x8192_S8192x2048_S2x4096x2048_2_0_01_1_n_n none (extf .f32 (shapeCast _ u shapeCasts_S8192x8192_S2x4096x8192) bitsLt_bf16_f32) (shapeCast _ (extractStridedSlice S1x8192x2048 ![0, 0, 0] w slices_S2x8192x2048_S1x8192x2048_0_0_0) shapeCasts_S1x8192x2048_S8192x2048)))

theorem R_apply (b : Fin 2) (t : Fin 4096) (p : Fin 8192) (hp : p.val = b.val * 4096 + t.val) (j : Fin 2048) :
    (R u w x g (ix3 b t j) : EReal) = x (ix2 p j) + g (ix2 b j) * ∑ k : Fin 8192, (u (ix2 p k) : EReal) * w (ix3 0 k j) := by
  rw [show p = ⟨b.val * 4096 + t.val, by omega⟩ from Fin.ext hp]
  unfold R
  pointwise []

theorem refX (p : Fin 8192) (j : Fin 2048) :
    (shapeCast S8192x2048 (R u w x g) shapeCasts_S2x4096x2048_S8192x2048 (ix2 p j) : EReal) = x (ix2 p j) + g (ix2 ⟨p.val / 4096, by omega⟩ j) * ∑ k : Fin 8192, (u (ix2 p k) : EReal) * w (ix3 0 k j) := by
  have e := R_apply u w x g ⟨p.val / 4096, by omega⟩ ⟨p.val % 4096, by omega⟩ p (by dsimp only; omega) j
  generalize R u w x g = Q at e ⊢
  rw [← e]
  pointwise []

/-- The second result. -/
abbrev H : FVec Ideal S8192x2048 .bf16 := truncf .bf16 (shapeCast S8192x2048 (addf (mulf (mulf (mulf (R u w x g) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (R u w x g) (R u w x g)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![1, 0] f slices_S2x2048_S1x2048_1_0) shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc)))) (broadcastInDim S2x4096x2048 ![0, 1, 2] bcast_S2x1x2048_S2x4096x2048_0_1_2 (broadcastInDim S2x1x2048 ![0, 2] bcast_S2x2048_S2x1x2048_0_2 sh))) shapeCasts_S2x4096x2048_S8192x2048) bitsLt_bf16_f32

theorem refH (p : Fin 8192) (j : Fin 2048) :
    (H u w x g f sc sh (ix2 p j) : EReal)
      = Kernel9Ideal.Mid.nrm (fun j => x (ix2 p j) + g (ix2 ⟨p.val / 4096, by omega⟩ j) * ∑ k : Fin 8192, (u (ix2 p k) : EReal) * w (ix3 0 k j))
        (f (ix2 1 j)) (sc (ix2 ⟨p.val / 4096, by omega⟩ j)) (sh (ix2 ⟨p.val / 4096, by omega⟩ j)) j := by
  have e := fun j => R_apply u w x g ⟨p.val / 4096, by omega⟩ ⟨p.val % 4096, by omega⟩ p (by dsimp only; omega) j
  unfold H
  generalize R u w x g = Q at e ⊢
  unfold Kernel9Ideal.Mid.nrm
  simp only [← e]
  pointwise []

end Cert.Reference9Ideal.Mid

end
-- ==== Proof.Ffn.Norm.lean ====
module

public import proofs.«01_k».proof.Proof.Gen.Kernel10Ideal.Value
public import proofs.«01_k».proof.Proof.Gen.Reference10Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The normalisation before the first layer's mixers

Each point normalises and modulates a tile of rows. -/

namespace Cert.Kernel10Ideal.Norm

open Cert.Kernel10Ideal Cert.Kernel10Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_4 (x0 : Vec F S512x2048 .f32) (x1 : Vec F S1x2048 .f32) (x2 x3 : Vec F S1x1x2048 .f32) : out0_4 x0 x1 x2 x3 = k0_pay1 x0 x1 x2 x3 := by
  unfold out0_4
  rw [View.canon_unit_zero hz2]
  simp only [View.ld_unit_zero (S := S512x2048) hz2, View.ld_unit_zero (S := S1x2048) hz2, View.ld_unit_zero (S := S1x1x2048) hz3]

/-! ## The blocks -/

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 2) = 0 ∧ win0_1.index t (1 : Fin 2) = 0 := (by decide +kernel : ∀ t : Fin grid0.N, _)
theorem ix_2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem ix_3 : ∀ t : Fin cfg0.N, win0_3.index t (0 : Fin 3) = t.val / 8 ∧ win0_3.index t (1 : Fin 3) = 0 ∧ win0_3.index t (2 : Fin 3) = 0 := (by decide +kernel : ∀ t : Fin grid0.N, _)

theorem ltN (t : Fin cfg0.N) : t.val < 16 := lt_of_lt_of_eq t.isLt N_0

theorem x0_apply (c : Dev nD) (t : Fin cfg0.N) (i : Fin 512) (j : Fin 2048) (p : Fin 8192) (hp : p.val = t.val * 512 + i.val) :
    (iblk m c 0 t : S512x2048.Idx → Elt F _) (ix2 i j) = (m ((c : Thread nD τ).loc main_arg0) : S8192x2048.Idx → Elt F _) (ix2 p j) := by
  show V m c main_arg0 (((cfg0.win 0).blk t).view.emb (ix2 i j)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 512 + 1 * i.val = p.val; omega
  | ⟨1, _⟩ => show win0_0.index t (1 : Fin 2) * 2048 + 1 * j.val = j.val; omega

theorem x1_apply (c : Dev nD) (t : Fin cfg0.N) (l : Fin 1) (j : Fin 2048) :
    (iblk m c 1 t : S1x2048.Idx → Elt F _) (ix2 l j) = (V m c main_v2 : S1x2048.Idx → Elt F _) (ix2 0 j) := by
  show V m c main_v2 (((cfg0.win 1).blk t).view.emb (ix2 l j)) = _
  refine congrArg (V m c main_v2) (funext fun a => Fin.ext ?_)
  obtain ⟨e0, e1⟩ := ix_1 t
  match a with
  | ⟨0, _⟩ => show win0_1.index t (0 : Fin 2) * 1 + 1 * l.val = 0; omega
  | ⟨1, _⟩ => show win0_1.index t (1 : Fin 2) * 2048 + 1 * j.val = j.val; omega

theorem x2_apply (c : Dev nD) (t : Fin cfg0.N) (l l' : Fin 1) (j : Fin 2048) (b : Fin 2) (hb : b.val = t.val / 8) :
    (iblk m c 2 t : S1x1x2048.Idx → Elt F _) (ix3 l l' j) = (V m c main_v3 : S2x1x2048.Idx → Elt F _) (ix3 b 0 j) := by
  show V m c main_v3 (((cfg0.win 2).blk t).view.emb (ix3 l l' j)) = _
  refine congrArg (V m c main_v3) (funext fun a => Fin.ext ?_)
  obtain ⟨e0, e1, e2⟩ := ix_2 t
  match a with
  | ⟨0, _⟩ => show win0_2.index t (0 : Fin 3) * 1 + 1 * l.val = b.val; omega
  | ⟨1, _⟩ => show win0_2.index t (1 : Fin 3) * 1 + 1 * l'.val = 0; omega
  | ⟨2, _⟩ => show win0_2.index t (2 : Fin 3) * 2048 + 1 * j.val = j.val; omega

theorem v3_eq (c : Dev nD) : (V m c main_v3 : S2x1x2048.Idx → Elt F .f32) = shapeCast S2x1x2048 (m ((c : Thread nD τ).loc main_arg2) : S2x2048.Idx → Elt F .f32) shapeCasts_S2x2048_S2x1x2048 := by
  unfold_abbrev_sides
  after_results
  rfl

theorem x3_apply (c : Dev nD) (t : Fin cfg0.N) (l l' : Fin 1) (j : Fin 2048) (b : Fin 2) (hb : b.val = t.val / 8) :
    (iblk m c 3 t : S1x1x2048.Idx → Elt F _) (ix3 l l' j) = (V m c main_v4 : S2x1x2048.Idx → Elt F _) (ix3 b 0 j) := by
  show V m c main_v4 (((cfg0.win 3).blk t).view.emb (ix3 l l' j)) = _
  refine congrArg (V m c main_v4) (funext fun a => Fin.ext ?_)
  obtain ⟨e0, e1, e2⟩ := ix_3 t
  match a with
  | ⟨0, _⟩ => show win0_3.index t (0 : Fin 3) * 1 + 1 * l.val = b.val; omega
  | ⟨1, _⟩ => show win0_3.index t (1 : Fin 3) * 1 + 1 * l'.val = 0; omega
  | ⟨2, _⟩ => show win0_3.index t (2 : Fin 3) * 2048 + 1 * j.val = j.val; omega

theorem v4_eq (c : Dev nD) : (V m c main_v4 : S2x1x2048.Idx → Elt F .f32) = shapeCast S2x1x2048 (m ((c : Thread nD τ).loc main_arg3) : S2x2048.Idx → Elt F .f32) shapeCasts_S2x2048_S2x1x2048 := by
  unfold_abbrev_sides
  after_results
  rfl

theorem v2_eq (c : Dev nD) : (V m c main_v2 : S1x2048.Idx → Elt F .f32) = shapeCast S1x2048 (shapeCast S2048 (extractStridedSlice S1x2048 ![0, 0] (m ((c : Thread nD τ).loc main_arg1) : S2x2048.Idx → Elt F .f32) slices_S2x2048_S1x2048_0_0) shapeCasts_S1x2048_S2048) shapeCasts_S2048_S1x2048 := by
  unfold_abbrev_sides
  after_results
  rfl

end

/-! ## At ideal values -/

variable (m : (ℓ : Loc nD τ sig) → Buf (Elt Ideal) ℓ)

abbrev a0 (c : Dev nD) : FVec Ideal S8192x2048 .f32 := m ((c : Thread nD τ).loc main_arg0)
abbrev a1 (c : Dev nD) : FVec Ideal S2x2048 .f32 := m ((c : Thread nD τ).loc main_arg1)
abbrev a2 (c : Dev nD) : FVec Ideal S2x2048 .f32 := m ((c : Thread nD τ).loc main_arg2)
abbrev a3 (c : Dev nD) : FVec Ideal S2x2048 .f32 := m ((c : Thread nD τ).loc main_arg3)

/-- The normalised and modulated row's entry, from the row, the gain, the scale and the shift. -/
def nrm (r : Fin 2048 → EReal) (g s h : EReal) (j : Fin 2048) : EReal :=
  r j * Ideal.rsqrt (Ideal.div (∑ x, r x * r x) (Ideal.ofBits FTy.f32 0x45000000#32) + Ideal.ofBits FTy.f32 0x358637BD#32) * g * (Ideal.ofBits FTy.f32 0x3F800000#32 + s) + h

/-- The result's entry. -/
def val (c : Dev nD) (p : Fin 8192) (j : Fin 2048) : EReal :=
  nrm (fun j => a0 m c (ix2 p j)) (a1 m c (ix2 0 j)) (a2 m c (ix2 ⟨p.val / 4096, by omega⟩ j)) (a3 m c (ix2 ⟨p.val / 4096, by omega⟩ j)) j

theorem v3_apply (c : Dev nD) (b : Fin 2) (j : Fin 2048) : (V m c main_v3 : S2x1x2048.Idx → EReal) (ix3 b 0 j) = a2 m c (ix2 b j) := by
  refine (congrFun (v3_eq m c) (ix3 b 0 j)).trans ?_
  show shapeCast S2x1x2048 (a2 m c) shapeCasts_S2x2048_S2x1x2048 (ix3 b 0 j) = _
  generalize a2 m c = X
  pointwise []

theorem v4_apply (c : Dev nD) (b : Fin 2) (j : Fin 2048) : (V m c main_v4 : S2x1x2048.Idx → EReal) (ix3 b 0 j) = a3 m c (ix2 b j) := by
  refine (congrFun (v4_eq m c) (ix3 b 0 j)).trans ?_
  show shapeCast S2x1x2048 (a3 m c) shapeCasts_S2x2048_S2x1x2048 (ix3 b 0 j) = _
  generalize a3 m c = X
  pointwise []

theorem v2_apply (c : Dev nD) (j : Fin 2048) : (V m c main_v2 : S1x2048.Idx → EReal) (ix2 0 j) = a1 m c (ix2 0 j) := by
  refine (congrFun (v2_eq m c) (ix2 0 j)).trans ?_
  show shapeCast S1x2048 (shapeCast S2048 (extractStridedSlice S1x2048 ![0, 0] (a1 m c) slices_S2x2048_S1x2048_0_0) shapeCasts_S1x2048_S2048) shapeCasts_S2048_S1x2048 (ix2 0 j) = _
  generalize a1 m c = X
  pointwise []

theorem pay_apply (x : Vec Ideal S512x2048 .f32) (f : Vec Ideal S1x2048 .f32) (sc sh : Vec Ideal S1x1x2048 .f32) (i : Fin 512) (j : Fin 2048) :
    (k0_pay1 (F := Ideal) x f sc sh (ix2 i j) : EReal) = nrm (fun j => x (ix2 i j)) (f (ix2 0 j)) (sc (ix3 0 0 j)) (sh (ix3 0 0 j)) j := by
  unfold nrm
  pointwise [k0_pay1]

/-- What a point writes. -/
theorem out (c : Dev nD) (t : Fin cfg0.N) (i : Fin 512) (j : Fin 2048) (p : Fin 8192) (hp : p.val = t.val * 512 + i.val) :
    (out0_4 (iblk m c 0 t) (iblk m c 1 t) (iblk m c 2 t) (iblk m c 3 t) (ix2 i j) : EReal) = val m c p j := by
  rw [out_4]
  refine (pay_apply _ _ _ _ i j).trans ?_
  unfold val
  rw [← (x1_apply m c t 0 j).trans (v2_apply m c j), ← (x2_apply m c t 0 0 j ⟨p.val / 4096, by omega⟩ (by dsimp only; omega)).trans (v3_apply m c _ j),
    ← (x3_apply m c t 0 0 j ⟨p.val / 4096, by omega⟩ (by dsimp only; omega)).trans (v4_apply m c _ j)]
  exact congrArg (fun r => nrm r _ _ _ j) (funext fun j => x0_apply m c t i j p hp)

theorem fl_4 : ∀ t : Fin cfg0.N, (cfg0.win 4).flush t = true ∧ win0_4.index t (0 : Fin 2) = t.val ∧ win0_4.index t (1 : Fin 2) = 0 :=
  (by decide +kernel : ∀ t : Fin grid0.N, win0_4.flush t = true ∧ win0_4.index t (0 : Fin 2) = t.val ∧ win0_4.index t (1 : Fin 2) = 0)

/-- The array after the run. -/
abbrev G4 (c : Dev nD) : Buf (Elt Ideal) ((c : Thread nD τ).loc main_v5) := (dats m 0 c).arrAt 4 cfg0.N

theorem res (c : Dev nD) (p : Fin 8192) (j : Fin 2048) : (G4 m c (ix2 p j) : EReal) = val m c p j := by
  have hN : p.val / 512 < cfg0.N := by rw [show cfg0.N = 16 from N_0]; omega
  obtain ⟨hf, e0, e1⟩ := fl_4 ⟨p.val / 512, hN⟩
  have e := congrFun ((Value.blocks4 m c ⟨p.val / 512, hN⟩ hf).trans (Value.flushed4 m c ⟨p.val / 512, hN⟩)) (ix2 (⟨p.val % 512, by omega⟩ : Fin 512) j : S512x2048.Idx)
  refine Eq.trans (congrArg (G4 m c) (funext fun a => Fin.ext ?_)) (e.trans ?_)
  · match a with
    | ⟨0, _⟩ => show p.val = win0_4.index ⟨p.val / 512, hN⟩ (0 : Fin 2) * 512 + 1 * (p.val % 512); rw [e0]; dsimp only; omega
    | ⟨1, _⟩ => show j.val = win0_4.index ⟨p.val / 512, hN⟩ (1 : Fin 2) * 2048 + 1 * j.val; omega
  · refine Eq.trans (congrArg (out0_4 (iblk m c 0 ⟨p.val / 512, hN⟩) (iblk m c 1 ⟨p.val / 512, hN⟩) (iblk m c 2 ⟨p.val / 512, hN⟩) (iblk m c 3 ⟨p.val / 512, hN⟩)) (funext fun a => ?_)) (out m c ⟨p.val / 512, hN⟩ ⟨p.val % 512, by omega⟩ j p (by dsimp only; omega))
    match a with
    | ⟨0, _⟩ => rfl
    | ⟨1, _⟩ => rfl

end Cert.Kernel10Ideal.Norm

namespace Cert.Reference10Ideal.Norm

open Cert.Reference10Ideal Cert.Reference10Ideal.Gen Idealize.ShloMosaic Idealize.ShloMosaic.TcCoe

variable (x : FVec Ideal S8192x2048 .f32) (f sc sh : FVec Ideal S2x2048 .f32)

/-- The rows, by batch and position. -/
abbrev R : FVec Ideal S2x4096x2048 .f32 := shapeCast _ x shapeCasts_S8192x2048_S2x4096x2048

theorem R_apply (b : Fin 2) (t : Fin 4096) (p : Fin 8192) (hp : p.val = b.val * 4096 + t.val) (j : Fin 2048) : (R x (ix3 b t j) : EReal) = x (ix2 p j) := by
  rw [show p = ⟨b.val * 4096 + t.val, by omega⟩ from Fin.ext hp]
  unfold R
  pointwise []

/-- The result. -/
abbrev H : FVec Ideal S8192x2048 .bf16 := truncf .bf16 (shapeCast S8192x2048 (addf (mulf (mulf (mulf (R x) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (R x) (R x)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![0, 0] f slices_S2x2048_S1x2048_0_0) shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc)))) (broadcastInDim S2x4096x2048 ![0, 1, 2] bcast_S2x1x2048_S2x4096x2048_0_1_2 (broadcastInDim S2x1x2048 ![0, 2] bcast_S2x2048_S2x1x2048_0_2 sh))) shapeCasts_S2x4096x2048_S8192x2048) bitsLt_bf16_f32

theorem refH (p : Fin 8192) (j : Fin 2048) :
    (H x f sc sh (ix2 p j) : EReal) = Kernel10Ideal.Norm.nrm (fun j => x (ix2 p j)) (f (ix2 0 j)) (sc (ix2 ⟨p.val / 4096, by omega⟩ j)) (sh (ix2 ⟨p.val / 4096, by omega⟩ j)) j := by
  have e := fun j => R_apply x ⟨p.val / 4096, by omega⟩ ⟨p.val % 4096, by omega⟩ p (by dsimp only; omega) j
  unfold H
  generalize R x = Q at e ⊢
  unfold Kernel10Ideal.Norm.nrm
  simp only [← e]
  pointwise []

end Cert.Reference10Ideal.Norm

end
-- ==== Proof.Proj.Narrow.lean ====
module

public import proofs.«01_k».proof.Proof.Gen.Kernel11Ideal.Frame
public import proofs.«01_k».proof.Proof.Gen.Reference11Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The input projection's narrow columns

The first point gathers three stretches of the weights, and rows of zeros, into a scratch tile; every point multiplies its
rows by it. The first 256 columns are normalised; the indexer's keys among the others are also written under zeros and over
zeros. -/

namespace Cert.Kernel11Ideal.Narrow

open Cert.Kernel11Ideal Cert.Kernel11Ideal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

/-- The scratch tile's four stores, the last one first. -/
abbrev pcs (x1 : Vec F S1x256x2048 .f32) (x2 : Vec F S1x80x2048 .f32) (x3 : Vec F S1x16x2048 .f32) : List (View.Piece (Elt F) S384x2048 .bf16) :=
  [⟨Rect.unit (s := S384x2048) ![352, 0] S32x2048.size inb_S384x2048_S32x2048_352_0, k0_pay5⟩,
   ⟨Rect.unit (s := S384x2048) ![336, 0] S16x2048.size inb_S384x2048_S16x2048_336_0, k0_pay4 x3⟩,
   ⟨Rect.unit (s := S384x2048) ![256, 0] S80x2048.size inb_S384x2048_S80x2048_256_0, k0_pay3 x2⟩,
   ⟨Rect.unit (s := S384x2048) ![0, 0] S256x2048.size inb_S384x2048_S256x2048_0_0, k0_pay2 x1⟩]

/-- What they leave. -/
abbrev W (x1 : Vec F S1x256x2048 .f32) (x2 : Vec F S1x80x2048 .f32) (x3 : Vec F S1x16x2048 .f32) : Vec F S384x2048 .bf16 := View.canon (pcs x1 x2 x3)

theorem cov (v : View sig .tc .vmem S384x2048 .bf16) (L : List (View.Piece (Elt F) S384x2048 .bf16)) :
    v.readCov L (Rect.unit (s := S384x2048) ![0, 0] S384x2048.size inb_S384x2048_S384x2048_0_0).toLoadRect = View.canon L := by
  rw [View.readCov_eq_canon']
  exact View.ld_unit_zero (S := S384x2048) hz2 _ _

theorem out_A_5 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : cond0_0 i)
    (x0 : Vec F S1024x2048 .bf16) (x1 : Vec F S1x256x2048 .f32) (x2 : Vec F S1x80x2048 .f32) (x3 : Vec F S1x16x2048 .f32) (x4 : Vec F S1x256 .f32) :
    out0_A_5 c i b1 h1 b2 h2 b3 h3 b4 h4 b5 h5 b6 h6 b7 h7 b8 h8 b9 h9 b10 h10 hc0 x0 x1 x2 x3 x4 = k0_pay7 x0 (W x1 x2 x3) x4 := by
  unfold out0_A_5
  rw [View.read_writes_eq_canon _ _ _ (cover0_A_5 c i b1 h1 b2 h2 b3 h3 b4 h4 b5 h5 b6 h6 b7 h7 b8 h8 b9 h9 b10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]
  exact congrArg (fun w => k0_pay7 x0 w x4) (cov _ _)

theorem out_A_6 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : cond0_0 i)
    (x0 : Vec F S1024x2048 .bf16) (x1 : Vec F S1x256x2048 .f32) (x2 : Vec F S1x80x2048 .f32) (x3 : Vec F S1x16x2048 .f32) (x4 : Vec F S1x256 .f32) :
    out0_A_6 c i b1 h1 b2 h2 b3 h3 b4 h4 b5 h5 b6 h6 b7 h7 b8 h8 b9 h9 b10 h10 hc0 x0 x1 x2 x3 x4 = k0_pay8 x0 (W x1 x2 x3) := by
  unfold out0_A_6
  rw [View.read_writes_eq_canon _ _ _ (cover0_A_6 c i b1 h1 b2 h2 b3 h3 b4 h4 b5 h5 b6 h6 b7 h7 b8 h8 b9 h9 b10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]
  exact congrArg (fun w => k0_pay8 x0 w) (cov _ _)

theorem out_A_7 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : cond0_0 i)
    (x0 : Vec F S1024x2048 .bf16) (x1 : Vec F S1x256x2048 .f32) (x2 : Vec F S1x80x2048 .f32) (x3 : Vec F S1x16x2048 .f32) (x4 : Vec F S1x256 .f32) :
    out0_A_7 c i b1 h1 b2 h2 b3 h3 b4 h4 b5 h5 b6 h6 b7 h7 b8 h8 b9 h9 b10 h10 hc0 x0 x1 x2 x3 x4 = k0_pay9 x0 (W x1 x2 x3) := by
  unfold out0_A_7
  rw [View.read_writes_eq_canon _ _ _ (cover0_A_7 c i b1 h1 b2 h2 b3 h3 b4 h4 b5 h5 b6 h6 b7 h7 b8 h8 b9 h9 b10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]
  exact congrArg (fun w => k0_pay9 x0 w) (cov _ _)

theorem out_A_8 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : cond0_0 i)
    (x0 : Vec F S1024x2048 .bf16) (x1 : Vec F S1x256x2048 .f32) (x2 : Vec F S1x80x2048 .f32) (x3 : Vec F S1x16x2048 .f32) (x4 : Vec F S1x256 .f32) :
    out0_A_8 c i b1 h1 b2 h2 b3 h3 b4 h4 b5 h5 b6 h6 b7 h7 b8 h8 b9 h9 b10 h10 hc0 x0 x1 x2 x3 x4 = k0_pay1 (k0_pay8 x0 (W x1 x2 x3)) k0_pay10 := by
  unfold out0_A_8
  rw [View.read_writes_eq_canon _ _ _ (cover0_A_8 c i b1 h1 b2 h2 b3 h3 b4 h4 b5 h5 b6 h6 b7 h7 b8 h8 b9 h9 b10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]
  exact congrArg (fun w => k0_pay1 (k0_pay8 x0 w) k0_pay10) (cov _ _)

theorem sout_A (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : cond0_0 i)
    (x0 : Vec F S1024x2048 .bf16) (x1 : Vec F S1x256x2048 .f32) (x2 : Vec F S1x80x2048 .f32) (x3 : Vec F S1x16x2048 .f32) (x4 : Vec F S1x256 .f32) :
    sout0_A_0 c i b1 h1 b2 h2 b3 h3 b4 h4 b5 h5 b6 h6 b7 h7 b8 h8 b9 h9 b10 h10 hc0 x0 x1 x2 x3 x4 = W x1 x2 x3 := by
  unfold sout0_A_0
  rw [View.read_writes_eq_canon _ _ _ (scover0_A_0 c i b1 h1 b2 h2 b3 h3 b4 h4 b5 h5 b6 h6 b7 h7 b8 h8 b9 h9 b10 h10 hc0 x0 x1 x2 x3 x4)]
  unfold kernelRun0_A
  dsimp only
  sl_unfold_words
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]

theorem out_B_5 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : ¬cond0_0 i)
    (x0 : Vec F S1024x2048 .bf16) (x1 : Vec F S1x256x2048 .f32) (x2 : Vec F S1x80x2048 .f32) (x3 : Vec F S1x16x2048 .f32) (x4 : Vec F S1x256 .f32) (xs : Vec F S384x2048 .bf16) :
    out0_B_5 c i b1 h1 b2 h2 b3 h3 b4 h4 b5 h5 b6 h6 b7 h7 b8 h8 b9 h9 b10 h10 hc0 x0 x1 x2 x3 x4 xs = k0_pay7 x0 xs x4 := by
  unfold out0_B_5
  rw [View.read_writes_eq_canon _ _ _ (cover0_B_5 c i b1 h1 b2 h2 b3 h3 b4 h4 b5 h5 b6 h6 b7 h7 b8 h8 b9 h9 b10 h10 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]

theorem out_B_6 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : ¬cond0_0 i)
    (x0 : Vec F S1024x2048 .bf16) (x1 : Vec F S1x256x2048 .f32) (x2 : Vec F S1x80x2048 .f32) (x3 : Vec F S1x16x2048 .f32) (x4 : Vec F S1x256 .f32) (xs : Vec F S384x2048 .bf16) :
    out0_B_6 c i b1 h1 b2 h2 b3 h3 b4 h4 b5 h5 b6 h6 b7 h7 b8 h8 b9 h9 b10 h10 hc0 x0 x1 x2 x3 x4 xs = k0_pay8 x0 xs := by
  unfold out0_B_6
  rw [View.read_writes_eq_canon _ _ _ (cover0_B_6 c i b1 h1 b2 h2 b3 h3 b4 h4 b5 h5 b6 h6 b7 h7 b8 h8 b9 h9 b10 h10 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]

theorem out_B_7 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : ¬cond0_0 i)
    (x0 : Vec F S1024x2048 .bf16) (x1 : Vec F S1x256x2048 .f32) (x2 : Vec F S1x80x2048 .f32) (x3 : Vec F S1x16x2048 .f32) (x4 : Vec F S1x256 .f32) (xs : Vec F S384x2048 .bf16) :
    out0_B_7 c i b1 h1 b2 h2 b3 h3 b4 h4 b5 h5 b6 h6 b7 h7 b8 h8 b9 h9 b10 h10 hc0 x0 x1 x2 x3 x4 xs = k0_pay9 x0 xs := by
  unfold out0_B_7
  rw [View.read_writes_eq_canon _ _ _ (cover0_B_7 c i b1 h1 b2 h2 b3 h3 b4 h4 b5 h5 b6 h6 b7 h7 b8 h8 b9 h9 b10 h10 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]

theorem out_B_8 (c : Dev nD) (i : grid0.Coords) (b1 : Memref sig .tc .vmem S1024x2048 .bf16) (h1 : b1.IsWhole)
    (b2 : Memref sig .tc .vmem S1x256x2048 .f32) (h2 : b2.IsWhole)
    (b3 : Memref sig .tc .vmem S1x80x2048 .f32) (h3 : b3.IsWhole)
    (b4 : Memref sig .tc .vmem S1x16x2048 .f32) (h4 : b4.IsWhole)
    (b5 : Memref sig .tc .vmem S1x256 .f32) (h5 : b5.IsWhole)
    (b6 : Memref sig .tc .vmem S1024x256 .bf16) (h6 : b6.IsWhole)
    (b7 : Memref sig .tc .vmem S1024x128 .f32) (h7 : b7.IsWhole)
    (b8 : Memref sig .tc .vmem S1024x128 .bf16) (h8 : b8.IsWhole)
    (b9 : Memref sig .tc .vmem S1024x128 .bf16) (h9 : b9.IsWhole)
    (b10 : Memref sig .tc .vmem S384x2048 .bf16) (h10 : b10.IsWhole) (hc0 : ¬cond0_0 i)
    (x0 : Vec F S1024x2048 .bf16) (x1 : Vec F S1x256x2048 .f32) (x2 : Vec F S1x80x2048 .f32) (x3 : Vec F S1x16x2048 .f32) (x4 : Vec F S1x256 .f32) (xs : Vec F S384x2048 .bf16) :
    out0_B_8 c i b1 h1 b2 h2 b3 h3 b4 h4 b5 h5 b6 h6 b7 h7 b8 h8 b9 h9 b10 h10 hc0 x0 x1 x2 x3 x4 xs = k0_pay1 (k0_pay8 x0 xs) k0_pay10 := by
  unfold out0_B_8
  rw [View.read_writes_eq_canon _ _ _ (cover0_B_8 c i b1 h1 b2 h2 b3 h3 b4 h4 b5 h5 b6 h6 b7 h7 b8 h8 b9 h9 b10 h10 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h10.read_unread, View.ld_unit_zero (S := S1024x2048) hz2, View.ld_unit_zero (S := S1x256x2048) hz3, View.ld_unit_zero (S := S1x80x2048) hz3, View.ld_unit_zero (S := S1x16x2048) hz3, View.ld_unit_zero (S := S1x256) hz2, View.ld_unit_zero (S := S384x2048) hz2]

/-- The tile the points multiply by. -/
abbrev scr (c : Dev nD) (t : Fin cfg0.N) : Vec F S384x2048 .bf16 := (outsAt0 m c t.val t.isLt).2.2.2.2

theorem scr_A (c : Dev nD) (t : Fin cfg0.N) (h : t.val % 8 = 0) : scr m c t = W (iblk m c 1 t) (iblk m c 2 t) (iblk m c 3 t) := by
  unfold scr
  rw [outsAt0_A m c t h]
  dsimp only
  rw [sout_A]

theorem scr_B (c : Dev nD) (t : Fin cfg0.N) (h : ¬t.val % 8 = 0) : scr m c t = (outsAt0 m c (t.val - 1) (Nat.lt_of_le_of_lt (Nat.sub_le _ _) t.isLt)).2.2.2.2 := by
  unfold scr
  rw [outsAt0_B m c t h]
  rfl

theorem at_5 (c : Dev nD) (t : Fin cfg0.N) : (outsAt0 m c t.val t.isLt).1 = k0_pay7 (iblk m c 0 t) (scr m c t) (iblk m c 4 t) := by
  by_cases h : t.val % 8 = 0
  · rw [scr_A m c t h, outsAt0_A m c t h]
    dsimp only
    rw [out_A_5]
  · rw [scr_B m c t h, outsAt0_B m c t h]
    dsimp only
    rw [out_B_5]

theorem at_6 (c : Dev nD) (t : Fin cfg0.N) : (outsAt0 m c t.val t.isLt).2.1 = k0_pay8 (iblk m c 0 t) (scr m c t) := by
  by_cases h : t.val % 8 = 0
  · rw [scr_A m c t h, outsAt0_A m c t h]
    dsimp only
    rw [out_A_6]
  · rw [scr_B m c t h, outsAt0_B m c t h]
    dsimp only
    rw [out_B_6]

theorem at_7 (c : Dev nD) (t : Fin cfg0.N) : (outsAt0 m c t.val t.isLt).2.2.1 = k0_pay9 (iblk m c 0 t) (scr m c t) := by
  by_cases h : t.val % 8 = 0
  · rw [scr_A m c t h, outsAt0_A m c t h]
    dsimp only
    rw [out_A_7]
  · rw [scr_B m c t h, outsAt0_B m c t h]
    dsimp only
    rw [out_B_7]

theorem at_8 (c : Dev nD) (t : Fin cfg0.N) : (outsAt0 m c t.val t.isLt).2.2.2.1 = k0_pay1 (k0_pay8 (iblk m c 0 t) (scr m c t)) k0_pay10 := by
  by_cases h : t.val % 8 = 0
  · rw [scr_A m c t h, outsAt0_A m c t h]
    dsimp only
    rw [out_A_8]
  · rw [scr_B m c t h, outsAt0_B m c t h]
    dsimp only
    rw [out_B_8]

/-! ## The blocks -/

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 3) = 1 ∧ win0_1.index t (1 : Fin 3) = 10256 ∧ win0_1.index t (2 : Fin 3) = 0 := (by decide +kernel : ∀ t : Fin grid0.N, _)
theorem ix_2 : ∀ t : Fin cfg0.N, win0_2.index t (0 : Fin 3) = 1 ∧ win0_2.index t (1 : Fin 3) = 11536 ∧ win0_2.index t (2 : Fin 3) = 0 := (by decide +kernel : ∀ t : Fin grid0.N, _)
theorem ix_3 : ∀ t : Fin cfg0.N, win0_3.index t (0 : Fin 3) = 1 ∧ win0_3.index t (1 : Fin 3) = 4096 ∧ win0_3.index t (2 : Fin 3) = 0 := (by decide +kernel : ∀ t : Fin grid0.N, _)
theorem ix_4 : ∀ t : Fin cfg0.N, win0_4.index t (0 : Fin 2) = 0 ∧ win0_4.index t (1 : Fin 2) = 0 := (by decide +kernel : ∀ t : Fin grid0.N, _)

theorem ltN (t : Fin cfg0.N) : t.val < 8 := lt_of_lt_of_eq t.isLt N_0

theorem x0_apply (c : Dev nD) (t : Fin cfg0.N) (i : Fin 1024) (k : Fin 2048) (p : Fin 8192) (hp : p.val = t.val * 1024 + i.val) :
    (iblk m c 0 t : S1024x2048.Idx → Elt F _) (ix2 i k) = (m ((c : Thread nD τ).loc main_arg0) : S8192x2048.Idx → Elt F _) (ix2 p k) := by
  show V m c main_arg0 (((cfg0.win 0).blk t).view.emb (ix2 i k)) = _
  rw [V_main_arg0]
  refine congrArg (m ((c : Thread nD τ).loc main_arg0)) (funext fun a => Fin.ext ?_)
  obtain ⟨e0, e1⟩ := ix_0 t
  match a with
  | ⟨0, _⟩ => show win0_0.index t (0 : Fin 2) * 1024 + 1 * i.val = p.val; omega
  | ⟨1, _⟩ => show win0_0.index t (1 : Fin 2) * 2048 + 1 * k.val = k.val; omega

theorem x1_apply (c : Dev nD) (t : Fin cfg0.N) (l : Fin 1) (j : Fin 256) (k : Fin 2048) (q : Fin 15712) (hq : q.val = 10256 + j.val) :
    (iblk m c 1 t : S1x256x2048.Idx → Elt F _) (ix3 l j k) = (V m c main_v0 : S2x15712x2048.Idx → Elt F _) (ix3 1 q k) := by
  show V m c main_v0 (((cfg0.win 1).blk t).view.emb (ix3 l j k)) = _
  refine congrArg (V m c main_v0) (funext fun a => Fin.ext ?_)
  obtain ⟨e0, e1, e2⟩ := ix_1 t
  match a with
  | ⟨0, _⟩ => show win0_1.index t (0 : Fin 3) + 1 * l.val = 1; omega
  | ⟨1, _⟩ => show win0_1.index t (1 : Fin 3) + 1 * j.val = q.val; omega
  | ⟨2, _⟩ => show win0_1.index t (2 : Fin 3) + 1 * k.val = k.val; omega

theorem x2_apply (c : Dev nD) (t : Fin cfg0.N) (l : Fin 1) (j : Fin 80) (k : Fin 2048) (q : Fin 15712) (hq : q.val = 11536 + j.val) :
    (iblk m c 2 t : S1x80x2048.Idx → Elt F _) (ix3 l j k) = (V m c main_v0 : S2x15712x2048.Idx → Elt F _) (ix3 1 q k) := by
  show V m c main_v0 (((cfg0.win 2).blk t).view.emb (ix3 l j k)) = _
  refine congrArg (V m c main_v0) (funext fun a => Fin.ext ?_)
  obtain ⟨e0, e1, e2⟩ := ix_2 t
  match a with
  | ⟨0, _⟩ => show win0_2.index t (0 : Fin 3) + 1 * l.val = 1; omega
  | ⟨1, _⟩ => show win0_2.index t (1 : Fin 3) + 1 * j.val = q.val; omega
  | ⟨2, _⟩ => show win0_2.index t (2 : Fin 3) + 1 * k.val = k.val; omega

theorem x3_apply (c : Dev nD) (t : Fin cfg0.N) (l : Fin 1) (j : Fin 16) (k : Fin 2048) (q : Fin 15712) (hq : q.val = 4096 + j.val) :
    (iblk m c 3 t : S1x16x2048.Idx → Elt F _) (ix3 l j k) = (V m c main_v0 : S2x15712x2048.Idx → Elt F _) (ix3 1 q k) := by
  show V m c main_v0 (((cfg0.win 3).blk t).view.emb (ix3 l j k)) = _
  refine congrArg (V m c main_v0) (funext fun a => Fin.ext ?_)
  obtain ⟨e0, e1, e2⟩ := ix_3 t
  match a with
  | ⟨0, _⟩ => show win0_3.index t (0 : Fin 3) + 1 * l.val = 1; omega
  | ⟨1, _⟩ => show win0_3.index t (1 : Fin 3) + 1 * j.val = q.val; omega
  | ⟨2, _⟩ => show win0_3.index t (2 : Fin 3) + 1 * k.val = k.val; omega

theorem x4_apply (c : Dev nD) (t : Fin cfg0.N) (l : Fin 1) (j : Fin 256) :
    (iblk m c 4 t : S1x256.Idx → Elt F _) (ix2 l j) = (V m c main_v3 : S1x256.Idx → Elt F _) (ix2 0 j) := by
  show V m c main_v3 (((cfg0.win 4).blk t).view.emb (ix2 l j)) = _
  refine congrArg (V m c main_v3) (funext fun a => Fin.ext ?_)
  obtain ⟨e0, e1⟩ := ix_4 t
  match a with
  | ⟨0, _⟩ => show win0_4.index t (0 : Fin 2) * 1 + 1 * l.val = 0; omega
  | ⟨1, _⟩ => show win0_4.index t (1 : Fin 2) * 256 + 1 * j.val = j.val; omega

theorem v0_eq (c : Dev nD) : (V m c main_v0 : S2x15712x2048.Idx → Elt F .f32)
    = transpose S2x15712x2048 [0, 2, 1] (m ((c : Thread nD τ).loc main_arg1) : S2x2048x15712.Idx → Elt F .f32) transposes_S2x2048x15712_S2x15712x2048_0_2_1 := by
  unfold_abbrev_sides
  after_results

theorem v3_eq (c : Dev nD) : (V m c main_v3 : S1x256.Idx → Elt F .f32) = shapeCast S1x256 (shapeCast S256 (extractStridedSlice S1x256 ![1, 0] (m ((c : Thread nD τ).loc main_arg2) : S2x256.Idx → Elt F .f32) slices_S2x256_S1x256_1_0) shapeCasts_S1x256_S256) shapeCasts_S256_S1x256 := by
  unfold_abbrev_sides
  after_results
  rfl

end

/-! ## At ideal values -/

variable (m : (ℓ : Loc nD τ sig) → Buf (Elt Ideal) ℓ)

abbrev a0 (c : Dev nD) : FVec Ideal S8192x2048 .bf16 := m ((c : Thread nD τ).loc main_arg0)
abbrev a1 (c : Dev nD) : FVec Ideal S2x2048x15712 .f32 := m ((c : Thread nD τ).loc main_arg1)
abbrev a2 (c : Dev nD) : FVec Ideal S2x256 .f32 := m ((c : Thread nD τ).loc main_arg2)

theorem v0_apply (c : Dev nD) (q : Fin 15712) (k : Fin 2048) : (V m c main_v0 : S2x15712x2048.Idx → EReal) (ix3 1 q k) = a1 m c (ix3 1 k q) := by
  refine (congrFun (v0_eq m c) (ix3 1 q k)).trans ?_
  show transpose S2x15712x2048 [0, 2, 1] (a1 m c) transposes_S2x2048x15712_S2x15712x2048_0_2_1 (ix3 1 q k) = _
  generalize a1 m c = X
  pointwise []

theorem v3_apply (c : Dev nD) (j : Fin 256) : (V m c main_v3 : S1x256.Idx → EReal) (ix2 0 j) = a2 m c (ix2 1 j) := by
  refine (congrFun (v3_eq m c) (ix2 0 j)).trans ?_
  show shapeCast S1x256 (shapeCast S256 (extractStridedSlice S1x256 ![1, 0] (a2 m c) slices_S2x256_S1x256_1_0) shapeCasts_S1x256_S256) shapeCasts_S256_S1x256 (ix2 0 j) = _
  generalize a2 m c = X
  pointwise []

/-- A product's entry: a row of the input against a column of the weights. -/
def prod (c : Dev nD) (p : Fin 8192) (q : Fin 15712) : EReal := ∑ k : Fin 2048, (a0 m c (ix2 p k) : EReal) * a1 m c (ix3 1 k q)

/-- The weights' column a row of the scratch tile comes from. -/
def src (r : ℕ) : ℕ := if r < 256 then 10256 + r else if r < 336 then 11536 + (r - 256) else 4096 + (r - 336)

theorem src_lt (r : ℕ) (h : r < 352) : src r < 15712 := by unfold src; split_ifs <;> omega

/-- A column of the tile's product. -/
def col (c : Dev nD) (p : Fin 8192) (r : ℕ) : EReal := if h : r < 352 then prod m c p ⟨src r, src_lt r h⟩ else 0

/-- The first result's entry, from the row's products and the gain. -/
def nrm (r : Fin 256 → EReal) (g : EReal) (j : Fin 256) : EReal :=
  r j * Ideal.rsqrt (Ideal.div (∑ x, r x * r x) (Ideal.ofBits FTy.f32 0x43800000#32) + Ideal.ofBits FTy.f32 0x358637BD#32) * g

/-! ## The scratch tile -/

theorem canon_head {s : Shape} {e : EltTy} (r : Rect s) (w : r.shape.Idx → Elt Ideal e) (L : List (View.Piece (Elt Ideal) s e)) (x : r.shape.Idx) (y : s.Idx) (h : r.emb x = y) :
    View.canon (⟨r, w⟩ :: L) y = w x := by
  subst h; exact View.canon_cons_emb _ _ _ _

theorem canon_skip {s : Shape} {e : EltTy} (r : Rect s) (w : r.shape.Idx → Elt Ideal e) (L : List (View.Piece (Elt Ideal) s e)) (y : s.Idx) (h : y ∉ r.set) :
    View.canon (⟨r, w⟩ :: L) y = View.canon L y := View.canon_cons_of_not_mem _ _ h

theorem emb_row (o n : ℕ) (inb : ∀ a, (![o, 0] : Fin 2 → ℕ) a + (⟨2, ![n, 2048]⟩ : Shape).size a ≤ S384x2048.size a) (r : Fin n) (k : Fin 2048) (y : Fin 384) (h : y.val = o + r.val) :
    (Rect.unit (s := S384x2048) ![o, 0] (⟨2, ![n, 2048]⟩ : Shape).size inb).emb (ix2 r k) = ix2 y k := by
  funext a
  refine Fin.ext ?_
  match a with
  | ⟨0, _⟩ => show o + 1 * r.val = y.val; omega
  | ⟨1, _⟩ => show 0 + 1 * k.val = k.val; omega

theorem not_mem_row (o n : ℕ) (inb : ∀ a, (![o, 0] : Fin 2 → ℕ) a + (⟨2, ![n, 2048]⟩ : Shape).size a ≤ S384x2048.size a) (k : Fin 2048) (y : Fin 384) (h : y.val < o) :
    (ix2 y k : S384x2048.Idx) ∉ (Rect.unit (s := S384x2048) ![o, 0] (⟨2, ![n, 2048]⟩ : Shape).size inb).set := by
  rw [Rect.mem_set_unit]
  intro H
  have h1 : o ≤ y.val ∧ y.val < o + n := H 0
  omega

section
variable (x1 : Vec Ideal S1x256x2048 .f32) (x2 : Vec Ideal S1x80x2048 .f32) (x3 : Vec Ideal S1x16x2048 .f32)

theorem pay2_apply (j : Fin 256) (k : Fin 2048) : (k0_pay2 (F := Ideal) x1 (ix2 j k) : EReal) = x1 (ix3 0 j k) := by
  pointwise [k0_pay2]
theorem pay3_apply (j : Fin 80) (k : Fin 2048) : (k0_pay3 (F := Ideal) x2 (ix2 j k) : EReal) = x2 (ix3 0 j k) := by
  pointwise [k0_pay3]
theorem pay4_apply (j : Fin 16) (k : Fin 2048) : (k0_pay4 (F := Ideal) x3 (ix2 j k) : EReal) = x3 (ix3 0 j k) := by
  pointwise [k0_pay4]
theorem pay5_apply (j : Fin 32) (k : Fin 2048) : (k0_pay5 (F := Ideal) (ix2 j k) : EReal) = 0 := by
  pointwise [k0_pay5]

theorem W_0 (y : Fin 384) (k : Fin 2048) (j : Fin 256) (h : y.val = j.val) : (W (F := Ideal) x1 x2 x3 (ix2 y k) : EReal) = x1 (ix3 0 j k) := by
  unfold W pcs
  refine (canon_skip (e := .bf16) (Rect.unit (s := S384x2048) ![352, 0] S32x2048.size inb_S384x2048_S32x2048_352_0) (k0_pay5 (F := Ideal)) _ (ix2 y k) (not_mem_row 352 32 inb_S384x2048_S32x2048_352_0 k y (by omega))).trans ?_
  refine (canon_skip (e := .bf16) (Rect.unit (s := S384x2048) ![336, 0] S16x2048.size inb_S384x2048_S16x2048_336_0) (k0_pay4 x3) _ (ix2 y k) (not_mem_row 336 16 inb_S384x2048_S16x2048_336_0 k y (by omega))).trans ?_
  refine (canon_skip (e := .bf16) (Rect.unit (s := S384x2048) ![256, 0] S80x2048.size inb_S384x2048_S80x2048_256_0) (k0_pay3 x2) _ (ix2 y k) (not_mem_row 256 80 inb_S384x2048_S80x2048_256_0 k y (by omega))).trans ?_
  refine (canon_head (e := .bf16) (Rect.unit (s := S384x2048) ![0, 0] S256x2048.size inb_S384x2048_S256x2048_0_0) (k0_pay2 x1) _ (ix2 j k : S256x2048.Idx) (ix2 y k) (emb_row 0 256 inb_S384x2048_S256x2048_0_0 j k y (by omega))).trans ?_
  exact pay2_apply x1 j k

theorem W_1 (y : Fin 384) (k : Fin 2048) (j : Fin 80) (h : y.val = 256 + j.val) : (W (F := Ideal) x1 x2 x3 (ix2 y k) : EReal) = x2 (ix3 0 j k) := by
  unfold W pcs
  refine (canon_skip (e := .bf16) (Rect.unit (s := S384x2048) ![352, 0] S32x2048.size inb_S384x2048_S32x2048_352_0) (k0_pay5 (F := Ideal)) _ (ix2 y k) (not_mem_row 352 32 inb_S384x2048_S32x2048_352_0 k y (by omega))).trans ?_
  refine (canon_skip (e := .bf16) (Rect.unit (s := S384x2048) ![336, 0] S16x2048.size inb_S384x2048_S16x2048_336_0) (k0_pay4 x3) _ (ix2 y k) (not_mem_row 336 16 inb_S384x2048_S16x2048_336_0 k y (by omega))).trans ?_
  refine (canon_head (e := .bf16) (Rect.unit (s := S384x2048) ![256, 0] S80x2048.size inb_S384x2048_S80x2048_256_0) (k0_pay3 x2) _ (ix2 j k : S80x2048.Idx) (ix2 y k) (emb_row 256 80 inb_S384x2048_S80x2048_256_0 j k y (by omega))).trans ?_
  exact pay3_apply x2 j k

theorem W_2 (y : Fin 384) (k : Fin 2048) (j : Fin 16) (h : y.val = 336 + j.val) : (W (F := Ideal) x1 x2 x3 (ix2 y k) : EReal) = x3 (ix3 0 j k) := by
  unfold W pcs
  refine (canon_skip (e := .bf16) (Rect.unit (s := S384x2048) ![352, 0] S32x2048.size inb_S384x2048_S32x2048_352_0) (k0_pay5 (F := Ideal)) _ (ix2 y k) (not_mem_row 352 32 inb_S384x2048_S32x2048_352_0 k y (by omega))).trans ?_
  refine (canon_head (e := .bf16) (Rect.unit (s := S384x2048) ![336, 0] S16x2048.size inb_S384x2048_S16x2048_336_0) (k0_pay4 x3) _ (ix2 j k : S16x2048.Idx) (ix2 y k) (emb_row 336 16 inb_S384x2048_S16x2048_336_0 j k y (by omega))).trans ?_
  exact pay4_apply x3 j k

theorem W_3 (y : Fin 384) (k : Fin 2048) (j : Fin 32) (h : y.val = 352 + j.val) : (W (F := Ideal) x1 x2 x3 (ix2 y k) : EReal) = 0 := by
  unfold W pcs
  refine (canon_head (e := .bf16) (Rect.unit (s := S384x2048) ![352, 0] S32x2048.size inb_S384x2048_S32x2048_352_0) (k0_pay5 (F := Ideal)) _ (ix2 j k : S32x2048.Idx) (ix2 y k) (emb_row 352 32 inb_S384x2048_S32x2048_352_0 j k y (by omega))).trans ?_
  exact pay5_apply j k
end

/-- The tile's entry. -/
def tile (c : Dev nD) (r : ℕ) (k : Fin 2048) : EReal := if h : r < 352 then a1 m c (ix3 1 k ⟨src r, src_lt r h⟩) else 0

theorem W_apply (c : Dev nD) (t : Fin cfg0.N) (r : Fin 384) (k : Fin 2048) : (W (F := Ideal) (iblk m c 1 t) (iblk m c 2 t) (iblk m c 3 t) (ix2 r k) : EReal) = tile m c r.val k := by
  unfold tile
  by_cases h : r.val < 352
  · rw [dif_pos h]
    have hs : src r.val = src r.val := rfl
    conv at hs => rhs; unfold src
    by_cases h0 : r.val < 256
    · rw [if_pos h0] at hs
      exact (W_0 _ _ _ r k ⟨r.val, h0⟩ rfl).trans ((x1_apply m c t 0 _ k ⟨src r.val, src_lt _ h⟩ hs).trans (v0_apply m c _ k))
    · rw [if_neg h0] at hs
      by_cases h1 : r.val < 336
      · rw [if_pos h1] at hs
        exact (W_1 _ _ _ r k ⟨r.val - 256, by omega⟩ (by dsimp only; omega)).trans ((x2_apply m c t 0 _ k ⟨src r.val, src_lt _ h⟩ hs).trans (v0_apply m c _ k))
      · rw [if_neg h1] at hs
        exact (W_2 _ _ _ r k ⟨r.val - 336, by omega⟩ (by dsimp only; omega)).trans ((x3_apply m c t 0 _ k ⟨src r.val, src_lt _ h⟩ hs).trans (v0_apply m c _ k))
  · rw [dif_neg h]
    exact W_3 _ _ _ r k ⟨r.val - 352, by omega⟩ (by dsimp only; omega)

theorem scr_apply (c : Dev nD) (r : Fin 384) (k : Fin 2048) : ∀ (n : ℕ) (hn : n < cfg0.N), (scr m c ⟨n, hn⟩ (ix2 r k) : EReal) = tile m c r.val k := by
  intro n
  induction n with
  | zero =>
    intro hn
    rw [scr_A m c ⟨0, hn⟩ rfl]
    exact W_apply m c _ r k
  | succ n ih =>
    intro hn
    rw [scr_B m c ⟨n + 1, hn⟩ (by have := ltN ⟨n + 1, hn⟩; dsimp only at this ⊢; omega)]
    exact ih (Nat.lt_of_succ_lt hn)

/-! ## The points' results -/

theorem pay6_apply (x : Vec Ideal S1024x2048 .bf16) (w : Vec Ideal S384x2048 .bf16) (i : Fin 1024) (r : Fin 384) :
    (k0_pay6 (F := Ideal) x w (ix2 i r) : EReal) = ∑ k : Fin 2048, (x (ix2 i k) : EReal) * w (ix2 r k) := by
  pointwise [k0_pay6]

theorem pay7_apply (x : Vec Ideal S1024x2048 .bf16) (w : Vec Ideal S384x2048 .bf16) (g : Vec Ideal S1x256 .f32) (i : Fin 1024) (j : Fin 256) :
    (k0_pay7 (F := Ideal) x w g (ix2 i j) : EReal) = nrm (fun j => (k0_pay6 (F := Ideal) x w (ix2 i ⟨j.val, by omega⟩) : EReal)) (g (ix2 0 j)) j := by
  unfold nrm k0_pay7
  generalize k0_pay6 (F := Ideal) x w = Q
  pointwise []

theorem pay8_apply (x : Vec Ideal S1024x2048 .bf16) (w : Vec Ideal S384x2048 .bf16) (i : Fin 1024) (j : Fin 128) :
    (k0_pay8 (F := Ideal) x w (ix2 i j) : EReal) = (k0_pay6 (F := Ideal) x w (ix2 i ⟨256 + j.val, by omega⟩) : EReal) := by
  unfold k0_pay8
  generalize k0_pay6 (F := Ideal) x w = Q
  pointwise []

theorem slt : ∀ j : Fin 128, IntOp.cmpi CmpIPredicate.slt (BitVec.ofNat 32 j.val) 64#32 = if j.val < 64 then 1#1 else 0#1 := by decide +kernel
theorem sge : ∀ j : Fin 128, IntOp.cmpi CmpIPredicate.sge (BitVec.ofNat 32 j.val) 64#32 = if 64 ≤ j.val then 1#1 else 0#1 := by decide +kernel

theorem pay9_apply (x : Vec Ideal S1024x2048 .bf16) (w : Vec Ideal S384x2048 .bf16) (i : Fin 1024) (j : Fin 128) :
    (k0_pay9 (F := Ideal) x w (ix2 i j) : EReal) = if j.val < 64 then (k0_pay8 (F := Ideal) x w (ix2 i j) : EReal) else 0 := by
  unfold k0_pay9
  generalize k0_pay8 (F := Ideal) x w = Q
  pointwise []
  rw [slt j]
  split_ifs <;> rfl

theorem pay1_apply (Q : FVec Ideal S1024x128 .f32) (i : Fin 1024) (j : Fin 128) :
    (k0_pay1 (F := Ideal) Q k0_pay10 (ix2 i j) : EReal) = if 64 ≤ j.val then (Q (ix2 i ⟨j.val - 64, by omega⟩) : EReal) else 0 := by
  unfold k0_pay1 k0_pay10
  pointwise []
  rw [sge j]
  split_ifs
  · exact congrArg Q (congrArg (ix2 i) (Fin.ext (by dsimp only; omega)))
  · rfl

abbrev b0 (c : Dev nD) (t : Fin cfg0.N) : FVec Ideal S1024x2048 .bf16 := iblk m c 0 t

/-- The tile's product. -/
theorem mul_apply (c : Dev nD) (t : Fin cfg0.N) (i : Fin 1024) (r : Fin 384) (p : Fin 8192) (hp : p.val = t.val * 1024 + i.val) :
    (k0_pay6 (F := Ideal) (iblk m c 0 t) (scr m c t) (ix2 i r) : EReal) = col m c p r.val := by
  refine (pay6_apply _ _ i r).trans ?_
  show (∑ k : Fin 2048, (b0 m c t (ix2 i k) : EReal) * scr m c t (ix2 r k)) = _
  refine (Finset.sum_congr rfl fun k _ => congrArg₂ (fun a b : EReal => a * b) (x0_apply m c t i k p hp) (scr_apply m c r k t.val t.isLt)).trans ?_
  unfold col tile prod
  split_ifs
  · rfl
  · exact Finset.sum_eq_zero fun k _ => mul_zero _

/-- The results' entries. -/
def valK (c : Dev nD) (p : Fin 8192) (j : Fin 256) : EReal := nrm (fun j => col m c p j.val) (a2 m c (ix2 1 j)) j
def valM (c : Dev nD) (p : Fin 8192) (j : Fin 128) : EReal := col m c p (256 + j.val)
def valL (c : Dev nD) (p : Fin 8192) (j : Fin 128) : EReal := if j.val < 64 then col m c p (256 + j.val) else 0
def valH (c : Dev nD) (p : Fin 8192) (j : Fin 128) : EReal := if 64 ≤ j.val then col m c p (256 + (j.val - 64)) else 0

theorem outK (c : Dev nD) (t : Fin cfg0.N) (i : Fin 1024) (j : Fin 256) (p : Fin 8192) (hp : p.val = t.val * 1024 + i.val) :
    ((outsAt0 m c t.val t.isLt).1 (ix2 i j) : EReal) = valK m c p j := by
  rw [at_5]
  refine (pay7_apply _ _ _ i j).trans ?_
  unfold valK
  rw [← (x4_apply m c t 0 j).trans (v3_apply m c j)]
  exact congrArg (fun r => nrm r _ j) (funext fun j => mul_apply m c t i ⟨j.val, by omega⟩ p hp)

theorem misc (c : Dev nD) (t : Fin cfg0.N) (i : Fin 1024) (j : Fin 128) (p : Fin 8192) (hp : p.val = t.val * 1024 + i.val) :
    (k0_pay8 (F := Ideal) (iblk m c 0 t) (scr m c t) (ix2 i j) : EReal) = valM m c p j :=
  (pay8_apply _ _ i j).trans (mul_apply m c t i ⟨256 + j.val, by omega⟩ p hp)

theorem outM (c : Dev nD) (t : Fin cfg0.N) (i : Fin 1024) (j : Fin 128) (p : Fin 8192) (hp : p.val = t.val * 1024 + i.val) :
    ((outsAt0 m c t.val t.isLt).2.1 (ix2 i j) : EReal) = valM m c p j := by
  rw [at_6]
  exact misc m c t i j p hp

theorem outL (c : Dev nD) (t : Fin cfg0.N) (i : Fin 1024) (j : Fin 128) (p : Fin 8192) (hp : p.val = t.val * 1024 + i.val) :
    ((outsAt0 m c t.val t.isLt).2.2.1 (ix2 i j) : EReal) = valL m c p j := by
  rw [at_7]
  refine (pay9_apply _ _ i j).trans ?_
  unfold valL
  rw [misc m c t i j p hp]
  rfl

theorem outH (c : Dev nD) (t : Fin cfg0.N) (i : Fin 1024) (j : Fin 128) (p : Fin 8192) (hp : p.val = t.val * 1024 + i.val) :
    ((outsAt0 m c t.val t.isLt).2.2.2.1 (ix2 i j) : EReal) = valH m c p j := by
  rw [at_8]
  refine (pay1_apply _ i j).trans ?_
  unfold valH
  rw [misc m c t i _ p hp]
  rfl

/-! ## The arrays after the run -/

theorem fl_5 : ∀ t : Fin cfg0.N, (cfg0.win 5).flush t = true ∧ win0_5.index t (0 : Fin 2) = t.val ∧ win0_5.index t (1 : Fin 2) = 0 :=
  (by decide +kernel : ∀ t : Fin grid0.N, win0_5.flush t = true ∧ win0_5.index t (0 : Fin 2) = t.val ∧ win0_5.index t (1 : Fin 2) = 0)

theorem apart_5 (t t' : Fin cfg0.N) (h : t ≠ t') : Disjoint ((cfg0.win 5).blk t).view.set ((cfg0.win 5).blk t').view.set :=
  (cfg0.win 5).disjoint_blk fun e => h (Fin.ext (by rw [← (fl_5 t).2.1, ← (fl_5 t').2.1]; exact congrFun e (0 : Fin 2)))

/-- The array window 5 is written back to. -/
abbrev G5 (c : Dev nD) : Buf (Elt Ideal) ((c : Thread nD τ).loc main_v4_0) := (dats m 0 c).arrAt 5 cfg0.N

/-- A point's block of it is what the point wrote. -/
theorem block_5 (c : Dev nD) (t : Fin cfg0.N) :
    ((cfg0.win 5).blk t).view.read (Elt Ideal) (G5 m c) = (cfg0.win 5).cut (grid0.coords t) (outsAt0 m c t.val t.isLt).1 := by
  refine ((dats m 0 c).read_blk_arrAt_eq_flushed 5 (fun t t' _ _ h => apart_5 t t' h) cfg0.N t t.isLt (fl_5 t).1).trans ?_
  show (cfg0.win 5).cut (grid0.coords t) ((dats m 0 c).after 5 t) = _
  rw [after0_5]

theorem resK (c : Dev nD) (p : Fin 8192) (j : Fin 256) : (G5 m c (ix2 p j) : EReal) = valK m c p j := by
  have hN : p.val / 1024 < cfg0.N := by rw [show cfg0.N = 8 from N_0]; omega
  obtain ⟨hf, e0, e1⟩ := fl_5 ⟨p.val / 1024, hN⟩
  have e := congrFun (block_5 m c ⟨p.val / 1024, hN⟩) (ix2 (⟨p.val % 1024, by omega⟩ : Fin 1024) j : S1024x256.Idx)
  refine Eq.trans (congrArg (G5 m c) (funext fun a => Fin.ext ?_)) (e.trans ?_)
  · match a with
    | ⟨0, _⟩ => show p.val = win0_5.index ⟨p.val / 1024, hN⟩ (0 : Fin 2) * 1024 + 1 * (p.val % 1024); rw [e0]; dsimp only; omega
    | ⟨1, _⟩ => show j.val = win0_5.index ⟨p.val / 1024, hN⟩ (1 : Fin 2) * 256 + 1 * j.val; omega
  · refine Eq.trans (congrArg (outsAt0 m c (p.val / 1024) hN).1 (funext fun a => ?_)) (outK m c ⟨p.val / 1024, hN⟩ ⟨p.val % 1024, by omega⟩ j p (by dsimp only; omega))
    match a with
    | ⟨0, _⟩ => rfl
    | ⟨1, _⟩ => rfl

theorem fl_6 : ∀ t : Fin cfg0.N, (cfg0.win 6).flush t = true ∧ win0_6.index t (0 : Fin 2) = t.val ∧ win0_6.index t (1 : Fin 2) = 0 :=
  (by decide +kernel : ∀ t : Fin grid0.N, win0_6.flush t = true ∧ win0_6.index t (0 : Fin 2) = t.val ∧ win0_6.index t (1 : Fin 2) = 0)

theorem apart_6 (t t' : Fin cfg0.N) (h : t ≠ t') : Disjoint ((cfg0.win 6).blk t).view.set ((cfg0.win 6).blk t').view.set :=
  (cfg0.win 6).disjoint_blk fun e => h (Fin.ext (by rw [← (fl_6 t).2.1, ← (fl_6 t').2.1]; exact congrFun e (0 : Fin 2)))

/-- The array window 6 is written back to. -/
abbrev G6 (c : Dev nD) : Buf (Elt Ideal) ((c : Thread nD τ).loc main_v4_1) := (dats m 0 c).arrAt 6 cfg0.N

/-- A point's block of it is what the point wrote. -/
theorem block_6 (c : Dev nD) (t : Fin cfg0.N) :
    ((cfg0.win 6).blk t).view.read (Elt Ideal) (G6 m c) = (cfg0.win 6).cut (grid0.coords t) (outsAt0 m c t.val t.isLt).2.1 := by
  refine ((dats m 0 c).read_blk_arrAt_eq_flushed 6 (fun t t' _ _ h => apart_6 t t' h) cfg0.N t t.isLt (fl_6 t).1).trans ?_
  show (cfg0.win 6).cut (grid0.coords t) ((dats m 0 c).after 6 t) = _
  rw [after0_6]

theorem resM (c : Dev nD) (p : Fin 8192) (j : Fin 128) : (G6 m c (ix2 p j) : EReal) = valM m c p j := by
  have hN : p.val / 1024 < cfg0.N := by rw [show cfg0.N = 8 from N_0]; omega
  obtain ⟨hf, e0, e1⟩ := fl_6 ⟨p.val / 1024, hN⟩
  have e := congrFun (block_6 m c ⟨p.val / 1024, hN⟩) (ix2 (⟨p.val % 1024, by omega⟩ : Fin 1024) j : S1024x128.Idx)
  refine Eq.trans (congrArg (G6 m c) (funext fun a => Fin.ext ?_)) (e.trans ?_)
  · match a with
    | ⟨0, _⟩ => show p.val = win0_6.index ⟨p.val / 1024, hN⟩ (0 : Fin 2) * 1024 + 1 * (p.val % 1024); rw [e0]; dsimp only; omega
    | ⟨1, _⟩ => show j.val = win0_6.index ⟨p.val / 1024, hN⟩ (1 : Fin 2) * 128 + 1 * j.val; omega
  · refine Eq.trans (congrArg (outsAt0 m c (p.val / 1024) hN).2.1 (funext fun a => ?_)) (outM m c ⟨p.val / 1024, hN⟩ ⟨p.val % 1024, by omega⟩ j p (by dsimp only; omega))
    match a with
    | ⟨0, _⟩ => rfl
    | ⟨1, _⟩ => rfl

theorem fl_7 : ∀ t : Fin cfg0.N, (cfg0.win 7).flush t = true ∧ win0_7.index t (0 : Fin 2) = t.val ∧ win0_7.index t (1 : Fin 2) = 0 :=
  (by decide +kernel : ∀ t : Fin grid0.N, win0_7.flush t = true ∧ win0_7.index t (0 : Fin 2) = t.val ∧ win0_7.index t (1 : Fin 2) = 0)

theorem apart_7 (t t' : Fin cfg0.N) (h : t ≠ t') : Disjoint ((cfg0.win 7).blk t).view.set ((cfg0.win 7).blk t').view.set :=
  (cfg0.win 7).disjoint_blk fun e => h (Fin.ext (by rw [← (fl_7 t).2.1, ← (fl_7 t').2.1]; exact congrFun e (0 : Fin 2)))

/-- The array window 7 is written back to. -/
abbrev G7 (c : Dev nD) : Buf (Elt Ideal) ((c : Thread nD τ).loc main_v4_2) := (dats m 0 c).arrAt 7 cfg0.N

/-- A point's block of it is what the point wrote. -/
theorem block_7 (c : Dev nD) (t : Fin cfg0.N) :
    ((cfg0.win 7).blk t).view.read (Elt Ideal) (G7 m c) = (cfg0.win 7).cut (grid0.coords t) (outsAt0 m c t.val t.isLt).2.2.1 := by
  refine ((dats m 0 c).read_blk_arrAt_eq_flushed 7 (fun t t' _ _ h => apart_7 t t' h) cfg0.N t t.isLt (fl_7 t).1).trans ?_
  show (cfg0.win 7).cut (grid0.coords t) ((dats m 0 c).after 7 t) = _
  rw [after0_7]

theorem resL (c : Dev nD) (p : Fin 8192) (j : Fin 128) : (G7 m c (ix2 p j) : EReal) = valL m c p j := by
  have hN : p.val / 1024 < cfg0.N := by rw [show cfg0.N = 8 from N_0]; omega
  obtain ⟨hf, e0, e1⟩ := fl_7 ⟨p.val / 1024, hN⟩
  have e := congrFun (block_7 m c ⟨p.val / 1024, hN⟩) (ix2 (⟨p.val % 1024, by omega⟩ : Fin 1024) j : S1024x128.Idx)
  refine Eq.trans (congrArg (G7 m c) (funext fun a => Fin.ext ?_)) (e.trans ?_)
  · match a with
    | ⟨0, _⟩ => show p.val = win0_7.index ⟨p.val / 1024, hN⟩ (0 : Fin 2) * 1024 + 1 * (p.val % 1024); rw [e0]; dsimp only; omega
    | ⟨1, _⟩ => show j.val = win0_7.index ⟨p.val / 1024, hN⟩ (1 : Fin 2) * 128 + 1 * j.val; omega
  · refine Eq.trans (congrArg (outsAt0 m c (p.val / 1024) hN).2.2.1 (funext fun a => ?_)) (outL m c ⟨p.val / 1024, hN⟩ ⟨p.val % 1024, by omega⟩ j p (by dsimp only; omega))
    match a with
    | ⟨0, _⟩ => rfl
    | ⟨1, _⟩ => rfl

theorem fl_8 : ∀ t : Fin cfg0.N, (cfg0.win 8).flush t = true ∧ win0_8.index t (0 : Fin 2) = t.val ∧ win0_8.index t (1 : Fin 2) = 0 :=
  (by decide +kernel : ∀ t : Fin grid0.N, win0_8.flush t = true ∧ win0_8.index t (0 : Fin 2) = t.val ∧ win0_8.index t (1 : Fin 2) = 0)

theorem apart_8 (t t' : Fin cfg0.N) (h : t ≠ t') : Disjoint ((cfg0.win 8).blk t).view.set ((cfg0.win 8).blk t').view.set :=
  (cfg0.win 8).disjoint_blk fun e => h (Fin.ext (by rw [← (fl_8 t).2.1, ← (fl_8 t').2.1]; exact congrFun e (0 : Fin 2)))

/-- The array window 8 is written back to. -/
abbrev G8 (c : Dev nD) : Buf (Elt Ideal) ((c : Thread nD τ).loc main_v4_3) := (dats m 0 c).arrAt 8 cfg0.N

/-- A point's block of it is what the point wrote. -/
theorem block_8 (c : Dev nD) (t : Fin cfg0.N) :
    ((cfg0.win 8).blk t).view.read (Elt Ideal) (G8 m c) = (cfg0.win 8).cut (grid0.coords t) (outsAt0 m c t.val t.isLt).2.2.2.1 := by
  refine ((dats m 0 c).read_blk_arrAt_eq_flushed 8 (fun t t' _ _ h => apart_8 t t' h) cfg0.N t t.isLt (fl_8 t).1).trans ?_
  show (cfg0.win 8).cut (grid0.coords t) ((dats m 0 c).after 8 t) = _
  rw [after0_8]

theorem resH (c : Dev nD) (p : Fin 8192) (j : Fin 128) : (G8 m c (ix2 p j) : EReal) = valH m c p j := by
  have hN : p.val / 1024 < cfg0.N := by rw [show cfg0.N = 8 from N_0]; omega
  obtain ⟨hf, e0, e1⟩ := fl_8 ⟨p.val / 1024, hN⟩
  have e := congrFun (block_8 m c ⟨p.val / 1024, hN⟩) (ix2 (⟨p.val % 1024, by omega⟩ : Fin 1024) j : S1024x128.Idx)
  refine Eq.trans (congrArg (G8 m c) (funext fun a => Fin.ext ?_)) (e.trans ?_)
  · match a with
    | ⟨0, _⟩ => show p.val = win0_8.index ⟨p.val / 1024, hN⟩ (0 : Fin 2) * 1024 + 1 * (p.val % 1024); rw [e0]; dsimp only; omega
    | ⟨1, _⟩ => show j.val = win0_8.index ⟨p.val / 1024, hN⟩ (1 : Fin 2) * 128 + 1 * j.val; omega
  · refine Eq.trans (congrArg (outsAt0 m c (p.val / 1024) hN).2.2.2.1 (funext fun a => ?_)) (outH m c ⟨p.val / 1024, hN⟩ ⟨p.val % 1024, by omega⟩ j p (by dsimp only; omega))
    match a with
    | ⟨0, _⟩ => rfl
    | ⟨1, _⟩ => rfl

/-- The run leaves the four arrays and the arguments. -/
theorem run (ρ : Dev nD → PrngReg) : θ_run defs (onTc (τ := τ) (main (F := Ideal))) ⟨m, fun _ => 0, ρ⟩ fun r => ∀ c : Dev nD,
      r.2.mem ((c : Thread nD τ).loc main_v4_0) = G5 m c
      ∧ r.2.mem ((c : Thread nD τ).loc main_v4_1) = G6 m c
      ∧ r.2.mem ((c : Thread nD τ).loc main_v4_2) = G7 m c
      ∧ r.2.mem ((c : Thread nD τ).loc main_v4_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, (h.1 c).1 6, (h.1 c).1 7, (h.1 c).1 8, h.2.1 c⟩) (θ_run_and (run_main m ρ) (frame m ρ))

end Cert.Kernel11Ideal.Narrow

namespace Cert.Reference11Ideal.Narrow

open Cert.Reference11Ideal Cert.Reference11Ideal.Gen Idealize.ShloMosaic Idealize.ShloMosaic.TcCoe

variable (x : FVec Ideal S8192x2048 .bf16) (w : FVec Ideal S2x2048x15712 .f32) (g : FVec Ideal S2x256 .f32)

/-- The whole projection. -/
abbrev Z : FVec Ideal S8192x15712 .f32 := Host.dotGeneral dot_S8192x2048_S2048x15712_S8192x15712_1_0_0_1_n_n none (extf .f32 x bitsLt_bf16_f32) (shapeCast _ (extractStridedSlice S1x2048x15712 ![1, 0, 0] w slices_S2x2048x15712_S1x2048x15712_1_0_0) shapeCasts_S1x2048x15712_S2048x15712)

theorem Z_apply (p : Fin 8192) (q : Fin 15712) : (Z x w (ix2 p q) : EReal) = ∑ k : Fin 2048, (x (ix2 p k) : EReal) * w (ix3 1 k q) := by
  unfold Z
  pointwise []

/-- The projection's columns, in the order the results take them. -/
def col (Q : FVec Ideal S8192x15712 .f32) (p : Fin 8192) (r : ℕ) : EReal := if h : r < 352 then Q (ix2 p ⟨Kernel11Ideal.Narrow.src r, Kernel11Ideal.Narrow.src_lt r h⟩) else 0

theorem col_eq (Q : FVec Ideal S8192x15712 .f32) (p : Fin 8192) (r : ℕ) (q : Fin 15712) (h : r < 352) (hq : q.val = Kernel11Ideal.Narrow.src r) : (Q (ix2 p q) : EReal) = col Q p r := by
  unfold col
  rw [dif_pos h]
  exact congrArg Q (congrArg (ix2 p) (Fin.ext hq))

/-- The four results. -/
abbrev K : FVec Ideal S8192x256 .bf16 := truncf .bf16 (mulf (mulf (extractStridedSlice S8192x256 ![0, 10256] (Z x w) slices_S8192x15712_S8192x256_0_10256) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 10256] (Z x w) slices_S8192x15712_S8192x256_0_10256) (extractStridedSlice S8192x256 ![0, 10256] (Z x w) slices_S8192x15712_S8192x256_0_10256)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 (shapeCast _ (extractStridedSlice S1x256 ![1, 0] g slices_S2x256_S1x256_1_0) shapeCasts_S1x256_S256)))) bitsLt_bf16_f32
abbrev M : FVec Ideal S8192x128 .f32 := (concatenate S8192x128 1 [⟨S8192x64, ((extractStridedSlice S8192x64 ![0, 11536] (Z x w) slices_S8192x15712_S8192x64_0_11536) : (⟨S8192x64, .f32⟩ : BufTy).Contents (Elt Ideal))⟩, ⟨S8192x16, ((extractStridedSlice S8192x16 ![0, 11600] (Z x w) slices_S8192x15712_S8192x16_0_11600) : (⟨S8192x16, .f32⟩ : BufTy).Contents (Elt Ideal))⟩, ⟨S8192x16, ((extractStridedSlice S8192x16 ![0, 4096] (Z x w) slices_S8192x15712_S8192x16_0_4096) : (⟨S8192x16, .f32⟩ : BufTy).Contents (Elt Ideal))⟩, ⟨S8192x32, ((broadcastInDim S8192x32 ![] bcast_S_S8192x32 (constant (F := Ideal) S_ .f32 0x00000000#32)) : (⟨S8192x32, .f32⟩ : BufTy).Contents (Elt Ideal))⟩] concatenates_S8192x64_S8192x16_S8192x16_S8192x32_S8192x128_d1 : (⟨S8192x128, .f32⟩ : BufTy).Contents (Elt Ideal))
abbrev L : FVec Ideal S8192x128 .bf16 := truncf .bf16 (concatenate S8192x128 1 [⟨S8192x64, (extractStridedSlice S8192x64 ![0, 11536] (Z x w) slices_S8192x15712_S8192x64_0_11536)⟩, ⟨S8192x64, (broadcastInDim S8192x64 ![] bcast_S_S8192x64 (constant S_ .f32 0x00000000#32))⟩] concatenates_S8192x64_S8192x64_S8192x128_d1) bitsLt_bf16_f32
abbrev H : FVec Ideal S8192x128 .bf16 := truncf .bf16 (concatenate S8192x128 1 [⟨S8192x64, (broadcastInDim S8192x64 ![] bcast_S_S8192x64 (constant S_ .f32 0x00000000#32))⟩, ⟨S8192x64, (extractStridedSlice S8192x64 ![0, 11536] (Z x w) slices_S8192x15712_S8192x64_0_11536)⟩] concatenates_S8192x64_S8192x64_S8192x128_d1) bitsLt_bf16_f32

theorem refK (p : Fin 8192) (j : Fin 256) : (K x w g (ix2 p j) : EReal) = Kernel11Ideal.Narrow.nrm (fun j => col (Z x w) p j.val) (g (ix2 1 j)) j := by
  unfold K
  generalize Z x w = Q
  have e := fun j : Fin 256 => col_eq Q p j.val ⟨10256 + j.val, by omega⟩ (by omega) (by unfold Kernel11Ideal.Narrow.src; rw [if_pos (by omega)])
  unfold Kernel11Ideal.Narrow.nrm
  simp only [← e]
  pointwise []

theorem src_mid (r : ℕ) (h : 256 ≤ r) (h' : r < 336) : Kernel11Ideal.Narrow.src r = 11280 + r := by
  unfold Kernel11Ideal.Narrow.src
  split_ifs <;> omega

theorem src_end (r : ℕ) (h : 336 ≤ r) : Kernel11Ideal.Narrow.src r = 3760 + r := by
  unfold Kernel11Ideal.Narrow.src
  split_ifs <;> omega

theorem key (Q : FVec Ideal S8192x15712 .f32) (p : Fin 8192) (n : ℕ) (h : n < 64) : (Q (ix2 p ⟨11536 + n, by omega⟩) : EReal) = col Q p (256 + n) :=
  col_eq Q p (256 + n) _ (by omega) ((show 11536 + n = 11280 + (256 + n) by omega).trans (src_mid _ (by omega) (by omega)).symm)

/-- On the kernel's arguments they are the columns of the kernel's tile. -/
theorem col_kernel (m : (ℓ : Loc Kernel11Ideal.nD Kernel11Ideal.τ Kernel11Ideal.sig) → Buf (Elt Ideal) ℓ) (c : Dev Kernel11Ideal.nD) (p : Fin 8192) (r : ℕ) :
    col (Z (Kernel11Ideal.Narrow.a0 m c) (Kernel11Ideal.Narrow.a1 m c)) p r = Kernel11Ideal.Narrow.col m c p r := by
  unfold col Kernel11Ideal.Narrow.col
  split_ifs with h
  · exact Z_apply _ _ p _
  · rfl

theorem refM (p : Fin 8192) (j : Fin 128) : (M x w (ix2 p j) : EReal) = col (Z x w) p (256 + j.val) := by
  unfold M
  generalize Z x w = Q
  pointwise []
  by_cases h : j.val < 64
  · rw [dif_pos h]
    exact key Q p j.val h
  · rw [dif_neg h]
    by_cases h1 : j.val - 64 < 16
    · rw [dif_pos h1]
      exact col_eq Q p (256 + j.val) _ (by omega) ((show 11600 + (j.val - 64) = 11280 + (256 + j.val) by omega).trans (src_mid _ (by omega) (by omega)).symm)
    · rw [dif_neg h1]
      by_cases h2 : j.val - 64 - 16 < 16
      · rw [dif_pos h2]
        exact col_eq Q p (256 + j.val) _ (by omega) ((show 4096 + (j.val - 64 - 16) = 3760 + (256 + j.val) by omega).trans (src_end _ (by omega)).symm)
      · rw [dif_neg h2]
        unfold col
        rw [dif_neg (show ¬256 + j.val < 352 by omega)]

theorem refL (p : Fin 8192) (j : Fin 128) : (L x w (ix2 p j) : EReal) = if j.val < 64 then col (Z x w) p (256 + j.val) else 0 := by
  unfold L
  generalize Z x w = Q
  pointwise []
  split_ifs with h
  · exact key Q p j.val h
  · rfl

theorem refH (p : Fin 8192) (j : Fin 128) : (H x w (ix2 p j) : EReal) = if 64 ≤ j.val then col (Z x w) p (256 + (j.val - 64)) else 0 := by
  unfold H
  generalize Z x w = Q
  pointwise []
  by_cases h : j.val < 64
  · rw [dif_pos h, if_neg (show ¬64 ≤ j.val by omega)]
  · rw [dif_neg h, if_pos (show 64 ≤ j.val by omega)]
    exact key Q p (j.val - 64) (by omega)

end Cert.Reference11Ideal.Narrow

end
-- ==== Proof.Ffn.Mod.lean ====
module

public import proofs.«01_k».proof.Proof.Gen.Kernel12Ideal.Frame
public import proofs.«01_k».proof.Proof.Gen.Reference12Ideal.Run
public import Idealize.ShloMosaic.PureOps.Ideal
public import Idealize.ShloMosaic.Lib.Pointwise
public import Idealize.ShloMosaic.Lib.Claim
public import Idealize.ShloMosaic.Lib.Routing.OpsSet
public import Idealize.ShloMosaic.Lib.Routing.OpsPair
public import Idealize.ShloMosaic.Lib.StableHlo.RunRead

@[expose] public section

set_option maxRecDepth 16384

noncomputable section

/-! # The modulation

Each point multiplies the activated conditioning, set into the first two of eight rows, by a column tile of one layer's
weights and adds the bias. The host keeps the first two rows of the result. -/

namespace Cert.Kernel12Ideal.Mod

open Cert.Kernel12Ideal Cert.Kernel12Ideal.Gen Idealize.ShloMosaic Idealize.ShloMosaic.TcCoe Idealize.SL.Sem
open Idealize.ShloMosaic.Routing
open Idealize.ShloMosaic.Pipeline (Dat)

/-! ## The eight rows -/

abbrev dS : ScatterDims S8x2048 S1 S2x2048 := scatter_S8x2048_S1_S2x2048_01_n_0_0

/-- Update `(a, b)` lands at `(a, b)`. -/
theorem lands (idx : IVec S1 32) (hi : ∀ k, idx k = 0#32) (a : Fin 2) (b : Fin 2048) (r : Fin 8) (c : Fin 2048) :
    dS.resultIdx? (ix2 a b) idx = some (ix2 r c) ↔ a.val = r.val ∧ b = c := by
  have hs0 : dS.start (ix2 a b) idx 0 = 0 := by
    unfold ScatterDims.start
    rw [dif_pos (by decide), hi]; rfl
  have hs1 : dS.start (ix2 a b) idx 1 = 0 := by
    unfold ScatterDims.start
    rw [dif_neg (by decide)]
  have hw0 : dS.window (ix2 a b) 0 = a.val := rfl
  have hw1 : dS.window (ix2 a b) 1 = b.val := rfl
  rw [Fin.ext_iff]
  refine (resultIdx?_ix2 (R := 8) (C := 2048) dS (ix2 a b) idx r c).trans ?_
  rw [hs0, hs1, hw0, hw1]
  omega

/-- The scatter read at an entry of the first two rows. -/
theorem scatter_apply {α : Type} (x0 : S8x2048.Idx → α) (idx : IVec S1 32) (hi : ∀ k, idx k = 0#32) (u : S2x2048.Idx → α)
    (r : Fin 8) (a : Fin 2) (ha : a.val = r.val) (c : Fin 2048) :
    Host.scatter dS (fun _ b => b) x0 idx u (ix2 r c) = u (ix2 a c) := by
  have key : ∀ k : S2x2048.Idx, dS.resultIdx? k idx = some (ix2 r c) → (k 0).val = r.val ∧ k 1 = c := fun k hk =>
    (lands idx hi (k 0) (k 1) r c).1 ((congrArg (fun t => dS.resultIdx? t idx) (eq_ix2 k).symm).trans hk)
  refine scatter_set_hit dS x0 idx u _ _ (fun k hk => ?_) (ix2 a c) ?_
  · obtain ⟨h1, h2⟩ := key k hk
    refine (congrArg u (eq_ix2 k)).trans ?_
    rw [h2, show k 0 = a from Fin.ext (by omega)]
  · exact (lands idx hi _ _ r c).2 ⟨ha, rfl⟩

section
variable {F : FTy → Type} [FloatOps F]
variable (m : (ℓ : Loc nD τ sig) → Buf (Elt F) ℓ)

theorem hz2 : (![0, 0] : Fin 2 → ℕ) = fun _ => 0 := by decide
theorem hz3 : (![0, 0, 0] : Fin 3 → ℕ) = fun _ => 0 := by decide

theorem out_3 (x0 : Vec F S8x2048 .f32) (x1 : Vec F S1x2048x1024 .f32) (x2 : Vec F S1x1x1024 .f32) : out0_3 x0 x1 x2 = k0_pay1 x0 x1 x2 := by
  unfold out0_3
  rw [View.canon_unit_zero hz3]
  simp only [View.ld_unit_zero (S := S8x2048) hz2, View.ld_unit_zero (S := S1x2048x1024) hz3, View.ld_unit_zero (S := S1x1x1024) hz3]

/-! ## The blocks -/

theorem ix_0 : ∀ t : Fin cfg0.N, win0_0.index t (0 : Fin 2) = 0 ∧ win0_0.index t (1 : Fin 2) = 0 := (by decide +kernel : ∀ t : Fin grid0.N, _)
theorem ix_1 : ∀ t : Fin cfg0.N, win0_1.index t (0 : Fin 3) = t.val / 12 ∧ win0_1.index t (1 : Fin 3) = 0 ∧ win0_1.index t (2 : Fin 3) = t.val % 12 := (by decide +kernel : ∀ t : Fin grid0.N, _)
theorem ix_2 : ∀ t : Fin cfg0.N, win0_2.index t (0 : Fin 3) = t.val / 12 ∧ win0_2.index t (1 : Fin 3) = 0 ∧ win0_2.index t (2 : Fin 3) = t.val % 12 := (by decide +kernel : ∀ t : Fin grid0.N, _)

theorem x0_apply (c : Dev nD) (t : Fin cfg0.N) (r : Fin 8) (k : Fin 2048) :
    (iblk m c 0 t : S8x2048.Idx → Elt F _) (ix2 r k) = (V m c main_v2 : S8x2048.Idx → Elt F _) (ix2 r k) := by
  show V m c main_v2 (((cfg0.win 0).blk t).view.emb (ix2 r k)) = _
  refine congrArg (V m c main_v2) (funext fun a => Fin.ext ?_)
  obtain ⟨e0, e1⟩ := ix_0 t
  match a with
  | ⟨0, _⟩ => show win0_0.index t (0 : Fin 2) * 8 + 1 * r.val = r.val; omega
  | ⟨1, _⟩ => show win0_0.index t (1 : Fin 2) * 2048 + 1 * k.val = k.val; omega

theorem x1_apply (c : Dev nD) (t : Fin cfg0.N) (o : Fin 1) (k : Fin 2048) (j : Fin 1024) (l : Fin 2) (q : Fin 12288) (hl : l.val = t.val / 12) (hq : q.val = t.val % 12 * 1024 + j.val) :
    (iblk m c 1 t : S1x2048x1024.Idx → Elt F _) (ix3 o k j) = (m ((c : Thread nD τ).loc main_arg1) : S2x2048x12288.Idx → Elt F _) (ix3 l k q) := by
  show V m c main_arg1 (((cfg0.win 1).blk t).view.emb (ix3 o k j)) = _
  rw [V_main_arg1]
  refine congrArg (m ((c : Thread nD τ).loc main_arg1)) (funext fun a => Fin.ext ?_)
  obtain ⟨e0, e1, e2⟩ := ix_1 t
  match a with
  | ⟨0, _⟩ => show win0_1.index t (0 : Fin 3) * 1 + 1 * o.val = l.val; omega
  | ⟨1, _⟩ => show win0_1.index t (1 : Fin 3) * 2048 + 1 * k.val = k.val; omega
  | ⟨2, _⟩ => show win0_1.index t (2 : Fin 3) * 1024 + 1 * j.val = q.val; omega

theorem x2_apply (c : Dev nD) (t : Fin cfg0.N) (o o' : Fin 1) (j : Fin 1024) (l : Fin 2) (q : Fin 12288) (hl : l.val = t.val / 12) (hq : q.val = t.val % 12 * 1024 + j.val) :
    (iblk m c 2 t : S1x1x1024.Idx → Elt F _) (ix3 o o' j) = (V m c main_v3 : S2x1x12288.Idx → Elt F _) (ix3 l 0 q) := by
  show V m c main_v3 (((cfg0.win 2).blk t).view.emb (ix3 o o' j)) = _
  refine congrArg (V m c main_v3) (funext fun a => Fin.ext ?_)
  obtain ⟨e0, e1, e2⟩ := ix_2 t
  match a with
  | ⟨0, _⟩ => show win0_2.index t (0 : Fin 3) * 1 + 1 * o.val = l.val; omega
  | ⟨1, _⟩ => show win0_2.index t (1 : Fin 3) * 1 + 1 * o'.val = 0; omega
  | ⟨2, _⟩ => show win0_2.index t (2 : Fin 3) * 1024 + 1 * j.val = q.val; omega

theorem v2_eq (c : Dev nD) : (V m c main_v2 : S8x2048.Idx → Elt F .f32) = Host.scatter dS (fun _ b => b) (broadcastInDim S8x2048 ![] bcast_S_S8x2048 (constant (F := F) S_ .f32 0x00000000#32) : S8x2048.Idx → Elt F .f32) (broadcastInDim S1 ![] bcast_S_S1 (constantI S_ 32 0#32)) (m ((c : Thread nD τ).loc main_arg0) : S2x2048.Idx → Elt F .f32) := by
  unfold V V0 hostOps0
  simp only [List.flatten_cons, List.flatten_nil, List.append_nil]
  after_results

theorem v3_eq (c : Dev nD) : (V m c main_v3 : S2x1x12288.Idx → Elt F .f32) = shapeCast S2x1x12288 (m ((c : Thread nD τ).loc main_arg2) : S2x12288.Idx → Elt F .f32) shapeCasts_S2x12288_S2x1x12288 := by
  unfold V V0 hostOps0
  simp only [List.flatten_cons, List.flatten_nil, List.append_nil]
  after_results
  rfl

/-- The array the region writes. -/
abbrev G3 (c : Dev nD) : Buf (Elt F) ((c : Thread nD τ).loc main_v4) := (dats m 0 c).arrAt 3 cfg0.N

/-- The result: its first two rows. -/
abbrev G (c : Dev nD) : Buf (Elt F) ((c : Thread nD τ).loc main_v5) :=
  (extractStridedSlice S2x2x12288 ![0, 0, 0] (G3 m c : S2x8x12288.Idx → Elt F .f32) slices_S2x8x12288_S2x2x12288_0_0_0 : S2x2x12288.Idx → Elt F .f32)

theorem tail (c : Dev nD) : Pipeline.afterTail₀ cfgs (dats m) 0 (V0 m) [hostOps1] c main_v5 = G m c := by
  unfold Pipeline.afterTail₀
  after_results
  exact congrArg (fun X : S2x8x12288.Idx → Elt F .f32 => (extractStridedSlice S2x2x12288 ![0, 0, 0] X slices_S2x8x12288_S2x2x12288_0_0_0 : S2x2x12288.Idx → Elt F .f32))
    (Pipeline.withArrays_arr spec0 (by decide) c (V0 m c) (fun w => (dats m 0 c).arrAt w cfg0.N) 3)

/-- The run leaves the result and the arguments. -/
theorem run (ρ : Dev nD → PrngReg) : θ_run defs (onTc (τ := τ) (main (F := F))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v5 (Pipeline.mem_restRefs_of main_v5 (by decide) (by decide))).trans (tail m c), h.2.1 c⟩) (θ_run_and (run_main m ρ) (frame m ρ))

end

/-! ## At ideal values -/

variable (m : (ℓ : Loc nD τ sig) → Buf (Elt Ideal) ℓ)

abbrev a0 (c : Dev nD) : FVec Ideal S2x2048 .f32 := m ((c : Thread nD τ).loc main_arg0)
abbrev a1 (c : Dev nD) : FVec Ideal S2x2048x12288 .f32 := m ((c : Thread nD τ).loc main_arg1)
abbrev a2 (c : Dev nD) : FVec Ideal S2x12288 .f32 := m ((c : Thread nD τ).loc main_arg2)

/-- The activation. -/
def act (z : EReal) : EReal := z * Ideal.div (Ideal.ofBits FTy.f32 0x3F800000#32) (Ideal.ofBits FTy.f32 0x3F800000#32 + Ideal.exp (-z))

/-- The result's entry. -/
def val (c : Dev nD) (l b : Fin 2) (q : Fin 12288) : EReal :=
  (∑ k : Fin 2048, act (a0 m c (ix2 b k)) * a1 m c (ix3 l k q)) + a2 m c (ix2 l q)

theorem v2_apply (c : Dev nD) (r : Fin 8) (b : Fin 2) (hb : b.val = r.val) (k : Fin 2048) : (V m c main_v2 : S8x2048.Idx → EReal) (ix2 r k) = a0 m c (ix2 b k) := by
  refine (congrFun (v2_eq m c) (ix2 r k)).trans ?_
  exact scatter_apply _ _ (fun _ => rfl) (a0 m c) r b hb k

theorem v3_apply (c : Dev nD) (l : Fin 2) (q : Fin 12288) : (V m c main_v3 : S2x1x12288.Idx → EReal) (ix3 l 0 q) = a2 m c (ix2 l q) := by
  refine (congrFun (v3_eq m c) (ix3 l 0 q)).trans ?_
  show shapeCast S2x1x12288 (a2 m c) shapeCasts_S2x12288_S2x1x12288 (ix3 l 0 q) = _
  generalize a2 m c = X
  pointwise []

theorem pay_apply (x : Vec Ideal S8x2048 .f32) (w : Vec Ideal S1x2048x1024 .f32) (b : Vec Ideal S1x1x1024 .f32) (o : Fin 1) (r : Fin 8) (j : Fin 1024) :
    (k0_pay1 (F := Ideal) x w b (ix3 o r j) : EReal) = (∑ k : Fin 2048, act (x (ix2 r k)) * w (ix3 0 k j)) + b (ix3 0 0 j) := by
  unfold act
  pointwise [k0_pay1]
  simp only [Ideal.ofBits_zero_f32, zero_sub, zero_add]

/-- What a point writes into the first two rows. -/
theorem out (c : Dev nD) (t : Fin cfg0.N) (o : Fin 1) (r : Fin 8) (j : Fin 1024) (l b : Fin 2) (q : Fin 12288) (hb : b.val = r.val) (hl : l.val = t.val / 12) (hq : q.val = t.val % 12 * 1024 + j.val) :
    (out0_3 (iblk m c 0 t) (iblk m c 1 t) (iblk m c 2 t) (ix3 o r j) : EReal) = val m c l b q := by
  rw [out_3]
  refine (pay_apply _ _ _ o r j).trans ?_
  have hx : ∀ k, ((iblk m c 0 t : FVec Ideal S8x2048 .f32) (ix2 r k) : EReal) = a0 m c (ix2 b k) := fun k => (x0_apply m c t r k).trans (v2_apply m c r b hb k)
  have hw : ∀ k, ((iblk m c 1 t : FVec Ideal S1x2048x1024 .f32) (ix3 0 k j) : EReal) = a1 m c (ix3 l k q) := fun k => x1_apply m c t 0 k j l q hl hq
  have hv : ((iblk m c 2 t : FVec Ideal S1x1x1024 .f32) (ix3 0 0 j) : EReal) = a2 m c (ix2 l q) := (x2_apply m c t 0 0 j l q hl hq).trans (v3_apply m c l q)
  unfold val
  refine congrArg₂ (fun a b : EReal => a + b) (Finset.sum_congr rfl fun k _ => ?_) hv
  exact congrArg₂ (fun a b : EReal => act a * b) (hx k) (hw k)

theorem fl_3 : ∀ t : Fin cfg0.N, (cfg0.win 3).flush t = true ∧ win0_3.index t (0 : Fin 3) = t.val / 12 ∧ win0_3.index t (1 : Fin 3) = 0 ∧ win0_3.index t (2 : Fin 3) = t.val % 12 :=
  (by decide +kernel : ∀ t : Fin grid0.N, win0_3.flush t = true ∧ win0_3.index t (0 : Fin 3) = t.val / 12 ∧ win0_3.index t (1 : Fin 3) = 0 ∧ win0_3.index t (2 : Fin 3) = t.val % 12)

theorem apart_3 (t t' : Fin cfg0.N) (h : t ≠ t') : Disjoint ((cfg0.win 3).blk t).view.set ((cfg0.win 3).blk t').view.set :=
  (cfg0.win 3).disjoint_blk fun e => h (Fin.ext (by
    have h0 := congrFun e (0 : Fin 3)
    have h2 := congrFun e (2 : Fin 3)
    have h0' : win0_3.index t (0 : Fin 3) = win0_3.index t' (0 : Fin 3) := h0
    have h2' : win0_3.index t (2 : Fin 3) = win0_3.index t' (2 : Fin 3) := h2
    rw [(fl_3 t).2.1, (fl_3 t').2.1] at h0'
    rw [(fl_3 t).2.2.2, (fl_3 t').2.2.2] at h2'
    omega))

/-- A point's block of the region's array is what the point wrote. -/
theorem block_3 (c : Dev nD) (t : Fin cfg0.N) :
    ((cfg0.win 3).blk t).view.read (Elt Ideal) (G3 m c) = (cfg0.win 3).cut (grid0.coords t) (out0_3 (iblk m c 0 t) (iblk m c 1 t) (iblk m c 2 t)) := by
  refine ((dats m 0 c).read_blk_arrAt_eq_flushed 3 (fun t t' _ _ h => apart_3 t t' h) cfg0.N t t.isLt (fl_3 t).1).trans ?_
  show (cfg0.win 3).cut (grid0.coords t) ((dats m 0 c).after 3 t) = _
  rw [after0_3]

theorem res3 (c : Dev nD) (l b : Fin 2) (r : Fin 8) (hb : b.val = r.val) (q : Fin 12288) : (G3 m c (ix3 l r q) : EReal) = val m c l b q := by
  have hN : l.val * 12 + q.val / 1024 < cfg0.N := by rw [show cfg0.N = 24 from N_0]; omega
  obtain ⟨hf, e0, e1, e2⟩ := fl_3 ⟨l.val * 12 + q.val / 1024, hN⟩
  have e := congrFun (block_3 m c ⟨l.val * 12 + q.val / 1024, hN⟩) (ix3 (0 : Fin 1) r (⟨q.val % 1024, by omega⟩ : Fin 1024) : S1x8x1024.Idx)
  refine Eq.trans (congrArg (G3 m c) (funext fun a => Fin.ext ?_)) (e.trans ?_)
  · match a with
    | ⟨0, _⟩ => show l.val = win0_3.index ⟨l.val * 12 + q.val / 1024, hN⟩ (0 : Fin 3) * 1 + 1 * 0; rw [e0]; dsimp only; omega
    | ⟨1, _⟩ => show r.val = win0_3.index ⟨l.val * 12 + q.val / 1024, hN⟩ (1 : Fin 3) * 8 + 1 * r.val; omega
    | ⟨2, _⟩ => show q.val = win0_3.index ⟨l.val * 12 + q.val / 1024, hN⟩ (2 : Fin 3) * 1024 + 1 * (q.val % 1024); rw [e2]; dsimp only; omega
  · refine Eq.trans (congrArg (out0_3 (iblk m c 0 ⟨l.val * 12 + q.val / 1024, hN⟩) (iblk m c 1 ⟨l.val * 12 + q.val / 1024, hN⟩) (iblk m c 2 ⟨l.val * 12 + q.val / 1024, hN⟩)) (funext fun a => ?_)) (out m c ⟨l.val * 12 + q.val / 1024, hN⟩ 0 r ⟨q.val % 1024, by omega⟩ l b q hb (by dsimp only; omega) (by dsimp only; omega))
    match a with
    | ⟨0, _⟩ => rfl
    | ⟨1, _⟩ => rfl
    | ⟨2, _⟩ => rfl

theorem res (c : Dev nD) (l b : Fin 2) (q : Fin 12288) : (G m c (ix3 l b q) : EReal) = val m c l b q := by
  refine Eq.trans ?_ (res3 m c l b ⟨b.val, by omega⟩ rfl q)
  show extractStridedSlice S2x2x12288 ![0, 0, 0] (G3 m c : S2x8x12288.Idx → EReal) slices_S2x8x12288_S2x2x12288_0_0_0 (ix3 l b q) = _
  generalize (G3 m c : S2x8x12288.Idx → EReal) = X
  pointwise []

end Cert.Kernel12Ideal.Mod

namespace Cert.Reference12Ideal.Mod

open Cert.Reference12Ideal Cert.Reference12Ideal.Gen Idealize.ShloMosaic Idealize.ShloMosaic.TcCoe

variable (c : FVec Ideal S2x2048 .f32) (w : FVec Ideal S2x2048x12288 .f32) (b : FVec Ideal S2x12288 .f32)

/-- The activated conditioning. -/
abbrev S : FVec Ideal S2x2048 .f32 := mulf c (Host.divf (broadcastInDim S2x2048 ![] bcast_S_S2x2048 (constant S_ .f32 0x3F800000#32)) (addf (broadcastInDim S2x2048 ![] bcast_S_S2x2048 (constant S_ .f32 0x3F800000#32)) (Host.exp (Host.negf c))))

theorem S_apply (i : Fin 2) (k : Fin 2048) : (S c (ix2 i k) : EReal) = Kernel12Ideal.Mod.act (c (ix2 i k)) := by
  unfold S Kernel12Ideal.Mod.act
  pointwise []

/-- The two layers' rows. -/
abbrev L0 : FVec Ideal S1x2x12288 .f32 := (broadcastInDim S1x2x12288 ![1, 2] bcast_S2x12288_S1x2x12288_1_2 (addf (Host.dotGeneral dot_S2x2048_S2048x12288_S2x12288_1_0_0_1_n_n none (S c) (shapeCast _ (extractStridedSlice S1x2048x12288 ![0, 0, 0] w slices_S2x2048x12288_S1x2048x12288_0_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![0, 0] b slices_S2x12288_S1x12288_0_0) shapeCasts_S1x12288_S12288)))))
abbrev L1 : FVec Ideal S1x2x12288 .f32 := (broadcastInDim S1x2x12288 ![1, 2] bcast_S2x12288_S1x2x12288_1_2 (addf (Host.dotGeneral dot_S2x2048_S2048x12288_S2x12288_1_0_0_1_n_n none (S c) (shapeCast _ (extractStridedSlice S1x2048x12288 ![1, 0, 0] w slices_S2x2048x12288_S1x2048x12288_1_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![1, 0] b slices_S2x12288_S1x12288_1_0) shapeCasts_S1x12288_S12288)))))

/-- The result. -/
abbrev R : FVec Ideal S2x2x12288 .f32 := concatenate S2x2x12288 0 [⟨S1x2x12288, L0 c w b⟩, ⟨S1x2x12288, L1 c w b⟩] concatenates_S1x2x12288_S1x2x12288_S2x2x12288_d0

theorem L0_apply (o : Fin 1) (i : Fin 2) (q : Fin 12288) : (L0 c w b (ix3 o i q) : EReal) = (∑ k : Fin 2048, Kernel12Ideal.Mod.act (c (ix2 i k)) * w (ix3 0 k q)) + b (ix2 0 q) := by
  have e := S_apply c i
  unfold L0
  generalize S c = Q at e ⊢
  simp only [← e]
  pointwise []

theorem L1_apply (o : Fin 1) (i : Fin 2) (q : Fin 12288) : (L1 c w b (ix3 o i q) : EReal) = (∑ k : Fin 2048, Kernel12Ideal.Mod.act (c (ix2 i k)) * w (ix3 1 k q)) + b (ix2 1 q) := by
  have e := S_apply c i
  unfold L1
  generalize S c = Q at e ⊢
  simp only [← e]
  pointwise []

theorem ref (l i : Fin 2) (q : Fin 12288) : (R c w b (ix3 l i q) : EReal) = (∑ k : Fin 2048, Kernel12Ideal.Mod.act (c (ix2 i k)) * w (ix3 l k q)) + b (ix2 l q) := by
  have e0 := fun o => L0_apply c w b o i q
  have e1 := fun o => L1_apply c w b o i q
  unfold R
  generalize L0 c w b = X at e0 ⊢
  generalize L1 c w b = Y at e1 ⊢
  pointwise []
  by_cases h : l.val < 1
  · rw [dif_pos h]
    refine (e0 _).trans ?_
    rw [show l = 0 from Fin.ext (by show l.val = 0; omega)]
  · rw [dif_neg h]
    refine (e1 _).trans ?_
    rw [show l = 1 from Fin.ext (by show l.val = 1; omega)]

end Cert.Reference12Ideal.Mod

end
-- ==== Proof.Ffn.Near.lean ====
module

public import proofs.«01_k».proof.Proof.Gen.Kernel13Ideal.Value
public import proofs.«01_k».proof.Proof.Gen.Reference13Ideal.Run
public import Idealize.ShloMosaic.PureOps.Ideal
public import Idealize.ShloMosaic.Lib.Pointwise
public import Idealize.ShloMosaic.Lib.Claim
public import Idealize.ShloMosaic.Lib.StableHlo.RunRead

@[expose] public section

set_option maxRecDepth 16384

noncomputable section

/-! # The bias of the near keys

Each point writes one head's bias at the 128 × 128 distances of the block before the query's own, and of its own.
The kernel finds a distance's bucket, and goes through the 32 buckets with a select each; the reference
indexes the table by the bucket. They agree because the bucket of any distance lies in the table. -/

namespace Cert.Kernel13Ideal.Near

open Cert.Kernel13Ideal Cert.Kernel13Ideal.Gen Idealize.ShloMosaic Idealize.ShloMosaic.TcCoe Idealize.SL.Sem
open Idealize.ShloMosaic.Pipeline (Dat)

/-! ## The bucket of a distance -/

/-- A distance's bucket as a real number before rounding, past the exact ones. -/
def scaled (d : BitVec 32) : EReal :=
  Ideal.div (Ideal.log (Ideal.div ((d.toInt : ℝ) : EReal) (Ideal.ofBits .f32 0x41800000#32))) (Ideal.ofBits .f32 0x40051592#32) * Ideal.ofBits .f32 0x41800000#32

/-- A distance's bucket. -/
def bucket (n : BitVec 32) : BitVec 32 :=
  Scalar.select (IntOp.cmpi .slt (IntOp.maxsi n 0#32) 16#32) (IntOp.maxsi n 0#32)
    (IntOp.minsi (IntOp.addi 16#32 (Ideal.fptosi 32 (scaled (IntOp.maxsi (IntOp.maxsi n 0#32) 1#32)))) 31#32)

theorem c_16 : Ideal.ofBits .f32 0x41800000#32 = ((16 : ℝ) : EReal) := by
  simp [Ideal.ofBits, Ideal.ieee]
  rw [← EReal.coe_mul]; norm_num

theorem c_ln8 : Ideal.ofBits .f32 0x40051592#32 = ((4360905 / 2097152 : ℝ) : EReal) := by
  simp [Ideal.ofBits, Ideal.ieee]
  rw [← EReal.coe_mul]; norm_num

/-- From sixteen on, the number is at least zero and far below the words' end. -/
theorem scaled_bounds (d : BitVec 32) (h : 16 ≤ d.toInt) : ∃ y : ℝ, scaled d = (y : EReal) ∧ 0 ≤ y ∧ y < 1073741824 := by
  have hd : d.toInt < 2147483648 := by have := d.toInt_lt; norm_num at this ⊢; exact this
  have hr : (16 : ℝ) ≤ (d.toInt : ℝ) := by exact_mod_cast h
  have hr' : (d.toInt : ℝ) < 2147483648 := by exact_mod_cast hd
  have hl0 : 0 ≤ Real.log ((d.toInt : ℝ) * (16 : ℝ)⁻¹) := Real.log_nonneg (by linarith)
  have hl1 : Real.log ((d.toInt : ℝ) * (16 : ℝ)⁻¹) ≤ (d.toInt : ℝ) * (16 : ℝ)⁻¹ - 1 := Real.log_le_sub_one_of_pos (by linarith)
  have hpos : ¬ ((d.toInt : ℝ) * (16 : ℝ)⁻¹ ≤ 0) := by linarith
  refine ⟨Real.log ((d.toInt : ℝ) * (16 : ℝ)⁻¹) * (4360905 / 2097152 : ℝ)⁻¹ * 16, ?_, by positivity, ?_⟩
  · unfold scaled
    have e1 : Ideal.div ((d.toInt : ℝ) : EReal) ((16 : ℝ) : EReal) = (((d.toInt : ℝ) * (16 : ℝ)⁻¹ : ℝ) : EReal) := by
      rw [Ideal.div, if_neg (by norm_num), ← EReal.coe_inv, ← EReal.coe_mul]
    have e2 : Ideal.log (((d.toInt : ℝ) * (16 : ℝ)⁻¹ : ℝ) : EReal) = ((Real.log ((d.toInt : ℝ) * (16 : ℝ)⁻¹) : ℝ) : EReal) :=
      if_neg hpos
    rw [c_16, c_ln8, e1, e2, Ideal.div, if_neg (by norm_num), ← EReal.coe_inv, ← EReal.coe_mul, ← EReal.coe_mul]
  · norm_num
    linarith

theorem bucket_lt (n : BitVec 32) : (bucket n).toNat < 32 := by
  unfold bucket
  generalize hd : IntOp.maxsi n 0#32 = d
  have h0 : 0 ≤ d.toInt := by
    subst hd; unfold IntOp.maxsi; split <;> simp_all [BitVec.slt]
    all_goals omega
  have e2 : (IntOp.cmpi .slt d 16#32 = 1) ↔ d.toInt < 16 := by
    by_cases h : d.toInt < 16 <;> simp [IntOp.cmpi, BitVec.slt, h]
  unfold Scalar.select
  by_cases h : d.toInt < 16
  · rw [if_pos (e2.mpr h)]
    have := BitVec.toInt_eq_toNat_cond d
    split at this <;> omega
  · rw [if_neg (fun q => h (e2.mp q))]
    have e1 : IntOp.maxsi d 1#32 = d := by
      unfold IntOp.maxsi; split
      · rfl
      · rename_i q; exact absurd q (by simp [BitVec.slt]; omega)
    obtain ⟨y, ey, y0, y1⟩ := scaled_bounds d (by omega)
    rw [e1, ey]
    have f0 : 0 ≤ ⌊y⌋ := Int.floor_nonneg.mpr y0
    have f1 : ⌊y⌋ < 1073741824 := by
      have := Int.floor_le y
      exact_mod_cast lt_of_le_of_lt this y1
    have ef : Ideal.fptosi 32 (y : EReal) = BitVec.ofInt 32 ⌊y⌋ := by
      unfold Ideal.fptosi
      rw [Ideal.toIntClamped_coe, if_pos y0]
      congr 1
      norm_num
      omega
    rw [ef]
    generalize ⌊y⌋ = k at f0 f1
    obtain ⟨k, rfl⟩ := Int.eq_ofNat_of_zero_le f0
    have ek : BitVec.ofInt 32 (Int.ofNat k) = BitVec.ofNat 32 k := rfl
    show (IntOp.minsi (IntOp.addi 16#32 (BitVec.ofInt 32 (Int.ofNat k))) 31#32).toNat < 32
    rw [ek]
    have hk : k < 1073741824 := by exact_mod_cast f1
    have es : (IntOp.addi 16#32 (BitVec.ofNat 32 k)).toNat = 16 + k := by
      simp [IntOp.addi]; omega
    have ei := BitVec.toInt_eq_toNat_cond (IntOp.addi 16#32 (BitVec.ofNat 32 k))
    rw [if_pos (by omega)] at ei
    unfold IntOp.minsi
    split
    · rename_i q; simp [BitVec.slt] at q; omega
    · decide

/-! ## The selects over the buckets -/

/-- The table's entry at a bucket, found by a select per bucket. -/
def pick (B : BitVec 32) (r : ℕ → EReal) : ℕ → EReal
  | 0 => 0
  | n + 1 => Scalar.select (IntOp.cmpi .eq B (BitVec.ofNat 32 n)) (r n) (pick B r n)

theorem pick_eq (B : BitVec 32) (r : ℕ → EReal) : ∀ n, n ≤ 32 → B.toNat < n → pick B r n = r B.toNat
  | 0, _, h => absurd h (Nat.not_lt_zero _)
  | n + 1, hn, h => by
    have e : (IntOp.cmpi .eq B (BitVec.ofNat 32 n) = 1) ↔ B.toNat = n := by
      have : B = BitVec.ofNat 32 n ↔ B.toNat = n := by
        rw [← BitVec.toNat_inj, BitVec.toNat_ofNat, Nat.mod_eq_of_lt (by omega)]
      rw [← this]
      by_cases h : B = BitVec.ofNat 32 n
      · simp [IntOp.cmpi, h]
      · exact ⟨fun q => absurd (show BitVec.ofBool (B == BitVec.ofNat 32 n) = 1 from q) (by rw [beq_eq_false_iff_ne.mpr h]; decide), fun q => absurd q h⟩
    unfold pick Scalar.select
    by_cases h' : B.toNat = n
    · rw [if_pos (e.mpr h'), h']
    · rw [if_neg (fun q => h' (e.mp q))]
      exact pick_eq B r n (by omega) (by omega)

/-! ## What a point writes -/

section
variable {F : FTy → Type} [FloatOps F]

/-- A read of the table. -/
theorem rd (arg1 : Memref sig .tc .smem S32x16 .f32) (harg1 : arg1.IsWhole) (x : Vec F S32x16 .f32) (off : Fin 2 → ℕ) (hin) (hh) (k : Fin 32) (h : Fin 16)
    (e : off = ![k.val, h.val]) :
    View.readAt (Elt F) arg1.view (Rect.unit (s := S32x16) off S1x1.size hin).toLoadRect (harg1.unread x) (Shape.Idx.first hh) = x (ix2 k h) := by
  subst e
  rw [View.readAt_eq_ld, Memref.IsWhole.read_unread]
  show x _ = x _
  refine congrArg x (funext fun a => Fin.ext ?_)
  match a with
  | ⟨0, _⟩ => rfl
  | ⟨1, _⟩ => rfl

end

/-- A head's column of the table, by number. -/
abbrev col (x : Vec Ideal S32x16 .f32) (h : Fin 16) : ℕ → EReal := fun k => x (ix2 (Fin.ofNat 32 k) h)

theorem bk_0 (a b : Fin 128) : (k0_pay3 (F := Ideal) (ix2 a b) : BitVec 32) = bucket (IntOp.subi (IntOp.addi 128#32 (BitVec.ofNat 32 a.val)) (BitVec.ofNat 32 b.val)) := by
  unfold bucket scaled
  pointwise [k0_pay3]
  rfl

theorem bk_1 (a b : Fin 128) : (k0_pay16 (F := Ideal) k0_pay2 (ix2 a b) : BitVec 32) = bucket (IntOp.subi (BitVec.ofNat 32 a.val) (BitVec.ofNat 32 b.val)) := by
  unfold bucket scaled
  pointwise [k0_pay16, k0_pay2]
  rfl

/-- A tile's entry. -/
def val (x : Vec Ideal S32x16 .f32) (h : Fin 16) (B : BitVec 32) : EReal := (col x h B.toNat - col x h 31) * Ideal.ofBits .f32 0x3FB8AA3B#32

section
variable (c : Dev nD) (i : grid0.Coords) (arg1 : Memref sig .tc .smem S32x16 .f32) (harg1 : arg1.IsWhole) (x : Vec Ideal S32x16 .f32)

set_option maxHeartbeats 2000000 in
theorem tile_0 (a b : Fin 128) : (k0_pay15 (kernelRun0_A.sl.r_41 c i arg1 harg1 x) kernelRun0_A.sl.cst_9 (ix4 0 0 a b) : EReal)
    = (pick (k0_pay3 (F := Ideal) (ix2 a b)) (col x (i 0)) 32 - col x (i 0) 31) * Ideal.ofBits .f32 0x3FB8AA3B#32 := by
  have e : (kernelRun0_A.sl.r_41 c i arg1 harg1 x (ix2 a b) : EReal) = pick (k0_pay3 (F := Ideal) (ix2 a b)) (col x (i 0)) 32 - col x (i 0) 31 := by
    have q1 := fun hin hh => rd arg1 harg1 x (k0_off1 i) hin hh 31 (i 0) (k0_off1_eq i)
    have q2 := fun hin hh => rd arg1 harg1 x (k0_off2 i) hin hh 0 (i 0) (k0_off2_eq i)
    have q3 := fun hin hh => rd arg1 harg1 x (k0_off3 i) hin hh 1 (i 0) (k0_off3_eq i)
    have q4 := fun hin hh => rd arg1 harg1 x (k0_off4 i) hin hh 2 (i 0) (k0_off4_eq i)
    have q5 := fun hin hh => rd arg1 harg1 x (k0_off5 i) hin hh 3 (i 0) (k0_off5_eq i)
    have q6 := fun hin hh => rd arg1 harg1 x (k0_off6 i) hin hh 4 (i 0) (k0_off6_eq i)
    have q7 := fun hin hh => rd arg1 harg1 x (k0_off7 i) hin hh 5 (i 0) (k0_off7_eq i)
    have q8 := fun hin hh => rd arg1 harg1 x (k0_off8 i) hin hh 6 (i 0) (k0_off8_eq i)
    have q9 := fun hin hh => rd arg1 harg1 x (k0_off9 i) hin hh 7 (i 0) (k0_off9_eq i)
    have q10 := fun hin hh => rd arg1 harg1 x (k0_off10 i) hin hh 8 (i 0) (k0_off10_eq i)
    have q11 := fun hin hh => rd arg1 harg1 x (k0_off11 i) hin hh 9 (i 0) (k0_off11_eq i)
    have q12 := fun hin hh => rd arg1 harg1 x (k0_off12 i) hin hh 10 (i 0) (k0_off12_eq i)
    have q13 := fun hin hh => rd arg1 harg1 x (k0_off13 i) hin hh 11 (i 0) (k0_off13_eq i)
    have q14 := fun hin hh => rd arg1 harg1 x (k0_off14 i) hin hh 12 (i 0) (k0_off14_eq i)
    have q15 := fun hin hh => rd arg1 harg1 x (k0_off15 i) hin hh 13 (i 0) (k0_off15_eq i)
    have q16 := fun hin hh => rd arg1 harg1 x (k0_off16 i) hin hh 14 (i 0) (k0_off16_eq i)
    have q17 := fun hin hh => rd arg1 harg1 x (k0_off17 i) hin hh 15 (i 0) (k0_off17_eq i)
    have q18 := fun hin hh => rd arg1 harg1 x (k0_off18 i) hin hh 16 (i 0) (k0_off18_eq i)
    have q19 := fun hin hh => rd arg1 harg1 x (k0_off19 i) hin hh 17 (i 0) (k0_off19_eq i)
    have q20 := fun hin hh => rd arg1 harg1 x (k0_off20 i) hin hh 18 (i 0) (k0_off20_eq i)
    have q21 := fun hin hh => rd arg1 harg1 x (k0_off21 i) hin hh 19 (i 0) (k0_off21_eq i)
    have q22 := fun hin hh => rd arg1 harg1 x (k0_off22 i) hin hh 20 (i 0) (k0_off22_eq i)
    have q23 := fun hin hh => rd arg1 harg1 x (k0_off23 i) hin hh 21 (i 0) (k0_off23_eq i)
    have q24 := fun hin hh => rd arg1 harg1 x (k0_off24 i) hin hh 22 (i 0) (k0_off24_eq i)
    have q25 := fun hin hh => rd arg1 harg1 x (k0_off25 i) hin hh 23 (i 0) (k0_off25_eq i)
    have q26 := fun hin hh => rd arg1 harg1 x (k0_off26 i) hin hh 24 (i 0) (k0_off26_eq i)
    have q27 := fun hin hh => rd arg1 harg1 x (k0_off27 i) hin hh 25 (i 0) (k0_off27_eq i)
    have q28 := fun hin hh => rd arg1 harg1 x (k0_off28 i) hin hh 26 (i 0) (k0_off28_eq i)
    have q29 := fun hin hh => rd arg1 harg1 x (k0_off29 i) hin hh 27 (i 0) (k0_off29_eq i)
    have q30 := fun hin hh => rd arg1 harg1 x (k0_off30 i) hin hh 28 (i 0) (k0_off30_eq i)
    have q31 := fun hin hh => rd arg1 harg1 x (k0_off31 i) hin hh 29 (i 0) (k0_off31_eq i)
    have q32 := fun hin hh => rd arg1 harg1 x (k0_off32 i) hin hh 30 (i 0) (k0_off32_eq i)
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, q1, q2, q3, q4, q5, q6, q7, q8, q9, q10, q11, q12, q13, q14, q15, q16, q17, q18, q19, q20, q21, q22, q23, q24, q25, q26, q27, q28, q29, q30, q31, q32]
    unfold k0_pay4 k0_pay5
    generalize k0_pay3 (F := Ideal) = B
    pointwise [k0_pay6, k0_pay7, k0_pay8, k0_pay9, k0_pay10, k0_pay11, k0_pay12, k0_pay13, k0_pay14]
    rfl
  rw [← e]
  generalize kernelRun0_A.sl.r_41 c i arg1 harg1 x = X
  pointwise [k0_pay15, kernelRun0_A.sl.cst_9]

set_option maxHeartbeats 2000000 in
theorem tile_1 (a b : Fin 128) : (k0_pay1 (kernelRun0_A.sl.r_47 c i arg1 harg1 x) k0_pay24 (ix4 0 0 a b) : EReal)
    = (pick (k0_pay16 (F := Ideal) k0_pay2 (ix2 a b)) (col x (i 0)) 32 - col x (i 0) 31) * Ideal.ofBits .f32 0x3FB8AA3B#32 := by
  have e : (kernelRun0_A.sl.r_47 c i arg1 harg1 x (ix2 a b) : EReal) = pick (k0_pay16 (F := Ideal) k0_pay2 (ix2 a b)) (col x (i 0)) 32 - col x (i 0) 31 := by
    have q1 := fun hin hh => rd arg1 harg1 x (k0_off1 i) hin hh 31 (i 0) (k0_off1_eq i)
    have q2 := fun hin hh => rd arg1 harg1 x (k0_off2 i) hin hh 0 (i 0) (k0_off2_eq i)
    have q3 := fun hin hh => rd arg1 harg1 x (k0_off3 i) hin hh 1 (i 0) (k0_off3_eq i)
    have q4 := fun hin hh => rd arg1 harg1 x (k0_off4 i) hin hh 2 (i 0) (k0_off4_eq i)
    have q5 := fun hin hh => rd arg1 harg1 x (k0_off5 i) hin hh 3 (i 0) (k0_off5_eq i)
    have q6 := fun hin hh => rd arg1 harg1 x (k0_off6 i) hin hh 4 (i 0) (k0_off6_eq i)
    have q7 := fun hin hh => rd arg1 harg1 x (k0_off7 i) hin hh 5 (i 0) (k0_off7_eq i)
    have q8 := fun hin hh => rd arg1 harg1 x (k0_off8 i) hin hh 6 (i 0) (k0_off8_eq i)
    have q9 := fun hin hh => rd arg1 harg1 x (k0_off9 i) hin hh 7 (i 0) (k0_off9_eq i)
    have q10 := fun hin hh => rd arg1 harg1 x (k0_off10 i) hin hh 8 (i 0) (k0_off10_eq i)
    have q11 := fun hin hh => rd arg1 harg1 x (k0_off11 i) hin hh 9 (i 0) (k0_off11_eq i)
    have q12 := fun hin hh => rd arg1 harg1 x (k0_off12 i) hin hh 10 (i 0) (k0_off12_eq i)
    have q13 := fun hin hh => rd arg1 harg1 x (k0_off13 i) hin hh 11 (i 0) (k0_off13_eq i)
    have q14 := fun hin hh => rd arg1 harg1 x (k0_off14 i) hin hh 12 (i 0) (k0_off14_eq i)
    have q15 := fun hin hh => rd arg1 harg1 x (k0_off15 i) hin hh 13 (i 0) (k0_off15_eq i)
    have q16 := fun hin hh => rd arg1 harg1 x (k0_off16 i) hin hh 14 (i 0) (k0_off16_eq i)
    have q17 := fun hin hh => rd arg1 harg1 x (k0_off17 i) hin hh 15 (i 0) (k0_off17_eq i)
    have q18 := fun hin hh => rd arg1 harg1 x (k0_off18 i) hin hh 16 (i 0) (k0_off18_eq i)
    have q19 := fun hin hh => rd arg1 harg1 x (k0_off19 i) hin hh 17 (i 0) (k0_off19_eq i)
    have q20 := fun hin hh => rd arg1 harg1 x (k0_off20 i) hin hh 18 (i 0) (k0_off20_eq i)
    have q21 := fun hin hh => rd arg1 harg1 x (k0_off21 i) hin hh 19 (i 0) (k0_off21_eq i)
    have q22 := fun hin hh => rd arg1 harg1 x (k0_off22 i) hin hh 20 (i 0) (k0_off22_eq i)
    have q23 := fun hin hh => rd arg1 harg1 x (k0_off23 i) hin hh 21 (i 0) (k0_off23_eq i)
    have q24 := fun hin hh => rd arg1 harg1 x (k0_off24 i) hin hh 22 (i 0) (k0_off24_eq i)
    have q25 := fun hin hh => rd arg1 harg1 x (k0_off25 i) hin hh 23 (i 0) (k0_off25_eq i)
    have q26 := fun hin hh => rd arg1 harg1 x (k0_off26 i) hin hh 24 (i 0) (k0_off26_eq i)
    have q27 := fun hin hh => rd arg1 harg1 x (k0_off27 i) hin hh 25 (i 0) (k0_off27_eq i)
    have q28 := fun hin hh => rd arg1 harg1 x (k0_off28 i) hin hh 26 (i 0) (k0_off28_eq i)
    have q29 := fun hin hh => rd arg1 harg1 x (k0_off29 i) hin hh 27 (i 0) (k0_off29_eq i)
    have q30 := fun hin hh => rd arg1 harg1 x (k0_off30 i) hin hh 28 (i 0) (k0_off30_eq i)
    have q31 := fun hin hh => rd arg1 harg1 x (k0_off31 i) hin hh 29 (i 0) (k0_off31_eq i)
    have q32 := fun hin hh => rd arg1 harg1 x (k0_off32 i) hin hh 30 (i 0) (k0_off32_eq i)
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, q1, q2, q3, q4, q5, q6, q7, q8, q9, q10, q11, q12, q13, q14, q15, q16, q17, q18, q19, q20, q21, q22, q23, q24, q25, q26, q27, q28, q29, q30, q31, q32]
    unfold k0_pay17 k0_pay18
    generalize k0_pay16 (F := Ideal) k0_pay2 = B
    pointwise [k0_pay19, k0_pay20, k0_pay21, k0_pay22, k0_pay23]
    rfl
  rw [← e]
  generalize kernelRun0_A.sl.r_47 c i arg1 harg1 x = X
  pointwise [k0_pay1, k0_pay24]

end

end Cert.Kernel13Ideal.Near

end
-- ==== Proof.Ffn.NearRes.lean ====
module

public import proofs.«01_k».proof.Proof.Ffn.Near

@[expose] public section

set_option maxRecDepth 16384

noncomputable section

/-! # The array of the near keys' bias, and the reference's -/

namespace Cert.Kernel13Ideal.Near

open Cert.Kernel13Ideal Cert.Kernel13Ideal.Gen Idealize.ShloMosaic Idealize.ShloMosaic.TcCoe Idealize.SL.Sem
open Idealize.ShloMosaic.Pipeline (Dat)

/-- The distance at a tile's row and column: tile 0 is the block before the query's own, tile 1 its own. -/
def dist (u : Fin 2) (a b : Fin 128) : BitVec 32 :=
  IntOp.addi (IntOp.subi (BitVec.ofNat 32 a.val) (BitVec.ofNat 32 b.val)) (IntOp.muli (IntOp.subi 1#32 (BitVec.ofNat 32 u.val)) 128#32)

theorem dist_0 (a b : Fin 128) : IntOp.subi (IntOp.addi 128#32 (BitVec.ofNat 32 a.val)) (BitVec.ofNat 32 b.val) = dist 0 a b := by
  unfold dist
  show 128#32 + BitVec.ofNat 32 a.val - BitVec.ofNat 32 b.val = (BitVec.ofNat 32 a.val - BitVec.ofNat 32 b.val) + 128#32
  generalize BitVec.ofNat 32 a.val = p
  generalize BitVec.ofNat 32 b.val = q
  bv_omega

theorem dist_1 (a b : Fin 128) : IntOp.subi (BitVec.ofNat 32 a.val) (BitVec.ofNat 32 b.val) = dist 1 a b := by
  unfold dist
  show BitVec.ofNat 32 a.val - BitVec.ofNat 32 b.val = (BitVec.ofNat 32 a.val - BitVec.ofNat 32 b.val) + 0#32
  rw [BitVec.add_zero]

/-! ## The tiles of a point -/

section
variable (c : Dev nD) (i : grid0.Coords) (arg1 : Memref sig .tc .smem S32x16 .f32) (harg1 : arg1.IsWhole) (arg2 : Memref sig .tc .vmem S2x1x128x128 .f32) (harg2 : arg2.IsWhole) (x : Vec Ideal S32x16 .f32)

/-- The two tiles' rectangles. -/
abbrev r0 : Rect S2x1x128x128 := Rect.unit ![0, 0, 0, 0] ![1, 1, 128, 128] inb_S2x1x128x128_S1x1x128x128_0_0_0_0
abbrev r1 : Rect S2x1x128x128 := Rect.unit ![1, 0, 0, 0] ![1, 1, 128, 128] inb_S2x1x128x128_S1x1x128x128_1_0_0_0

theorem emb_0 (a b : Fin 128) : r0.emb (ix4 0 0 a b) = ix4 0 0 a b := by
  funext k; refine Fin.ext ?_
  fin_cases k
  · rfl
  · rfl
  · show 0 + 1 * a.val = a.val; omega
  · show 0 + 1 * b.val = b.val; omega

theorem emb_1 (a b : Fin 128) : r1.emb (ix4 0 0 a b) = ix4 1 0 a b := by
  funext k; refine Fin.ext ?_
  fin_cases k
  · rfl
  · rfl
  · show 0 + 1 * a.val = a.val; omega
  · show 0 + 1 * b.val = b.val; omega

theorem not_mem (a b : Fin 128) : (ix4 0 0 a b : S2x1x128x128.Idx) ∉ r1.set := by
  rw [Rect.mem_set_unit]; intro H
  have h : 1 ≤ 0 ∧ 0 < 1 + 1 := H 0
  omega

theorem pieces : (kernelRun0_A c i arg1 harg1 arg2 harg2 x).1
    = [⟨r1, k0_pay1 (kernelRun0_A.sl.r_47 c i arg1 harg1 x) k0_pay24⟩, ⟨r0, k0_pay15 (kernelRun0_A.sl.r_41 c i arg1 harg1 x) kernelRun0_A.sl.cst_9⟩] := rfl

/-- Under the first of two pieces the pair reads that piece. -/
theorem under {s : Shape} {e : EltTy} (r : Rect s) (w : r.shape.Idx → Elt Ideal e) (L : List (View.Piece (Elt Ideal) s e)) (x : r.shape.Idx) (y : s.Idx) (h : r.emb x = y) :
    View.canon (⟨r, w⟩ :: L) y = w x := by
  subst h; exact View.canon_cons_emb r w L x

/-- Off it, the other. -/
theorem off {s : Shape} {e : EltTy} (r : Rect s) (w : r.shape.Idx → Elt Ideal e) (L : List (View.Piece (Elt Ideal) s e)) (y : s.Idx) (h : y ∉ r.set) :
    View.canon (⟨r, w⟩ :: L) y = View.canon L y := View.canon_cons_of_not_mem _ _ h

theorem out_a (a b : Fin 128) : (out0_A_1 c i arg1 harg1 arg2 harg2 x (ix4 0 0 a b) : EReal) = val x (i 0) (bucket (dist 0 a b)) := by
  unfold out0_A_1
  rw [View.read_writes_junk_eq_canon, pieces]
  refine ((off r1 _ _ _ (not_mem a b)).trans (under r0 _ _ (ix4 0 0 a b) _ (emb_0 a b))).trans ((tile_0 c i arg1 harg1 x a b).trans ?_)
  unfold val
  rw [bk_0, dist_0, pick_eq _ _ 32 (le_refl _) (bucket_lt _)]

theorem out_b (a b : Fin 128) : (out0_A_1 c i arg1 harg1 arg2 harg2 x (ix4 1 0 a b) : EReal) = val x (i 0) (bucket (dist 1 a b)) := by
  unfold out0_A_1
  rw [View.read_writes_junk_eq_canon, pieces]
  refine (under r1 _ _ (ix4 0 0 a b) _ (emb_1 a b)).trans ((tile_1 c i arg1 harg1 x a b).trans ?_)
  unfold val
  rw [bk_1, dist_1, pick_eq _ _ 32 (le_refl _) (bucket_lt _)]

/-- What a point writes. -/
theorem out (u : Fin 2) (a b : Fin 128) : (out0_A_1 c i arg1 harg1 arg2 harg2 x (ix4 u 0 a b) : EReal) = val x (i 0) (bucket (dist u a b)) :=
  match u with
  | 0 => out_a c i arg1 harg1 arg2 harg2 x a b
  | 1 => out_b c i arg1 harg1 arg2 harg2 x a b

end

/-! ## The array -/

variable (m : (ℓ : Loc nD τ sig) → Buf (Elt Ideal) ℓ)

abbrev a0 (c : Dev nD) : FVec Ideal S32x16 .f32 := m ((c : Thread nD τ).loc main_arg0)

theorem ix_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Every point reads the whole table. -/
theorem x0_eq (c : Dev nD) (t : Fin cfg0.N) : (iblk m c 0 t : S32x16.Idx → EReal) = a0 m c := by
  funext q
  show V m c main_arg0 (((cfg0.win 0).blk t).view.emb q) = m ((c : Thread nD τ).loc main_arg0) q
  refine congrArg (V m c main_arg0) (funext fun a => Fin.ext ?_)
  obtain ⟨e0, e1⟩ := ix_0 t
  match a with
  | ⟨0, _⟩ => show win0_0.index t (0 : Fin 2) * 32 + 1 * (q 0).val = (q 0).val; omega
  | ⟨1, _⟩ => show win0_0.index t (1 : Fin 2) * 16 + 1 * (q 1).val = (q 1).val; omega

theorem fl_1 : ∀ t : Fin cfg0.N, (cfg0.win 1).flush t = true ∧ (grid0.coords t 0).val = t.val ∧ win0_1.index t (0 : Fin 4) = 0 ∧ win0_1.index t (1 : Fin 4) = t.val ∧ win0_1.index t (2 : Fin 4) = 0 ∧ win0_1.index t (3 : Fin 4) = 0 :=
  (by decide +kernel : ∀ t : Fin grid0.N, win0_1.flush t = true ∧ (grid0.coords t 0).val = t.val ∧ win0_1.index t (0 : Fin 4) = 0 ∧ win0_1.index t (1 : Fin 4) = t.val ∧ win0_1.index t (2 : Fin 4) = 0 ∧ win0_1.index t (3 : Fin 4) = 0)

/-- The array after the run. -/
abbrev G1 (c : Dev nD) : Buf (Elt Ideal) ((c : Thread nD τ).loc main_v0) := (dats m 0 c).arrAt 1 cfg0.N

theorem res (c : Dev nD) (u : Fin 2) (h : Fin 16) (a b : Fin 128) : (G1 m c (ix4 u h a b) : EReal) = val (a0 m c) h (bucket (dist u a b)) := by
  have hN : h.val < cfg0.N := by rw [show cfg0.N = 16 from N_0]; omega
  obtain ⟨hf, ei, e0, e1, e2, e3⟩ := fl_1 ⟨h.val, hN⟩
  have e := congrFun ((Value.blocks1 m c ⟨h.val, hN⟩ hf).trans (Value.flushed1_A m c ⟨h.val, hN⟩)) (ix4 u (0 : Fin 1) a b : S2x1x128x128.Idx)
  refine Eq.trans (congrArg (G1 m c) (funext fun k => Fin.ext ?_)) (e.trans ?_)
  · match k with
    | ⟨0, _⟩ => show u.val = win0_1.index ⟨h.val, hN⟩ (0 : Fin 4) * 2 + 1 * u.val; omega
    | ⟨1, _⟩ => show h.val = win0_1.index ⟨h.val, hN⟩ (1 : Fin 4) * 1 + 1 * 0; rw [e1]; dsimp only; omega
    | ⟨2, _⟩ => show a.val = win0_1.index ⟨h.val, hN⟩ (2 : Fin 4) * 128 + 1 * a.val; omega
    | ⟨3, _⟩ => show b.val = win0_1.index ⟨h.val, hN⟩ (3 : Fin 4) * 128 + 1 * b.val; omega
  · have eh : grid0.coords ⟨h.val, hN⟩ 0 = h := Fin.ext ei
    refine Eq.trans (congrArg (out0_A_1 c (grid0.coords ⟨h.val, hN⟩) (ms0_0 ⟨h.val, hN⟩) (hs0_0 ⟨h.val, hN⟩) (ms0_1 ⟨h.val, hN⟩) (hs0_1 ⟨h.val, hN⟩) (iblk m c 0 ⟨h.val, hN⟩)) (funext fun k => ?_)) ((out c _ _ _ _ _ _ u a b).trans ?_)
    · match k with
      | ⟨0, _⟩ => rfl
      | ⟨1, _⟩ => rfl
      | ⟨2, _⟩ => rfl
      | ⟨3, _⟩ => rfl
    · rw [eh]
      exact congrArg (fun x => val x h _) (x0_eq m c _)

end Cert.Kernel13Ideal.Near

namespace Cert.Reference13Ideal.Near

open Cert.Reference13Ideal Cert.Reference13Ideal.Gen Idealize.ShloMosaic Idealize.ShloMosaic.TcCoe

/-- The distances. -/
abbrev D : IVec S2x128x128 32 := addi (subi (iotaInDim S2x128x128 32 1) (iotaInDim S2x128x128 32 2)) (muli (subi (broadcastInDim S2x128x128 ![] bcast_S_S2x128x128 (constantI S_ 32 1#32)) (iotaInDim S2x128x128 32 0)) (broadcastInDim S2x128x128 ![] bcast_S_S2x128x128 (constantI S_ 32 128#32)))

theorem D_apply (u : Fin 2) (a b : Fin 128) : (D (ix3 u a b) : BitVec 32) = Kernel13Ideal.Near.dist u a b := by
  unfold D Kernel13Ideal.Near.dist
  pointwise []

/-- The buckets. -/
abbrev B : IVec S2x128x128 32 := select (cmpi .slt (maxsi D (broadcastInDim S2x128x128 ![] bcast_S_S2x128x128 (constantI S_ 32 0#32))) (broadcastInDim S2x128x128 ![] bcast_S_S2x128x128 (constantI S_ 32 16#32))) (maxsi D (broadcastInDim S2x128x128 ![] bcast_S_S2x128x128 (constantI S_ 32 0#32)))
  (minsi (addi (broadcastInDim S2x128x128 ![] bcast_S_S2x128x128 (constantI S_ 32 16#32)) (fptosi 32 (mulf (Host.divf (Host.log (Host.divf (sitofp .f32 (maxsi (maxsi D (broadcastInDim S2x128x128 ![] bcast_S_S2x128x128 (constantI S_ 32 0#32))) (broadcastInDim S2x128x128 ![] bcast_S_S2x128x128 (constantI S_ 32 1#32)))) (broadcastInDim S2x128x128 ![] bcast_S_S2x128x128 (constant (F := Ideal) S_ .f32 0x41800000#32)))) (broadcastInDim S2x128x128 ![] bcast_S_S2x128x128 (constant S_ .f32 0x40051592#32))) (broadcastInDim S2x128x128 ![] bcast_S_S2x128x128 (constant S_ .f32 0x41800000#32))))) (broadcastInDim S2x128x128 ![] bcast_S_S2x128x128 (constantI S_ 32 31#32)))

theorem B_apply (u : Fin 2) (a b : Fin 128) : (B (ix3 u a b) : BitVec 32) = Kernel13Ideal.Near.bucket (Kernel13Ideal.Near.dist u a b) := by
  rw [← D_apply]
  unfold B Kernel13Ideal.Near.bucket Kernel13Ideal.Near.scaled
  generalize D = d
  pointwise []
  rfl

/-- The indices: a bucket below zero counts from the table's end. -/
abbrev I : IVec S2x128x128x1 32 := broadcastInDim S2x128x128x1 ![0, 1, 2] bcast_S2x128x128_S2x128x128x1_0_1_2 (select (cmpi .slt B (broadcastInDim S2x128x128 ![] bcast_S_S2x128x128 (constantI S_ 32 0#32))) (addi B (broadcastInDim S2x128x128 ![] bcast_S_S2x128x128 (constantI S_ 32 32#32))) B)

/-- There are none such. -/
theorem I_apply (u : Fin 2) (a b : Fin 128) : (I (ix4 u a b 0) : BitVec 32) = Kernel13Ideal.Near.bucket (Kernel13Ideal.Near.dist u a b) := by
  have e : (I (ix4 u a b 0) : BitVec 32) = Scalar.select (IntOp.cmpi .slt (B (ix3 u a b)) 0#32) (IntOp.addi (B (ix3 u a b)) 32#32) (B (ix3 u a b)) := by
    unfold I
    generalize B = q
    pointwise []
  rw [e, B_apply]
  have h := Kernel13Ideal.Near.bucket_lt (Kernel13Ideal.Near.dist u a b)
  generalize Kernel13Ideal.Near.bucket (Kernel13Ideal.Near.dist u a b) = q at h
  have hi := BitVec.toInt_eq_toNat_cond q
  rw [if_pos (by omega)] at hi
  have hc : IntOp.cmpi .slt q 0#32 = 0#1 := by
    have : ¬ q.toInt < 0 := by omega
    simp [IntOp.cmpi, BitVec.slt, this]
  rw [hc]; rfl

/-- Indexing the table: the row the index names, clamped into the table. -/
theorem gather_apply (x : FVec Ideal S32x16 .f32) (idx : IVec S2x128x128x1 32) (u : Fin 2) (a b : Fin 128) (h : Fin 16) :
    (Host.gather gather_S32x16_S2x128x128x1_S2x128x128x16_3_0_n_n_0_3_116 x idx (ix4 u a b h) : EReal) = x (ix2 ⟨min (idx (ix4 u a b 0)).toInt.toNat 31, by omega⟩ h) := by
  unfold Host.gather
  refine congrArg x (funext fun k => Fin.ext ?_)
  show GatherDims.start _ _ idx k + GatherDims.batchCoord _ _ k + GatherDims.offCoord _ _ k = _
  rw [GatherDims.batchCoord_eq_zero _ _ _ (List.not_mem_nil), Nat.add_zero]
  match k with
  | ⟨0, _⟩ =>
    have ho : GatherDims.offCoord gather_S32x16_S2x128x128x1_S2x128x128x16_3_0_n_n_0_3_116 (ix4 u a b h) ⟨0, by decide⟩ = 0 :=
      GatherDims.offCoord_eq_zero _ _ _ (fun q => ((GatherDims.mem_sKept _ _).mp q).1 (List.mem_singleton.mpr rfl))
    refine (congrArg (_ + ·) ho).trans ?_
    unfold GatherDims.start
    refine (congrArg (· + 0) (dif_pos (List.mem_singleton.mpr rfl))).trans ?_
    show min (idx _).toInt.toNat 31 = min (idx _).toInt.toNat 31
    refine congrArg (fun q => min (idx q).toInt.toNat 31) (funext fun p => Fin.ext ?_)
    match p with
    | ⟨0, _⟩ => rfl
    | ⟨1, _⟩ => rfl
    | ⟨2, _⟩ => rfl
    | ⟨3, _⟩ => rfl
  | ⟨1, _⟩ =>
    have hs : GatherDims.start gather_S32x16_S2x128x128x1_S2x128x128x16_3_0_n_n_0_3_116 (ix4 u a b h) idx ⟨1, by decide⟩ = 0 := by
      unfold GatherDims.start
      exact dif_neg (by decide)
    refine (congrArg (· + _) hs).trans ((Nat.zero_add _).trans ?_)
    unfold GatherDims.offCoord
    exact (dif_pos ((GatherDims.mem_sKept gather_S32x16_S2x128x128x1_S2x128x128x16_3_0_n_n_0_3_116 ⟨1, by decide⟩).mpr ⟨by decide, by decide⟩)).trans rfl

variable (x : FVec Ideal S32x16 .f32)

/-- The table's entries at the buckets. -/
abbrev T : FVec Ideal S2x128x128x16 .f32 := Host.gather gather_S32x16_S2x128x128x1_S2x128x128x16_3_0_n_n_0_3_116 x I

theorem gather_at (idx : IVec S2x128x128x1 32) (u : Fin 2) (a b : Fin 128) (h : Fin 16) (q : BitVec 32) (e : idx (ix4 u a b 0) = q) (hb : q.toNat < 32) :
    (Host.gather gather_S32x16_S2x128x128x1_S2x128x128x16_3_0_n_n_0_3_116 x idx (ix4 u a b h) : EReal) = Kernel13Ideal.Near.col x h q.toNat := by
  refine (gather_apply x idx u a b h).trans ?_
  have hi := BitVec.toInt_eq_toNat_cond q
  rw [if_pos (by omega)] at hi
  refine congrArg (fun k => x (ix2 k h)) (Fin.ext ?_)
  show min (idx (ix4 u a b 0)).toInt.toNat 31 = q.toNat % 32
  rw [e, hi]
  omega

theorem T_apply (u : Fin 2) (a b : Fin 128) (h : Fin 16) : (T x (ix4 u a b h) : EReal) = Kernel13Ideal.Near.col x h (Kernel13Ideal.Near.bucket (Kernel13Ideal.Near.dist u a b)).toNat :=
  gather_at x I u a b h _ (I_apply u a b) (Kernel13Ideal.Near.bucket_lt _)

/-- The result. -/
abbrev H : FVec Ideal S2x16x128x128 .f32 := transpose S2x16x128x128 [0, 3, 1, 2] (mulf (subf (T x) (broadcastInDim S2x128x128x16 ![0, 1, 2, 3] bcast_S1x1x1x16_S2x128x128x16_0_1_2_3 (broadcastInDim S1x1x1x16 ![3] bcast_S16_S1x1x1x16_3 (shapeCast _ (extractStridedSlice S1x16 ![31, 0] x slices_S32x16_S1x16_31_0) shapeCasts_S1x16_S16)))) (broadcastInDim S2x128x128x16 ![] bcast_S_S2x128x128x16 (constant S_ .f32 0x3FB8AA3B#32))) transposes_S2x128x128x16_S2x16x128x128_0_3_1_2

theorem refH (u : Fin 2) (h : Fin 16) (a b : Fin 128) : (H x (ix4 u h a b) : EReal) = Kernel13Ideal.Near.val x h (Kernel13Ideal.Near.bucket (Kernel13Ideal.Near.dist u a b)) := by
  unfold Kernel13Ideal.Near.val
  rw [← T_apply]
  unfold H
  generalize T x = q
  pointwise []
  rfl

end Cert.Reference13Ideal.Near

end
-- ==== Proof.Layer.lean ====
/- The certificate's claims on the layer's further calls: for each, the three runs that leave the arguments
   as they were, and the equality of the kernel's result and the reference's. -/
module

public import proofs.«01_k».proof.Defs
public import proofs.«01_k».proof.Proof.Gen.Kernel2.Value
public import proofs.«01_k».proof.Proof.Gen.Kernel2Ideal.Value
public import proofs.«01_k».proof.Proof.Gen.Reference2Ideal.Run
public import proofs.«01_k».proof.Proof.Ffn.Up
public import proofs.«01_k».proof.Proof.Gen.Kernel3.Value
public import proofs.«01_k».proof.Proof.Gen.Kernel3Ideal.Value
public import proofs.«01_k».proof.Proof.Gen.Reference3Ideal.Run
public import proofs.«01_k».proof.Proof.Ffn.Down
public import proofs.«01_k».proof.Proof.Gen.Kernel4.Value
public import proofs.«01_k».proof.Proof.Gen.Kernel4Ideal.Value
public import proofs.«01_k».proof.Proof.Gen.Reference4Ideal.Run
public import proofs.«01_k».proof.Proof.Proj.Gates
public import proofs.«01_k».proof.Proof.Gen.Kernel5.Value
public import proofs.«01_k».proof.Proof.Gen.Kernel5Ideal.Value
public import proofs.«01_k».proof.Proof.Gen.Reference5Ideal.Run
public import proofs.«01_k».proof.Proof.Proj.Qk
public import proofs.«01_k».proof.Proof.Gen.Kernel6.Value
public import proofs.«01_k».proof.Proof.Gen.Kernel6Ideal.Value
public import proofs.«01_k».proof.Proof.Gen.Reference6Ideal.Run
public import proofs.«01_k».proof.Proof.Proj.R
public import proofs.«01_k».proof.Proof.Gen.Kernel7.Value
public import proofs.«01_k».proof.Proof.Gen.Kernel7Ideal.Value
public import proofs.«01_k».proof.Proof.Gen.Reference7Ideal.Run
public import proofs.«01_k».proof.Proof.Proj.B
public import proofs.«01_k».proof.Proof.Gen.Kernel8.Value
public import proofs.«01_k».proof.Proof.Gen.Kernel8Ideal.Value
public import proofs.«01_k».proof.Proof.Gen.Reference8Ideal.Run
public import proofs.«01_k».proof.Proof.Ffn.Out
public import proofs.«01_k».proof.Proof.Gen.Kernel9.Value
public import proofs.«01_k».proof.Proof.Gen.Kernel9Ideal.Value
public import proofs.«01_k».proof.Proof.Gen.Reference9Ideal.Run
public import proofs.«01_k».proof.Proof.Ffn.Mid
public import proofs.«01_k».proof.Proof.Gen.Kernel10.Value
public import proofs.«01_k».proof.Proof.Gen.Kernel10Ideal.Value
public import proofs.«01_k».proof.Proof.Gen.Reference10Ideal.Run
public import proofs.«01_k».proof.Proof.Ffn.Norm
public import proofs.«01_k».proof.Proof.Gen.Kernel11.Frame
public import proofs.«01_k».proof.Proof.Gen.Kernel11Ideal.Frame
public import proofs.«01_k».proof.Proof.Gen.Reference11Ideal.Run
public import proofs.«01_k».proof.Proof.Proj.Narrow
public import proofs.«01_k».proof.Proof.Gen.Kernel12.Frame
public import proofs.«01_k».proof.Proof.Gen.Kernel12Ideal.Frame
public import proofs.«01_k».proof.Proof.Gen.Reference12Ideal.Run
public import proofs.«01_k».proof.Proof.Ffn.Mod
public import proofs.«01_k».proof.Proof.Gen.Kernel13.Value
public import proofs.«01_k».proof.Proof.Gen.Kernel13Ideal.Value
public import proofs.«01_k».proof.Proof.Gen.Reference13Ideal.Run
public import proofs.«01_k».proof.Proof.Ffn.NearRes
public import Idealize.ShloMosaic.Adequacy
public import Idealize.ShloMosaic.Init

@[expose] public section

noncomputable section

namespace Cert.Proof

open Idealize Idealize.ShloMosaic Idealize.ShloMosaic.TcCoe Idealize.SL Idealize.SL.Sem

/-! ### The feed-forward's first product -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel's result is the reference's, entry by entry. -/
theorem algebraic_up : Cert.algebraic_Kernel2Ideal_Reference2Ideal := by
  intro m g m' g' _ hm
  refine ⟨fun c => Cert.Kernel2Ideal.Value.G2 m c, Cert.Kernel2Ideal.Value.run m g, ?_⟩
  refine (θ_run Cert.Reference2Ideal.defs _ _).mono (fun r h c => ⟨(h c).1.trans ?_, (h c).2⟩) (Cert.Reference2Ideal.Value.run (F := Ideal) m' g')
  obtain ⟨h0, h1⟩ := hm c
  have e0 : Cert.Kernel2Ideal.Up.a0 m c = m' ((c.tc : Thread Cert.Reference2Ideal.nD Cert.Reference2Ideal.τ).loc Cert.Reference2Ideal.main_arg0) := h0.symm
  have e1 : Cert.Kernel2Ideal.Up.a1 m c = m' ((c.tc : Thread Cert.Reference2Ideal.nD Cert.Reference2Ideal.τ).loc Cert.Reference2Ideal.main_arg1) := h1.symm
  funext i
  refine (congrArg _ (eq_ix2 i)).trans (Eq.trans ?_ (congrArg (Cert.Kernel2Ideal.Value.G2 m c) (eq_ix2 i).symm))
  refine (Cert.Reference2Ideal.Up.ref _ _ (i 0) (i 1)).trans (Eq.trans ?_ (Cert.Kernel2Ideal.Up.res m c (i 0) (i 1)).symm)
  rw [← e0, ← e1]; rfl

/-! ### The feed-forward's second product, the residual sum and the last normalisation -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel's result is the reference's, entry by entry. -/
theorem algebraic_down : Cert.algebraic_Kernel3Ideal_Reference3Ideal := by
  intro m g m' g' _ hm
  refine ⟨fun c => Cert.Kernel3Ideal.Value.G5 m c, Cert.Kernel3Ideal.Value.run m g, ?_⟩
  refine (θ_run Cert.Reference3Ideal.defs _ _).mono (fun r h c => ⟨(h c).1.trans ?_, (h c).2⟩) (Cert.Reference3Ideal.Value.run (F := Ideal) m' g')
  obtain ⟨h0, h1, h2, h3, h4⟩ := hm c
  have e0 : Cert.Kernel3Ideal.Down.a0 m c = m' ((c.tc : Thread Cert.Reference3Ideal.nD Cert.Reference3Ideal.τ).loc Cert.Reference3Ideal.main_arg0) := h0.symm
  have e1 : Cert.Kernel3Ideal.Down.a1 m c = m' ((c.tc : Thread Cert.Reference3Ideal.nD Cert.Reference3Ideal.τ).loc Cert.Reference3Ideal.main_arg1) := h1.symm
  have e2 : Cert.Kernel3Ideal.Down.a2 m c = m' ((c.tc : Thread Cert.Reference3Ideal.nD Cert.Reference3Ideal.τ).loc Cert.Reference3Ideal.main_arg2) := h2.symm
  have e3 : Cert.Kernel3Ideal.Down.a3 m c = m' ((c.tc : Thread Cert.Reference3Ideal.nD Cert.Reference3Ideal.τ).loc Cert.Reference3Ideal.main_arg3) := h3.symm
  have e4 : Cert.Kernel3Ideal.Down.a4 m c = m' ((c.tc : Thread Cert.Reference3Ideal.nD Cert.Reference3Ideal.τ).loc Cert.Reference3Ideal.main_arg4) := h4.symm
  funext i
  refine (congrArg _ (eq_ix2 i)).trans (Eq.trans ?_ (congrArg (Cert.Kernel3Ideal.Value.G5 m c) (eq_ix2 i).symm))
  refine (Cert.Reference3Ideal.Down.ref _ _ _ _ _ (i 0) (i 1)).trans (Eq.trans ?_ (Cert.Kernel3Ideal.Down.res m c (i 0) (i 1)).symm)
  rw [← e0, ← e1, ← e2, ← e3, ← e4]; rfl

/-! ### The gate columns of the input projection -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The kernel's result is the reference's, entry by entry. -/
theorem algebraic_gates : Cert.algebraic_Kernel4Ideal_Reference4Ideal := by
  intro m g m' g' _ hm
  refine ⟨fun c => Cert.Kernel4Ideal.Value.G2 m c, Cert.Kernel4Ideal.Value.run m g, ?_⟩
  refine (θ_run Cert.Reference4Ideal.defs _ _).mono (fun r h c => ⟨(h c).1.trans ?_, (h c).2⟩) (Cert.Reference4Ideal.Value.run (F := Ideal) m' g')
  obtain ⟨h0, h1⟩ := hm c
  have e0 : Cert.Kernel4Ideal.Gates.a0 m c = m' ((c.tc : Thread Cert.Reference4Ideal.nD Cert.Reference4Ideal.τ).loc Cert.Reference4Ideal.main_arg0) := h0.symm
  have e1 : Cert.Kernel4Ideal.Gates.a1 m c = m' ((c.tc : Thread Cert.Reference4Ideal.nD Cert.Reference4Ideal.τ).loc Cert.Reference4Ideal.main_arg1) := h1.symm
  funext i
  refine (congrArg _ (eq_ix2 i)).trans (Eq.trans ?_ (congrArg (Cert.Kernel4Ideal.Value.G2 m c) (eq_ix2 i).symm))
  have hj : (i 1).val < 4096 := (i 1).isLt
  refine (Cert.Reference4Ideal.Gates.ref _ _ (i 0) (i 1) ⟨Cert.Kernel4Ideal.Gates.off ((i 1).val / 1024) + (i 1).val % 1024, by unfold Cert.Kernel4Ideal.Gates.off; (try split_ifs) <;> omega⟩ rfl).trans (Eq.trans ?_ (Cert.Kernel4Ideal.Gates.res m c (i 0) (i 1)).symm)
  rw [← e0, ← e1]; rfl

/-! ### The query and key columns of the input projection -/

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The kernel's result is the reference's, entry by entry. -/
theorem algebraic_qk : Cert.algebraic_Kernel5Ideal_Reference5Ideal := by
  intro m g m' g' _ hm
  refine ⟨fun c => Cert.Kernel5Ideal.Value.G2 m c, Cert.Kernel5Ideal.Value.run m g, ?_⟩
  refine (θ_run Cert.Reference5Ideal.defs _ _).mono (fun r h c => ⟨(h c).1.trans ?_, (h c).2⟩) (Cert.Reference5Ideal.Value.run (F := Ideal) m' g')
  obtain ⟨h0, h1⟩ := hm c
  have e0 : Cert.Kernel5Ideal.Qk.a0 m c = m' ((c.tc : Thread Cert.Reference5Ideal.nD Cert.Reference5Ideal.τ).loc Cert.Reference5Ideal.main_arg0) := h0.symm
  have e1 : Cert.Kernel5Ideal.Qk.a1 m c = m' ((c.tc : Thread Cert.Reference5Ideal.nD Cert.Reference5Ideal.τ).loc Cert.Reference5Ideal.main_arg1) := h1.symm
  funext i
  refine (congrArg _ (eq_ix2 i)).trans (Eq.trans ?_ (congrArg (Cert.Kernel5Ideal.Value.G2 m c) (eq_ix2 i).symm))
  have hj : (i 1).val < 2048 := (i 1).isLt
  refine (Cert.Reference5Ideal.Qk.ref _ _ (i 0) (i 1) ⟨Cert.Kernel5Ideal.Qk.off ((i 1).val / 1024) + (i 1).val % 1024, by unfold Cert.Kernel5Ideal.Qk.off; (try split_ifs) <;> omega⟩ rfl).trans (Eq.trans ?_ (Cert.Kernel5Ideal.Qk.res m c (i 0) (i 1)).symm)
  rw [← e0, ← e1]; rfl

/-! ### The receptance columns of the input projection -/

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The kernel's result is the reference's, entry by entry. -/
theorem algebraic_r : Cert.algebraic_Kernel6Ideal_Reference6Ideal := by
  intro m g m' g' _ hm
  refine ⟨fun c => Cert.Kernel6Ideal.Value.G2 m c, Cert.Kernel6Ideal.Value.run m g, ?_⟩
  refine (θ_run Cert.Reference6Ideal.defs _ _).mono (fun r h c => ⟨(h c).1.trans ?_, (h c).2⟩) (Cert.Reference6Ideal.Value.run (F := Ideal) m' g')
  obtain ⟨h0, h1⟩ := hm c
  have e0 : Cert.Kernel6Ideal.R.a0 m c = m' ((c.tc : Thread Cert.Reference6Ideal.nD Cert.Reference6Ideal.τ).loc Cert.Reference6Ideal.main_arg0) := h0.symm
  have e1 : Cert.Kernel6Ideal.R.a1 m c = m' ((c.tc : Thread Cert.Reference6Ideal.nD Cert.Reference6Ideal.τ).loc Cert.Reference6Ideal.main_arg1) := h1.symm
  funext i
  refine (congrArg _ (eq_ix2 i)).trans (Eq.trans ?_ (congrArg (Cert.Kernel6Ideal.Value.G2 m c) (eq_ix2 i).symm))
  have hj : (i 1).val < 2048 := (i 1).isLt
  refine (Cert.Reference6Ideal.R.ref _ _ (i 0) (i 1) ⟨Cert.Kernel6Ideal.R.off ((i 1).val / 1024) + (i 1).val % 1024, by unfold Cert.Kernel6Ideal.R.off; (try split_ifs) <;> omega⟩ rfl).trans (Eq.trans ?_ (Cert.Kernel6Ideal.R.res m c (i 0) (i 1)).symm)
  rw [← e0, ← e1]; rfl

/-! ### The remaining wide columns of the input projection -/

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The kernel's result is the reference's, entry by entry. -/
theorem algebraic_b : Cert.algebraic_Kernel7Ideal_Reference7Ideal := by
  intro m g m' g' _ hm
  refine ⟨fun c => Cert.Kernel7Ideal.Value.G2 m c, Cert.Kernel7Ideal.Value.run m g, ?_⟩
  refine (θ_run Cert.Reference7Ideal.defs _ _).mono (fun r h c => ⟨(h c).1.trans ?_, (h c).2⟩) (Cert.Reference7Ideal.Value.run (F := Ideal) m' g')
  obtain ⟨h0, h1⟩ := hm c
  have e0 : Cert.Kernel7Ideal.B.a0 m c = m' ((c.tc : Thread Cert.Reference7Ideal.nD Cert.Reference7Ideal.τ).loc Cert.Reference7Ideal.main_arg0) := h0.symm
  have e1 : Cert.Kernel7Ideal.B.a1 m c = m' ((c.tc : Thread Cert.Reference7Ideal.nD Cert.Reference7Ideal.τ).loc Cert.Reference7Ideal.main_arg1) := h1.symm
  funext i
  refine (congrArg _ (eq_ix2 i)).trans (Eq.trans ?_ (congrArg (Cert.Kernel7Ideal.Value.G2 m c) (eq_ix2 i).symm))
  have hj : (i 1).val < 7168 := (i 1).isLt
  refine (Cert.Reference7Ideal.B.ref _ _ (i 0) (i 1) ⟨Cert.Kernel7Ideal.B.off ((i 1).val / 1024) + (i 1).val % 1024, by unfold Cert.Kernel7Ideal.B.off; (try split_ifs) <;> omega⟩ rfl).trans (Eq.trans ?_ (Cert.Kernel7Ideal.B.res m c (i 0) (i 1)).symm)
  rw [← e0, ← e1]; rfl

/-! ### The output projection, the residual sum and the normalisation -/

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

/-- The kernel's two results are the reference's, entry by entry. -/
theorem algebraic_out : Cert.algebraic_Kernel8Ideal_Reference8Ideal := by
  intro m g m' g' _ hm
  refine ⟨fun c => Cert.Kernel8Ideal.Out.G7 m c, fun c => Cert.Kernel8Ideal.Out.G8 m c, Cert.Kernel8Ideal.Value.run_blocks m g, ?_⟩
  refine (θ_run Cert.Reference8Ideal.defs _ _).mono (fun r h c => ⟨(h c).1.trans ?_, (h c).2.1.trans ?_, (h c).2.2⟩) (Cert.Reference8Ideal.Value.run (F := Ideal) m' g')
  all_goals
    obtain ⟨h0, h1, h2, h3, h4, h5, h6⟩ := hm c
    have e0 : Cert.Kernel8Ideal.Out.a0 m c = m' ((c.tc : Thread Cert.Reference8Ideal.nD Cert.Reference8Ideal.τ).loc Cert.Reference8Ideal.main_arg0) := h0.symm
    have e1 : Cert.Kernel8Ideal.Out.a1 m c = m' ((c.tc : Thread Cert.Reference8Ideal.nD Cert.Reference8Ideal.τ).loc Cert.Reference8Ideal.main_arg1) := h1.symm
    have e2 : Cert.Kernel8Ideal.Out.a2 m c = m' ((c.tc : Thread Cert.Reference8Ideal.nD Cert.Reference8Ideal.τ).loc Cert.Reference8Ideal.main_arg2) := h2.symm
    have e3 : Cert.Kernel8Ideal.Out.a3 m c = m' ((c.tc : Thread Cert.Reference8Ideal.nD Cert.Reference8Ideal.τ).loc Cert.Reference8Ideal.main_arg3) := h3.symm
    have e4 : Cert.Kernel8Ideal.Out.a4 m c = m' ((c.tc : Thread Cert.Reference8Ideal.nD Cert.Reference8Ideal.τ).loc Cert.Reference8Ideal.main_arg4) := h4.symm
    have e5 : Cert.Kernel8Ideal.Out.a5 m c = m' ((c.tc : Thread Cert.Reference8Ideal.nD Cert.Reference8Ideal.τ).loc Cert.Reference8Ideal.main_arg5) := h5.symm
    have e6 : Cert.Kernel8Ideal.Out.a6 m c = m' ((c.tc : Thread Cert.Reference8Ideal.nD Cert.Reference8Ideal.τ).loc Cert.Reference8Ideal.main_arg6) := h6.symm
    funext i
  · refine (congrArg _ (eq_ix2 i)).trans (Eq.trans ?_ (congrArg (Cert.Kernel8Ideal.Out.G7 m c) (eq_ix2 i).symm))
    refine (Cert.Reference8Ideal.Out.refX _ _ _ _ (i 0) (i 1)).trans (Eq.trans ?_ (Cert.Kernel8Ideal.Out.resX m c (i 0) (i 1)).symm)
    rw [← e0, ← e1, ← e2, ← e3]; rfl
  · refine (congrArg _ (eq_ix2 i)).trans (Eq.trans ?_ (congrArg (Cert.Kernel8Ideal.Out.G8 m c) (eq_ix2 i).symm))
    refine (Cert.Reference8Ideal.Out.refH _ _ _ _ _ _ _ (i 0) (i 1)).trans (Eq.trans ?_ (Cert.Kernel8Ideal.Out.resH m c (i 0) (i 1)).symm)
    rw [← e0, ← e1, ← e2, ← e3, ← e4, ← e5, ← e6]; rfl

/-! ### The first layer's second feed-forward product, the residual sum and the next layer's normalisation -/

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9Ideal : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- The kernel's two results are the reference's, entry by entry. -/
theorem algebraic_mid : Cert.algebraic_Kernel9Ideal_Reference9Ideal := by
  intro m g m' g' _ hm
  refine ⟨fun c => Cert.Kernel9Ideal.Value.G7 m c, fun c => Cert.Kernel9Ideal.Value.G8 m c, Cert.Kernel9Ideal.Value.run m g, ?_⟩
  refine (θ_run Cert.Reference9Ideal.defs _ _).mono (fun r h c => ⟨(h c).1.trans ?_, (h c).2.1.trans ?_, (h c).2.2⟩) (Cert.Reference9Ideal.Value.run (F := Ideal) m' g')
  all_goals
    obtain ⟨h0, h1, h2, h3, h4, h5, h6⟩ := hm c
    have e0 : Cert.Kernel9Ideal.Mid.a0 m c = m' ((c.tc : Thread Cert.Reference9Ideal.nD Cert.Reference9Ideal.τ).loc Cert.Reference9Ideal.main_arg0) := h0.symm
    have e1 : Cert.Kernel9Ideal.Mid.a1 m c = m' ((c.tc : Thread Cert.Reference9Ideal.nD Cert.Reference9Ideal.τ).loc Cert.Reference9Ideal.main_arg1) := h1.symm
    have e2 : Cert.Kernel9Ideal.Mid.a2 m c = m' ((c.tc : Thread Cert.Reference9Ideal.nD Cert.Reference9Ideal.τ).loc Cert.Reference9Ideal.main_arg2) := h2.symm
    have e3 : Cert.Kernel9Ideal.Mid.a3 m c = m' ((c.tc : Thread Cert.Reference9Ideal.nD Cert.Reference9Ideal.τ).loc Cert.Reference9Ideal.main_arg3) := h3.symm
    have e4 : Cert.Kernel9Ideal.Mid.a4 m c = m' ((c.tc : Thread Cert.Reference9Ideal.nD Cert.Reference9Ideal.τ).loc Cert.Reference9Ideal.main_arg4) := h4.symm
    have e5 : Cert.Kernel9Ideal.Mid.a5 m c = m' ((c.tc : Thread Cert.Reference9Ideal.nD Cert.Reference9Ideal.τ).loc Cert.Reference9Ideal.main_arg5) := h5.symm
    have e6 : Cert.Kernel9Ideal.Mid.a6 m c = m' ((c.tc : Thread Cert.Reference9Ideal.nD Cert.Reference9Ideal.τ).loc Cert.Reference9Ideal.main_arg6) := h6.symm
    funext i
  · refine (congrArg _ (eq_ix2 i)).trans (Eq.trans ?_ (congrArg (Cert.Kernel9Ideal.Value.G7 m c) (eq_ix2 i).symm))
    refine (Cert.Reference9Ideal.Mid.refX _ _ _ _ (i 0) (i 1)).trans (Eq.trans ?_ (Cert.Kernel9Ideal.Mid.resX m c (i 0) (i 1)).symm)
    rw [← e0, ← e1, ← e2, ← e3]; rfl
  · refine (congrArg _ (eq_ix2 i)).trans (Eq.trans ?_ (congrArg (Cert.Kernel9Ideal.Value.G8 m c) (eq_ix2 i).symm))
    refine (Cert.Reference9Ideal.Mid.refH _ _ _ _ _ _ _ (i 0) (i 1)).trans (Eq.trans ?_ (Cert.Kernel9Ideal.Mid.resH m c (i 0) (i 1)).symm)
    rw [← e0, ← e1, ← e2, ← e3, ← e4, ← e5, ← e6]; rfl

/-! ### The first layer's first normalisation and modulation -/

theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The kernel's result is the reference's, entry by entry. -/
theorem algebraic_norm : Cert.algebraic_Kernel10Ideal_Reference10Ideal := by
  intro m g m' g' _ hm
  refine ⟨fun c => Cert.Kernel10Ideal.Norm.G4 m c, Cert.Kernel10Ideal.Value.run_blocks m g, ?_⟩
  refine (θ_run Cert.Reference10Ideal.defs _ _).mono (fun r h c => ⟨(h c).1.trans ?_, (h c).2⟩) (Cert.Reference10Ideal.Value.run (F := Ideal) m' g')
  obtain ⟨h0, h1, h2, h3⟩ := hm c
  have e0 : Cert.Kernel10Ideal.Norm.a0 m c = m' ((c.tc : Thread Cert.Reference10Ideal.nD Cert.Reference10Ideal.τ).loc Cert.Reference10Ideal.main_arg0) := h0.symm
  have e1 : Cert.Kernel10Ideal.Norm.a1 m c = m' ((c.tc : Thread Cert.Reference10Ideal.nD Cert.Reference10Ideal.τ).loc Cert.Reference10Ideal.main_arg1) := h1.symm
  have e2 : Cert.Kernel10Ideal.Norm.a2 m c = m' ((c.tc : Thread Cert.Reference10Ideal.nD Cert.Reference10Ideal.τ).loc Cert.Reference10Ideal.main_arg2) := h2.symm
  have e3 : Cert.Kernel10Ideal.Norm.a3 m c = m' ((c.tc : Thread Cert.Reference10Ideal.nD Cert.Reference10Ideal.τ).loc Cert.Reference10Ideal.main_arg3) := h3.symm
  funext i
  refine (congrArg _ (eq_ix2 i)).trans (Eq.trans ?_ (congrArg (Cert.Kernel10Ideal.Norm.G4 m c) (eq_ix2 i).symm))
  refine (Cert.Reference10Ideal.Norm.refH _ _ _ _ (i 0) (i 1)).trans (Eq.trans ?_ (Cert.Kernel10Ideal.Norm.res m c (i 0) (i 1)).symm)
  rw [← e0, ← e1, ← e2, ← e3]; rfl

/-! ### The narrow columns of the input projection -/

theorem frame_kernel11 : Cert.quiescent_Kernel11 := fun m ρ _ => Cert.Kernel11.Gen.frame m ρ

theorem frame_kernel11Ideal : Cert.quiescent_Kernel11Ideal := fun m ρ _ => Cert.Kernel11Ideal.Gen.frame m ρ

theorem frame_reference11Ideal : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

/-- The kernel's four results are the reference's, entry by entry. -/
theorem algebraic_narrow : Cert.algebraic_Kernel11Ideal_Reference11Ideal := by
  intro m g m' g' _ hm
  refine ⟨fun c => Cert.Kernel11Ideal.Narrow.G5 m c, fun c => Cert.Kernel11Ideal.Narrow.G6 m c, fun c => Cert.Kernel11Ideal.Narrow.G7 m c, fun c => Cert.Kernel11Ideal.Narrow.G8 m c, Cert.Kernel11Ideal.Narrow.run m g, ?_⟩
  refine (θ_run Cert.Reference11Ideal.defs _ _).mono (fun r h c => ⟨(h c).1.trans ?_, (h c).2.1.trans ?_, (h c).2.2.1.trans ?_, (h c).2.2.2.1.trans ?_, (h c).2.2.2.2⟩) (Cert.Reference11Ideal.Value.run (F := Ideal) m' g')
  all_goals
    obtain ⟨h0, h1, h2⟩ := hm c
    have e0 : Cert.Kernel11Ideal.Narrow.a0 m c = m' ((c.tc : Thread Cert.Reference11Ideal.nD Cert.Reference11Ideal.τ).loc Cert.Reference11Ideal.main_arg0) := h0.symm
    have e1 : Cert.Kernel11Ideal.Narrow.a1 m c = m' ((c.tc : Thread Cert.Reference11Ideal.nD Cert.Reference11Ideal.τ).loc Cert.Reference11Ideal.main_arg1) := h1.symm
    have e2 : Cert.Kernel11Ideal.Narrow.a2 m c = m' ((c.tc : Thread Cert.Reference11Ideal.nD Cert.Reference11Ideal.τ).loc Cert.Reference11Ideal.main_arg2) := h2.symm
    have e := Cert.Reference11Ideal.Narrow.col_kernel m c
    funext i
  · refine (congrArg _ (eq_ix2 i)).trans (Eq.trans ?_ (congrArg (Cert.Kernel11Ideal.Narrow.G5 m c) (eq_ix2 i).symm))
    refine (Cert.Reference11Ideal.Narrow.refK _ _ _ (i 0) (i 1)).trans (Eq.trans ?_ (Cert.Kernel11Ideal.Narrow.resK m c (i 0) (i 1)).symm)
    rw [← e0, ← e1, ← e2]
    unfold Cert.Kernel11Ideal.Narrow.valK
    exact congrArg (fun r => Cert.Kernel11Ideal.Narrow.nrm r _ _) (funext fun j => e _ _)
  · refine (congrArg _ (eq_ix2 i)).trans (Eq.trans ?_ (congrArg (Cert.Kernel11Ideal.Narrow.G6 m c) (eq_ix2 i).symm))
    refine (Cert.Reference11Ideal.Narrow.refM _ _ (i 0) (i 1)).trans (Eq.trans ?_ (Cert.Kernel11Ideal.Narrow.resM m c (i 0) (i 1)).symm)
    rw [← e0, ← e1]
    unfold Cert.Kernel11Ideal.Narrow.valM
    exact e _ _
  · refine (congrArg _ (eq_ix2 i)).trans (Eq.trans ?_ (congrArg (Cert.Kernel11Ideal.Narrow.G7 m c) (eq_ix2 i).symm))
    refine (Cert.Reference11Ideal.Narrow.refL _ _ (i 0) (i 1)).trans (Eq.trans ?_ (Cert.Kernel11Ideal.Narrow.resL m c (i 0) (i 1)).symm)
    rw [← e0, ← e1]
    unfold Cert.Kernel11Ideal.Narrow.valL
    exact if_congr Iff.rfl (e _ _) rfl
  · refine (congrArg _ (eq_ix2 i)).trans (Eq.trans ?_ (congrArg (Cert.Kernel11Ideal.Narrow.G8 m c) (eq_ix2 i).symm))
    refine (Cert.Reference11Ideal.Narrow.refH _ _ (i 0) (i 1)).trans (Eq.trans ?_ (Cert.Kernel11Ideal.Narrow.resH m c (i 0) (i 1)).symm)
    rw [← e0, ← e1]
    unfold Cert.Kernel11Ideal.Narrow.valH
    exact if_congr Iff.rfl (e _ _) rfl

/-! ### The modulation -/

theorem frame_kernel12 : Cert.quiescent_Kernel12 := fun m ρ _ => Cert.Kernel12.Gen.frame m ρ

theorem frame_kernel12Ideal : Cert.quiescent_Kernel12Ideal := fun m ρ _ => Cert.Kernel12Ideal.Gen.frame m ρ

theorem frame_reference12Ideal : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The kernel's result is the reference's, entry by entry. -/
theorem algebraic_mod : Cert.algebraic_Kernel12Ideal_Reference12Ideal := by
  intro m g m' g' _ hm
  refine ⟨fun c => Cert.Kernel12Ideal.Mod.G m c, Cert.Kernel12Ideal.Mod.run m g, ?_⟩
  refine (θ_run Cert.Reference12Ideal.defs _ _).mono (fun r h c => ⟨(h c).1.trans ?_, (h c).2⟩) (Cert.Reference12Ideal.Value.run (F := Ideal) m' g')
  obtain ⟨h0, h1, h2⟩ := hm c
  have e0 : Cert.Kernel12Ideal.Mod.a0 m c = m' ((c.tc : Thread Cert.Reference12Ideal.nD Cert.Reference12Ideal.τ).loc Cert.Reference12Ideal.main_arg0) := h0.symm
  have e1 : Cert.Kernel12Ideal.Mod.a1 m c = m' ((c.tc : Thread Cert.Reference12Ideal.nD Cert.Reference12Ideal.τ).loc Cert.Reference12Ideal.main_arg1) := h1.symm
  have e2 : Cert.Kernel12Ideal.Mod.a2 m c = m' ((c.tc : Thread Cert.Reference12Ideal.nD Cert.Reference12Ideal.τ).loc Cert.Reference12Ideal.main_arg2) := h2.symm
  funext i
  refine (congrArg _ (eq_ix3 i)).trans (Eq.trans ?_ (congrArg (Cert.Kernel12Ideal.Mod.G m c) (eq_ix3 i).symm))
  refine (Cert.Reference12Ideal.Mod.ref _ _ _ (i 0) (i 1) (i 2)).trans (Eq.trans ?_ (Cert.Kernel12Ideal.Mod.res m c (i 0) (i 1) (i 2)).symm)
  rw [← e0, ← e1, ← e2]; rfl

/-! ### The bias of the near keys -/

theorem frame_kernel13 : Cert.quiescent_Kernel13 := fun m ρ _ => Cert.Kernel13.Gen.frame m ρ

theorem frame_kernel13Ideal : Cert.quiescent_Kernel13Ideal := fun m ρ _ => Cert.Kernel13Ideal.Gen.frame m ρ

theorem frame_reference13Ideal : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The kernel's result is the reference's, entry by entry. -/
theorem algebraic_near : Cert.algebraic_Kernel13Ideal_Reference13Ideal := by
  intro m g m' g' _ hm
  refine ⟨fun c => Cert.Kernel13Ideal.Near.G1 m c, Cert.Kernel13Ideal.Value.run_blocks m g, ?_⟩
  refine (θ_run Cert.Reference13Ideal.defs _ _).mono (fun r h c => ⟨(h c).1.trans ?_, (h c).2⟩) (Cert.Reference13Ideal.Value.run (F := Ideal) m' g')
  have e0 : Cert.Kernel13Ideal.Near.a0 m c = m' ((c.tc : Thread Cert.Reference13Ideal.nD Cert.Reference13Ideal.τ).loc Cert.Reference13Ideal.main_arg0) := (hm c).symm
  funext i
  refine (congrArg _ (eq_ix4 i)).trans (Eq.trans ?_ (congrArg (Cert.Kernel13Ideal.Near.G1 m c) (eq_ix4 i).symm))
  refine (Cert.Reference13Ideal.Near.refH _ (i 0) (i 1) (i 2) (i 3)).trans (Eq.trans ?_ (Cert.Kernel13Ideal.Near.res m c (i 0) (i 1) (i 2) (i 3)).symm)
  rw [← e0]

end Cert.Proof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_operands
public import proofs.«01_k».proof.Proof.Gla.Frame
public import proofs.«01_k».proof.Proof.Gla.Finite
public import proofs.«01_k».proof.Proof.Ref.Entry
public import proofs.«01_k».proof.Proof.Layer
public import Idealize.ShloMosaic.Adequacy
public import Idealize.ShloMosaic.Init

@[expose] public section

noncomputable section

namespace Cert.Proof

open Idealize.ShloMosaic Idealize.SL.Sem Cert.Kernel

set_option maxRecDepth 100000 in
/-- The kernel's table of bodies and its main program are the ideal program's: the two texts are the same. -/
theorem defs_eq : Cert.KernelIdeal.defs (F := Bits) = Cert.Kernel.defs (F := Bits) := by
  unfold Cert.KernelIdeal.defs Cert.Kernel.defs
  have h : Cert.KernelIdeal.defs₀ (F := Bits) = Cert.Kernel.defs₀ (F := Bits) := by
    unfold Cert.KernelIdeal.defs₀ Cert.Kernel.defs₀
    refine congrArg Defs.onTc (funext fun x => funext fun y => ?_)
    match x, y with
    | 0, (t, s) =>
      show Cert.KernelIdeal.cc0_gla _ _ _ _ _ _ _ _ _ _ _ _ _ _ _ _ _ _ _ _ _ _ _ _ _ _ _ = Cert.Kernel.cc0_gla _ _ _ _ _ _ _ _ _ _ _ _ _ _ _ _ _ _ _ _ _ _ _ _ _ _ _
      unfold Cert.KernelIdeal.cc0_gla Cert.Kernel.cc0_gla
      rfl
    | ⟨_ + 1, h⟩, _ => exact absurd h (by omega)
  exact congrArg (Pipeline.defs _) h

set_option maxRecDepth 100000 in
/-- The recurrence's kernel as it runs on the chip: the run is proved once, for any float values, of the ideal program,
    whose text is the same. -/
theorem frame_kernel : Cert.quiescent_Kernel := by
  intro m ρ _
  have h := Cert.KernelIdeal.Gla.frame (F := Bits) m ρ
  rw [defs_eq] at h
  exact h

/-- The same over the extended reals. -/
theorem frame_kernelIdeal : Cert.quiescent_KernelIdeal := fun m ρ _ => Cert.KernelIdeal.Gla.frame (F := Ideal) m ρ

/-- The reference runs and leaves its arguments as they were; it has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference compute one result: what each leaves, entry by entry, is the recurrence's output,
    normalised, scaled and gated. -/
theorem algebraic_gla : Cert.algebraic_KernelIdeal_ReferenceIdeal_pre_finite_operands := by
  intro m g m' g' hp hm
  refine ⟨fun c => Cert.KernelIdeal.Gla.res m c, Cert.KernelIdeal.Gla.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7⟩ := hm c
  have H := Cert.KernelIdeal.Gla.isArgs m hp c
  have H' : Cert.ReferenceIdeal.Gla.IsArgs m' c (Cert.KernelIdeal.Gla.argsOf m c) :=
    ⟨fun r j => (congrFun h0 _).trans (H.hZ r j), fun r j => (congrFun h3 _).trans (H.hW r j), fun r l => (congrFun h4 _).trans (H.hM r l),
      fun l j => (congrFun h5 _).trans (H.hU l j), fun j => (congrFun h6 _).trans (H.hC j)⟩
  have e1 : Cert.KernelIdeal.Gla.e1 m c = Cert.ReferenceIdeal.Gla.a1 m' c := h1.symm
  have e2 : Cert.KernelIdeal.Gla.e2 m c = Cert.ReferenceIdeal.Gla.a2 m' c := h2.symm
  have e7 : Cert.KernelIdeal.Gla.e7 m c = Cert.ReferenceIdeal.Gla.a7 m' c := h7.symm
  funext i
  refine (congrArg _ (eq_ix2 i)).trans (Eq.trans ?_ (congrArg (Cert.KernelIdeal.Gla.res m c) (eq_ix2 i).symm))
  refine (Cert.ReferenceIdeal.Gla.out_real H' (i 0) (i 1)).trans (Eq.trans ?_ (Cert.KernelIdeal.Gla.res_real H (i 0) (i 1)).symm)
  rw [e1, e2, e7]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts,
  Cert.Pre_finite_operands.Gen.facts,
  frame_kernel, frame_kernelIdeal, fun m ρ _ => frame_kernelIdeal m ρ trivial, frame_referenceIdeal,
  fun m ρ _ => frame_referenceIdeal m ρ trivial,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_reference6Ideal,
  frame_kernel7, frame_kernel7Ideal, frame_reference7Ideal,
  frame_kernel8, frame_kernel8Ideal, frame_reference8Ideal,
  frame_kernel9, frame_kernel9Ideal, frame_reference9Ideal,
  frame_kernel10, frame_kernel10Ideal, frame_reference10Ideal,
  frame_kernel11, frame_kernel11Ideal, frame_reference11Ideal,
  frame_kernel12, frame_kernel12Ideal, frame_reference12Ideal,
  frame_kernel13, frame_kernel13Ideal, frame_reference13Ideal,
  trivial, algebraic_gla,
  trivial, algebraic_up,
  trivial, algebraic_down,
  trivial, algebraic_gates,
  trivial, algebraic_qk,
  trivial, algebraic_r,
  trivial, algebraic_b,
  trivial, algebraic_out,
  trivial, algebraic_mid,
  trivial, algebraic_norm,
  trivial, algebraic_narrow,
  trivial, algebraic_mod,
  trivial, algebraic_near⟩

end Cert.Proof

end
